-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v39_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "mask" .f32 0xF149F2CA#32 ⊥

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v42_0)) (v1 : (c : Dev Cert.Kernel2Ideal.nD) → Buf (Elt Ideal) ((c.tc : Thread Cert.Kernel2Ideal.nD Cert.Kernel2Ideal.τ).loc Cert.Kernel2Ideal.main_v42_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v42_0) = v0 c
          ∧ r.2.mem ((c.tc : Thread Cert.Kernel2Ideal.nD Cert.Kernel2Ideal.τ).loc Cert.Kernel2Ideal.main_v42_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v61) = v0 c
          ∧ r.2.mem ((c.tc : Thread Cert.Reference2Ideal.nD Cert.Reference2Ideal.τ).loc Cert.Reference2Ideal.main_v64) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v7_0)) (v1 : (c : Dev Cert.Kernel9Ideal.nD) → Buf (Elt Ideal) ((c.tc : Thread Cert.Kernel9Ideal.nD Cert.Kernel9Ideal.τ).loc Cert.Kernel9Ideal.main_v7_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v7_0) = v0 c
          ∧ r.2.mem ((c.tc : Thread Cert.Kernel9Ideal.nD Cert.Kernel9Ideal.τ).loc Cert.Kernel9Ideal.main_v7_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v25) = v0 c
          ∧ r.2.mem ((c.tc : Thread Cert.Reference9Ideal.nD Cert.Reference9Ideal.τ).loc Cert.Reference9Ideal.main_v34) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v7_0)) (v1 : (c : Dev Cert.Kernel10Ideal.nD) → Buf (Elt Ideal) ((c.tc : Thread Cert.Kernel10Ideal.nD Cert.Kernel10Ideal.τ).loc Cert.Kernel10Ideal.main_v7_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v7_0) = v0 c
          ∧ r.2.mem ((c.tc : Thread Cert.Kernel10Ideal.nD Cert.Kernel10Ideal.τ).loc Cert.Kernel10Ideal.main_v7_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v25) = v0 c
          ∧ r.2.mem ((c.tc : Thread Cert.Reference10Ideal.nD Cert.Reference10Ideal.τ).loc Cert.Reference10Ideal.main_v34) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)
      ∧ m' ((c.tc : Thread Cert.Reference13Ideal.nD Cert.Reference13Ideal.τ).loc Cert.Reference13Ideal.main_arg8) = m ((c.tc : Thread Cert.Kernel13Ideal.nD Cert.Kernel13Ideal.τ).loc Cert.Kernel13Ideal.main_arg8)) →
    ∃ (v0 : (c : Dev Cert.Kernel13Ideal.nD) → Buf (Elt Ideal) ((c.tc : Thread Cert.Kernel13Ideal.nD Cert.Kernel13Ideal.τ).loc Cert.Kernel13Ideal.main_v4_0)) (v1 : (c : Dev Cert.Kernel13Ideal.nD) → Buf (Elt Ideal) ((c.tc : Thread Cert.Kernel13Ideal.nD Cert.Kernel13Ideal.τ).loc Cert.Kernel13Ideal.main_v4_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4_0) = v0 c
          ∧ r.2.mem ((c.tc : Thread Cert.Kernel13Ideal.nD Cert.Kernel13Ideal.τ).loc Cert.Kernel13Ideal.main_v4_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
          ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v19) = v0 c
          ∧ r.2.mem ((c.tc : Thread Cert.Reference13Ideal.nD Cert.Reference13Ideal.τ).loc Cert.Reference13Ideal.main_v20) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7)
          ∧ r.2.mem ((c.tc : Thread Cert.Reference13Ideal.nD Cert.Reference13Ideal.τ).loc Cert.Reference13Ideal.main_arg8) = m' ((c.tc : Thread Cert.Reference13Ideal.nD Cert.Reference13Ideal.τ).loc Cert.Reference13Ideal.main_arg8))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)) →
    ∃ (v0 : (c : Dev Cert.Kernel14Ideal.nD) → Buf (Elt Ideal) ((c.tc : Thread Cert.Kernel14Ideal.nD Cert.Kernel14Ideal.τ).loc Cert.Kernel14Ideal.main_v4_0)) (v1 : (c : Dev Cert.Kernel14Ideal.nD) → Buf (Elt Ideal) ((c.tc : Thread Cert.Kernel14Ideal.nD Cert.Kernel14Ideal.τ).loc Cert.Kernel14Ideal.main_v4_1)) (v2 : (c : Dev Cert.Kernel14Ideal.nD) → Buf (Elt Ideal) ((c.tc : Thread Cert.Kernel14Ideal.nD Cert.Kernel14Ideal.τ).loc Cert.Kernel14Ideal.main_v4_2)) (v3 : (c : Dev Cert.Kernel14Ideal.nD) → Buf (Elt Ideal) ((c.tc : Thread Cert.Kernel14Ideal.nD Cert.Kernel14Ideal.τ).loc Cert.Kernel14Ideal.main_v4_3)) (v4 : (c : Dev Cert.Kernel14Ideal.nD) → Buf (Elt Ideal) ((c.tc : Thread Cert.Kernel14Ideal.nD Cert.Kernel14Ideal.τ).loc Cert.Kernel14Ideal.main_v4_4)) (v5 : (c : Dev Cert.Kernel14Ideal.nD) → Buf (Elt Ideal) ((c.tc : Thread Cert.Kernel14Ideal.nD Cert.Kernel14Ideal.τ).loc Cert.Kernel14Ideal.main_v4_5)) (v6 : (c : Dev Cert.Kernel14Ideal.nD) → Buf (Elt Ideal) ((c.tc : Thread Cert.Kernel14Ideal.nD Cert.Kernel14Ideal.τ).loc Cert.Kernel14Ideal.main_v4_6)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4_0) = v0 c
          ∧ r.2.mem ((c.tc : Thread Cert.Kernel14Ideal.nD Cert.Kernel14Ideal.τ).loc Cert.Kernel14Ideal.main_v4_1) = v1 c
          ∧ r.2.mem ((c.tc : Thread Cert.Kernel14Ideal.nD Cert.Kernel14Ideal.τ).loc Cert.Kernel14Ideal.main_v4_2) = v2 c
          ∧ r.2.mem ((c.tc : Thread Cert.Kernel14Ideal.nD Cert.Kernel14Ideal.τ).loc Cert.Kernel14Ideal.main_v4_3) = v3 c
          ∧ r.2.mem ((c.tc : Thread Cert.Kernel14Ideal.nD Cert.Kernel14Ideal.τ).loc Cert.Kernel14Ideal.main_v4_4) = v4 c
          ∧ r.2.mem ((c.tc : Thread Cert.Kernel14Ideal.nD Cert.Kernel14Ideal.τ).loc Cert.Kernel14Ideal.main_v4_5) = v5 c
          ∧ r.2.mem ((c.tc : Thread Cert.Kernel14Ideal.nD Cert.Kernel14Ideal.τ).loc Cert.Kernel14Ideal.main_v4_6) = v6 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
          ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v34) = v0 c
          ∧ r.2.mem ((c.tc : Thread Cert.Reference14Ideal.nD Cert.Reference14Ideal.τ).loc Cert.Reference14Ideal.main_v38) = v1 c
          ∧ r.2.mem ((c.tc : Thread Cert.Reference14Ideal.nD Cert.Reference14Ideal.τ).loc Cert.Reference14Ideal.main_v42) = v2 c
          ∧ r.2.mem ((c.tc : Thread Cert.Reference14Ideal.nD Cert.Reference14Ideal.τ).loc Cert.Reference14Ideal.main_v43) = v3 c
          ∧ r.2.mem ((c.tc : Thread Cert.Reference14Ideal.nD Cert.Reference14Ideal.τ).loc Cert.Reference14Ideal.main_v44) = v4 c
          ∧ r.2.mem ((c.tc : Thread Cert.Reference14Ideal.nD Cert.Reference14Ideal.τ).loc Cert.Reference14Ideal.main_v45) = v5 c
          ∧ r.2.mem ((c.tc : Thread Cert.Reference14Ideal.nD Cert.Reference14Ideal.τ).loc Cert.Reference14Ideal.main_v46) = v6 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7)
          ∧ r.2.mem ((c.tc : Thread Cert.Reference14Ideal.nD Cert.Reference14Ideal.τ).loc Cert.Reference14Ideal.main_arg8) = m' ((c.tc : Thread Cert.Reference14Ideal.nD Cert.Reference14Ideal.τ).loc Cert.Reference14Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite.lean ====
abbrev S4096x8x96 : Shape := ⟨3, ![4096, 8, 96]⟩
abbrev S4096x8x64 : Shape := ⟨3, ![4096, 8, 64]⟩
abbrev S_ : Shape := ⟨0, ![]⟩

class Facts : Prop where
  bcast_S_S4096x8x96 : S_.BroadcastsInDim S4096x8x96 (![] : Fin 0 → Fin S4096x8x96.rank)
  reducesTo_S4096x8x96_S_d0_1_2 : S4096x8x96.ReducesTo [0, 1, 2] S_
  h_S_ : 0 < S_.numel
  bcast_S_S4096x8x64 : S_.BroadcastsInDim S4096x8x64 (![] : Fin 0 → Fin S4096x8x64.rank)
  reducesTo_S4096x8x64_S_d0_1_2 : S4096x8x64.ReducesTo [0, 1, 2] S_

variable [Facts]

def fn_part1 {F : FTy → Type} [FloatOps F] (main_v13 : IVec S_ 1) (main_v16 : IVec S4096x8x64 1) : IVec S_ 1 :=
  let main_c_5 : IVec S_ 1 := constantI S_ 1 1#1
  let main_v17 : IVec S_ 1 := (fun x v => Host.reduce IntOp.andi x v reducesTo_S4096x8x64_S_d0_1_2 h_S_) main_v16 main_c_5
  let main_v18 : IVec S_ 1 := andi main_v13 main_v17
  main_v18

def fn {F : FTy → Type} [FloatOps F] (main_arg0 : FVec F S4096x8x96 .f32) (main_arg1 : FVec F S4096x8x96 .f32) (main_arg2 : FVec F S4096x8x64 .f32) (main_arg3 : FVec F S4096x8x64 .f32) : IVec S_ 1 :=
  let main_v0 : FVec F S4096x8x96 .f32 := Host.absf main_arg0
  let main_cst : FVec F S_ .f32 := constant S_ .f32 0x7F800000#32
  let main_v1 : FVec F S4096x8x96 .f32 := broadcastInDim S4096x8x96 ![] bcast_S_S4096x8x96 main_cst
  let main_v2 : IVec S4096x8x96 1 := cmpf .olt main_v0 main_v1
  let main_c : IVec S_ 1 := constantI S_ 1 1#1
  let main_v3 : IVec S_ 1 := (fun x v => Host.reduce IntOp.andi x v reducesTo_S4096x8x96_S_d0_1_2 h_S_) main_v2 main_c
  let main_v4 : FVec F S4096x8x96 .f32 := Host.absf main_arg1
  let main_cst_0 : FVec F S_ .f32 := constant S_ .f32 0x7F800000#32
  let main_v5 : FVec F S4096x8x96 .f32 := broadcastInDim S4096x8x96 ![] bcast_S_S4096x8x96 main_cst_0
  let main_v6 : IVec S4096x8x96 1 := cmpf .olt main_v4 main_v5
  let main_c_1 : IVec S_ 1 := constantI S_ 1 1#1
  let main_v7 : IVec S_ 1 := (fun x v => Host.reduce IntOp.andi x v reducesTo_S4096x8x96_S_d0_1_2 h_S_) main_v6 main_c_1
  let main_v8 : IVec S_ 1 := andi main_v3 main_v7
  let main_v9 : FVec F S4096x8x64 .f32 := Host.absf main_arg2
  let main_cst_2 : FVec F S_ .f32 := constant S_ .f32 0x7F800000#32
  let main_v10 : FVec F S4096x8x64 .f32 := broadcastInDim S4096x8x64 ![] bcast_S_S4096x8x64 main_cst_2
  let main_v11 : IVec S4096x8x64 1 := cmpf .olt main_v9 main_v10
  let main_c_3 : IVec S_ 1 := constantI S_ 1 1#1
  let main_v12 : IVec S_ 1 := (fun x v => Host.reduce IntOp.andi x v reducesTo_S4096x8x64_S_d0_1_2 h_S_) main_v11 main_c_3
  let main_v13 : IVec S_ 1 := andi main_v8 main_v12
  let main_v14 : FVec F S4096x8x64 .f32 := Host.absf main_arg3
  let main_cst_4 : FVec F S_ .f32 := constant S_ .f32 0x7F800000#32
  let main_v15 : FVec F S4096x8x64 .f32 := broadcastInDim S4096x8x64 ![] bcast_S_S4096x8x64 main_cst_4
  let main_v16 : IVec S4096x8x64 1 := cmpf .olt main_v14 main_v15
  fn_part1 (F := F) main_v13 main_v16
-- ==== Kernel.lean ====
abbrev S4096x8x96 : Shape := ⟨3, ![4096, 8, 96]⟩
abbrev S4096x8x64 : Shape := ⟨3, ![4096, 8, 64]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S8x4096 : Shape := ⟨2, ![8, 4096]⟩
abbrev S8x4096x1 : Shape := ⟨3, ![8, 4096, 1]⟩
abbrev S8x64x4096 : Shape := ⟨3, ![8, 64, 4096]⟩
abbrev S4096x8 : Shape := ⟨2, ![4096, 8]⟩
abbrev S4096x8x1 : Shape := ⟨3, ![4096, 8, 1]⟩
abbrev S4096x8x128 : Shape := ⟨3, ![4096, 8, 128]⟩
abbrev S4096x1024 : Shape := ⟨2, ![4096, 1024]⟩
abbrev S64x4096 : Shape := ⟨2, ![64, 4096]⟩
abbrev S512x128 : Shape := ⟨2, ![512, 128]⟩
abbrev S4096x128 : Shape := ⟨2, ![4096, 128]⟩
abbrev S8x512 : Shape := ⟨2, ![8, 512]⟩
abbrev S512 : Shape := ⟨1, ![512]⟩
abbrev S512x1 : Shape := ⟨2, ![512, 1]⟩
abbrev S128x512 : Shape := ⟨2, ![128, 512]⟩
abbrev S512x512 : Shape := ⟨2, ![512, 512]⟩

abbrev nBuf : Space → Nat
  | .hbm => 61
  | .vmem => 17
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S4096x8x64, .f32⟩
  | .hbm, ⟨4, _⟩ => ⟨S8x4096x4096, .f32⟩
  | .hbm, ⟨5, _⟩ => ⟨S4096, .i32⟩
  | .hbm, ⟨6, _⟩ => ⟨S1x4096, .i32⟩
  | .hbm, ⟨7, _⟩ => ⟨S4096x1, .i32⟩
  | .hbm, ⟨8, _⟩ => ⟨S4096x4096, .i32⟩
  | .hbm, ⟨9, _⟩ => ⟨S4096x4096, .i32⟩
  | .hbm, ⟨10, _⟩ => ⟨S4096x4096, .i1⟩
  | .hbm, ⟨11, _⟩ => ⟨S_, .f32⟩
  | .hbm, ⟨12, _⟩ => ⟨S_, .f32⟩
  | .hbm, ⟨13, _⟩ => ⟨S8x4096x4096, .i1⟩
  | .hbm, ⟨14, _⟩ => ⟨S8x4096x4096, .f32⟩
  | .hbm, ⟨15, _⟩ => ⟨S8x4096x4096, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S8x4096x4096, .f32⟩
  | .hbm, ⟨26, _⟩ => ⟨S8x4096x4096, .f32⟩
  | .hbm, ⟨27, _⟩ => ⟨S8x64x4096, .f32⟩
  | .hbm, ⟨28, _⟩ => ⟨S4096x8x64, .f32⟩
  | .hbm, ⟨29, _⟩ => ⟨S8x4096x1, .f32⟩
  | .hbm, ⟨30, _⟩ => ⟨S8x4096x1, .f32⟩
  | .hbm, ⟨31, _⟩ => ⟨S8x4096, .f32⟩
  | .hbm, ⟨32, _⟩ => ⟨S4096x8, .f32⟩
  | .hbm, ⟨33, _⟩ => ⟨S4096x8x1, .f32⟩
  | .hbm, ⟨34, _⟩ => ⟨S4096x8x128, .f32⟩
  | .hbm, ⟨35, _⟩ => ⟨S4096x1024, .f32⟩
  | .hbm, ⟨36, _⟩ => ⟨S_, .i32⟩
  | .hbm, ⟨37, _⟩ => ⟨S_, .f32⟩
  | .hbm, ⟨38, _⟩ => ⟨S4096x8x128, .f32⟩
  | .hbm, ⟨39, _⟩ => ⟨S4096x1024, .f32⟩
  | .hbm, ⟨40, _⟩ => ⟨S4096x1024, .bf16⟩
  | .hbm, ⟨41, _⟩ => ⟨S_, .i32⟩
  | .hbm, ⟨42, _⟩ => ⟨S_, .f32⟩
  | .hbm, ⟨43, _⟩ => ⟨S4096x8x128, .f32⟩
  | .hbm, ⟨44, _⟩ => ⟨S4096x1024, .f32⟩
  | .hbm, ⟨45, _⟩ => ⟨S4096x1024, .bf16⟩
  | .hbm, ⟨46, _⟩ => ⟨S_, .i32⟩
  | .hbm, ⟨47, _⟩ => ⟨S_, .f32⟩
  | .hbm, ⟨48, _⟩ => ⟨S4096x8x128, .f32⟩
  | .hbm, ⟨49, _⟩ => ⟨S4096x1024, .f32⟩
  | .hbm, ⟨50, _⟩ => ⟨S4096x1024, .bf16⟩
  | .hbm, ⟨51, _⟩ => ⟨S_, .i32⟩
  | .hbm, ⟨52, _⟩ => ⟨S_, .f32⟩
  | .hbm, ⟨53, _⟩ => ⟨S4096x8x128, .f32⟩
  | .hbm, ⟨54, _⟩ => ⟨S4096x1024, .f32⟩
  | .hbm, ⟨55, _⟩ => ⟨S_, .i32⟩
  | .hbm, ⟨56, _⟩ => ⟨S_, .f32⟩
  | .hbm, ⟨57, _⟩ => ⟨S4096x8x128, .f32⟩
  | .hbm, ⟨58, _⟩ => ⟨S4096x1024, .f32⟩
  | .hbm, ⟨59, _⟩ => ⟨S4096x1024, .f32⟩
  | .hbm, ⟨60, _⟩ => ⟨S64x4096, .f32⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S8x512, .f32⟩
  | .local _ .vmem, ⟨15, _⟩ => ⟨S8x512, .f32⟩
  | .local _ .vmem, ⟨16, _⟩ => ⟨S512x128, .f32⟩
  | _, _ => ⟨S4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c : Ref sig .tc := ⟨.hbm, 36, rfl⟩
abbrev main_call1_v0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_2 : Ref sig .tc := ⟨.hbm, 41, rfl⟩
abbrev main_call2_v0 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_3 : Ref sig .tc := ⟨.hbm, 46, rfl⟩
abbrev main_call3_v0 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_4 : Ref sig .tc := ⟨.hbm, 51, rfl⟩
abbrev main_call4_v0 : Ref sig .tc := ⟨.hbm, 52, rfl⟩
abbrev main_v35 : Ref sig .tc := ⟨.hbm, 53, rfl⟩
abbrev main_v36 : Ref sig .tc := ⟨.hbm, 54, rfl⟩
abbrev main_c_5 : Ref sig .tc := ⟨.hbm, 55, rfl⟩
abbrev main_call5_v0 : Ref sig .tc := ⟨.hbm, 56, rfl⟩
abbrev main_v37 : Ref sig .tc := ⟨.hbm, 57, rfl⟩
abbrev main_v38 : Ref sig .tc := ⟨.hbm, 58, rfl⟩
abbrev main_v39_0 : Ref sig .tc := ⟨.hbm, 59, rfl⟩
abbrev main_v39_1 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_9 : BitVec 32 := 0#32
  let arg1 : BitVec 32 := BitVec.ofNat 32 (i 1).val
  let c0_i32 : BitVec 32 := 0#32
  let v16 : BitVec 32 := Scalar.subi arg1 c0_i32
  let c2_i32 : BitVec 32 := 2#32
  let v17 : BitVec 32 := Scalar.divsi v16 c2_i32
  let v18 : BitVec 32 := Scalar.subi v17 c0_i32_9
  let c1_i32 : BitVec 32 := 1#32
  let v20 : BitVec 32 := Scalar.divsi v18 c1_i32
  let v21 : BitVec 32 := Scalar.muli v20 c1_i32
  let v22 : BitVec 32 := Scalar.addi c0_i32_9 v21
  let c1_i32_10 : BitVec 32 := 1#32
  ⟨c0_i32_9, v22, c1_i32_10⟩
def k0_mult1 (i : grid0.Coords) (k0_t1 : Fin (k0_t1_loop i).trips) : BitVec 32 :=
  let c0_i32_37 : BitVec 32 := 0#32
  let c2_i32_36 : BitVec 32 := 2#32
  let c0_i32_9 : BitVec 32 := 0#32
  let c1_i32_10 : BitVec 32 := 1#32
  let arg11 : BitVec 32 := Scf.iv c0_i32_9 c1_i32_10 k0_t1
  let v66 : BitVec 32 := Scalar.muli c2_i32_36 arg11
  let v67 : BitVec 32 := Scalar.addi c0_i32_37 v66
  let c512_i32_38 : BitVec 32 := 512#32
  let v68 : BitVec 32 := Scalar.muli v67 c512_i32_38
  v68
def k0_off1 (i : grid0.Coords) (k0_t1 : Fin (k0_t1_loop i).trips) : Fin 2 → Nat :=
  let c0_i32_37 : BitVec 32 := 0#32
  let c2_i32_36 : BitVec 32 := 2#32
  let c0_i32_9 : BitVec 32 := 0#32
  let c1_i32_10 : BitVec 32 := 1#32
  let arg11 : BitVec 32 := Scf.iv c0_i32_9 c1_i32_10 k0_t1
  let v66 : BitVec 32 := Scalar.muli c2_i32_36 arg11
  let v67 : BitVec 32 := Scalar.addi c0_i32_37 v66
  let c512_i32_38 : BitVec 32 := 512#32
  let v68 : BitVec 32 := Scalar.muli v67 c512_i32_38
  let v69 : BitVec 32 := v68
  let v70 : Index := Scalar.indexCast v69
  let c0_39 : Index := 0#32
  ![v70.toNat, 0]
def k0_mult2 (i : grid0.Coords) (k0_t1 : Fin (k0_t1_loop i).trips) : BitVec 32 :=
  let c0_i32_55 : BitVec 32 := 0#32
  let c2_i32_54 : BitVec 32 := 2#32
  let c0_i32_9 : BitVec 32 := 0#32
  let c1_i32_10 : BitVec 32 := 1#32
  let arg11 : BitVec 32 := Scf.iv c0_i32_9 c1_i32_10 k0_t1
  let v98 : BitVec 32 := Scalar.muli c2_i32_54 arg11
  let v99 : BitVec 32 := Scalar.addi c0_i32_55 v98
  let c1_i32_56 : BitVec 32 := 1#32
  let v100 : BitVec 32 := Scalar.addi v99 c1_i32_56
  let c512_i32_57 : BitVec 32 := 512#32
  let v101 : BitVec 32 := Scalar.muli v100 c512_i32_57
  v101
def k0_off2 (i : grid0.Coords) (k0_t1 : Fin (k0_t1_loop i).trips) : Fin 2 → Nat :=
  let c0_i32_55 : BitVec 32 := 0#32
  let c2_i32_54 : BitVec 32 := 2#32
  let c0_i32_9 : BitVec 32 := 0#32
  let c1_i32_10 : BitVec 32 := 1#32
  let arg11 : BitVec 32 := Scf.iv c0_i32_9 c1_i32_10 k0_t1
  let v98 : BitVec 32 := Scalar.muli c2_i32_54 arg11
  let v99 : BitVec 32 := Scalar.addi c0_i32_55 v98
  let c1_i32_56 : BitVec 32 := 1#32
  let v100 : BitVec 32 := Scalar.addi v99 c1_i32_56
  let c512_i32_57 : BitVec 32 := 512#32
  let v101 : BitVec 32 := Scalar.muli v100 c512_i32_57
  let v102 : BitVec 32 := v101
  let v103 : Index := Scalar.indexCast v102
  let c0_58 : Index := 0#32
  ![v103.toNat, 0]
@[reducible] def k0_t2_loop (i : grid0.Coords) : Scf.Loop 32 :=
  let c0_i32_9 : BitVec 32 := 0#32
  let arg1 : BitVec 32 := BitVec.ofNat 32 (i 1).val
  let c0_i32 : BitVec 32 := 0#32
  let v16 : BitVec 32 := Scalar.subi arg1 c0_i32
  let c2_i32 : BitVec 32 := 2#32
  let v17 : BitVec 32 := Scalar.divsi v16 c2_i32
  let v18 : BitVec 32 := Scalar.subi v17 c0_i32_9
  let c1_i32 : BitVec 32 := 1#32
  let v20 : BitVec 32 := Scalar.divsi v18 c1_i32
  let v21 : BitVec 32 := Scalar.muli v20 c1_i32
  let v22 : BitVec 32 := Scalar.addi c0_i32_9 v21
  let v19 : BitVec 32 := Scalar.addi c0_i32_9 v18
  let c1_i32_11 : BitVec 32 := 1#32
  ⟨v22, v19, c1_i32_11⟩
def k0_mult3 (i : grid0.Coords) (k0_t2 : Fin (k0_t2_loop i).trips) : BitVec 32 :=
  let c0_i32_37 : BitVec 32 := 0#32
  let c2_i32_36 : BitVec 32 := 2#32
  let c0_i32_9 : BitVec 32 := 0#32
  let arg1 : BitVec 32 := BitVec.ofNat 32 (i 1).val
  let c0_i32 : BitVec 32 := 0#32
  let v16 : BitVec 32 := Scalar.subi arg1 c0_i32
  let c2_i32 : BitVec 32 := 2#32
  let v17 : BitVec 32 := Scalar.divsi v16 c2_i32
  let v18 : BitVec 32 := Scalar.subi v17 c0_i32_9
  let c1_i32 : BitVec 32 := 1#32
  let v20 : BitVec 32 := Scalar.divsi v18 c1_i32
  let v21 : BitVec 32 := Scalar.muli v20 c1_i32
  let v22 : BitVec 32 := Scalar.addi c0_i32_9 v21
  let c1_i32_11 : BitVec 32 := 1#32
  let arg11 : BitVec 32 := Scf.iv v22 c1_i32_11 k0_t2
  let v66 : BitVec 32 := Scalar.muli c2_i32_36 arg11
  let v67 : BitVec 32 := Scalar.addi c0_i32_37 v66
  let c512_i32_38 : BitVec 32 := 512#32
  let v68 : BitVec 32 := Scalar.muli v67 c512_i32_38
  v68
def k0_off3 (i : grid0.Coords) (k0_t2 : Fin (k0_t2_loop i).trips) : Fin 2 → Nat :=
  let c0_i32_37 : BitVec 32 := 0#32
  let c2_i32_36 : BitVec 32 := 2#32
  let c0_i32_9 : BitVec 32 := 0#32
  let arg1 : BitVec 32 := BitVec.ofNat 32 (i 1).val
  let c0_i32 : BitVec 32 := 0#32
  let v16 : BitVec 32 := Scalar.subi arg1 c0_i32
  let c2_i32 : BitVec 32 := 2#32
  let v17 : BitVec 32 := Scalar.divsi v16 c2_i32
  let v18 : BitVec 32 := Scalar.subi v17 c0_i32_9
  let c1_i32 : BitVec 32 := 1#32
  let v20 : BitVec 32 := Scalar.divsi v18 c1_i32
  let v21 : BitVec 32 := Scalar.muli v20 c1_i32
  let v22 : BitVec 32 := Scalar.addi c0_i32_9 v21
  let c1_i32_11 : BitVec 32 := 1#32
  let arg11 : BitVec 32 := Scf.iv v22 c1_i32_11 k0_t2
  let v66 : BitVec 32 := Scalar.muli c2_i32_36 arg11
  let v67 : BitVec 32 := Scalar.addi c0_i32_37 v66
  let c512_i32_38 : BitVec 32 := 512#32
  let v68 : BitVec 32 := Scalar.muli v67 c512_i32_38
  let v69 : BitVec 32 := v68
  let v70 : Index := Scalar.indexCast v69
  let c0_39 : Index := 0#32
  ![v70.toNat, 0]
def k0_mult4 (i : grid0.Coords) (k0_t2 : Fin (k0_t2_loop i).trips) : BitVec 32 :=
  let c0_i32_55 : BitVec 32 := 0#32
  let c2_i32_54 : BitVec 32 := 2#32
  let c0_i32_9 : BitVec 32 := 0#32
  let arg1 : BitVec 32 := BitVec.ofNat 32 (i 1).val
  let c0_i32 : BitVec 32 := 0#32
  let v16 : BitVec 32 := Scalar.subi arg1 c0_i32
  let c2_i32 : BitVec 32 := 2#32
  let v17 : BitVec 32 := Scalar.divsi v16 c2_i32
  let v18 : BitVec 32 := Scalar.subi v17 c0_i32_9
  let c1_i32 : BitVec 32 := 1#32
  let v20 : BitVec 32 := Scalar.divsi v18 c1_i32
  let v21 : BitVec 32 := Scalar.muli v20 c1_i32
  let v22 : BitVec 32 := Scalar.addi c0_i32_9 v21
  let c1_i32_11 : BitVec 32 := 1#32
  let arg11 : BitVec 32 := Scf.iv v22 c1_i32_11 k0_t2
  let v98 : BitVec 32 := Scalar.muli c2_i32_54 arg11
  let v99 : BitVec 32 := Scalar.addi c0_i32_55 v98
  let c1_i32_56 : BitVec 32 := 1#32
  let v100 : BitVec 32 := Scalar.addi v99 c1_i32_56
  let c512_i32_57 : BitVec 32 := 512#32
  let v101 : BitVec 32 := Scalar.muli v100 c512_i32_57
  v101
def k0_off4 (i : grid0.Coords) (k0_t2 : Fin (k0_t2_loop i).trips) : Fin 2 → Nat :=
  let c0_i32_55 : BitVec 32 := 0#32
  let c2_i32_54 : BitVec 32 := 2#32
  let c0_i32_9 : BitVec 32 := 0#32
  let arg1 : BitVec 32 := BitVec.ofNat 32 (i 1).val
  let c0_i32 : BitVec 32 := 0#32
  let v16 : BitVec 32 := Scalar.subi arg1 c0_i32
  let c2_i32 : BitVec 32 := 2#32
  let v17 : BitVec 32 := Scalar.divsi v16 c2_i32
  let v18 : BitVec 32 := Scalar.subi v17 c0_i32_9
  let c1_i32 : BitVec 32 := 1#32
  let v20 : BitVec 32 := Scalar.divsi v18 c1_i32
  let v21 : BitVec 32 := Scalar.muli v20 c1_i32
  let v22 : BitVec 32 := Scalar.addi c0_i32_9 v21
  let c1_i32_11 : BitVec 32 := 1#32
  let arg11 : BitVec 32 := Scf.iv v22 c1_i32_11 k0_t2
  let v98 : BitVec 32 := Scalar.muli c2_i32_54 arg11
  let v99 : BitVec 32 := Scalar.addi c0_i32_55 v98
  let c1_i32_56 : BitVec 32 := 1#32
  let v100 : BitVec 32 := Scalar.addi v99 c1_i32_56
  let c512_i32_57 : BitVec 32 := 512#32
  let v101 : BitVec 32 := Scalar.muli v100 c512_i32_57
  let v102 : BitVec 32 := v101
  let v103 : Index := Scalar.indexCast v102
  let c0_58 : Index := 0#32
  ![v103.toNat, 0]
def k0_cond1 (i : grid0.Coords) : BitVec 1 :=
  let arg1 : BitVec 32 := BitVec.ofNat 32 (i 1).val
  let c0_i32 : BitVec 32 := 0#32
  let v16 : BitVec 32 := Scalar.subi arg1 c0_i32
  let c2_i32_12 : BitVec 32 := 2#32
  let v23 : BitVec 32 := Scalar.remsi v16 c2_i32_12
  let c1_i32_13 : BitVec 32 := 1#32
  let v24 : BitVec 1 := Scalar.cmpi .eq v23 c1_i32_13
  let v25 : BitVec 32 := Scalar.extui v24
  let c0_i32_14 : BitVec 32 := 0#32
  let v26 : BitVec 1 := Scalar.cmpi .ne v25 c0_i32_14
  v26

def k0_mult5 (i : grid0.Coords) : BitVec 32 :=
  let arg1 : BitVec 32 := BitVec.ofNat 32 (i 1).val
  let c1_i32_36 : BitVec 32 := 1#32
  let v66 : BitVec 32 := Scalar.subi arg1 c1_i32_36
  let c512_i32_37 : BitVec 32 := 512#32
  let v67 : BitVec 32 := Scalar.muli v66 c512_i32_37
  v67
def k0_off5 (i : grid0.Coords) : Fin 2 → Nat :=
  let arg1 : BitVec 32 := BitVec.ofNat 32 (i 1).val
  let c1_i32_36 : BitVec 32 := 1#32
  let v66 : BitVec 32 := Scalar.subi arg1 c1_i32_36
  let c512_i32_37 : BitVec 32 := 512#32
  let v67 : BitVec 32 := Scalar.muli v66 c512_i32_37
  let v68 : BitVec 32 := v67
  let v69 : Index := Scalar.indexCast v68
  let c0_38 : Index := 0#32
  ![v69.toNat, 0]
def k0_mult6 (i : grid0.Coords) : BitVec 32 :=
  let arg1 : BitVec 32 := BitVec.ofNat 32 (i 1).val
  let c512_i32 : BitVec 32 := 512#32
  let v27 : BitVec 32 := Scalar.muli arg1 c512_i32
  v27
def k0_off6 (i : grid0.Coords) : Fin 2 → Nat :=
  let arg1 : BitVec 32 := BitVec.ofNat 32 (i 1).val
  let c512_i32 : BitVec 32 := 512#32
  let v27 : BitVec 32 := Scalar.muli arg1 c512_i32
  let v28 : BitVec 32 := v27
  let v29 : Index := Scalar.indexCast v28
  let c0_15 : Index := 0#32
  ![v29.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4096x8x96 : Shape := ⟨3, ![4096, 8, 96]⟩
abbrev S4096x8x64 : Shape := ⟨3, ![4096, 8, 64]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S8x4096 : Shape := ⟨2, ![8, 4096]⟩
abbrev S8x4096x1 : Shape := ⟨3, ![8, 4096, 1]⟩
abbrev S8x64x4096 : Shape := ⟨3, ![8, 64, 4096]⟩
abbrev S8x4096x96 : Shape := ⟨3, ![8, 4096, 96]⟩
abbrev S4096x8x32 : Shape := ⟨3, ![4096, 8, 32]⟩
abbrev S4096x8x128 : Shape := ⟨3, ![4096, 8, 128]⟩
abbrev S4096x1024 : Shape := ⟨2, ![4096, 1024]⟩

abbrev nBuf : Space → Nat
  | .hbm => 87
  | .vmem => 0
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S4096x8x64, .f32⟩
  | .hbm, ⟨4, _⟩ => ⟨S8x4096x4096, .f32⟩
  | .hbm, ⟨5, _⟩ => ⟨S4096, .i32⟩
  | .hbm, ⟨6, _⟩ => ⟨S1x4096, .i32⟩
  | .hbm, ⟨7, _⟩ => ⟨S4096x1, .i32⟩
  | .hbm, ⟨8, _⟩ => ⟨S4096x4096, .i32⟩
  | .hbm, ⟨9, _⟩ => ⟨S4096x4096, .i32⟩
  | .hbm, ⟨10, _⟩ => ⟨S4096x4096, .i1⟩
  | .hbm, ⟨11, _⟩ => ⟨S_, .f32⟩
  | .hbm, ⟨12, _⟩ => ⟨S_, .f32⟩
  | .hbm, ⟨13, _⟩ => ⟨S8x4096x4096, .i1⟩
  | .hbm, ⟨14, _⟩ => ⟨S8x4096x4096, .f32⟩
  | .hbm, ⟨15, _⟩ => ⟨S8x4096x4096, .f32⟩
  | .hbm, ⟨16, _⟩ => ⟨S_, .f32⟩
  | .hbm, ⟨17, _⟩ => ⟨S8x4096x4096, .f32⟩
  | .hbm, ⟨18, _⟩ => ⟨S_, .f32⟩
  | .hbm, ⟨19, _⟩ => ⟨S8x4096, .f32⟩
  | .hbm, ⟨20, _⟩ => ⟨S8x4096x1, .f32⟩
  | .hbm, ⟨21, _⟩ => ⟨S8x4096x4096, .f32⟩
  | .hbm, ⟨22, _⟩ => ⟨S8x4096x4096, .i1⟩
  | .hbm, ⟨23, _⟩ => ⟨S8x4096x4096, .f32⟩
  | .hbm, ⟨24, _⟩ => ⟨S_, .f32⟩
  | .hbm, ⟨25, _⟩ => ⟨S8x4096, .f32⟩
  | .hbm, ⟨26, _⟩ => ⟨S_, .f32⟩
  | .hbm, ⟨27, _⟩ => ⟨S8x4096, .f32⟩
  | .hbm, ⟨28, _⟩ => ⟨S8x4096, .f32⟩
  | .hbm, ⟨29, _⟩ => ⟨S_, .f32⟩
  | .hbm, ⟨30, _⟩ => ⟨S8x4096, .f32⟩
  | .hbm, ⟨31, _⟩ => ⟨S8x4096, .i1⟩
  | .hbm, ⟨32, _⟩ => ⟨S_, .f32⟩
  | .hbm, ⟨33, _⟩ => ⟨S8x4096, .f32⟩
  | .hbm, ⟨34, _⟩ => ⟨S8x4096, .i1⟩
  | .hbm, ⟨35, _⟩ => ⟨S_, .f32⟩
  | .hbm, ⟨36, _⟩ => ⟨S8x4096, .f32⟩
  | .hbm, ⟨37, _⟩ => ⟨S_, .f32⟩
  | .hbm, ⟨38, _⟩ => ⟨S8x4096, .f32⟩
  | .hbm, ⟨39, _⟩ => ⟨S_, .f32⟩
  | .hbm, ⟨40, _⟩ => ⟨S8x4096, .f32⟩
  | .hbm, ⟨41, _⟩ => ⟨S8x4096, .f32⟩
  | .hbm, ⟨42, _⟩ => ⟨S8x4096, .f32⟩
  | .hbm, ⟨43, _⟩ => ⟨S8x4096x1, .f32⟩
  | .hbm, ⟨44, _⟩ => ⟨S8x4096x4096, .f32⟩
  | .hbm, ⟨45, _⟩ => ⟨S8x4096x4096, .f32⟩
  | .hbm, ⟨46, _⟩ => ⟨S8x4096x4096, .f32⟩
  | .hbm, ⟨47, _⟩ => ⟨S_, .f32⟩
  | .hbm, ⟨48, _⟩ => ⟨S8x4096, .f32⟩
  | .hbm, ⟨49, _⟩ => ⟨S8x4096x1, .f32⟩
  | .hbm, ⟨50, _⟩ => ⟨S8x4096x4096, .f32⟩
  | .hbm, ⟨51, _⟩ => ⟨S8x4096x4096, .f32⟩
  | .hbm, ⟨52, _⟩ => ⟨S8x4096x1, .f32⟩
  | .hbm, ⟨53, _⟩ => ⟨S_, .f32⟩
  | .hbm, ⟨54, _⟩ => ⟨S8x4096x1, .f32⟩
  | .hbm, ⟨55, _⟩ => ⟨S8x4096x1, .f32⟩
  | .hbm, ⟨56, _⟩ => ⟨S8x64x4096, .f32⟩
  | .hbm, ⟨57, _⟩ => ⟨S4096x8x64, .f32⟩
  | .hbm, ⟨58, _⟩ => ⟨S8x64x4096, .f32⟩
  | .hbm, ⟨59, _⟩ => ⟨S8x4096x4096, .f32⟩
  | .hbm, ⟨60, _⟩ => ⟨S8x64x4096, .f32⟩
  | .hbm, ⟨61, _⟩ => ⟨S4096x8x64, .f32⟩
  | .hbm, ⟨62, _⟩ => ⟨S8x4096x4096, .f32⟩
  | .hbm, ⟨63, _⟩ => ⟨S8x4096x4096, .f32⟩
  | .hbm, ⟨64, _⟩ => ⟨S8x4096x4096, .f32⟩
  | .hbm, ⟨65, _⟩ => ⟨S_, .f32⟩
  | .hbm, ⟨66, _⟩ => ⟨S8x4096, .f32⟩
  | .hbm, ⟨67, _⟩ => ⟨S8x4096x1, .f32⟩
  | .hbm, ⟨68, _⟩ => ⟨S8x4096x1, .f32⟩
  | .hbm, ⟨69, _⟩ => ⟨S8x4096x4096, .f32⟩
  | .hbm, ⟨70, _⟩ => ⟨S8x4096x4096, .f32⟩
  | .hbm, ⟨71, _⟩ => ⟨S_, .f32⟩
  | .hbm, ⟨72, _⟩ => ⟨S8x4096, .f32⟩
  | .hbm, ⟨73, _⟩ => ⟨S8x4096x4096, .f32⟩
  | .hbm, ⟨74, _⟩ => ⟨S8x4096x4096, .f32⟩
  | .hbm, ⟨75, _⟩ => ⟨S8x4096x4096, .f32⟩
  | .hbm, ⟨76, _⟩ => ⟨S_, .f32⟩
  | .hbm, ⟨77, _⟩ => ⟨S8x4096x4096, .f32⟩
  | .hbm, ⟨78, _⟩ => ⟨S8x4096x4096, .f32⟩
  | .hbm, ⟨79, _⟩ => ⟨S8x4096x96, .f32⟩
  | .hbm, ⟨80, _⟩ => ⟨S4096x8x96, .f32⟩
  | .hbm, ⟨81, _⟩ => ⟨S8x4096x96, .f32⟩
  | .hbm, ⟨82, _⟩ => ⟨S4096x8x96, .f32⟩
  | .hbm, ⟨83, _⟩ => ⟨S_, .f32⟩
  | .hbm, ⟨84, _⟩ => ⟨S4096x8x32, .f32⟩
  | .hbm, ⟨85, _⟩ => ⟨S4096x8x128, .f32⟩
  | .hbm, ⟨86, _⟩ => ⟨S4096x1024, .f32⟩
  | _, _ => ⟨S4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_call0_v0 : Ref sig .tc := ⟨.hbm, 12, rfl⟩
abbrev main_v7_1 : Ref sig .tc := ⟨.hbm, 13, rfl⟩
abbrev main_call0_v2 : Ref sig .tc := ⟨.hbm, 14, rfl⟩
abbrev main_v7_0 : Ref sig .tc := ⟨.hbm, 15, rfl⟩
abbrev main_call0_cst : Ref sig .tc := ⟨.hbm, 16, rfl⟩
abbrev main_v7_2 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_cst_7 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call1_cst : Ref sig .tc := ⟨.hbm, 76, rfl⟩
abbrev main_call1_v0 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩

abbrev nD : Nat := 1
abbrev τ : Topo := Topo.v7x

variable {F : FTy → Type} [FloatOps F]
-- ==== Kernel2.lean ====
abbrev S4096x8x96 : Shape := ⟨3, ![4096, 8, 96]⟩
abbrev S4096x8x64 : Shape := ⟨3, ![4096, 8, 64]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S8x4096 : Shape := ⟨2, ![8, 4096]⟩
abbrev S8x4096x1 : Shape := ⟨3, ![8, 4096, 1]⟩
abbrev S8x64x4096 : Shape := ⟨3, ![8, 64, 4096]⟩
abbrev S4096x8 : Shape := ⟨2, ![4096, 8]⟩
abbrev S4096x8x128 : Shape := ⟨3, ![4096, 8, 128]⟩
abbrev S4096x1024 : Shape := ⟨2, ![4096, 1024]⟩
abbrev S8x1x4096 : Shape := ⟨3, ![8, 1, 4096]⟩
abbrev S8x8x4096 : Shape := ⟨3, ![8, 8, 4096]⟩
abbrev S64x4096 : Shape := ⟨2, ![64, 4096]⟩
abbrev S4096x128 : Shape := ⟨2, ![4096, 128]⟩
abbrev S512x128 : Shape := ⟨2, ![512, 128]⟩
abbrev S512x512 : Shape := ⟨2, ![512, 512]⟩
abbrev S1x512 : Shape := ⟨2, ![1, 512]⟩

abbrev nBuf : Space → Nat
  | .hbm => 63
  | .vmem => 18
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S4096x8x64, .f32⟩
  | .hbm, ⟨4, _⟩ => ⟨S8x4096x4096, .f32⟩
  | .hbm, ⟨5, _⟩ => ⟨S4096, .i32⟩
  | .hbm, ⟨6, _⟩ => ⟨S1x4096, .i32⟩
  | .hbm, ⟨7, _⟩ => ⟨S4096x1, .i32⟩
  | .hbm, ⟨8, _⟩ => ⟨S4096x4096, .i32⟩
  | .hbm, ⟨9, _⟩ => ⟨S4096x4096, .i32⟩
  | .hbm, ⟨10, _⟩ => ⟨S4096x4096, .i1⟩
  | .hbm, ⟨11, _⟩ => ⟨S_, .f32⟩
  | .hbm, ⟨12, _⟩ => ⟨S_, .f32⟩
  | .hbm, ⟨13, _⟩ => ⟨S8x4096x4096, .i1⟩
  | .hbm, ⟨14, _⟩ => ⟨S8x4096x4096, .f32⟩
  | .hbm, ⟨15, _⟩ => ⟨S8x4096x4096, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S8x4096x4096, .f32⟩
  | .hbm, ⟨26, _⟩ => ⟨S8x4096x4096, .f32⟩
  | .hbm, ⟨27, _⟩ => ⟨S8x64x4096, .f32⟩
  | .hbm, ⟨28, _⟩ => ⟨S4096x8x64, .f32⟩
  | .hbm, ⟨29, _⟩ => ⟨S8x4096x1, .f32⟩
  | .hbm, ⟨30, _⟩ => ⟨S8x4096x1, .f32⟩
  | .hbm, ⟨31, _⟩ => ⟨S8x4096, .f32⟩
  | .hbm, ⟨32, _⟩ => ⟨S4096x8x64, .f32⟩
  | .hbm, ⟨33, _⟩ => ⟨S_, .f32⟩
  | .hbm, ⟨34, _⟩ => ⟨S4096x8, .f32⟩
  | .hbm, ⟨35, _⟩ => ⟨S_, .i32⟩
  | .hbm, ⟨36, _⟩ => ⟨S_, .f32⟩
  | .hbm, ⟨37, _⟩ => ⟨S4096x8x128, .f32⟩
  | .hbm, ⟨38, _⟩ => ⟨S4096x1024, .f32⟩
  | .hbm, ⟨39, _⟩ => ⟨S4096x1024, .bf16⟩
  | .hbm, ⟨40, _⟩ => ⟨S_, .i32⟩
  | .hbm, ⟨41, _⟩ => ⟨S_, .f32⟩
  | .hbm, ⟨42, _⟩ => ⟨S4096x8x128, .f32⟩
  | .hbm, ⟨43, _⟩ => ⟨S4096x1024, .f32⟩
  | .hbm, ⟨44, _⟩ => ⟨S4096x1024, .bf16⟩
  | .hbm, ⟨45, _⟩ => ⟨S_, .i32⟩
  | .hbm, ⟨46, _⟩ => ⟨S_, .f32⟩
  | .hbm, ⟨47, _⟩ => ⟨S4096x8x128, .f32⟩
  | .hbm, ⟨48, _⟩ => ⟨S4096x1024, .f32⟩
  | .hbm, ⟨49, _⟩ => ⟨S4096x1024, .bf16⟩
  | .hbm, ⟨50, _⟩ => ⟨S8x1x4096, .f32⟩
  | .hbm, ⟨51, _⟩ => ⟨S8x8x4096, .f32⟩
  | .hbm, ⟨52, _⟩ => ⟨S64x4096, .f32⟩
  | .hbm, ⟨53, _⟩ => ⟨S8x4096, .f32⟩
  | .hbm, ⟨54, _⟩ => ⟨S8x1x4096, .f32⟩
  | .hbm, ⟨55, _⟩ => ⟨S8x8x4096, .f32⟩
  | .hbm, ⟨56, _⟩ => ⟨S64x4096, .f32⟩
  | .hbm, ⟨57, _⟩ => ⟨S_, .i32⟩
  | .hbm, ⟨58, _⟩ => ⟨S_, .f32⟩
  | .hbm, ⟨59, _⟩ => ⟨S4096x8x128, .f32⟩
  | .hbm, ⟨60, _⟩ => ⟨S4096x1024, .f32⟩
  | .hbm, ⟨61, _⟩ => ⟨S4096x1024, .f32⟩
  | .hbm, ⟨62, _⟩ => ⟨S4096x1024, .f32⟩
  | .local _ .vmem, ⟨0, _⟩ => ⟨S4096x128, .bf16⟩
  | .local _ .vmem, ⟨1, _⟩ => ⟨S4096x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S8x4096, .f32⟩
  | .local _ .vmem, ⟨7, _⟩ => ⟨S8x4096, .f32⟩
  | .local _ .vmem, ⟨8, _⟩ => ⟨S8x4096, .f32⟩
  | .local _ .vmem, ⟨9, _⟩ => ⟨S8x4096, .f32⟩
  | .local _ .vmem, ⟨10, _⟩ => ⟨S4096x128, .f32⟩
  | .local _ .vmem, ⟨11, _⟩ => ⟨S4096x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | _, _ => ⟨S4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_c : Ref sig .tc := ⟨.hbm, 35, rfl⟩
abbrev main_call1_v0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_3 : Ref sig .tc := ⟨.hbm, 40, rfl⟩
abbrev main_call2_v0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_4 : Ref sig .tc := ⟨.hbm, 45, rfl⟩
abbrev main_call3_v0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_5 : Ref sig .tc := ⟨.hbm, 57, rfl⟩
abbrev main_call4_v0 : Ref sig .tc := ⟨.hbm, 58, rfl⟩
abbrev main_v40 : Ref sig .tc := ⟨.hbm, 59, rfl⟩
abbrev main_v41 : Ref sig .tc := ⟨.hbm, 60, rfl⟩
abbrev main_v42_0 : Ref sig .tc := ⟨.hbm, 61, rfl⟩
abbrev main_v42_1 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c512_i32 : BitVec 32 := 512#32
  let v8 : BitVec 32 := Scalar.muli arg1 c512_i32
  v8
def k0_mult2 (i : grid0.Coords) : BitVec 32 :=
  let arg1 : BitVec 32 := BitVec.ofNat 32 (i 1).val
  let c512_i32 : BitVec 32 := 512#32
  let v8 : BitVec 32 := Scalar.muli arg1 c512_i32
  let v9 : BitVec 32 := v8
  let c0_i32 : BitVec 32 := 0#32
  let v12 : BitVec 32 := Scalar.addi v9 c0_i32
  v12
def k0_off1 (i : grid0.Coords) : Fin 2 → Nat :=
  let arg1 : BitVec 32 := BitVec.ofNat 32 (i 1).val
  let c512_i32 : BitVec 32 := 512#32
  let v8 : BitVec 32 := Scalar.muli arg1 c512_i32
  let v9 : BitVec 32 := v8
  let c0_i32 : BitVec 32 := 0#32
  let v12 : BitVec 32 := Scalar.addi v9 c0_i32
  let v13 : BitVec 32 := v12
  let v14 : Index := Scalar.indexCast v13
  let c0_8 : Index := 0#32
  ![v14.toNat, 0]
def k0_off2 (i : grid0.Coords) : Fin 2 → Nat :=
  let c0_15 : Index := 0#32
  let arg1 : BitVec 32 := BitVec.ofNat 32 (i 1).val
  let c512_i32 : BitVec 32 := 512#32
  let v8 : BitVec 32 := Scalar.muli arg1 c512_i32
  let v9 : BitVec 32 := v8
  let c0_i32 : BitVec 32 := 0#32
  let v12 : BitVec 32 := Scalar.addi v9 c0_i32
  let v13 : BitVec 32 := v12
  let v30 : Index := Scalar.indexCast v13
  ![0, v30.toNat]
@[reducible] def k0_t1_loop (i : grid0.Coords) : Scf.Loop 32 :=
  let c0_i32_27 : BitVec 32 := 0#32
  let c8_i32 : BitVec 32 := 8#32
  let arg1 : BitVec 32 := BitVec.ofNat 32 (i 1).val
  let c1_i32 : BitVec 32 := 1#32
  let v59 : BitVec 32 := Scalar.addi arg1 c1_i32
  let v60 : BitVec 32 := Scalar.subi c8_i32 v59
  let c2_i32 : BitVec 32 := 2#32
  let v61 : BitVec 32 := Scalar.divsi v60 c2_i32
  let v62 : BitVec 32 := Scalar.subi v61 c0_i32_27
  let c1_i32_28 : BitVec 32 := 1#32
  let v64 : BitVec 32 := Scalar.divsi v62 c1_i32_28
  let v65 : BitVec 32 := Scalar.muli v64 c1_i32_28
  let v66 : BitVec 32 := Scalar.addi c0_i32_27 v65
  let c1_i32_29 : BitVec 32 := 1#32
  ⟨c0_i32_27, v66, c1_i32_29⟩
def k0_mult3 (i : grid0.Coords) (k0_t1 : Fin (k0_t1_loop i).trips) : BitVec 32 :=
  let arg1 : BitVec 32 := BitVec.ofNat 32 (i 1).val
  let c1_i32 : BitVec 32 := 1#32
  let v59 : BitVec 32 := Scalar.addi arg1 c1_i32
  let c2_i32_42 : BitVec 32 := 2#32
  let c0_i32_27 : BitVec 32 := 0#32
  let c1_i32_29 : BitVec 32 := 1#32
  let arg12 : BitVec 32 := Scf.iv c0_i32_27 c1_i32_29 k0_t1
  let v75 : BitVec 32 := Scalar.muli c2_i32_42 arg12
  let v76 : BitVec 32 := Scalar.addi v59 v75
  let c512_i32_43 : BitVec 32 := 512#32
  let v77 : BitVec 32 := Scalar.muli v76 c512_i32_43
  v77
def k0_mult4 (i : grid0.Coords) (k0_t1 : Fin (k0_t1_loop i).trips) : BitVec 32 :=
  let arg1 : BitVec 32 := BitVec.ofNat 32 (i 1).val
  let c1_i32 : BitVec 32 := 1#32
  let v59 : BitVec 32 := Scalar.addi arg1 c1_i32
  let c2_i32_42 : BitVec 32 := 2#32
  let c0_i32_27 : BitVec 32 := 0#32
  let c1_i32_29 : BitVec 32 := 1#32
  let arg12 : BitVec 32 := Scf.iv c0_i32_27 c1_i32_29 k0_t1
  let v75 : BitVec 32 := Scalar.muli c2_i32_42 arg12
  let v76 : BitVec 32 := Scalar.addi v59 v75
  let c512_i32_43 : BitVec 32 := 512#32
  let v77 : BitVec 32 := Scalar.muli v76 c512_i32_43
  let v78 : BitVec 32 := v77
  let c0_i32_48 : BitVec 32 := 0#32
  let v81 : BitVec 32 := Scalar.addi v78 c0_i32_48
  v81
def k0_off3 (i : grid0.Coords) (k0_t1 : Fin (k0_t1_loop i).trips) : Fin 2 → Nat :=
  let arg1 : BitVec 32 := BitVec.ofNat 32 (i 1).val
  let c1_i32 : BitVec 32 := 1#32
  let v59 : BitVec 32 := Scalar.addi arg1 c1_i32
  let c2_i32_42 : BitVec 32 := 2#32
  let c0_i32_27 : BitVec 32 := 0#32
  let c1_i32_29 : BitVec 32 := 1#32
  let arg12 : BitVec 32 := Scf.iv c0_i32_27 c1_i32_29 k0_t1
  let v75 : BitVec 32 := Scalar.muli c2_i32_42 arg12
  let v76 : BitVec 32 := Scalar.addi v59 v75
  let c512_i32_43 : BitVec 32 := 512#32
  let v77 : BitVec 32 := Scalar.muli v76 c512_i32_43
  let v78 : BitVec 32 := v77
  let c0_i32_48 : BitVec 32 := 0#32
  let v81 : BitVec 32 := Scalar.addi v78 c0_i32_48
  let v82 : BitVec 32 := v81
  let v83 : Index := Scalar.indexCast v82
  let c0_49 : Index := 0#32
  ![v83.toNat, 0]
def k0_off4 (i : grid0.Coords) (k0_t1 : Fin (k0_t1_loop i).trips) : Fin 2 → Nat :=
  let c0_54 : Index := 0#32
  let arg1 : BitVec 32 := BitVec.ofNat 32 (i 1).val
  let c1_i32 : BitVec 32 := 1#32
  let v59 : BitVec 32 := Scalar.addi arg1 c1_i32
  let c2_i32_42 : BitVec 32 := 2#32
  let c0_i32_27 : BitVec 32 := 0#32
  let c1_i32_29 : BitVec 32 := 1#32
  let arg12 : BitVec 32 := Scf.iv c0_i32_27 c1_i32_29 k0_t1
  let v75 : BitVec 32 := Scalar.muli c2_i32_42 arg12
  let v76 : BitVec 32 := Scalar.addi v59 v75
  let c512_i32_43 : BitVec 32 := 512#32
  let v77 : BitVec 32 := Scalar.muli v76 c512_i32_43
  let v78 : BitVec 32 := v77
  let c0_i32_48 : BitVec 32 := 0#32
  let v81 : BitVec 32 := Scalar.addi v78 c0_i32_48
  let v82 : BitVec 32 := v81
  let v92 : Index := Scalar.indexCast v82
  ![0, v92.toNat]
def k0_mult5 (i : grid0.Coords) (k0_t1 : Fin (k0_t1_loop i).trips) : BitVec 32 :=
  let arg1 : BitVec 32 := BitVec.ofNat 32 (i 1).val
  let c1_i32 : BitVec 32 := 1#32
  let v59 : BitVec 32 := Scalar.addi arg1 c1_i32
  let c2_i32_65 : BitVec 32 := 2#32
  let c0_i32_27 : BitVec 32 := 0#32
  let c1_i32_29 : BitVec 32 := 1#32
  let arg12 : BitVec 32 := Scf.iv c0_i32_27 c1_i32_29 k0_t1
  let v121 : BitVec 32 := Scalar.muli c2_i32_65 arg12
  let v122 : BitVec 32 := Scalar.addi v59 v121
  let c1_i32_66 : BitVec 32 := 1#32
  let v123 : BitVec 32 := Scalar.addi v122 c1_i32_66
  let c512_i32_67 : BitVec 32 := 512#32
  let v124 : BitVec 32 := Scalar.muli v123 c512_i32_67
  v124
def k0_mult6 (i : grid0.Coords) (k0_t1 : Fin (k0_t1_loop i).trips) : BitVec 32 :=
  let arg1 : BitVec 32 := BitVec.ofNat 32 (i 1).val
  let c1_i32 : BitVec 32 := 1#32
  let v59 : BitVec 32 := Scalar.addi arg1 c1_i32
  let c2_i32_65 : BitVec 32 := 2#32
  let c0_i32_27 : BitVec 32 := 0#32
  let c1_i32_29 : BitVec 32 := 1#32
  let arg12 : BitVec 32 := Scf.iv c0_i32_27 c1_i32_29 k0_t1
  let v121 : BitVec 32 := Scalar.muli c2_i32_65 arg12
  let v122 : BitVec 32 := Scalar.addi v59 v121
  let c1_i32_66 : BitVec 32 := 1#32
  let v123 : BitVec 32 := Scalar.addi v122 c1_i32_66
  let c512_i32_67 : BitVec 32 := 512#32
  let v124 : BitVec 32 := Scalar.muli v123 c512_i32_67
  let v125 : BitVec 32 := v124
  let c0_i32_72 : BitVec 32 := 0#32
  let v128 : BitVec 32 := Scalar.addi v125 c0_i32_72
  v128
def k0_off5 (i : grid0.Coords) (k0_t1 : Fin (k0_t1_loop i).trips) : Fin 2 → Nat :=
  let arg1 : BitVec 32 := BitVec.ofNat 32 (i 1).val
  let c1_i32 : BitVec 32 := 1#32
  let v59 : BitVec 32 := Scalar.addi arg1 c1_i32
  let c2_i32_65 : BitVec 32 := 2#32
  let c0_i32_27 : BitVec 32 := 0#32
  let c1_i32_29 : BitVec 32 := 1#32
  let arg12 : BitVec 32 := Scf.iv c0_i32_27 c1_i32_29 k0_t1
  let v121 : BitVec 32 := Scalar.muli c2_i32_65 arg12
  let v122 : BitVec 32 := Scalar.addi v59 v121
  let c1_i32_66 : BitVec 32 := 1#32
  let v123 : BitVec 32 := Scalar.addi v122 c1_i32_66
  let c512_i32_67 : BitVec 32 := 512#32
  let v124 : BitVec 32 := Scalar.muli v123 c512_i32_67
  let v125 : BitVec 32 := v124
  let c0_i32_72 : BitVec 32 := 0#32
  let v128 : BitVec 32 := Scalar.addi v125 c0_i32_72
  let v129 : BitVec 32 := v128
  let v130 : Index := Scalar.indexCast v129
  let c0_73 : Index := 0#32
  ![v130.toNat, 0]
def k0_off6 (i : grid0.Coords) (k0_t1 : Fin (k0_t1_loop i).trips) : Fin 2 → Nat :=
  let c0_78 : Index := 0#32
  let arg1 : BitVec 32 := BitVec.ofNat 32 (i 1).val
  let c1_i32 : BitVec 32 := 1#32
  let v59 : BitVec 32 := Scalar.addi arg1 c1_i32
  let c2_i32_65 : BitVec 32 := 2#32
  let c0_i32_27 : BitVec 32 := 0#32
  let c1_i32_29 : BitVec 32 := 1#32
  let arg12 : BitVec 32 := Scf.iv c0_i32_27 c1_i32_29 k0_t1
  let v121 : BitVec 32 := Scalar.muli c2_i32_65 arg12
  let v122 : BitVec 32 := Scalar.addi v59 v121
  let c1_i32_66 : BitVec 32 := 1#32
  let v123 : BitVec 32 := Scalar.addi v122 c1_i32_66
  let c512_i32_67 : BitVec 32 := 512#32
  let v124 : BitVec 32 := Scalar.muli v123 c512_i32_67
  let v125 : BitVec 32 := v124
  let c0_i32_72 : BitVec 32 := 0#32
  let v128 : BitVec 32 := Scalar.addi v125 c0_i32_72
  let v129 : BitVec 32 := v128
  let v139 : Index := Scalar.indexCast v129
  ![0, v139.toNat]
@[reducible] def k0_t2_loop (i : grid0.Coords) : Scf.Loop 32 :=
  let c0_i32_27 : BitVec 32 := 0#32
  let c8_i32 : BitVec 32 := 8#32
  let arg1 : BitVec 32 := BitVec.ofNat 32 (i 1).val
  let c1_i32 : BitVec 32 := 1#32
  let v59 : BitVec 32 := Scalar.addi arg1 c1_i32
  let v60 : BitVec 32 := Scalar.subi c8_i32 v59
  let c2_i32 : BitVec 32 := 2#32
  let v61 : BitVec 32 := Scalar.divsi v60 c2_i32
  let v62 : BitVec 32 := Scalar.subi v61 c0_i32_27
  let c1_i32_28 : BitVec 32 := 1#32
  let v64 : BitVec 32 := Scalar.divsi v62 c1_i32_28
  let v65 : BitVec 32 := Scalar.muli v64 c1_i32_28
  let v66 : BitVec 32 := Scalar.addi c0_i32_27 v65
  let v63 : BitVec 32 := Scalar.addi c0_i32_27 v62
  let c1_i32_30 : BitVec 32 := 1#32
  ⟨v66, v63, c1_i32_30⟩
def k0_mult7 (i : grid0.Coords) (k0_t2 : Fin (k0_t2_loop i).trips) : BitVec 32 :=
  let arg1 : BitVec 32 := BitVec.ofNat 32 (i 1).val
  let c1_i32 : BitVec 32 := 1#32
  let v59 : BitVec 32 := Scalar.addi arg1 c1_i32
  let c2_i32_42 : BitVec 32 := 2#32
  let c0_i32_27 : BitVec 32 := 0#32
  let c8_i32 : BitVec 32 := 8#32
  let v60 : BitVec 32 := Scalar.subi c8_i32 v59
  let c2_i32 : BitVec 32 := 2#32
  let v61 : BitVec 32 := Scalar.divsi v60 c2_i32
  let v62 : BitVec 32 := Scalar.subi v61 c0_i32_27
  let c1_i32_28 : BitVec 32 := 1#32
  let v64 : BitVec 32 := Scalar.divsi v62 c1_i32_28
  let v65 : BitVec 32 := Scalar.muli v64 c1_i32_28
  let v66 : BitVec 32 := Scalar.addi c0_i32_27 v65
  let c1_i32_30 : BitVec 32 := 1#32
  let arg12 : BitVec 32 := Scf.iv v66 c1_i32_30 k0_t2
  let v75 : BitVec 32 := Scalar.muli c2_i32_42 arg12
  let v76 : BitVec 32 := Scalar.addi v59 v75
  let c512_i32_43 : BitVec 32 := 512#32
  let v77 : BitVec 32 := Scalar.muli v76 c512_i32_43
  v77
def k0_mult8 (i : grid0.Coords) (k0_t2 : Fin (k0_t2_loop i).trips) : BitVec 32 :=
  let arg1 : BitVec 32 := BitVec.ofNat 32 (i 1).val
  let c1_i32 : BitVec 32 := 1#32
  let v59 : BitVec 32 := Scalar.addi arg1 c1_i32
  let c2_i32_42 : BitVec 32 := 2#32
  let c0_i32_27 : BitVec 32 := 0#32
  let c8_i32 : BitVec 32 := 8#32
  let v60 : BitVec 32 := Scalar.subi c8_i32 v59
  let c2_i32 : BitVec 32 := 2#32
  let v61 : BitVec 32 := Scalar.divsi v60 c2_i32
  let v62 : BitVec 32 := Scalar.subi v61 c0_i32_27
  let c1_i32_28 : BitVec 32 := 1#32
  let v64 : BitVec 32 := Scalar.divsi v62 c1_i32_28
  let v65 : BitVec 32 := Scalar.muli v64 c1_i32_28
  let v66 : BitVec 32 := Scalar.addi c0_i32_27 v65
  let c1_i32_30 : BitVec 32 := 1#32
  let arg12 : BitVec 32 := Scf.iv v66 c1_i32_30 k0_t2
  let v75 : BitVec 32 := Scalar.muli c2_i32_42 arg12
  let v76 : BitVec 32 := Scalar.addi v59 v75
  let c512_i32_43 : BitVec 32 := 512#32
  let v77 : BitVec 32 := Scalar.muli v76 c512_i32_43
  let v78 : BitVec 32 := v77
  let c0_i32_48 : BitVec 32 := 0#32
  let v81 : BitVec 32 := Scalar.addi v78 c0_i32_48
  v81
def k0_off7 (i : grid0.Coords) (k0_t2 : Fin (k0_t2_loop i).trips) : Fin 2 → Nat :=
  let arg1 : BitVec 32 := BitVec.ofNat 32 (i 1).val
  let c1_i32 : BitVec 32 := 1#32
  let v59 : BitVec 32 := Scalar.addi arg1 c1_i32
  let c2_i32_42 : BitVec 32 := 2#32
  let c0_i32_27 : BitVec 32 := 0#32
  let c8_i32 : BitVec 32 := 8#32
  let v60 : BitVec 32 := Scalar.subi c8_i32 v59
  let c2_i32 : BitVec 32 := 2#32
  let v61 : BitVec 32 := Scalar.divsi v60 c2_i32
  let v62 : BitVec 32 := Scalar.subi v61 c0_i32_27
  let c1_i32_28 : BitVec 32 := 1#32
  let v64 : BitVec 32 := Scalar.divsi v62 c1_i32_28
  let v65 : BitVec 32 := Scalar.muli v64 c1_i32_28
  let v66 : BitVec 32 := Scalar.addi c0_i32_27 v65
  let c1_i32_30 : BitVec 32 := 1#32
  let arg12 : BitVec 32 := Scf.iv v66 c1_i32_30 k0_t2
  let v75 : BitVec 32 := Scalar.muli c2_i32_42 arg12
  let v76 : BitVec 32 := Scalar.addi v59 v75
  let c512_i32_43 : BitVec 32 := 512#32
  let v77 : BitVec 32 := Scalar.muli v76 c512_i32_43
  let v78 : BitVec 32 := v77
  let c0_i32_48 : BitVec 32 := 0#32
  let v81 : BitVec 32 := Scalar.addi v78 c0_i32_48
  let v82 : BitVec 32 := v81
  let v83 : Index := Scalar.indexCast v82
  let c0_49 : Index := 0#32
  ![v83.toNat, 0]
def k0_off8 (i : grid0.Coords) (k0_t2 : Fin (k0_t2_loop i).trips) : Fin 2 → Nat :=
  let c0_54 : Index := 0#32
  let arg1 : BitVec 32 := BitVec.ofNat 32 (i 1).val
  let c1_i32 : BitVec 32 := 1#32
  let v59 : BitVec 32 := Scalar.addi arg1 c1_i32
  let c2_i32_42 : BitVec 32 := 2#32
  let c0_i32_27 : BitVec 32 := 0#32
  let c8_i32 : BitVec 32 := 8#32
  let v60 : BitVec 32 := Scalar.subi c8_i32 v59
  let c2_i32 : BitVec 32 := 2#32
  let v61 : BitVec 32 := Scalar.divsi v60 c2_i32
  let v62 : BitVec 32 := Scalar.subi v61 c0_i32_27
  let c1_i32_28 : BitVec 32 := 1#32
  let v64 : BitVec 32 := Scalar.divsi v62 c1_i32_28
  let v65 : BitVec 32 := Scalar.muli v64 c1_i32_28
  let v66 : BitVec 32 := Scalar.addi c0_i32_27 v65
  let c1_i32_30 : BitVec 32 := 1#32
  let arg12 : BitVec 32 := Scf.iv v66 c1_i32_30 k0_t2
  let v75 : BitVec 32 := Scalar.muli c2_i32_42 arg12
  let v76 : BitVec 32 := Scalar.addi v59 v75
  let c512_i32_43 : BitVec 32 := 512#32
  let v77 : BitVec 32 := Scalar.muli v76 c512_i32_43
  let v78 : BitVec 32 := v77
  let c0_i32_48 : BitVec 32 := 0#32
  let v81 : BitVec 32 := Scalar.addi v78 c0_i32_48
  let v82 : BitVec 32 := v81
  let v92 : Index := Scalar.indexCast v82
  ![0, v92.toNat]
def k0_mult9 (i : grid0.Coords) (k0_t2 : Fin (k0_t2_loop i).trips) : BitVec 32 :=
  let arg1 : BitVec 32 := BitVec.ofNat 32 (i 1).val
  let c1_i32 : BitVec 32 := 1#32
  let v59 : BitVec 32 := Scalar.addi arg1 c1_i32
  let c2_i32_65 : BitVec 32 := 2#32
  let c0_i32_27 : BitVec 32 := 0#32
  let c8_i32 : BitVec 32 := 8#32
  let v60 : BitVec 32 := Scalar.subi c8_i32 v59
  let c2_i32 : BitVec 32 := 2#32
  let v61 : BitVec 32 := Scalar.divsi v60 c2_i32
  let v62 : BitVec 32 := Scalar.subi v61 c0_i32_27
  let c1_i32_28 : BitVec 32 := 1#32
  let v64 : BitVec 32 := Scalar.divsi v62 c1_i32_28
  let v65 : BitVec 32 := Scalar.muli v64 c1_i32_28
  let v66 : BitVec 32 := Scalar.addi c0_i32_27 v65
  let c1_i32_30 : BitVec 32 := 1#32
  let arg12 : BitVec 32 := Scf.iv v66 c1_i32_30 k0_t2
  let v121 : BitVec 32 := Scalar.muli c2_i32_65 arg12
  let v122 : BitVec 32 := Scalar.addi v59 v121
  let c1_i32_66 : BitVec 32 := 1#32
  let v123 : BitVec 32 := Scalar.addi v122 c1_i32_66
  let c512_i32_67 : BitVec 32 := 512#32
  let v124 : BitVec 32 := Scalar.muli v123 c512_i32_67
  v124
def k0_mult10 (i : grid0.Coords) (k0_t2 : Fin (k0_t2_loop i).trips) : BitVec 32 :=
  let arg1 : BitVec 32 := BitVec.ofNat 32 (i 1).val
  let c1_i32 : BitVec 32 := 1#32
  let v59 : BitVec 32 := Scalar.addi arg1 c1_i32
  let c2_i32_65 : BitVec 32 := 2#32
  let c0_i32_27 : BitVec 32 := 0#32
  let c8_i32 : BitVec 32 := 8#32
  let v60 : BitVec 32 := Scalar.subi c8_i32 v59
  let c2_i32 : BitVec 32 := 2#32
  let v61 : BitVec 32 := Scalar.divsi v60 c2_i32
  let v62 : BitVec 32 := Scalar.subi v61 c0_i32_27
  let c1_i32_28 : BitVec 32 := 1#32
  let v64 : BitVec 32 := Scalar.divsi v62 c1_i32_28
  let v65 : BitVec 32 := Scalar.muli v64 c1_i32_28
  let v66 : BitVec 32 := Scalar.addi c0_i32_27 v65
  let c1_i32_30 : BitVec 32 := 1#32
  let arg12 : BitVec 32 := Scf.iv v66 c1_i32_30 k0_t2
  let v121 : BitVec 32 := Scalar.muli c2_i32_65 arg12
  let v122 : BitVec 32 := Scalar.addi v59 v121
  let c1_i32_66 : BitVec 32 := 1#32
  let v123 : BitVec 32 := Scalar.addi v122 c1_i32_66
  let c512_i32_67 : BitVec 32 := 512#32
  let v124 : BitVec 32 := Scalar.muli v123 c512_i32_67
  let v125 : BitVec 32 := v124
  let c0_i32_72 : BitVec 32 := 0#32
  let v128 : BitVec 32 := Scalar.addi v125 c0_i32_72
  v128
def k0_off9 (i : grid0.Coords) (k0_t2 : Fin (k0_t2_loop i).trips) : Fin 2 → Nat :=
  let arg1 : BitVec 32 := BitVec.ofNat 32 (i 1).val
  let c1_i32 : BitVec 32 := 1#32
  let v59 : BitVec 32 := Scalar.addi arg1 c1_i32
  let c2_i32_65 : BitVec 32 := 2#32
  let c0_i32_27 : BitVec 32 := 0#32
  let c8_i32 : BitVec 32 := 8#32
  let v60 : BitVec 32 := Scalar.subi c8_i32 v59
  let c2_i32 : BitVec 32 := 2#32
  let v61 : BitVec 32 := Scalar.divsi v60 c2_i32
  let v62 : BitVec 32 := Scalar.subi v61 c0_i32_27
  let c1_i32_28 : BitVec 32 := 1#32
  let v64 : BitVec 32 := Scalar.divsi v62 c1_i32_28
  let v65 : BitVec 32 := Scalar.muli v64 c1_i32_28
  let v66 : BitVec 32 := Scalar.addi c0_i32_27 v65
  let c1_i32_30 : BitVec 32 := 1#32
  let arg12 : BitVec 32 := Scf.iv v66 c1_i32_30 k0_t2
  let v121 : BitVec 32 := Scalar.muli c2_i32_65 arg12
  let v122 : BitVec 32 := Scalar.addi v59 v121
  let c1_i32_66 : BitVec 32 := 1#32
  let v123 : BitVec 32 := Scalar.addi v122 c1_i32_66
  let c512_i32_67 : BitVec 32 := 512#32
  let v124 : BitVec 32 := Scalar.muli v123 c512_i32_67
  let v125 : BitVec 32 := v124
  let c0_i32_72 : BitVec 32 := 0#32
  let v128 : BitVec 32 := Scalar.addi v125 c0_i32_72
  let v129 : BitVec 32 := v128
  let v130 : Index := Scalar.indexCast v129
  let c0_73 : Index := 0#32
  ![v130.toNat, 0]
def k0_off10 (i : grid0.Coords) (k0_t2 : Fin (k0_t2_loop i).trips) : Fin 2 → Nat :=
  let c0_78 : Index := 0#32
  let arg1 : BitVec 32 := BitVec.ofNat 32 (i 1).val
  let c1_i32 : BitVec 32 := 1#32
  let v59 : BitVec 32 := Scalar.addi arg1 c1_i32
  let c2_i32_65 : BitVec 32 := 2#32
  let c0_i32_27 : BitVec 32 := 0#32
  let c8_i32 : BitVec 32 := 8#32
  let v60 : BitVec 32 := Scalar.subi c8_i32 v59
  let c2_i32 : BitVec 32 := 2#32
  let v61 : BitVec 32 := Scalar.divsi v60 c2_i32
  let v62 : BitVec 32 := Scalar.subi v61 c0_i32_27
  let c1_i32_28 : BitVec 32 := 1#32
  let v64 : BitVec 32 := Scalar.divsi v62 c1_i32_28
  let v65 : BitVec 32 := Scalar.muli v64 c1_i32_28
  let v66 : BitVec 32 := Scalar.addi c0_i32_27 v65
  let c1_i32_30 : BitVec 32 := 1#32
  let arg12 : BitVec 32 := Scf.iv v66 c1_i32_30 k0_t2
  let v121 : BitVec 32 := Scalar.muli c2_i32_65 arg12
  let v122 : BitVec 32 := Scalar.addi v59 v121
  let c1_i32_66 : BitVec 32 := 1#32
  let v123 : BitVec 32 := Scalar.addi v122 c1_i32_66
  let c512_i32_67 : BitVec 32 := 512#32
  let v124 : BitVec 32 := Scalar.muli v123 c512_i32_67
  let v125 : BitVec 32 := v124
  let c0_i32_72 : BitVec 32 := 0#32
  let v128 : BitVec 32 := Scalar.addi v125 c0_i32_72
  let v129 : BitVec 32 := v128
  let v139 : Index := Scalar.indexCast v129
  ![0, v139.toNat]
def k0_cond1 (i : grid0.Coords) : BitVec 1 :=
  let c8_i32 : BitVec 32 := 8#32
  let arg1 : BitVec 32 := BitVec.ofNat 32 (i 1).val
  let c1_i32 : BitVec 32 := 1#32
  let v59 : BitVec 32 := Scalar.addi arg1 c1_i32
  let v60 : BitVec 32 := Scalar.subi c8_i32 v59
  let c2_i32_31 : BitVec 32 := 2#32
  let v67 : BitVec 32 := Scalar.remsi v60 c2_i32_31
  let c1_i32_32 : BitVec 32 := 1#32
  let v68 : BitVec 1 := Scalar.cmpi .eq v67 c1_i32_32
  let v69 : BitVec 32 := Scalar.extui v68
  let c0_i32_33 : BitVec 32 := 0#32
  let v70 : BitVec 1 := Scalar.cmpi .ne v69 c0_i32_33
  v70

def k0_mult11 : BitVec 32 :=
  let c3584_i32 : BitVec 32 := 3584#32
  c3584_i32
def k0_mult12 : BitVec 32 :=
  let c3584_i32 : BitVec 32 := 3584#32
  let v75 : BitVec 32 := c3584_i32
  let c0_i32_46 : BitVec 32 := 0#32
  let v78 : BitVec 32 := Scalar.addi v75 c0_i32_46
  v78
def k0_off11 : Fin 2 → Nat :=
  let c3584_i32 : BitVec 32 := 3584#32
  let v75 : BitVec 32 := c3584_i32
  let c0_i32_46 : BitVec 32 := 0#32
  let v78 : BitVec 32 := Scalar.addi v75 c0_i32_46
  let v79 : BitVec 32 := v78
  let v80 : Index := Scalar.indexCast v79
  let c0_47 : Index := 0#32
  ![v80.toNat, 0]
def k0_off12 : Fin 2 → Nat :=
  let c0_52 : Index := 0#32
  let c3584_i32 : BitVec 32 := 3584#32
  let v75 : BitVec 32 := c3584_i32
  let c0_i32_46 : BitVec 32 := 0#32
  let v78 : BitVec 32 := Scalar.addi v75 c0_i32_46
  let v79 : BitVec 32 := v78
  let v89 : Index := Scalar.indexCast v79
  ![0, v89.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel2Ideal.lean ====
variable {F : FTy → Type} [FloatOps F] [Named F]
def κ : String → Option EReal := fun
  | "mask" => some ⊥
  | _ => none
-- ==== Reference2Ideal.lean ====
abbrev S4096x8x96 : Shape := ⟨3, ![4096, 8, 96]⟩
abbrev S4096x8x64 : Shape := ⟨3, ![4096, 8, 64]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S8x4096 : Shape := ⟨2, ![8, 4096]⟩
abbrev S8x4096x1 : Shape := ⟨3, ![8, 4096, 1]⟩
abbrev S8x64x4096 : Shape := ⟨3, ![8, 64, 4096]⟩
abbrev S8x4096x96 : Shape := ⟨3, ![8, 4096, 96]⟩
abbrev S4096x8x32 : Shape := ⟨3, ![4096, 8, 32]⟩
abbrev S4096x8x128 : Shape := ⟨3, ![4096, 8, 128]⟩
abbrev S4096x1024 : Shape := ⟨2, ![4096, 1024]⟩

abbrev nBuf : Space → Nat
  | .hbm => 91
  | .vmem => 0
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S4096x8x64, .f32⟩
  | .hbm, ⟨4, _⟩ => ⟨S8x4096x4096, .f32⟩
  | .hbm, ⟨5, _⟩ => ⟨S4096, .i32⟩
  | .hbm, ⟨6, _⟩ => ⟨S1x4096, .i32⟩
  | .hbm, ⟨7, _⟩ => ⟨S4096x1, .i32⟩
  | .hbm, ⟨8, _⟩ => ⟨S4096x4096, .i32⟩
  | .hbm, ⟨9, _⟩ => ⟨S4096x4096, .i32⟩
  | .hbm, ⟨10, _⟩ => ⟨S4096x4096, .i1⟩
  | .hbm, ⟨11, _⟩ => ⟨S_, .f32⟩
  | .hbm, ⟨12, _⟩ => ⟨S_, .f32⟩
  | .hbm, ⟨13, _⟩ => ⟨S8x4096x4096, .i1⟩
  | .hbm, ⟨14, _⟩ => ⟨S8x4096x4096, .f32⟩
  | .hbm, ⟨15, _⟩ => ⟨S8x4096x4096, .f32⟩
  | .hbm, ⟨16, _⟩ => ⟨S_, .f32⟩
  | .hbm, ⟨17, _⟩ => ⟨S8x4096x4096, .f32⟩
  | .hbm, ⟨18, _⟩ => ⟨S_, .f32⟩
  | .hbm, ⟨19, _⟩ => ⟨S8x4096, .f32⟩
  | .hbm, ⟨20, _⟩ => ⟨S8x4096x1, .f32⟩
  | .hbm, ⟨21, _⟩ => ⟨S8x4096x4096, .f32⟩
  | .hbm, ⟨22, _⟩ => ⟨S8x4096x4096, .i1⟩
  | .hbm, ⟨23, _⟩ => ⟨S8x4096x4096, .f32⟩
  | .hbm, ⟨24, _⟩ => ⟨S_, .f32⟩
  | .hbm, ⟨25, _⟩ => ⟨S8x4096, .f32⟩
  | .hbm, ⟨26, _⟩ => ⟨S_, .f32⟩
  | .hbm, ⟨27, _⟩ => ⟨S8x4096, .f32⟩
  | .hbm, ⟨28, _⟩ => ⟨S8x4096, .f32⟩
  | .hbm, ⟨29, _⟩ => ⟨S_, .f32⟩
  | .hbm, ⟨30, _⟩ => ⟨S8x4096, .f32⟩
  | .hbm, ⟨31, _⟩ => ⟨S8x4096, .i1⟩
  | .hbm, ⟨32, _⟩ => ⟨S_, .f32⟩
  | .hbm, ⟨33, _⟩ => ⟨S8x4096, .f32⟩
  | .hbm, ⟨34, _⟩ => ⟨S8x4096, .i1⟩
  | .hbm, ⟨35, _⟩ => ⟨S_, .f32⟩
  | .hbm, ⟨36, _⟩ => ⟨S8x4096, .f32⟩
  | .hbm, ⟨37, _⟩ => ⟨S_, .f32⟩
  | .hbm, ⟨38, _⟩ => ⟨S8x4096, .f32⟩
  | .hbm, ⟨39, _⟩ => ⟨S_, .f32⟩
  | .hbm, ⟨40, _⟩ => ⟨S8x4096, .f32⟩
  | .hbm, ⟨41, _⟩ => ⟨S8x4096, .f32⟩
  | .hbm, ⟨42, _⟩ => ⟨S8x4096, .f32⟩
  | .hbm, ⟨43, _⟩ => ⟨S8x4096x1, .f32⟩
  | .hbm, ⟨44, _⟩ => ⟨S8x4096x4096, .f32⟩
  | .hbm, ⟨45, _⟩ => ⟨S8x4096x4096, .f32⟩
  | .hbm, ⟨46, _⟩ => ⟨S8x4096x4096, .f32⟩
  | .hbm, ⟨47, _⟩ => ⟨S_, .f32⟩
  | .hbm, ⟨48, _⟩ => ⟨S8x4096, .f32⟩
  | .hbm, ⟨49, _⟩ => ⟨S8x4096x1, .f32⟩
  | .hbm, ⟨50, _⟩ => ⟨S8x4096x4096, .f32⟩
  | .hbm, ⟨51, _⟩ => ⟨S8x4096x4096, .f32⟩
  | .hbm, ⟨52, _⟩ => ⟨S8x4096x1, .f32⟩
  | .hbm, ⟨53, _⟩ => ⟨S_, .f32⟩
  | .hbm, ⟨54, _⟩ => ⟨S8x4096x1, .f32⟩
  | .hbm, ⟨55, _⟩ => ⟨S8x4096x1, .f32⟩
  | .hbm, ⟨56, _⟩ => ⟨S8x64x4096, .f32⟩
  | .hbm, ⟨57, _⟩ => ⟨S4096x8x64, .f32⟩
  | .hbm, ⟨58, _⟩ => ⟨S8x64x4096, .f32⟩
  | .hbm, ⟨59, _⟩ => ⟨S8x4096x4096, .f32⟩
  | .hbm, ⟨60, _⟩ => ⟨S8x64x4096, .f32⟩
  | .hbm, ⟨61, _⟩ => ⟨S4096x8x64, .f32⟩
  | .hbm, ⟨62, _⟩ => ⟨S8x4096x4096, .f32⟩
  | .hbm, ⟨63, _⟩ => ⟨S8x4096x4096, .f32⟩
  | .hbm, ⟨64, _⟩ => ⟨S8x4096x4096, .f32⟩
  | .hbm, ⟨65, _⟩ => ⟨S_, .f32⟩
  | .hbm, ⟨66, _⟩ => ⟨S8x4096, .f32⟩
  | .hbm, ⟨67, _⟩ => ⟨S8x4096x1, .f32⟩
  | .hbm, ⟨68, _⟩ => ⟨S8x4096x1, .f32⟩
  | .hbm, ⟨69, _⟩ => ⟨S8x4096x4096, .f32⟩
  | .hbm, ⟨70, _⟩ => ⟨S8x4096x4096, .f32⟩
  | .hbm, ⟨71, _⟩ => ⟨S_, .f32⟩
  | .hbm, ⟨72, _⟩ => ⟨S8x4096, .f32⟩
  | .hbm, ⟨73, _⟩ => ⟨S8x4096x4096, .f32⟩
  | .hbm, ⟨74, _⟩ => ⟨S8x4096x4096, .f32⟩
  | .hbm, ⟨75, _⟩ => ⟨S8x4096x4096, .f32⟩
  | .hbm, ⟨76, _⟩ => ⟨S_, .f32⟩
  | .hbm, ⟨77, _⟩ => ⟨S8x4096x4096, .f32⟩
  | .hbm, ⟨78, _⟩ => ⟨S8x4096x4096, .f32⟩
  | .hbm, ⟨79, _⟩ => ⟨S8x4096x96, .f32⟩
  | .hbm, ⟨80, _⟩ => ⟨S4096x8x96, .f32⟩
  | .hbm, ⟨81, _⟩ => ⟨S8x4096x96, .f32⟩
  | .hbm, ⟨82, _⟩ => ⟨S4096x8x96, .f32⟩
  | .hbm, ⟨83, _⟩ => ⟨S_, .f32⟩
  | .hbm, ⟨84, _⟩ => ⟨S4096x8x32, .f32⟩
  | .hbm, ⟨85, _⟩ => ⟨S4096x8x128, .f32⟩
  | .hbm, ⟨86, _⟩ => ⟨S4096x1024, .f32⟩
  | .hbm, ⟨87, _⟩ => ⟨S_, .f32⟩
  | .hbm, ⟨88, _⟩ => ⟨S4096x8x64, .f32⟩
  | .hbm, ⟨89, _⟩ => ⟨S4096x8x128, .f32⟩
  | .hbm, ⟨90, _⟩ => ⟨S4096x1024, .f32⟩
  | _, _ => ⟨S4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_call0_v0 : Ref sig .tc := ⟨.hbm, 12, rfl⟩
abbrev main_v7_1 : Ref sig .tc := ⟨.hbm, 13, rfl⟩
abbrev main_call0_v2 : Ref sig .tc := ⟨.hbm, 14, rfl⟩
abbrev main_v7_0 : Ref sig .tc := ⟨.hbm, 15, rfl⟩
abbrev main_call0_cst : Ref sig .tc := ⟨.hbm, 16, rfl⟩
abbrev main_v7_2 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_cst_7 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call1_cst : Ref sig .tc := ⟨.hbm, 76, rfl⟩
abbrev main_call1_v0 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_13 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]
-- ==== Kernel3.lean ====
abbrev S4096x1024 : Shape := ⟨2, ![4096, 1024]⟩
abbrev S4096x5632 : Shape := ⟨2, ![4096, 5632]⟩
abbrev S4096x8x704 : Shape := ⟨3, ![4096, 8, 704]⟩
abbrev S8x4096x704 : Shape := ⟨3, ![8, 4096, 704]⟩
abbrev S8x1024x704 : Shape := ⟨3, ![8, 1024, 704]⟩
abbrev S1024x1024 : Shape := ⟨2, ![1024, 1024]⟩
abbrev S1x1024x704 : Shape := ⟨3, ![1, 1024, 704]⟩
abbrev S1024x704 : Shape := ⟨2, ![1024, 704]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S4096x5632, .bf16⟩
  | .hbm, ⟨3, _⟩ => ⟨S4096x8x704, .bf16⟩
  | .hbm, ⟨4, _⟩ => ⟨S8x4096x704, .bf16⟩
  | .hbm, ⟨5, _⟩ => ⟨S4096x1024, .bf16⟩
  | .hbm, ⟨6, _⟩ => ⟨S8x1024x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1024x704, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v1 : BitVec 1 := Scalar.cmpi .eq arg2 c3_i32
  let v14 : BitVec 32 := Scalar.extui v1
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x8x704 : Shape := ⟨3, ![1024, 8, 704]⟩
abbrev S8x1024x704 : Shape := ⟨3, ![8, 1024, 704]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S_, .f32⟩
  | .hbm, ⟨3, _⟩ => ⟨S1024x5632, .f32⟩
  | .hbm, ⟨4, _⟩ => ⟨S4096x5632, .f32⟩
  | .hbm, ⟨5, _⟩ => ⟨S5632x1024, .f32⟩
  | .hbm, ⟨6, _⟩ => ⟨S1024x5632, .f32⟩
  | .hbm, ⟨7, _⟩ => ⟨S1024x8x704, .f32⟩
  | .hbm, ⟨8, _⟩ => ⟨S8x1024x704, .f32⟩
  | .hbm, ⟨9, _⟩ => ⟨S8x1024x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x2816 : Shape := ⟨2, ![4096, 2816]⟩
abbrev S4096x1024 : Shape := ⟨2, ![4096, 1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S1x1024x704 : Shape := ⟨3, ![1, 1024, 704]⟩
abbrev S1024x1024 : Shape := ⟨2, ![1024, 1024]⟩
abbrev S1x704x1024 : Shape := ⟨3, ![1, 704, 1024]⟩
abbrev S704x1024 : Shape := ⟨2, ![704, 1024]⟩
abbrev S1024x704 : Shape := ⟨2, ![1024, 704]⟩

abbrev nBuf : Space → Nat
  | .hbm => 6
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S4096x4x704, .bf16⟩
  | .hbm, ⟨4, _⟩ => ⟨S4x4096x704, .bf16⟩
  | .hbm, ⟨5, _⟩ => ⟨S4x704x1024, .bf16⟩
  | .local _ .vmem, ⟨0, _⟩ => ⟨S1x1024x704, .bf16⟩
  | .local _ .vmem, ⟨1, _⟩ => ⟨S1x1024x704, .bf16⟩
  | .local _ .vmem, ⟨2, _⟩ => ⟨S1024x1024, .f32⟩
  | .local _ .vmem, ⟨3, _⟩ => ⟨S1024x1024, .f32⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v1 : BitVec 1 := Scalar.cmpi .eq arg1 c3_i32
  let v14 : BitVec 32 := Scalar.extui v1
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S1024x2816, .f32⟩
  | .hbm, ⟨12, _⟩ => ⟨S2816x1024, .f32⟩
  | .hbm, ⟨13, _⟩ => ⟨S4x704x1024, .f32⟩
  | .hbm, ⟨14, _⟩ => ⟨S4x704x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel5.lean ====
abbrev S4096x6528 : Shape := ⟨2, ![4096, 6528]⟩
abbrev S1024x6528 : Shape := ⟨2, ![1024, 6528]⟩
abbrev S4096x1024 : Shape := ⟨2, ![4096, 1024]⟩
abbrev S1024x2176 : Shape := ⟨2, ![1024, 2176]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x6528, .f32⟩
  | .hbm, ⟨1, _⟩ => ⟨S1024x6528, .f32⟩
  | .hbm, ⟨2, _⟩ => ⟨S4096x6528, .bf16⟩
  | .hbm, ⟨3, _⟩ => ⟨S1024x6528, .bf16⟩
  | .hbm, ⟨4, _⟩ => ⟨S4096x1024, .bf16⟩
  | .local _ .vmem, ⟨0, _⟩ => ⟨S1024x2176, .bf16⟩
  | .local _ .vmem, ⟨1, _⟩ => ⟨S1024x2176, .bf16⟩
  | .local _ .vmem, ⟨2, _⟩ => ⟨S1024x2176, .bf16⟩
  | .local _ .vmem, ⟨3, _⟩ => ⟨S1024x2176, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x6528, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x6528 : Shape := ⟨2, ![4096, 6528]⟩
abbrev S1024x6528 : Shape := ⟨2, ![1024, 6528]⟩
abbrev S_ : Shape := ⟨0, ![]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x6528, .f32⟩
  | .hbm, ⟨1, _⟩ => ⟨S1024x6528, .f32⟩
  | .hbm, ⟨2, _⟩ => ⟨S_, .f32⟩
  | .hbm, ⟨3, _⟩ => ⟨S4096x1024, .f32⟩
  | .hbm, ⟨4, _⟩ => ⟨S4096x6528, .f32⟩
  | .hbm, ⟨5, _⟩ => ⟨S4096x1024, .f32⟩
  | .hbm, ⟨6, _⟩ => ⟨S4096x1024, .bf16⟩
  | _, _ => ⟨S4096x6528, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S4096x1024 : Shape := ⟨2, ![4096, 1024]⟩
abbrev S4096x6528 : Shape := ⟨2, ![4096, 6528]⟩
abbrev S1024x6528 : Shape := ⟨2, ![1024, 6528]⟩
abbrev S1024x1024 : Shape := ⟨2, ![1024, 1024]⟩
abbrev S1024x2176 : Shape := ⟨2, ![1024, 2176]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x6528, .f32⟩
  | .hbm, ⟨2, _⟩ => ⟨S4096x1024, .bf16⟩
  | .hbm, ⟨3, _⟩ => ⟨S4096x6528, .bf16⟩
  | .hbm, ⟨4, _⟩ => ⟨S1024x6528, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2176, .bf16⟩
  | .local _ .vmem, ⟨3, _⟩ => ⟨S1024x2176, .bf16⟩
  | .local _ .vmem, ⟨4, _⟩ => ⟨S1024x2176, .bf16⟩
  | .local _ .vmem, ⟨5, _⟩ => ⟨S1024x2176, .bf16⟩
  | .local _ .vmem, ⟨6, _⟩ => ⟨S1024x2176, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2176 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S4096x6528 : Shape := ⟨2, ![4096, 6528]⟩
abbrev S_ : Shape := ⟨0, ![]⟩
abbrev S1024x6528 : Shape := ⟨2, ![1024, 6528]⟩
abbrev S6528x1024 : Shape := ⟨2, ![6528, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x6528, .f32⟩
  | .hbm, ⟨2, _⟩ => ⟨S_, .f32⟩
  | .hbm, ⟨3, _⟩ => ⟨S1024x6528, .f32⟩
  | .hbm, ⟨4, _⟩ => ⟨S4096x6528, .f32⟩
  | .hbm, ⟨5, _⟩ => ⟨S6528x1024, .f32⟩
  | .hbm, ⟨6, _⟩ => ⟨S1024x6528, .f32⟩
  | .hbm, ⟨7, _⟩ => ⟨S1024x6528, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S1024x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .f32⟩
  | .local _ .vmem, ⟨3, _⟩ => ⟨S1024x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S4096x512 : Shape := ⟨2, ![4096, 512]⟩
abbrev S4096x1024 : Shape := ⟨2, ![4096, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x1024, .bf16⟩
  | .hbm, ⟨3, _⟩ => ⟨S512x1024, .bf16⟩
  | .local _ .vmem, ⟨0, _⟩ => ⟨S1024x512, .f32⟩
  | .local _ .vmem, ⟨1, _⟩ => ⟨S1024x512, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S_, .f32⟩
  | .hbm, ⟨3, _⟩ => ⟨S512x1024, .f32⟩
  | .hbm, ⟨4, _⟩ => ⟨S4096x1024, .f32⟩
  | .hbm, ⟨5, _⟩ => ⟨S1024x512, .f32⟩
  | .hbm, ⟨6, _⟩ => ⟨S512x1024, .f32⟩
  | .hbm, ⟨7, _⟩ => ⟨S512x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S4096x1024 : Shape := ⟨2, ![4096, 1024]⟩
abbrev S1024 : Shape := ⟨1, ![1024]⟩
abbrev S2x1024x5632 : Shape := ⟨3, ![2, 1024, 5632]⟩
abbrev S2x2816x1024 : Shape := ⟨3, ![2, 2816, 1024]⟩
abbrev S1x1024 : Shape := ⟨2, ![1, 1024]⟩
abbrev S2x1024x8x704 : Shape := ⟨4, ![2, 1024, 8, 704]⟩
abbrev S8x2x1024x704 : Shape := ⟨4, ![8, 2, 1024, 704]⟩
abbrev S2x8x352x1024 : Shape := ⟨4, ![2, 8, 352, 1024]⟩
abbrev S8x2x352x1024 : Shape := ⟨4, ![8, 2, 352, 1024]⟩
abbrev S2x4x4096x704 : Shape := ⟨4, ![2, 4, 4096, 704]⟩
abbrev S512x1024 : Shape := ⟨2, ![512, 1024]⟩
abbrev S1x1x1024x704 : Shape := ⟨4, ![1, 1, 1024, 704]⟩
abbrev S2x1x352x1024 : Shape := ⟨4, ![2, 1, 352, 1024]⟩
abbrev S2x1x512x704 : Shape := ⟨4, ![2, 1, 512, 704]⟩
abbrev S512 : Shape := ⟨1, ![512]⟩
abbrev S512x1 : Shape := ⟨2, ![512, 1]⟩
abbrev S1024x704 : Shape := ⟨2, ![1024, 704]⟩
abbrev S512x704 : Shape := ⟨2, ![512, 704]⟩
abbrev S1x1x512x704 : Shape := ⟨4, ![1, 1, 512, 704]⟩
abbrev S2x352x1024 : Shape := ⟨3, ![2, 352, 1024]⟩
abbrev S704x1024 : Shape := ⟨2, ![704, 1024]⟩

abbrev nBuf : Space → Nat
  | .hbm => 13
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S2x1024x5632, .f32⟩
  | .hbm, ⟨3, _⟩ => ⟨S2x2816x1024, .f32⟩
  | .hbm, ⟨4, _⟩ => ⟨S1x1024, .f32⟩
  | .hbm, ⟨5, _⟩ => ⟨S2x1024x5632, .bf16⟩
  | .hbm, ⟨6, _⟩ => ⟨S2x1024x8x704, .bf16⟩
  | .hbm, ⟨7, _⟩ => ⟨S8x2x1024x704, .bf16⟩
  | .hbm, ⟨8, _⟩ => ⟨S2x2816x1024, .bf16⟩
  | .hbm, ⟨9, _⟩ => ⟨S2x8x352x1024, .bf16⟩
  | .hbm, ⟨10, _⟩ => ⟨S8x2x352x1024, .bf16⟩
  | .hbm, ⟨11, _⟩ => ⟨S4096x1024, .f32⟩
  | .hbm, ⟨12, _⟩ => ⟨S2x4x4096x704, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1x1x1024x704, .bf16⟩
  | .local _ .vmem, ⟨7, _⟩ => ⟨S2x1x352x1024, .bf16⟩
  | .local _ .vmem, ⟨8, _⟩ => ⟨S2x1x352x1024, .bf16⟩
  | .local _ .vmem, ⟨9, _⟩ => ⟨S512x1024, .f32⟩
  | .local _ .vmem, ⟨10, _⟩ => ⟨S512x1024, .f32⟩
  | .local _ .vmem, ⟨11, _⟩ => ⟨S2x1x512x704, .bf16⟩
  | .local _ .vmem, ⟨12, _⟩ => ⟨S2x1x512x704, .bf16⟩
  | .local _ .vmem, ⟨13, _⟩ => ⟨S512x1024, .bf16⟩
  | .local _ .vmem, ⟨14, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v37 : BitVec 1 := Scalar.cmpi .eq arg1 c3_i32
  let v38 : BitVec 32 := Scalar.extui v37
  let c0_i32_30 : BitVec 32 := 0#32
  let v39 : BitVec 1 := Scalar.cmpi .ne v38 c0_i32_30
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x1x352x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x1x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference9Ideal.lean ====
abbrev S4096x1024 : Shape := ⟨2, ![4096, 1024]⟩
abbrev S1024 : Shape := ⟨1, ![1024]⟩
abbrev S2x1024x5632 : Shape := ⟨3, ![2, 1024, 5632]⟩
abbrev S2x2816x1024 : Shape := ⟨3, ![2, 2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1024x5632 : Shape := ⟨3, ![1, 1024, 5632]⟩
abbrev S1024x5632 : Shape := ⟨2, ![1024, 5632]⟩
abbrev S4096x5632 : Shape := ⟨2, ![4096, 5632]⟩
abbrev S4096x2816 : Shape := ⟨2, ![4096, 2816]⟩
abbrev S1x2816x1024 : Shape := ⟨3, ![1, 2816, 1024]⟩
abbrev S2816x1024 : Shape := ⟨2, ![2816, 1024]⟩
abbrev S4096x4x704 : Shape := ⟨3, ![4096, 4, 704]⟩
abbrev S4x4096x704 : Shape := ⟨3, ![4, 4096, 704]⟩
abbrev S1x4x4096x704 : Shape := ⟨4, ![1, 4, 4096, 704]⟩
abbrev S2x4x4096x704 : Shape := ⟨4, ![2, 4, 4096, 704]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S2x1024x5632, .f32⟩
  | .hbm, ⟨3, _⟩ => ⟨S2x2816x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S1x1024x5632, .f32⟩
  | .hbm, ⟨21, _⟩ => ⟨S1024x5632, .f32⟩
  | .hbm, ⟨22, _⟩ => ⟨S4096x5632, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S1x2816x1024, .f32⟩
  | .hbm, ⟨36, _⟩ => ⟨S2816x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x4x704, .f32⟩
  | .hbm, ⟨43, _⟩ => ⟨S4x4096x704, .f32⟩
  | .hbm, ⟨44, _⟩ => ⟨S4x4096x704, .bf16⟩
  | .hbm, ⟨45, _⟩ => ⟨S4096x4x704, .f32⟩
  | .hbm, ⟨46, _⟩ => ⟨S4x4096x704, .f32⟩
  | .hbm, ⟨47, _⟩ => ⟨S4x4096x704, .bf16⟩
  | .hbm, ⟨48, _⟩ => ⟨S1x4x4096x704, .bf16⟩
  | .hbm, ⟨49, _⟩ => ⟨S1x4x4096x704, .bf16⟩
  | .hbm, ⟨50, _⟩ => ⟨S2x4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]
-- ==== Kernel10.lean ====
abbrev S4096x1024 : Shape := ⟨2, ![4096, 1024]⟩
abbrev S1024 : Shape := ⟨1, ![1024]⟩
abbrev S2x1024x5632 : Shape := ⟨3, ![2, 1024, 5632]⟩
abbrev S2x2816x1024 : Shape := ⟨3, ![2, 2816, 1024]⟩
abbrev S1x1024 : Shape := ⟨2, ![1, 1024]⟩
abbrev S2x1024x8x704 : Shape := ⟨4, ![2, 1024, 8, 704]⟩
abbrev S8x2x1024x704 : Shape := ⟨4, ![8, 2, 1024, 704]⟩
abbrev S2x8x352x1024 : Shape := ⟨4, ![2, 8, 352, 1024]⟩
abbrev S8x2x352x1024 : Shape := ⟨4, ![8, 2, 352, 1024]⟩
abbrev S2x4x4096x704 : Shape := ⟨4, ![2, 4, 4096, 704]⟩
abbrev S512x1024 : Shape := ⟨2, ![512, 1024]⟩
abbrev S1x1x1024x704 : Shape := ⟨4, ![1, 1, 1024, 704]⟩
abbrev S2x1x352x1024 : Shape := ⟨4, ![2, 1, 352, 1024]⟩
abbrev S2x1x512x704 : Shape := ⟨4, ![2, 1, 512, 704]⟩
abbrev S512 : Shape := ⟨1, ![512]⟩
abbrev S512x1 : Shape := ⟨2, ![512, 1]⟩
abbrev S1024x704 : Shape := ⟨2, ![1024, 704]⟩
abbrev S512x704 : Shape := ⟨2, ![512, 704]⟩
abbrev S1x1x512x704 : Shape := ⟨4, ![1, 1, 512, 704]⟩
abbrev S2x352x1024 : Shape := ⟨3, ![2, 352, 1024]⟩
abbrev S704x1024 : Shape := ⟨2, ![704, 1024]⟩

abbrev nBuf : Space → Nat
  | .hbm => 13
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S2x1024x5632, .f32⟩
  | .hbm, ⟨3, _⟩ => ⟨S2x2816x1024, .f32⟩
  | .hbm, ⟨4, _⟩ => ⟨S1x1024, .f32⟩
  | .hbm, ⟨5, _⟩ => ⟨S2x1024x5632, .bf16⟩
  | .hbm, ⟨6, _⟩ => ⟨S2x1024x8x704, .bf16⟩
  | .hbm, ⟨7, _⟩ => ⟨S8x2x1024x704, .bf16⟩
  | .hbm, ⟨8, _⟩ => ⟨S2x2816x1024, .bf16⟩
  | .hbm, ⟨9, _⟩ => ⟨S2x8x352x1024, .bf16⟩
  | .hbm, ⟨10, _⟩ => ⟨S8x2x352x1024, .bf16⟩
  | .hbm, ⟨11, _⟩ => ⟨S4096x1024, .f32⟩
  | .hbm, ⟨12, _⟩ => ⟨S2x4x4096x704, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1x1x1024x704, .bf16⟩
  | .local _ .vmem, ⟨7, _⟩ => ⟨S2x1x352x1024, .bf16⟩
  | .local _ .vmem, ⟨8, _⟩ => ⟨S2x1x352x1024, .bf16⟩
  | .local _ .vmem, ⟨9, _⟩ => ⟨S512x1024, .f32⟩
  | .local _ .vmem, ⟨10, _⟩ => ⟨S512x1024, .f32⟩
  | .local _ .vmem, ⟨11, _⟩ => ⟨S2x1x512x704, .bf16⟩
  | .local _ .vmem, ⟨12, _⟩ => ⟨S2x1x512x704, .bf16⟩
  | .local _ .vmem, ⟨13, _⟩ => ⟨S512x1024, .bf16⟩
  | .local _ .vmem, ⟨14, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v37 : BitVec 1 := Scalar.cmpi .eq arg1 c3_i32
  let v38 : BitVec 32 := Scalar.extui v37
  let c0_i32_30 : BitVec 32 := 0#32
  let v39 : BitVec 1 := Scalar.cmpi .ne v38 c0_i32_30
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c1_i32 : BitVec 32 := 1#32
  let c0_i32 : BitVec 32 := 0#32
  let c0_i32_0 : BitVec 32 := 0#32
  let c0_i32_1 : BitVec 32 := 0#32
  ![v0.toNat, c1_i32.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x1x352x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x1x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference10Ideal.lean ====
abbrev S4096x1024 : Shape := ⟨2, ![4096, 1024]⟩
abbrev S1024 : Shape := ⟨1, ![1024]⟩
abbrev S2x1024x5632 : Shape := ⟨3, ![2, 1024, 5632]⟩
abbrev S2x2816x1024 : Shape := ⟨3, ![2, 2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1024x5632 : Shape := ⟨3, ![1, 1024, 5632]⟩
abbrev S1024x5632 : Shape := ⟨2, ![1024, 5632]⟩
abbrev S4096x5632 : Shape := ⟨2, ![4096, 5632]⟩
abbrev S4096x2816 : Shape := ⟨2, ![4096, 2816]⟩
abbrev S1x2816x1024 : Shape := ⟨3, ![1, 2816, 1024]⟩
abbrev S2816x1024 : Shape := ⟨2, ![2816, 1024]⟩
abbrev S4096x4x704 : Shape := ⟨3, ![4096, 4, 704]⟩
abbrev S4x4096x704 : Shape := ⟨3, ![4, 4096, 704]⟩
abbrev S1x4x4096x704 : Shape := ⟨4, ![1, 4, 4096, 704]⟩
abbrev S2x4x4096x704 : Shape := ⟨4, ![2, 4, 4096, 704]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S2x1024x5632, .f32⟩
  | .hbm, ⟨3, _⟩ => ⟨S2x2816x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S1x1024x5632, .f32⟩
  | .hbm, ⟨21, _⟩ => ⟨S1024x5632, .f32⟩
  | .hbm, ⟨22, _⟩ => ⟨S4096x5632, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S1x2816x1024, .f32⟩
  | .hbm, ⟨36, _⟩ => ⟨S2816x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x4x704, .f32⟩
  | .hbm, ⟨43, _⟩ => ⟨S4x4096x704, .f32⟩
  | .hbm, ⟨44, _⟩ => ⟨S4x4096x704, .bf16⟩
  | .hbm, ⟨45, _⟩ => ⟨S4096x4x704, .f32⟩
  | .hbm, ⟨46, _⟩ => ⟨S4x4096x704, .f32⟩
  | .hbm, ⟨47, _⟩ => ⟨S4x4096x704, .bf16⟩
  | .hbm, ⟨48, _⟩ => ⟨S1x4x4096x704, .bf16⟩
  | .hbm, ⟨49, _⟩ => ⟨S1x4x4096x704, .bf16⟩
  | .hbm, ⟨50, _⟩ => ⟨S2x4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]
-- ==== Kernel11.lean ====
abbrev S4096x1024 : Shape := ⟨2, ![4096, 1024]⟩
abbrev S1024x6528 : Shape := ⟨2, ![1024, 6528]⟩
abbrev S4096x6528 : Shape := ⟨2, ![4096, 6528]⟩
abbrev S512x1024 : Shape := ⟨2, ![512, 1024]⟩
abbrev S1024x2176 : Shape := ⟨2, ![1024, 2176]⟩
abbrev S512x2176 : Shape := ⟨2, ![512, 2176]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x6528, .f32⟩
  | .hbm, ⟨2, _⟩ => ⟨S4096x1024, .bf16⟩
  | .hbm, ⟨3, _⟩ => ⟨S1024x6528, .bf16⟩
  | .hbm, ⟨4, _⟩ => ⟨S4096x6528, .f32⟩
  | .local _ .vmem, ⟨0, _⟩ => ⟨S512x1024, .bf16⟩
  | .local _ .vmem, ⟨1, _⟩ => ⟨S512x1024, .bf16⟩
  | .local _ .vmem, ⟨2, _⟩ => ⟨S1024x2176, .bf16⟩
  | .local _ .vmem, ⟨3, _⟩ => ⟨S1024x2176, .bf16⟩
  | .local _ .vmem, ⟨4, _⟩ => ⟨S512x2176, .f32⟩
  | .local _ .vmem, ⟨5, _⟩ => ⟨S512x2176, .f32⟩
  | .local _ .vmem, ⟨6, _⟩ => ⟨S512x2176, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S1024x6528 : Shape := ⟨2, ![1024, 6528]⟩
abbrev S4096x6528 : Shape := ⟨2, ![4096, 6528]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x6528, .f32⟩
  | .hbm, ⟨2, _⟩ => ⟨S4096x6528, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S1024x1024, .bf16⟩
  | .local _ .vmem, ⟨0, _⟩ => ⟨S1024x512, .f32⟩
  | .local _ .vmem, ⟨1, _⟩ => ⟨S1024x512, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S4096x512 : Shape := ⟨2, ![4096, 512]⟩
abbrev S4096x1024 : Shape := ⟨2, ![4096, 1024]⟩
abbrev S4096x6528 : Shape := ⟨2, ![4096, 6528]⟩
abbrev S512x1024 : Shape := ⟨2, ![512, 1024]⟩
abbrev S1024x1024 : Shape := ⟨2, ![1024, 1024]⟩
abbrev S256x512 : Shape := ⟨2, ![256, 512]⟩
abbrev S256x1024 : Shape := ⟨2, ![256, 1024]⟩
abbrev S256x3072 : Shape := ⟨2, ![256, 3072]⟩

abbrev nBuf : Space → Nat
  | .hbm => 15
  | .vmem => 18
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x512, .f32⟩
  | .hbm, ⟨3, _⟩ => ⟨S4096x6528, .f32⟩
  | .hbm, ⟨4, _⟩ => ⟨S4096x1024, .f32⟩
  | .hbm, ⟨5, _⟩ => ⟨S512x1024, .f32⟩
  | .hbm, ⟨6, _⟩ => ⟨S1024x1024, .f32⟩
  | .hbm, ⟨7, _⟩ => ⟨S512x1024, .f32⟩
  | .hbm, ⟨8, _⟩ => ⟨S1024x1024, .f32⟩
  | .hbm, ⟨9, _⟩ => ⟨S512x1024, .bf16⟩
  | .hbm, ⟨10, _⟩ => ⟨S1024x1024, .bf16⟩
  | .hbm, ⟨11, _⟩ => ⟨S512x1024, .bf16⟩
  | .hbm, ⟨12, _⟩ => ⟨S1024x1024, .bf16⟩
  | .hbm, ⟨13, _⟩ => ⟨S4096x1024, .f32⟩
  | .hbm, ⟨14, _⟩ => ⟨S4096x1024, .bf16⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S256x1024, .f32⟩
  | .local _ .vmem, ⟨4, _⟩ => ⟨S256x512, .f32⟩
  | .local _ .vmem, ⟨5, _⟩ => ⟨S256x512, .f32⟩
  | .local _ .vmem, ⟨6, _⟩ => ⟨S256x3072, .f32⟩
  | .local _ .vmem, ⟨7, _⟩ => ⟨S256x3072, .f32⟩
  | .local _ .vmem, ⟨8, _⟩ => ⟨S256x1024, .f32⟩
  | .local _ .vmem, ⟨9, _⟩ => ⟨S256x1024, .f32⟩
  | .local _ .vmem, ⟨10, _⟩ => ⟨S512x1024, .bf16⟩
  | .local _ .vmem, ⟨11, _⟩ => ⟨S1024x1024, .bf16⟩
  | .local _ .vmem, ⟨12, _⟩ => ⟨S512x1024, .bf16⟩
  | .local _ .vmem, ⟨13, _⟩ => ⟨S1024x1024, .bf16⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference13Ideal.lean ====
abbrev S4096x512 : Shape := ⟨2, ![4096, 512]⟩
abbrev S4096x1024 : Shape := ⟨2, ![4096, 1024]⟩
abbrev S4096x6528 : Shape := ⟨2, ![4096, 6528]⟩
abbrev S512x1024 : Shape := ⟨2, ![512, 1024]⟩
abbrev S1024x1024 : Shape := ⟨2, ![1024, 1024]⟩
abbrev S4096x3072 : Shape := ⟨2, ![4096, 3072]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x512, .f32⟩
  | .hbm, ⟨3, _⟩ => ⟨S4096x6528, .f32⟩
  | .hbm, ⟨4, _⟩ => ⟨S4096x1024, .f32⟩
  | .hbm, ⟨5, _⟩ => ⟨S512x1024, .f32⟩
  | .hbm, ⟨6, _⟩ => ⟨S1024x1024, .f32⟩
  | .hbm, ⟨7, _⟩ => ⟨S512x1024, .f32⟩
  | .hbm, ⟨8, _⟩ => ⟨S1024x1024, .f32⟩
  | .hbm, ⟨9, _⟩ => ⟨S4096x3072, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x3072, .f32⟩
  | .hbm, ⟨14, _⟩ => ⟨S4096x3072, .f32⟩
  | .hbm, ⟨15, _⟩ => ⟨S_, .f32⟩
  | .hbm, ⟨16, _⟩ => ⟨S4096x3072, .f32⟩
  | .hbm, ⟨17, _⟩ => ⟨S4096x3072, .f32⟩
  | .hbm, ⟨18, _⟩ => ⟨S_, .f32⟩
  | .hbm, ⟨19, _⟩ => ⟨S4096x3072, .f32⟩
  | .hbm, ⟨20, _⟩ => ⟨S4096x3072, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== Kernel14.lean ====
abbrev S4096x512 : Shape := ⟨2, ![4096, 512]⟩
abbrev S4096x1024 : Shape := ⟨2, ![4096, 1024]⟩
abbrev S4096x6528 : Shape := ⟨2, ![4096, 6528]⟩
abbrev S512x1024 : Shape := ⟨2, ![512, 1024]⟩
abbrev S1024x1024 : Shape := ⟨2, ![1024, 1024]⟩
abbrev S4096x3072 : Shape := ⟨2, ![4096, 3072]⟩
abbrev S256x512 : Shape := ⟨2, ![256, 512]⟩
abbrev S256x1024 : Shape := ⟨2, ![256, 1024]⟩
abbrev S256x3072 : Shape := ⟨2, ![256, 3072]⟩

abbrev nBuf : Space → Nat
  | .hbm => 20
  | .vmem => 28
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x512, .f32⟩
  | .hbm, ⟨3, _⟩ => ⟨S4096x6528, .f32⟩
  | .hbm, ⟨4, _⟩ => ⟨S4096x1024, .f32⟩
  | .hbm, ⟨5, _⟩ => ⟨S512x1024, .f32⟩
  | .hbm, ⟨6, _⟩ => ⟨S1024x1024, .f32⟩
  | .hbm, ⟨7, _⟩ => ⟨S512x1024, .f32⟩
  | .hbm, ⟨8, _⟩ => ⟨S1024x1024, .f32⟩
  | .hbm, ⟨9, _⟩ => ⟨S512x1024, .bf16⟩
  | .hbm, ⟨10, _⟩ => ⟨S1024x1024, .bf16⟩
  | .hbm, ⟨11, _⟩ => ⟨S512x1024, .bf16⟩
  | .hbm, ⟨12, _⟩ => ⟨S1024x1024, .bf16⟩
  | .hbm, ⟨13, _⟩ => ⟨S4096x512, .f32⟩
  | .hbm, ⟨14, _⟩ => ⟨S4096x1024, .f32⟩
  | .hbm, ⟨15, _⟩ => ⟨S4096x512, .f32⟩
  | .hbm, ⟨16, _⟩ => ⟨S4096x3072, .bf16⟩
  | .hbm, ⟨17, _⟩ => ⟨S4096x1024, .bf16⟩
  | .hbm, ⟨18, _⟩ => ⟨S4096x1024, .bf16⟩
  | .hbm, ⟨19, _⟩ => ⟨S4096x1024, .bf16⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S256x1024, .f32⟩
  | .local _ .vmem, ⟨4, _⟩ => ⟨S256x512, .f32⟩
  | .local _ .vmem, ⟨5, _⟩ => ⟨S256x512, .f32⟩
  | .local _ .vmem, ⟨6, _⟩ => ⟨S256x3072, .f32⟩
  | .local _ .vmem, ⟨7, _⟩ => ⟨S256x3072, .f32⟩
  | .local _ .vmem, ⟨8, _⟩ => ⟨S256x1024, .f32⟩
  | .local _ .vmem, ⟨9, _⟩ => ⟨S256x1024, .f32⟩
  | .local _ .vmem, ⟨10, _⟩ => ⟨S512x1024, .bf16⟩
  | .local _ .vmem, ⟨11, _⟩ => ⟨S1024x1024, .bf16⟩
  | .local _ .vmem, ⟨12, _⟩ => ⟨S512x1024, .bf16⟩
  | .local _ .vmem, ⟨13, _⟩ => ⟨S1024x1024, .bf16⟩
  | .local _ .vmem, ⟨14, _⟩ => ⟨S256x512, .f32⟩
  | .local _ .vmem, ⟨15, _⟩ => ⟨S256x512, .f32⟩
  | .local _ .vmem, ⟨16, _⟩ => ⟨S256x1024, .f32⟩
  | .local _ .vmem, ⟨17, _⟩ => ⟨S256x1024, .f32⟩
  | .local _ .vmem, ⟨18, _⟩ => ⟨S256x512, .f32⟩
  | .local _ .vmem, ⟨19, _⟩ => ⟨S256x512, .f32⟩
  | .local _ .vmem, ⟨20, _⟩ => ⟨S256x3072, .bf16⟩
  | .local _ .vmem, ⟨21, _⟩ => ⟨S256x3072, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev main_v4_5 : Ref sig .tc := ⟨.hbm, 18, rfl⟩
abbrev main_v4_6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x3072 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference14Ideal.lean ====
abbrev S4096x512 : Shape := ⟨2, ![4096, 512]⟩
abbrev S4096x1024 : Shape := ⟨2, ![4096, 1024]⟩
abbrev S4096x6528 : Shape := ⟨2, ![4096, 6528]⟩
abbrev S512x1024 : Shape := ⟨2, ![512, 1024]⟩
abbrev S1024x1024 : Shape := ⟨2, ![1024, 1024]⟩
abbrev S4096x3072 : Shape := ⟨2, ![4096, 3072]⟩
abbrev S_ : Shape := ⟨0, ![]⟩
abbrev S1024x512 : Shape := ⟨2, ![1024, 512]⟩

abbrev nBuf : Space → Nat
  | .hbm => 59
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x512, .f32⟩
  | .hbm, ⟨3, _⟩ => ⟨S4096x6528, .f32⟩
  | .hbm, ⟨4, _⟩ => ⟨S4096x1024, .f32⟩
  | .hbm, ⟨5, _⟩ => ⟨S512x1024, .f32⟩
  | .hbm, ⟨6, _⟩ => ⟨S1024x1024, .f32⟩
  | .hbm, ⟨7, _⟩ => ⟨S512x1024, .f32⟩
  | .hbm, ⟨8, _⟩ => ⟨S1024x1024, .f32⟩
  | .hbm, ⟨9, _⟩ => ⟨S4096x3072, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x3072, .f32⟩
  | .hbm, ⟨14, _⟩ => ⟨S4096x3072, .f32⟩
  | .hbm, ⟨15, _⟩ => ⟨S_, .f32⟩
  | .hbm, ⟨16, _⟩ => ⟨S4096x3072, .f32⟩
  | .hbm, ⟨17, _⟩ => ⟨S4096x3072, .f32⟩
  | .hbm, ⟨18, _⟩ => ⟨S_, .f32⟩
  | .hbm, ⟨19, _⟩ => ⟨S4096x3072, .f32⟩
  | .hbm, ⟨20, _⟩ => ⟨S4096x3072, .f32⟩
  | .hbm, ⟨21, _⟩ => ⟨S_, .f32⟩
  | .hbm, ⟨22, _⟩ => ⟨S4096x3072, .f32⟩
  | .hbm, ⟨23, _⟩ => ⟨S4096x3072, .f32⟩
  | .hbm, ⟨24, _⟩ => ⟨S4096x3072, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x3072, .f32⟩
  | .hbm, ⟨42, _⟩ => ⟨S4096x3072, .f32⟩
  | .hbm, ⟨43, _⟩ => ⟨S4096x1024, .f32⟩
  | .hbm, ⟨44, _⟩ => ⟨S1024x512, .f32⟩
  | .hbm, ⟨45, _⟩ => ⟨S512x1024, .f32⟩
  | .hbm, ⟨46, _⟩ => ⟨S4096x512, .f32⟩
  | .hbm, ⟨47, _⟩ => ⟨S4096x1024, .f32⟩
  | .hbm, ⟨48, _⟩ => ⟨S1024x1024, .f32⟩
  | .hbm, ⟨49, _⟩ => ⟨S1024x1024, .f32⟩
  | .hbm, ⟨50, _⟩ => ⟨S4096x1024, .f32⟩
  | .hbm, ⟨51, _⟩ => ⟨S4096x1024, .f32⟩
  | .hbm, ⟨52, _⟩ => ⟨S1024x512, .f32⟩
  | .hbm, ⟨53, _⟩ => ⟨S512x1024, .f32⟩
  | .hbm, ⟨54, _⟩ => ⟨S4096x512, .f32⟩
  | .hbm, ⟨55, _⟩ => ⟨S4096x3072, .bf16⟩
  | .hbm, ⟨56, _⟩ => ⟨S4096x1024, .bf16⟩
  | .hbm, ⟨57, _⟩ => ⟨S4096x1024, .bf16⟩
  | .hbm, ⟨58, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩

abbrev nD : Nat := 1
abbrev τ : Topo := Topo.v7x

variable {F : FTy → Type} [FloatOps F]
-- ==== Proof.Step.lean ====
/-
  What one grid point of the dQ call leaves in its output block, at any float instance: the accumulator starts at
  zero, the counted loop adds the key blocks in front of the diagonal two a trip, an odd point adds the one left
  over, and the diagonal block, the only masked one, is added last.
-/
module

public import proofs.«01_k».proof.Proof.Gen.KernelIdeal.Frame
public import Idealize.ShloMosaic.Lib.Pipeline.Value
public import Idealize.ShloMosaic.Lib.Tactic
public import Idealize.ShloMosaic.Lib.Pointwise
public import Idealize.ShloMosaic.Lib.VecWindow

@[expose] public section

set_option maxRecDepth 16384

noncomputable section

open Idealize.ShloMosaic Idealize.ShloMosaic.TcCoe Idealize.SL.Sem

namespace Cert.KernelIdeal.Dq

open Cert.KernelIdeal Cert.KernelIdeal.Gen

variable {F : FTy → Type} [FloatOps F] [Named F]

theorem hz : (![0, 0] : Fin 2 → Nat) = fun _ => 0 := funext fun a => by fin_cases a <;> rfl

/-- Rows `512 b … 512 b + 511` of an array of keys or values. -/
def block (X : Vec F S4096x128 .bf16) (b : ℕ) : Vec F S512x128 .bf16 :=
  fun y => X (ix2 (⟨(512 * b + (y 0).val) % 4096, Nat.mod_lt _ (by decide)⟩ : Fin 4096) (⟨(y 1).val, (y 1).isLt⟩ : Fin 128))

/-- A load of 512 rows at row `512 b` is block `b`. -/
theorem ld_block (X : Vec F S4096x128 .bf16) (b : ℕ) (hb : b < 8) (off : Fin 2 → ℕ) (h : off = ![512 * b, 0])
    (inb : ∀ a, off a + S512x128.size a ≤ S4096x128.size a) :
    View.ld X (Rect.unit (s := S4096x128) off S512x128.size inb) = block X b := by
  subst h
  funext y
  have h0 : (y 0).val < 512 := (y 0).isLt
  refine congrArg X (funext fun a => Fin.ext ?_)
  fin_cases a
  · show 512 * b + 1 * (y 0).val = (512 * b + (y 0).val) % 4096
    omega
  · show 0 + 1 * (y 1).val = (y 1).val
    omega

/-- The column of row log-sums: lane 0 of the block. -/
abbrev lseCol (x4 : Vec F S512x128 .f32) : Vec F S512x1 .f32 :=
  View.ld x4 (Rect.unit (s := S512x128) ![0, 0] S512x1.size inb_S512x128_S512x1_0_0)

/-- The accumulator after the first `n` key blocks: zero, then one unmasked step a block. -/
def acc (x0 : Vec F S512x128 .bf16) (x1 x2 : Vec F S4096x128 .bf16) (x3 x4 x5 : Vec F S512x128 .f32) : ℕ → Vec F S512x128 .f32
  | 0 => k0_pay6
  | n + 1 => k0_pay2 (k0_pay4 x5 x3) (block x1 n) (block x2 n) x0 (lseCol x4) x5 (acc x0 x1 x2 x3 x4 x5 n)

/-- The output block of the point of query block `n`: the `n` blocks in front, then the masked diagonal block. -/
def dqBlock (x0 : Vec F S512x128 .bf16) (x1 x2 : Vec F S4096x128 .bf16) (x3 x4 x5 : Vec F S512x128 .f32) (n : ℕ) : Vec F S512x128 .f32 :=
  k0_pay1 (k0_pay4 x5 x3) (block x1 n) (block x2 n) x0 (lseCol x4) x5 (acc x0 x1 x2 x3 x4 x5 n)

section Loop

variable (arg2 : Memref sig .tc .vmem S512x128 .bf16)
  (harg2 : arg2.IsWhole)
  (arg3 : Memref sig .tc .vmem S4096x128 .bf16)
  (harg3 : arg3.IsWhole)
  (arg4 : Memref sig .tc .vmem S4096x128 .bf16)
  (harg4 : arg4.IsWhole)
  (arg5 : Memref sig .tc .vmem S512x128 .f32)
  (harg5 : arg5.IsWhole)
  (arg6 : Memref sig .tc .vmem S512x128 .f32)
  (harg6 : arg6.IsWhole)
  (arg7 : Memref sig .tc .vmem S512x128 .f32)
  (harg7 : arg7.IsWhole)
  (arg8 : Memref sig .tc .vmem S512x128 .f32)
  (harg8 : arg8.IsWhole)
  (arg9 : Memref sig .tc .vmem S8x512 .f32)
  (harg9 : arg9.IsWhole)
  (arg10 : Memref sig .tc .vmem S512x128 .f32)
  (harg10 : arg10.IsWhole)

/-- One trip adds two blocks to what it finds in the accumulator. -/
theorem trip_eq (𝒱 : Variants) (c : Dev nD) (bd : Option 𝒱.V) (i : grid0.Coords) (v0 : Vec F S512x128 .f32) (v2 : Vec F S512x128 .f32) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (X_arg7 : BufTy.Contents (Elt F) arg7.view.ty) (k : Fin (k0_t1_loop i).trips) (f : BufTy.Contents (Elt F) arg10.view.ty) :
    arg10.view.read (Elt F) (arg10.view.writes (Elt F) f (tripL_k0_t1 (F := F) 𝒱 c bd i arg2 harg2 arg3 harg3 arg4 harg4 arg5 harg5 arg6 harg6 arg7 harg7 arg8 harg8 arg9 harg9 arg10 harg10 v0 v2 X_arg2 X_arg3 X_arg4 X_arg6 X_arg7 k f)) =
      k0_pay2 (k0_pay4 v0 v2) (arg3.view.readAt (Elt F) (Rect.unit (s := S4096x128) (k0_off2 i k) S512x128.size (k0_off2_inb i k)).toLoadRect X_arg3) (arg4.view.readAt (Elt F) (Rect.unit (s := S4096x128) (k0_off2 i k) S512x128.size (k0_off2_inb i k)).toLoadRect X_arg4) (arg2.view.read (Elt F) X_arg2) (arg6.view.readAt (Elt F) (Rect.unit (s := S512x128) ![0, 0] S512x1.size inb_S512x128_S512x1_0_0).toLoadRect X_arg6) (arg7.view.read (Elt F) X_arg7)
        (k0_pay2 (k0_pay4 v0 v2) (arg3.view.readAt (Elt F) (Rect.unit (s := S4096x128) (k0_off1 i k) S512x128.size (k0_off1_inb i k)).toLoadRect X_arg3) (arg4.view.readAt (Elt F) (Rect.unit (s := S4096x128) (k0_off1 i k) S512x128.size (k0_off1_inb i k)).toLoadRect X_arg4) (arg2.view.read (Elt F) X_arg2) (arg6.view.readAt (Elt F) (Rect.unit (s := S512x128) ![0, 0] S512x1.size inb_S512x128_S512x1_0_0).toLoadRect X_arg6) (arg7.view.read (Elt F) X_arg7)
          (arg10.view.read (Elt F) f)) := by
  unfold tripL_k0_t1 trip_k0_t1
  dsimp only
  refine (View.read_writes_full (s := S512x128) arg10.view f _ _ _).trans ?_
  have e7 : @k0_pay7 F _ = fun v0 v2 => k0_pay2 (k0_pay4 v0 v2) := rfl
  rw [e7, View.readAt_full, View.readAt_full]
  congr 1
  sl_unfold_words
  refine (View.readCov_full (s := S512x128) arg10.view _ _ _ _).trans ?_
  rw [View.readAt_full, View.readAt_full, View.readAt_full]
  rfl

/-- Before trip `k` the accumulator holds the sum of the first `2 k` blocks. -/
theorem loop_eq (𝒱 : Variants) (c : Dev nD) (bd : Option 𝒱.V) (i : grid0.Coords) (x0 : Vec F S512x128 .bf16) (x1 x2 : Vec F S4096x128 .bf16)
    (x3 x4 x5 : Vec F S512x128 .f32) (G : BufTy.Contents (Elt F) arg10.view.ty) (hG : arg10.view.read (Elt F) G = k0_pay6) :
    ∀ k : ℕ, k ≤ (k0_t1_loop i).trips →
      arg10.view.read (Elt F) (arg10.view.writes (Elt F) G (pb_k0_t1 (F := F) 𝒱 c bd i arg2 harg2 arg3 harg3 arg4 harg4 arg5 harg5 arg6 harg6 arg7 harg7 arg8 harg8 arg9 harg9 arg10 harg10 x5 x3 (harg2.unread x0) (harg3.unread x1) (harg4.unread x2) (harg6.unread x4) (harg7.unread x5) G k))
        = acc x0 x1 x2 x3 x4 x5 (2 * k)
  | 0, _ => hG
  | k + 1, hk => by
    have h3 := (k0_t1_abs i).2.1
    rw [pb_k0_t1_succ 𝒱 c bd i arg2 harg2 arg3 harg3 arg4 harg4 arg5 harg5 arg6 harg6 arg7 harg7 arg8 harg8 arg9 harg9 arg10 harg10 x5 x3 _ _ _ _ _ G ⟨k, hk⟩,
      View.writes_append, trip_eq]
    simp only [View.readAt_eq_ld, Memref.IsWhole.read_unread]
    rw [loop_eq 𝒱 c bd i x0 x1 x2 x3 x4 x5 G hG k (Nat.le_of_succ_le hk),
      ld_block x1 (2 * k) (by omega) _ ((k0_off1_eq i ⟨k, hk⟩).trans (by congr 1; show 1024 * k = _; ring)),
      ld_block x2 (2 * k) (by omega) _ ((k0_off1_eq i ⟨k, hk⟩).trans (by congr 1; show 1024 * k = _; ring)),
      ld_block x1 (2 * k + 1) (by omega) _ ((k0_off2_eq i ⟨k, hk⟩).trans (by congr 1; show 1024 * k + 512 = _; ring)),
      ld_block x2 (2 * k + 1) (by omega) _ ((k0_off2_eq i ⟨k, hk⟩).trans (by congr 1; show 1024 * k + 512 = _; ring))]
    rfl

end Loop

end Cert.KernelIdeal.Dq
-- ==== Proof.Block.lean ====
/-
  The output block of one grid point, opened from the generated run of either case of the body.
-/
module

public import proofs.«01_k».proof.Proof.Step

@[expose] public section

set_option maxRecDepth 16384

noncomputable section

open Idealize.ShloMosaic Idealize.ShloMosaic.TcCoe Idealize.SL.Sem

namespace Cert.KernelIdeal.Dq

open Cert.KernelIdeal Cert.KernelIdeal.Gen

variable {F : FTy → Type} [FloatOps F] [Named F]

variable (c : Dev nD) (i : grid0.Coords) (arg2 : Memref sig .tc .vmem S512x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S512x128 .f32) (harg5 : arg5.IsWhole)
  (arg6 : Memref sig .tc .vmem S512x128 .f32) (harg6 : arg6.IsWhole)
  (arg7 : Memref sig .tc .vmem S512x128 .f32) (harg7 : arg7.IsWhole)
  (arg8 : Memref sig .tc .vmem S512x128 .f32) (harg8 : arg8.IsWhole)
  (arg9 : Memref sig .tc .vmem S8x512 .f32) (harg9 : arg9.IsWhole)
  (arg10 : Memref sig .tc .vmem S512x128 .f32) (harg10 : arg10.IsWhole)
  (x0 : Vec F S512x128 .bf16) (x1 x2 : Vec F S4096x128 .bf16) (x3 x4 x5 : Vec F S512x128 .f32)

/-- The remainder of the counted loop, whose trips were rounded off the first, is empty. -/
theorem t2_trips : ∀ i : grid0.Coords, (k0_t2_loop i).trips = 0 := by decide +kernel

/-- The counted loop takes the blocks in front of the diagonal two a trip. -/
theorem t1_trips : ∀ i : grid0.Coords, (k0_t1_loop i).trips = (i 1).val / 2 := by decide +kernel

/-- The block left over is the one before the diagonal. -/
theorem off5 : ∀ i : grid0.Coords, cond0_0 i → k0_off5 i = ![512 * ((i 1).val - 1), 0] := by decide +kernel

/-- The odd points are those of odd query block. -/
theorem odd_iff : ∀ i : grid0.Coords, cond0_0 i ↔ (i 1).val % 2 = 1 := by decide +kernel

/-- A whole-block load is the block. -/
theorem ld_f32 (X : Vec F S512x128 .f32) :
    View.ld X (Rect.unit (s := S512x128) ![0, 0] S512x128.size inb_S512x128_S512x128_0_0) = X := View.ld_unit_zero (S := S512x128) hz _ X

@[inherit_doc ld_f32] theorem ld_bf16 (X : Vec F S512x128 .bf16) :
    View.ld X (Rect.unit (s := S512x128) ![0, 0] S512x128.size inb_S512x128_S512x128_0_0) = X := View.ld_unit_zero (S := S512x128) hz _ X

/-- The diagonal step over equal operands. -/
theorem diag_congr {a a' : FVec F S512x1 .f32} {k k' v v' q q' : Vec F S512x128 .bf16} {l l' : Vec F S512x1 .f32}
    {d d' s s' : Vec F S512x128 .f32} (ha : a = a') (hk : k = k') (hv : v = v') (hq : q = q') (hl : l = l') (hd : d = d') (hs : s = s') :
    k0_pay1 a k v q l d s = k0_pay1 a' k' v' q' l' d' s' := by subst ha hk hv hq hl hd hs; rfl

/-- The unmasked step over equal operands. -/
theorem step_congr {a a' : FVec F S512x1 .f32} {k k' v v' q q' : Vec F S512x128 .bf16} {l l' : Vec F S512x1 .f32}
    {d d' s s' : Vec F S512x128 .f32} (ha : a = a') (hk : k = k') (hv : v = v') (hq : q = q') (hl : l = l') (hd : d = d') (hs : s = s') :
    k0_pay2 a k v q l d s = k0_pay2 a' k' v' q' l' d' s' := by subst ha hk hv hq hl hd hs; rfl

/-- The column of `do · o` over equal operands. -/
theorem delta_congr {x x' y y' : Vec F S512x128 .f32} (hx : x = x') (hy : y = y') : k0_pay4 x y = k0_pay4 x' y' := by subst hx hy; rfl

/-- What the accumulator holds once the counted loop is done. -/
theorem after_loop :
    View.ld (arg10.view.read (Elt F) (arg10.view.writes (Elt F) arg10.view.junk
        (pb_k0_t1 (F := F) Variants.none c none i arg2 harg2 arg3 harg3 arg4 harg4 arg5 harg5 arg6 harg6 arg7 harg7 arg8 harg8 arg9 harg9 arg10 harg10
            (View.ld x5 (Rect.unit (s := S512x128) ![0, 0] S512x128.size inb_S512x128_S512x128_0_0))
            (View.ld x3 (Rect.unit (s := S512x128) ![0, 0] S512x128.size inb_S512x128_S512x128_0_0))
            (harg2.unread x0) (harg3.unread x1) (harg4.unread x2) (harg6.unread x4) (harg7.unread x5)
            (arg10.view.writes (Elt F) arg10.view.junk [⟨Rect.unit ![0, 0] S512x128.size inb_S512x128_S512x128_0_0, k0_pay6⟩])
            (k0_t1_loop i).trips
          ++ [⟨Rect.unit ![0, 0] S512x128.size inb_S512x128_S512x128_0_0, k0_pay6⟩])))
        (Rect.unit (s := S512x128) ![0, 0] S512x128.size inb_S512x128_S512x128_0_0)
      = acc x0 x1 x2 x3 x4 x5 (2 * (k0_t1_loop i).trips) := by
  rw [ld_f32, ld_f32, ld_f32, View.writes_append]
  exact loop_eq arg2 harg2 arg3 harg3 arg4 harg4 arg5 harg5 arg6 harg6 arg7 harg7 arg8 harg8 arg9 harg9 arg10 harg10
    Variants.none c none i x0 x1 x2 x3 x4 x5 _ (View.read_writes_full (s := S512x128) _ _ _ _ _) (k0_t1_loop i).trips le_rfl

/-- An even point: the loop has taken every block in front of the diagonal. -/
theorem out_A (hc : ¬cond0_0 i) :
    out0_A_6 (F := F) c i arg2 harg2 arg3 harg3 arg4 harg4 arg5 harg5 arg6 harg6 arg7 harg7 arg8 harg8 arg9 harg9 arg10 harg10 hc x0 x1 x2 x3 x4 x5
      = dqBlock x0 x1 x2 x3 x4 x5 (i 1).val := by
  have h8 : (i 1).val < 8 := (i 1).isLt
  have hi : 2 * (k0_t1_loop i).trips = (i 1).val := by
    have := t1_trips i; have := (odd_iff i).not.mp hc; omega
  have e2 : Scf.trips (k0_t2_loop i).lb (k0_t2_loop i).ub (k0_t2_loop i).st = 0 := t2_trips i
  unfold out0_A_6
  unfold kernelRun0_A
  dsimp only
  refine (View.read_writes_full (s := S512x128) _ _ _ _ _).trans ?_
  sl_unfold_words
  refine (View.readCov_full (s := S512x128) arg10.view _ _ _ _).trans ?_
  rw [e2]
  simp only [pb_k0_t2, List.nil_append, View.readCov, View.readAt_eq_ld, Memref.IsWhole.read_unread]
  exact diag_congr (delta_congr (ld_f32 _) (ld_f32 _)) (ld_block x1 (i 1).val h8 _ (k0_off6_eq i) _) (ld_block x2 (i 1).val h8 _ (k0_off6_eq i) _)
    (ld_bf16 _) rfl (ld_f32 _)
    ((after_loop c i arg2 harg2 arg3 harg3 arg4 harg4 arg5 harg5 arg6 harg6 arg7 harg7 arg8 harg8 arg9 harg9 arg10 harg10 x0 x1 x2 x3 x4 x5).trans
      (by rw [hi]))

/-- An odd point: the block left over is added between the loop and the diagonal. -/
theorem out_B (hc : cond0_0 i) :
    out0_B_6 (F := F) c i arg2 harg2 arg3 harg3 arg4 harg4 arg5 harg5 arg6 harg6 arg7 harg7 arg8 harg8 arg9 harg9 arg10 harg10 hc x0 x1 x2 x3 x4 x5
      = dqBlock x0 x1 x2 x3 x4 x5 (i 1).val := by
  have h8 : (i 1).val < 8 := (i 1).isLt
  have ho := (odd_iff i).mp hc
  have hi : 2 * (k0_t1_loop i).trips = (i 1).val - 1 := by
    have := t1_trips i; omega
  have hs : (i 1).val - 1 + 1 = (i 1).val := by omega
  have e2 : Scf.trips (k0_t2_loop i).lb (k0_t2_loop i).ub (k0_t2_loop i).st = 0 := t2_trips i
  unfold out0_B_6
  unfold kernelRun0_B
  dsimp only
  refine (View.read_writes_full (s := S512x128) _ _ _ _ _).trans ?_
  sl_unfold_words
  refine (View.readCov_full (s := S512x128) arg10.view _ _ _ _).trans ?_
  rw [e2]
  simp only [pb_k0_t2, List.nil_append, View.readCov, View.readAt_eq_ld, Memref.IsWhole.read_unread]
  refine diag_congr (delta_congr (ld_f32 _) (ld_f32 _)) (ld_block x1 (i 1).val h8 _ (k0_off6_eq i) _) (ld_block x2 (i 1).val h8 _ (k0_off6_eq i) _)
    (ld_bf16 _) rfl (ld_f32 _) (Eq.trans ?_ (congrArg (acc x0 x1 x2 x3 x4 x5) hs))
  refine (ld_f32 _).trans ((View.read_writes_full (s := S512x128) _ _ _ _ _).trans ?_)
  exact step_congr (delta_congr (ld_f32 _) (ld_f32 _)) (ld_block x1 ((i 1).val - 1) (by omega) _ (off5 i hc) _)
    (ld_block x2 ((i 1).val - 1) (by omega) _ (off5 i hc) _) (ld_bf16 _) rfl (ld_f32 _)
    ((after_loop c i arg2 harg2 arg3 harg3 arg4 harg4 arg5 harg5 arg6 harg6 arg7 harg7 arg8 harg8 arg9 harg9 arg10 harg10 x0 x1 x2 x3 x4 x5).trans
      (by rw [hi]))

end Cert.KernelIdeal.Dq
-- ==== Proof.Reals.lean ====
/-
  Causal attention of one head over the real numbers, and its three gradients, each in the two forms that the
  programs compute: through the row log-sum (the kernels) and through the derivative of a quotient (the references).
  Then what carries a sum or a greatest entry of extended reals to the real numbers.
-/
module

public import Mathlib.Analysis.SpecialFunctions.Log.Basic
public import Mathlib.Algebra.BigOperators.Fin
public import Mathlib.Algebra.BigOperators.Intervals
public import Mathlib.Algebra.BigOperators.Field
public import Mathlib.Tactic.FieldSimp
public import Mathlib.Tactic.Ring
public import Mathlib.Tactic.Positivity
public import Idealize.ShloMosaic.Lib.Pipeline.ValueKit
public import Idealize.ShloMosaic.Lib.WordCmp
public import Idealize.ShloMosaic.PureOps.Ideal.Laws

@[expose] public section

noncomputable section

open Idealize.ShloMosaic

namespace Attn

/-! ## Extended reals -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest of finitely many entries, none `⊤` and one of them not `⊥`, is a real number. -/
theorem exists_max {n : ℕ} (f : Fin n → EReal) (ht : ∀ j, f j ≠ ⊤) (j₀ : Fin n) (hb : f j₀ ≠ ⊥) :
    ∃ t : ℝ, Finset.univ.fold max ⊥ f = (t : EReal) := by
  have h1 : Finset.univ.fold max ⊥ f ≠ ⊤ := by
    refine ne_of_lt ?_
    rw [Finset.fold_max_lt]
    exact ⟨bot_lt_top, fun j _ => lt_of_le_of_ne le_top (ht j)⟩
  have h2 : Finset.univ.fold max ⊥ f ≠ ⊥ := by
    refine (ne_of_lt ?_).symm
    rw [Finset.lt_fold_max]
    exact Or.inr ⟨j₀, Finset.mem_univ _, lt_of_le_of_ne bot_le hb.symm⟩
  exact ⟨_, (EReal.coe_toReal h1 h2).symm⟩

/-- An extended real that is neither infinity is its real part. -/
theorem eq_toReal {x : EReal} (ht : x ≠ ⊤) (hb : x ≠ ⊥) : x = ((x.toReal : ℝ) : EReal) := (EReal.coe_toReal ht hb).symm

/-! ## Rows padded with zeros -/

/-- Lane `l` of a row of `n` entries padded with zeros. -/
def lane {n : ℕ} (f : Fin n → ℝ) (l : ℕ) : ℝ := if h : l < n then f ⟨l, h⟩ else 0

theorem sum_lane {n N : ℕ} (h : n ≤ N) (f g : Fin n → ℝ) : ∑ l : Fin N, lane f l.val * lane g l.val = ∑ d, f d * g d := by
  have e1 : ∑ l : Fin N, lane f l.val * lane g l.val = ∑ l ∈ Finset.range N, lane f l * lane g l :=
    Fin.sum_univ_eq_sum_range (fun l => lane f l * lane g l) N
  have e2 : ∑ d, f d * g d = ∑ l ∈ Finset.range n, lane f l * lane g l := by
    rw [← Fin.sum_univ_eq_sum_range (fun l => lane f l * lane g l) n]
    exact Finset.sum_congr rfl fun d _ => by simp [lane, d.isLt]
  rw [e1, e2]
  refine (Finset.sum_subset (Finset.range_mono h) fun l _ hl => ?_).symm
  have : ¬l < n := by simpa using hl
  simp [lane, this]

theorem sum_mul_lane {ι : Type*} [Fintype ι] {n : ℕ} (c : ι → ℝ) (f : ι → Fin n → ℝ) (l : ℕ) :
    ∑ j, c j * lane (f j) l = lane (fun d => ∑ j, c j * f j d) l := by
  unfold lane
  split_ifs with h
  · rfl
  · simp

/-! ## The model -/

/-- The score of query `i` and key `j`. -/
def score (q k : Fin 4096 → Fin 96 → ℝ) (i j : Fin 4096) : ℝ := ∑ d, q i d * k j d

/-- The shifted exponential of a score, zero past the diagonal. -/
def num (q k : Fin 4096 → Fin 96 → ℝ) (T : Fin 4096 → ℝ) (i j : Fin 4096) : ℝ := if j ≤ i then Real.exp (score q k i j - T i) else 0

/-- A row's sum of shifted exponentials. -/
def den (q k : Fin 4096 → Fin 96 → ℝ) (T : Fin 4096 → ℝ) (i : Fin 4096) : ℝ := ∑ j, num q k T i j

/-- The attention weights. -/
def prob (q k : Fin 4096 → Fin 96 → ℝ) (T : Fin 4096 → ℝ) (i j : Fin 4096) : ℝ := num q k T i j / den q k T i

/-- The output. -/
def out (q k : Fin 4096 → Fin 96 → ℝ) (v : Fin 4096 → Fin 64 → ℝ) (T : Fin 4096 → ℝ) (i : Fin 4096) (d : Fin 64) : ℝ :=
  ∑ j, prob q k T i j * v j d

/-- A row's log-sum. -/
def lse (q k : Fin 4096 → Fin 96 → ℝ) (T : Fin 4096 → ℝ) (i : Fin 4096) : ℝ := T i + Real.log (den q k T i)

/-- The gradient that reaches a weight. -/
def dprob (v g : Fin 4096 → Fin 64 → ℝ) (i j : Fin 4096) : ℝ := ∑ d, g i d * v j d

/-- A row's product of the output and its gradient. -/
def delta (q k : Fin 4096 → Fin 96 → ℝ) (v g : Fin 4096 → Fin 64 → ℝ) (T : Fin 4096 → ℝ) (i : Fin 4096) : ℝ :=
  ∑ d, g i d * out q k v T i d

/-- The gradient of a score. -/
def dscore (q k : Fin 4096 → Fin 96 → ℝ) (v g : Fin 4096 → Fin 64 → ℝ) (T : Fin 4096 → ℝ) (i j : Fin 4096) : ℝ :=
  prob q k T i j * (dprob v g i j - delta q k v g T i)

/-- The three gradients. -/
def dq (q k : Fin 4096 → Fin 96 → ℝ) (v g : Fin 4096 → Fin 64 → ℝ) (T : Fin 4096 → ℝ) (i : Fin 4096) (d : Fin 96) : ℝ :=
  ∑ j, dscore q k v g T i j * k j d
@[inherit_doc dq] def dk (q k : Fin 4096 → Fin 96 → ℝ) (v g : Fin 4096 → Fin 64 → ℝ) (T : Fin 4096 → ℝ) (j : Fin 4096) (d : Fin 96) : ℝ :=
  ∑ i, dscore q k v g T i j * q i d
@[inherit_doc dq] def dv (q k : Fin 4096 → Fin 96 → ℝ) (g : Fin 4096 → Fin 64 → ℝ) (T : Fin 4096 → ℝ) (j : Fin 4096) (d : Fin 64) : ℝ :=
  ∑ i, prob q k T i j * g i d

/-- The greatest score of a row up to the diagonal. -/
def top (q k : Fin 4096 → Fin 96 → ℝ) (i : Fin 4096) : ℝ :=
  (Finset.univ.fold max ⊥ (fun j => if j ≤ i then (score q k i j : EReal) else ⊥)).toReal

theorem fold_top (q k : Fin 4096 → Fin 96 → ℝ) (i : Fin 4096) :
    Finset.univ.fold max ⊥ (fun j => if j ≤ i then (score q k i j : EReal) else ⊥) = (top q k i : EReal) := by
  obtain ⟨t, ht⟩ := exists_max (fun j => if j ≤ i then (score q k i j : EReal) else ⊥) (fun j => by split_ifs <;> simp) i (by simp)
  unfold top
  rw [ht]
  rfl

/-- The shifted exponential of a masked score is `num`. -/
theorem exp_masked (q k : Fin 4096 → Fin 96 → ℝ) (T : Fin 4096 → ℝ) (i j : Fin 4096) :
    Ideal.exp ((if j ≤ i then (score q k i j : EReal) else ⊥) - (T i : EReal)) = (num q k T i j : EReal) := by
  unfold num
  split_ifs
  · rw [← EReal.coe_sub, Ideal.exp_coe]
  · simp

/-- A quotient of real numbers. -/
theorem div_coe_coe (a b : ℝ) (hb : b ≠ 0) : Ideal.div (a : EReal) (b : EReal) = ((a / b : ℝ) : EReal) := by
  rw [Ideal.div_coe hb, ← EReal.coe_mul]
  congr 1
  ring

/-- The causal mask as a comparison of numbers. -/
theorem select_sle {j i : ℕ} (hj : j < 4096) (hi : i < 4096) (a b : EReal) :
    Scalar.select (IntOp.cmpi .sle (BitVec.ofNat 32 j) (BitVec.ofNat 32 i)) a b = if j ≤ i then a else b := by
  rw [WordCmp.cmpi_sle_ofNat (by omega) (by omega)]
  by_cases h : j ≤ i <;> simp [Scalar.select, h]

variable (q k : Fin 4096 → Fin 96 → ℝ) (v g : Fin 4096 → Fin 64 → ℝ) (T : Fin 4096 → ℝ)

theorem num_nonneg (i j : Fin 4096) : 0 ≤ num q k T i j := by unfold num; split_ifs <;> positivity

theorem den_pos (i : Fin 4096) : 0 < den q k T i := by
  refine Finset.sum_pos' (fun j _ => num_nonneg q k T i j) ⟨i, Finset.mem_univ _, ?_⟩
  simp [num, Real.exp_pos]

/-- The exponential of a score less the row's log-sum is the weight. -/
theorem exp_sub_lse (i j : Fin 4096) : (if j ≤ i then Real.exp (score q k i j - lse q k T i) else 0) = prob q k T i j := by
  unfold prob num lse
  split_ifs with h
  · rw [← sub_sub, Real.exp_sub, Real.exp_log (den_pos q k T i)]
  · simp

/-- `delta` is the row's mean of `dprob` under the weights. -/
theorem delta_eq (i : Fin 4096) : delta q k v g T i = ∑ j, prob q k T i j * dprob v g i j := by
  unfold delta out dprob
  simp only [Finset.mul_sum]
  rw [Finset.sum_comm]
  exact Finset.sum_congr rfl fun j _ => Finset.sum_congr rfl fun d _ => by ring

/-- The gradient of a score as the derivative of a quotient gives it. -/
theorem dscore_quot (i j : Fin 4096) :
    (dprob v g i j / den q k T i + -∑ j', dprob v g i j' * (1 / (den q k T i * den q k T i)) * num q k T i j') * num q k T i j
      = dscore q k v g T i j := by
  have hz := (den_pos q k T i).ne'
  have e : ∑ j', dprob v g i j' * (1 / (den q k T i * den q k T i)) * num q k T i j' = delta q k v g T i / den q k T i := by
    rw [delta_eq, Finset.sum_div]
    refine Finset.sum_congr rfl fun j' _ => ?_
    unfold prob
    field_simp
  rw [e]
  unfold dscore prob
  field_simp
  ring

/-- Past the diagonal the gradient of a score is zero. -/
theorem dscore_masked {i j : Fin 4096} (h : ¬j ≤ i) : dscore q k v g T i j = 0 := by simp [dscore, prob, num, h]

/-- The gradient of a score as the kernels compute it. -/
theorem dscore_lse (i j : Fin 4096) :
    (if j ≤ i then Real.exp (score q k i j - lse q k T i) * (dprob v g i j - delta q k v g T i) else 0) = dscore q k v g T i j := by
  unfold dscore
  rw [← exp_sub_lse]
  split_ifs <;> simp

/-! ## Blocks -/

/-- Eight blocks of 512 are one stretch of 4096. -/
theorem sum_blocks (f : ℕ → ℝ) : ∑ j : Fin 4096, f j.val = ∑ b ∈ Finset.range 8, ∑ x : Fin 512, f (512 * b + x.val) := by
  rw [Fin.sum_univ_eq_sum_range f 4096, show (4096 : ℕ) = 8 * 512 from rfl]
  have : ∀ A : ℕ, ∑ t ∈ Finset.range (A * 512), f t = ∑ b ∈ Finset.range A, ∑ x : Fin 512, f (512 * b + x.val) := by
    intro A
    induction A with
    | zero => simp
    | succ A ih =>
      rw [Nat.succ_mul, Finset.sum_range_add, ih, Finset.sum_range_succ (fun b => ∑ x : Fin 512, f (512 * b + x.val)) A, Fin.sum_univ_eq_sum_range (fun x => f (512 * A + x)) 512, Nat.mul_comm A 512]
  exact this 8

/-- A sum that stops at row `512 n + r`: the `n` blocks in front, and of block `n` the entries up to `r`. -/
theorem sum_upto (f : ℕ → ℝ) (n r : ℕ) (hn : n < 8) (hr : r < 512) :
    ∑ j : Fin 4096, (if j.val ≤ 512 * n + r then f j.val else 0)
      = (∑ b ∈ Finset.range n, ∑ x : Fin 512, f (512 * b + x.val)) + ∑ x : Fin 512, (if x.val ≤ r then f (512 * n + x.val) else 0) := by
  rw [sum_blocks fun j => if j ≤ 512 * n + r then f j else 0, ← Finset.sum_range_add_sum_Ico _ hn.le, ← Finset.sum_Ioo_add_eq_sum_Ico hn]
  have e1 : ∀ b ∈ Finset.range n, ∑ x : Fin 512, (if 512 * b + x.val ≤ 512 * n + r then f (512 * b + x.val) else 0) = ∑ x : Fin 512, f (512 * b + x.val) := by
    intro b hb
    have hb := Finset.mem_range.mp hb
    exact Finset.sum_congr rfl fun x _ => if_pos (by have := x.isLt; omega)
  have e2 : ∀ b ∈ Finset.Ioo n 8, ∑ x : Fin 512, (if 512 * b + x.val ≤ 512 * n + r then f (512 * b + x.val) else 0) = 0 := by
    intro b hb
    have hb := (Finset.mem_Ioo.mp hb).1
    exact Finset.sum_eq_zero fun x _ => if_neg (by omega)
  have e3 : ∑ x : Fin 512, (if 512 * n + x.val ≤ 512 * n + r then f (512 * n + x.val) else 0) = ∑ x : Fin 512, (if x.val ≤ r then f (512 * n + x.val) else 0) := by
    exact Finset.sum_congr rfl fun x _ => by simp
  rw [Finset.sum_congr rfl e1, Finset.sum_congr rfl e2, e3]
  simp

/-- A sum that starts at row `512 n + r`: of block `n` the entries from `r` on, and the blocks behind it. -/
theorem sum_from (f : ℕ → ℝ) (n r : ℕ) (hn : n < 8) (hr : r < 512) :
    ∑ j : Fin 4096, (if 512 * n + r ≤ j.val then f j.val else 0)
      = (∑ x : Fin 512, (if r ≤ x.val then f (512 * n + x.val) else 0))
        + ∑ b ∈ Finset.range (7 - n), ∑ x : Fin 512, f (512 * (n + 1 + b) + x.val) := by
  rw [sum_blocks fun j => if 512 * n + r ≤ j then f j else 0, ← Finset.sum_range_add_sum_Ico _ hn.le, Finset.sum_eq_sum_Ico_succ_bot hn,
    Finset.sum_Ico_eq_sum_range]
  have e1 : ∀ b ∈ Finset.range n, ∑ x : Fin 512, (if 512 * n + r ≤ 512 * b + x.val then f (512 * b + x.val) else 0) = 0 := by
    intro b hb
    have hb := Finset.mem_range.mp hb
    exact Finset.sum_eq_zero fun x _ => if_neg (by have := x.isLt; omega)
  have e2 : ∀ b ∈ Finset.range (8 - (n + 1)), ∑ x : Fin 512, (if 512 * n + r ≤ 512 * (n + 1 + b) + x.val then f (512 * (n + 1 + b) + x.val) else 0)
      = ∑ x : Fin 512, f (512 * (n + 1 + b) + x.val) := by
    intro b _
    exact Finset.sum_congr rfl fun x _ => if_pos (by omega)
  have e3 : ∑ x : Fin 512, (if 512 * n + r ≤ 512 * n + x.val then f (512 * n + x.val) else 0) = ∑ x : Fin 512, (if r ≤ x.val then f (512 * n + x.val) else 0) := by
    exact Finset.sum_congr rfl fun x _ => by simp
  rw [Finset.sum_congr rfl e1, Finset.sum_congr rfl e2, e3, show 8 - (n + 1) = 7 - n by omega]
  simp

end Attn
-- ==== Proof.BlockReal.lean ====
/-
  The output block of one grid point of the dQ call over real inputs, at the ideal instance: row `r` of query block
  `n` is the sum over the keys up to row `512 n + r`.
-/
module

public import proofs.«01_k».proof.Proof.Block
public import proofs.«01_k».proof.Proof.Reals
public import Idealize.ShloMosaic.Lib.Pointwise

@[expose] public section

set_option maxRecDepth 16384

noncomputable section

open Idealize.ShloMosaic Idealize.ShloMosaic.TcCoe Idealize.SL.Sem

namespace Cert.KernelIdeal.Dq

open Cert.KernelIdeal Cert.KernelIdeal.Gen Attn

/-- The named mask is minus infinity. -/
theorem mask_eq : Named.named (F := Ideal) (φ := .f32) κ "mask" 0xF149F2CA#32 = (⊥ : EReal) := rfl

/-- The diagonal block's mask as a comparison of numbers. -/
theorem select_sge {r x : ℕ} (hr : r < 512) (hx : x < 512) (a b : EReal) :
    Scalar.select (IntOp.cmpi .sge (IntOp.addi (BitVec.ofNat 32 r) 0#32) (BitVec.ofNat 32 x)) a b = if x ≤ r then a else b := by
  have e : IntOp.addi (BitVec.ofNat 32 r) 0#32 = BitVec.ofNat 32 r := by simp [IntOp.addi]
  rw [e, WordCmp.cmpi_sge_ofNat (by omega) (by omega)]
  by_cases h : x ≤ r <;> simp [Scalar.select, h]

variable {x0 : Vec Ideal S512x128 .bf16} {x1 x2 : Vec Ideal S4096x128 .bf16} {x3 x4 x5 : Vec Ideal S512x128 .f32}
variable {Q O G : Fin 512 → Fin 128 → ℝ} {K V : Fin 4096 → Fin 128 → ℝ} {L : Fin 512 → ℝ}

/-- A row of the block of keys or values `n` as a row of the array. -/
def krow (j : ℕ) : Fin 4096 := ⟨j % 4096, Nat.mod_lt _ (by decide)⟩

/-- What key `j` adds to lane `e` of row `r`. -/
def term (Q O G : Fin 512 → Fin 128 → ℝ) (K V : Fin 4096 → Fin 128 → ℝ) (L : Fin 512 → ℝ) (r : Fin 512) (e : Fin 128) (j : ℕ) : ℝ :=
  Real.exp (∑ l, Q r l * K (krow j) l - L r) * (∑ l, G r l * V (krow j) l - ∑ l, G r l * O r l) * K (krow j) e

theorem acc_eq (h0 : ∀ r l, x0 (ix2 r l) = (Q r l : EReal)) (h1 : ∀ j l, x1 (ix2 j l) = (K j l : EReal))
    (h2 : ∀ j l, x2 (ix2 j l) = (V j l : EReal)) (h3 : ∀ r l, x3 (ix2 r l) = (O r l : EReal))
    (h4 : ∀ r, x4 (ix2 r 0) = (L r : EReal)) (h5 : ∀ r l, x5 (ix2 r l) = (G r l : EReal)) (n : ℕ) (r : Fin 512) (e : Fin 128) :
    acc x0 x1 x2 x3 x4 x5 n (ix2 r e) = ((∑ b ∈ Finset.range n, ∑ x : Fin 512, term Q O G K V L r e (512 * b + x.val) : ℝ) : EReal) := by
  induction n with
  | zero =>
    show (k0_pay6 : FVec Ideal S512x128 .f32) (ix2 r e) = _
    pointwise [k0_pay6, Ideal.ofBits_zero_f32]
    simp
  | succ n ih =>
    show k0_pay2 (k0_pay4 x5 x3) (block x1 n) (block x2 n) x0 (lseCol x4) x5 (acc x0 x1 x2 x3 x4 x5 n) (ix2 r e) = _
    pointwise [k0_pay2, k0_pay4, block, lseCol]
    rw [ih, Finset.sum_range_succ]
    simp only [h0, h1, h2, h3, h4, h5, ← EReal.coe_mul, ← coe_sum, ← EReal.coe_sub, Ideal.exp_coe, ← EReal.coe_add]
    rfl

theorem dqBlock_eq (h0 : ∀ r l, x0 (ix2 r l) = (Q r l : EReal)) (h1 : ∀ j l, x1 (ix2 j l) = (K j l : EReal))
    (h2 : ∀ j l, x2 (ix2 j l) = (V j l : EReal)) (h3 : ∀ r l, x3 (ix2 r l) = (O r l : EReal))
    (h4 : ∀ r, x4 (ix2 r 0) = (L r : EReal)) (h5 : ∀ r l, x5 (ix2 r l) = (G r l : EReal)) (n : ℕ) (hn : n < 8) (r : Fin 512) (e : Fin 128) :
    dqBlock x0 x1 x2 x3 x4 x5 n (ix2 r e)
      = ((∑ j : Fin 4096, if j.val ≤ 512 * n + r.val then term Q O G K V L r e j.val else 0 : ℝ) : EReal) := by
  rw [sum_upto (term Q O G K V L r e) n r.val hn r.isLt]
  unfold dqBlock
  pointwise [k0_pay1, k0_pay4, block, lseCol]
  rw [acc_eq h0 h1 h2 h3 h4 h5, EReal.coe_add]
  congr 1
  rw [coe_sum]
  refine Finset.sum_congr rfl fun x _ => ?_
  rw [select_sge r.isLt x.isLt, mask_eq]
  simp only [h0, h1, h2, h3, h4, h5, ← EReal.coe_mul, ← coe_sum, ← EReal.coe_sub]
  split_ifs with h
  · simp only [← EReal.coe_mul, ← coe_sum, ← EReal.coe_sub, Ideal.exp_coe]
    rfl
  · simp

end Cert.KernelIdeal.Dq
-- ==== Proof.Array.lean ====
/-
  The dQ call's result array: each grid point writes the block of its head and query block, and the blocks tile the
  array.
-/
module

public import proofs.«01_k».proof.Proof.BlockReal
public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem

namespace Cert.KernelIdeal.Dq

open Cert.KernelIdeal Cert.KernelIdeal.Gen Attn

/-- Which block each window takes at a grid point: the head's lanes, and for the queries' side the query block's rows. -/
theorem idx : ∀ t : Fin grid0.N, win0_0.index t = ![(grid0.coords t 1).val, (grid0.coords t 0).val]
    ∧ win0_1.index t = ![0, (grid0.coords t 0).val] ∧ win0_2.index t = ![0, (grid0.coords t 0).val]
    ∧ win0_3.index t = ![(grid0.coords t 1).val, (grid0.coords t 0).val] ∧ win0_4.index t = ![(grid0.coords t 1).val, (grid0.coords t 0).val]
    ∧ win0_5.index t = ![(grid0.coords t 1).val, (grid0.coords t 0).val] ∧ win0_6.index t = ![(grid0.coords t 1).val, (grid0.coords t 0).val] := by
  decide +kernel

variable (m : (ℓ : Loc nD τ sig) → Buf (Elt Ideal) ℓ) (c : Dev nD)

/-- What point `t` writes back, whichever of the two cases it falls in. -/
theorem flushed_eq (t : Fin cfg0.N) : (dats m 0 c).flushed 6 t = (cfg0.win 6).cut (grid0.coords t)
    (dqBlock (iblk m c 0 t) (iblk m c 1 t) (iblk m c 2 t) (iblk m c 3 t) (iblk m c 4 t) (iblk m c 5 t) (grid0.coords t 1).val) := by
  by_cases h : t.val % 2 = 1
  · rw [Value.flushed6_B m c t h, out_B]
  · rw [Value.flushed6_A m c t h, out_A]

/-- Column `128 h + l` of a packed array: lane `l` of head `h`. -/
def col (h : Fin 8) (l : Fin 128) : Fin 1024 := ⟨128 * h.val + l.val, by omega⟩

/-- Row `512 b + r`: row `r` of query block `b`. -/
def row (b : Fin 8) (r : Fin 512) : Fin 4096 := ⟨512 * b.val + r.val, by omega⟩

/-- The head of a grid point, and its query block. -/
def hd (t : Fin cfg0.N) : Fin 8 := ⟨(grid0.coords t 0).val, (grid0.coords t 0).isLt⟩
@[inherit_doc hd] def qb (t : Fin cfg0.N) : Fin 8 := ⟨(grid0.coords t 1).val, (grid0.coords t 1).isLt⟩

/-- The place of an element of an input window's block in its array. -/
theorem emb0 (t : Fin cfg0.N) (r : Fin 512) (l : Fin 128) :
    (win0_0.blk t).view.emb (ix2 r l) = (ix2 (row (qb t) r) (col (hd t) l) : S4096x1024.Idx) := by
  blk_ext [row, col, hd, qb, idx t]

/-- Reading window 0's block of an array. -/
theorem read0 (X : Buf (Elt Ideal) ((c : Thread nD τ).loc (Pipeline.arrRef spec0 0))) (t : Fin cfg0.N) (r : Fin 512) (l : Fin 128) :
    (((cfg0.win 0).blk t).view.read (Elt Ideal) X (ix2 r l) : EReal) = (X : S4096x1024.Idx → EReal) (ix2 (row (qb t) r) (col (hd t) l)) :=
  congrArg X (emb0 t r l)

/-- An input window's block at an index. -/
theorem iblk0 (t : Fin cfg0.N) (r : Fin 512) (l : Fin 128) :
    (iblk m c 0 t (ix2 r l) : EReal) = (V m c (Pipeline.arrRef spec0 0) : S4096x1024.Idx → EReal) (ix2 (row (qb t) r) (col (hd t) l)) :=
  read0 c (V m c (Pipeline.arrRef spec0 0)) t r l

@[inherit_doc emb0] theorem emb1 (t : Fin cfg0.N) (r : Fin 4096) (l : Fin 128) :
    (win0_1.blk t).view.emb (ix2 r l) = (ix2 r (col (hd t) l) : S4096x1024.Idx) := by
  blk_ext [row, col, hd, qb, idx t]

/-- Reading window 1's block of an array. -/
theorem read1 (X : Buf (Elt Ideal) ((c : Thread nD τ).loc (Pipeline.arrRef spec0 1))) (t : Fin cfg0.N) (r : Fin 4096) (l : Fin 128) :
    (((cfg0.win 1).blk t).view.read (Elt Ideal) X (ix2 r l) : EReal) = (X : S4096x1024.Idx → EReal) (ix2 r (col (hd t) l)) :=
  congrArg X (emb1 t r l)

@[inherit_doc iblk0] theorem iblk1 (t : Fin cfg0.N) (r : Fin 4096) (l : Fin 128) :
    (iblk m c 1 t (ix2 r l) : EReal) = (V m c (Pipeline.arrRef spec0 1) : S4096x1024.Idx → EReal) (ix2 r (col (hd t) l)) :=
  read1 c (V m c (Pipeline.arrRef spec0 1)) t r l

@[inherit_doc emb0] theorem emb2 (t : Fin cfg0.N) (r : Fin 4096) (l : Fin 128) :
    (win0_2.blk t).view.emb (ix2 r l) = (ix2 r (col (hd t) l) : S4096x1024.Idx) := by
  blk_ext [row, col, hd, qb, idx t]

/-- Reading window 2's block of an array. -/
theorem read2 (X : Buf (Elt Ideal) ((c : Thread nD τ).loc (Pipeline.arrRef spec0 2))) (t : Fin cfg0.N) (r : Fin 4096) (l : Fin 128) :
    (((cfg0.win 2).blk t).view.read (Elt Ideal) X (ix2 r l) : EReal) = (X : S4096x1024.Idx → EReal) (ix2 r (col (hd t) l)) :=
  congrArg X (emb2 t r l)

@[inherit_doc iblk0] theorem iblk2 (t : Fin cfg0.N) (r : Fin 4096) (l : Fin 128) :
    (iblk m c 2 t (ix2 r l) : EReal) = (V m c (Pipeline.arrRef spec0 2) : S4096x1024.Idx → EReal) (ix2 r (col (hd t) l)) :=
  read2 c (V m c (Pipeline.arrRef spec0 2)) t r l

@[inherit_doc emb0] theorem emb3 (t : Fin cfg0.N) (r : Fin 512) (l : Fin 128) :
    (win0_3.blk t).view.emb (ix2 r l) = (ix2 (row (qb t) r) (col (hd t) l) : S4096x1024.Idx) := by
  blk_ext [row, col, hd, qb, idx t]

/-- Reading window 3's block of an array. -/
theorem read3 (X : Buf (Elt Ideal) ((c : Thread nD τ).loc (Pipeline.arrRef spec0 3))) (t : Fin cfg0.N) (r : Fin 512) (l : Fin 128) :
    (((cfg0.win 3).blk t).view.read (Elt Ideal) X (ix2 r l) : EReal) = (X : S4096x1024.Idx → EReal) (ix2 (row (qb t) r) (col (hd t) l)) :=
  congrArg X (emb3 t r l)

@[inherit_doc iblk0] theorem iblk3 (t : Fin cfg0.N) (r : Fin 512) (l : Fin 128) :
    (iblk m c 3 t (ix2 r l) : EReal) = (V m c (Pipeline.arrRef spec0 3) : S4096x1024.Idx → EReal) (ix2 (row (qb t) r) (col (hd t) l)) :=
  read3 c (V m c (Pipeline.arrRef spec0 3)) t r l

@[inherit_doc emb0] theorem emb4 (t : Fin cfg0.N) (r : Fin 512) (l : Fin 128) :
    (win0_4.blk t).view.emb (ix2 r l) = (ix2 (row (qb t) r) (col (hd t) l) : S4096x1024.Idx) := by
  blk_ext [row, col, hd, qb, idx t]

/-- Reading window 4's block of an array. -/
theorem read4 (X : Buf (Elt Ideal) ((c : Thread nD τ).loc (Pipeline.arrRef spec0 4))) (t : Fin cfg0.N) (r : Fin 512) (l : Fin 128) :
    (((cfg0.win 4).blk t).view.read (Elt Ideal) X (ix2 r l) : EReal) = (X : S4096x1024.Idx → EReal) (ix2 (row (qb t) r) (col (hd t) l)) :=
  congrArg X (emb4 t r l)

@[inherit_doc iblk0] theorem iblk4 (t : Fin cfg0.N) (r : Fin 512) (l : Fin 128) :
    (iblk m c 4 t (ix2 r l) : EReal) = (V m c (Pipeline.arrRef spec0 4) : S4096x1024.Idx → EReal) (ix2 (row (qb t) r) (col (hd t) l)) :=
  read4 c (V m c (Pipeline.arrRef spec0 4)) t r l

@[inherit_doc emb0] theorem emb5 (t : Fin cfg0.N) (r : Fin 512) (l : Fin 128) :
    (win0_5.blk t).view.emb (ix2 r l) = (ix2 (row (qb t) r) (col (hd t) l) : S4096x1024.Idx) := by
  blk_ext [row, col, hd, qb, idx t]

/-- Reading window 5's block of an array. -/
theorem read5 (X : Buf (Elt Ideal) ((c : Thread nD τ).loc (Pipeline.arrRef spec0 5))) (t : Fin cfg0.N) (r : Fin 512) (l : Fin 128) :
    (((cfg0.win 5).blk t).view.read (Elt Ideal) X (ix2 r l) : EReal) = (X : S4096x1024.Idx → EReal) (ix2 (row (qb t) r) (col (hd t) l)) :=
  congrArg X (emb5 t r l)

@[inherit_doc iblk0] theorem iblk5 (t : Fin cfg0.N) (r : Fin 512) (l : Fin 128) :
    (iblk m c 5 t (ix2 r l) : EReal) = (V m c (Pipeline.arrRef spec0 5) : S4096x1024.Idx → EReal) (ix2 (row (qb t) r) (col (hd t) l)) :=
  read5 c (V m c (Pipeline.arrRef spec0 5)) t r l

/-- The place of an element of block `t` in the result array. -/
theorem emb6 (t : Fin cfg0.N) (r : Fin 512) (l : Fin 128) :
    (win0_6.blk t).view.emb (ix2 r l) = (ix2 (row (qb t) r) (col (hd t) l) : S4096x1024.Idx) := by
  blk_ext [row, col, hd, qb, idx t]

/-- The arrays staged by the call, over real numbers: queries, keys, values, outputs, row log-sums and output gradients
    of every head, the rows padded with zeros. -/
structure Staged (q k : Fin 8 → Fin 4096 → Fin 96 → ℝ) (v g : Fin 8 → Fin 4096 → Fin 64 → ℝ) (T : Fin 8 → Fin 4096 → ℝ) : Prop where
  hq : ∀ i h l, (V m c (Pipeline.arrRef spec0 0) : S4096x1024.Idx → EReal) (ix2 i (col h l)) = (lane (q h i) l.val : EReal)
  hk : ∀ i h l, (V m c (Pipeline.arrRef spec0 1) : S4096x1024.Idx → EReal) (ix2 i (col h l)) = (lane (k h i) l.val : EReal)
  hv : ∀ i h l, (V m c (Pipeline.arrRef spec0 2) : S4096x1024.Idx → EReal) (ix2 i (col h l)) = (lane (v h i) l.val : EReal)
  ho : ∀ i h l, (V m c (Pipeline.arrRef spec0 3) : S4096x1024.Idx → EReal) (ix2 i (col h l)) = (lane (out (q h) (k h) (v h) (T h) i) l.val : EReal)
  hl : ∀ i h l, (V m c (Pipeline.arrRef spec0 4) : S4096x1024.Idx → EReal) (ix2 i (col h l)) = (lse (q h) (k h) (T h) i : EReal)
  hg : ∀ i h l, (V m c (Pipeline.arrRef spec0 5) : S4096x1024.Idx → EReal) (ix2 i (col h l)) = (lane (g h i) l.val : EReal)

/-- The gradients of the queries, packed. -/
def packedDq (q k : Fin 8 → Fin 4096 → Fin 96 → ℝ) (v g : Fin 8 → Fin 4096 → Fin 64 → ℝ) (T : Fin 8 → Fin 4096 → ℝ) : S4096x1024.Idx → EReal := fun y =>
  let h : Fin 8 := ⟨(y 1).val / 128, by have : (y 1).val < 1024 := (y 1).isLt; omega⟩
  (lane (dq (q h) (k h) (v h) (g h) (T h) (y 0)) ((y 1).val % 128) : EReal)

theorem packedDq_apply (q k : Fin 8 → Fin 4096 → Fin 96 → ℝ) (v g : Fin 8 → Fin 4096 → Fin 64 → ℝ) (T : Fin 8 → Fin 4096 → ℝ) (i : Fin 4096)
    (h : Fin 8) (l : Fin 128) : packedDq q k v g T (ix2 i (col h l)) = (lane (dq (q h) (k h) (v h) (g h) (T h) i) l.val : EReal) := by
  have e1 : (⟨(col h l).val / 128, by have := (col h l).isLt; omega⟩ : Fin 8) = h := by apply Fin.ext; simp only [col]; omega
  have e2 : (col h l).val % 128 = l.val := by simp only [col]; omega
  show (lane (dq (q ⟨(col h l).val / 128, _⟩) (k ⟨(col h l).val / 128, _⟩) (v ⟨(col h l).val / 128, _⟩) (g ⟨(col h l).val / 128, _⟩) (T ⟨(col h l).val / 128, _⟩) i)
    ((col h l).val % 128) : EReal) = _
  rw [e1, e2]

variable {m c}

theorem array_eq {q k : Fin 8 → Fin 4096 → Fin 96 → ℝ} {v g : Fin 8 → Fin 4096 → Fin 64 → ℝ} {T : Fin 8 → Fin 4096 → ℝ}
    (S : Staged m c q k v g T) : (dats m 0 c).arrAt 6 cfg0.N = packedDq q k v g T := by
  refine (dats m 0 c).arrAt_eq_of_covers 6 _ (by decide +kernel) fun t hf y => ?_
  have e := congrFun (flushed_eq m c t) y
  blk_simp [idx t]
  refine Eq.trans e ?_
  obtain ⟨r, l, rfl⟩ : ∃ (r : Fin 512) (l : Fin 128), y = ix2 r l := ⟨y 0, y 1, by funext a; fin_cases a <;> rfl⟩
  refine Eq.trans ?_ (congrArg (packedDq q k v g T) (emb6 t r l)).symm
  rw [packedDq_apply]
  refine (dqBlock_eq (Q := fun r l => lane (q (hd t) (row (qb t) r)) l.val) (K := fun j l => lane (k (hd t) j) l.val)
    (V := fun j l => lane (v (hd t) j) l.val) (O := fun r l => lane (out (q (hd t)) (k (hd t)) (v (hd t)) (T (hd t)) (row (qb t) r)) l.val)
    (L := fun r => lse (q (hd t)) (k (hd t)) (T (hd t)) (row (qb t) r)) (G := fun r l => lane (g (hd t) (row (qb t) r)) l.val)
    (fun r l => (iblk0 m c t r l).trans (S.hq _ _ _)) (fun r l => (iblk1 m c t r l).trans (S.hk _ _ _)) (fun r l => (iblk2 m c t r l).trans (S.hv _ _ _))
    (fun r l => (iblk3 m c t r l).trans (S.ho _ _ _)) (fun r => (iblk4 m c t r 0).trans (S.hl _ _ _)) (fun r l => (iblk5 m c t r l).trans (S.hg _ _ _))
    (qb t).val (qb t).isLt r l).trans ?_
  refine congrArg _ ?_
  unfold dq
  rw [← sum_mul_lane]
  refine Finset.sum_congr rfl fun j _ => ?_
  have ej : krow j.val = j := Fin.ext (Nat.mod_eq_of_lt j.isLt)
  rw [← dscore_lse]
  unfold term
  simp only [ej, sum_lane (show 96 ≤ 128 by decide), sum_lane (show 64 ≤ 128 by decide)]
  show (if j.val ≤ (row (qb t) r).val then _ else _) = (if j.val ≤ (row (qb t) r).val then _ else _) * _
  split_ifs
  · rfl
  · simp

end Cert.KernelIdeal.Dq
-- ==== Proof.Saved.lean ====
/-
  What the forward pass saves, over real inputs: the row log-sums and the outputs of the attention, as the host's
  lines before a backward call compute them from the scores `s` and the row maxima `t`.
-/
module

public import proofs.«01_k».proof.Proof.Reals
public import proofs.«01_k».proof.Proof.Gen.KernelIdeal
public import Idealize.ShloMosaic.Lib.Pointwise
public import Idealize.ShloMosaic.Lib.KernelVsHost

@[expose] public section

set_option maxRecDepth 16384

noncomputable section

open Idealize.ShloMosaic Idealize.ShloMosaic.TcCoe Idealize.SL.Sem

namespace Cert.KernelIdeal.Saved

open Cert.KernelIdeal Cert.KernelIdeal.Gen Attn

/-- The exponentials of the scores less their row maximum. -/
def expo (s : FVec Ideal S8x4096x4096 .f32) (t : FVec Ideal S8x4096 .f32) : FVec Ideal S8x4096x4096 .f32 :=
  Host.exp (subf s
    (broadcastInDim S8x4096x4096 ![0, 1, 2] bcast_S8x4096x1_S8x4096x4096_0_1_2 (broadcastInDim S8x4096x1 ![0, 1] bcast_S8x4096_S8x4096x1_0_1 t)))

/-- The row sums of `e`. -/
def sums (e : FVec Ideal S8x4096x4096 .f32) : FVec Ideal S8x4096 .f32 :=
  Host.reduceAdd e (constant S_ .f32 0x00000000#32) reducesTo_S8x4096x4096_S8x4096_d2 h_S_

/-- The row log-sums, packed: every lane of a head holds its row's. -/
def logsums (t d : FVec Ideal S8x4096 .f32) : FVec Ideal S4096x1024 .f32 :=
  shapeCast S4096x1024
    (broadcastInDim S4096x8x128 ![0, 1, 2] bcast_S4096x8x1_S4096x8x128_0_1_2
      (broadcastInDim S4096x8x1 ![0, 1] bcast_S4096x8_S4096x8x1_0_1
        (transpose S4096x8 [1, 0]
          (shapeCast S8x4096
            (addf (broadcastInDim S8x4096x1 ![0, 1] bcast_S8x4096_S8x4096x1_0_1 t)
              (Host.log (broadcastInDim S8x4096x1 ![0, 1] bcast_S8x4096_S8x4096x1_0_1 d)))
            shapeCasts_S8x4096x1_S8x4096)
          transposes_S8x4096_S4096x8_1_0)))
    shapeCasts_S4096x8x128_S4096x1024

/-- The probabilities. -/
def probs (e : FVec Ideal S8x4096x4096 .f32) (d : FVec Ideal S8x4096 .f32) : FVec Ideal S8x4096x4096 .f32 :=
  Host.divf e
    (broadcastInDim S8x4096x4096 ![0, 1, 2] bcast_S8x4096x1_S8x4096x4096_0_1_2 (broadcastInDim S8x4096x1 ![0, 1] bcast_S8x4096_S8x4096x1_0_1 d))

/-- The outputs: the values weighted by the probabilities. -/
def outs (x : FVec Ideal S4096x8x64 .f32) (p : FVec Ideal S8x4096x4096 .f32) : FVec Ideal S4096x8x64 .f32 :=
  transpose S4096x8x64 [2, 0, 1] (Host.dotGeneral dot_S4096x8x64_S8x4096x4096_S8x64x4096_0_2_2_1_1_0 none x p) transposes_S8x64x4096_S4096x8x64_2_0_1

/-- Heads of 64 entries, packed in lanes. -/
def pack64 (x : FVec Ideal S4096x8x64 .f32) : FVec Ideal S4096x1024 .f32 :=
  shapeCast S4096x1024
    (pad S4096x8x128 ![0, 0, 0] ![0, 0, 64] ![0, 0, 0] x (sitofp .f32 (constantI S_ 32 0#32)) pads_S4096x8x64_S4096x8x128_000_000_0640 h_S_)
    shapeCasts_S4096x8x128_S4096x1024

/-- Heads of 96 entries, packed in lanes. -/
def pack96 (x : FVec Ideal S4096x8x96 .f32) : FVec Ideal S4096x1024 .f32 :=
  shapeCast S4096x1024
    (pad S4096x8x128 ![0, 0, 0] ![0, 0, 32] ![0, 0, 0] x (sitofp .f32 (constantI S_ 32 0#32)) pads_S4096x8x96_S4096x8x128_000_000_0320 h_S_)
    shapeCasts_S4096x8x128_S4096x1024

variable {s e : FVec Ideal S8x4096x4096 .f32} {t d : FVec Ideal S8x4096 .f32}
variable {q k : Fin 8 → Fin 4096 → Fin 96 → ℝ} {v : Fin 8 → Fin 4096 → Fin 64 → ℝ}

theorem expo_eq (hs : ∀ h i j, s (ix3 h i j) = if j ≤ i then (score (q h) (k h) i j : EReal) else ⊥)
    (ht : ∀ h i, t (ix2 h i) = (top (q h) (k h) i : EReal)) (h : Fin 8) (i j : Fin 4096) :
    expo s t (ix3 h i j) = (num (q h) (k h) (top (q h) (k h)) i j : EReal) := by
  pointwise [expo]
  rw [hs, ht]
  exact exp_masked (q h) (k h) (top (q h) (k h)) i j

theorem sums_eq (he : ∀ h i j, e (ix3 h i j) = (num (q h) (k h) (top (q h) (k h)) i j : EReal)) (h : Fin 8) (i : Fin 4096) :
    sums e (ix2 h i) = (den (q h) (k h) (top (q h) (k h)) i : EReal) := by
  pointwise [sums]
  simp only [he, ← coe_sum]
  rfl

theorem probs_eq (he : ∀ h i j, e (ix3 h i j) = (num (q h) (k h) (top (q h) (k h)) i j : EReal))
    (hd : ∀ h i, d (ix2 h i) = (den (q h) (k h) (top (q h) (k h)) i : EReal)) (h : Fin 8) (i j : Fin 4096) :
    probs e d (ix3 h i j) = (prob (q h) (k h) (top (q h) (k h)) i j : EReal) := by
  pointwise [probs]
  rw [he, hd]
  exact div_coe_coe _ _ (den_pos _ _ _ _).ne'

theorem logsums_eq (ht : ∀ h i, t (ix2 h i) = (top (q h) (k h) i : EReal))
    (hd : ∀ h i, d (ix2 h i) = (den (q h) (k h) (top (q h) (k h)) i : EReal)) (h : Fin 8) (i : Fin 4096) (y : Fin 1024) (hh : h.val = y.val / 128) :
    logsums t d (ix2 i y) = (lse (q h) (k h) (top (q h) (k h)) i : EReal) := by
  obtain ⟨h, hlt⟩ := h
  obtain rfl : h = y.val / 128 := hh
  pointwise [logsums]
  rw [ht, hd, Ideal.log_coe, if_neg (not_le.mpr (den_pos _ _ _ _)), ← EReal.coe_add]
  rfl

theorem outs_eq {x : FVec Ideal S4096x8x64 .f32} {p : FVec Ideal S8x4096x4096 .f32} (hx : ∀ i h d, x (ix3 i h d) = (v h i d : EReal))
    (hp : ∀ h i j, p (ix3 h i j) = (prob (q h) (k h) (top (q h) (k h)) i j : EReal)) (i : Fin 4096) (h : Fin 8) (d : Fin 64) :
    outs x p (ix3 i h d) = (out (q h) (k h) (v h) (top (q h) (k h)) i d : EReal) := by
  pointwise [outs]
  simp only [hx, hp, ← EReal.coe_mul, ← coe_sum, mul_comm (v _ _ _)]
  rfl

theorem pad_zero : (FloatOps.sitofp .f32 (0#32) : Ideal .f32) = (0 : EReal) := sitofp_zero

theorem pack64_eq {x : FVec Ideal S4096x8x64 .f32} (hx : ∀ i h d, x (ix3 i h d) = (v h i d : EReal)) (h : Fin 8) (i : Fin 4096) (y : Fin 1024)
    (hh : h.val = y.val / 128) : pack64 x (ix2 i y) = (lane (v h i) (y.val % 128) : EReal) := by
  obtain ⟨h, hlt⟩ := h
  obtain rfl : h = y.val / 128 := hh
  pointwise [pack64]
  split_ifs with hd
  · rw [hx]; unfold lane; rw [dif_pos hd.2]
  · rw [pad_zero]; unfold lane; rw [dif_neg (fun H => hd ⟨hlt, H⟩)]; rfl

theorem pack96_eq {x : FVec Ideal S4096x8x96 .f32} (hx : ∀ i h d, x (ix3 i h d) = (q h i d : EReal)) (h : Fin 8) (i : Fin 4096) (y : Fin 1024)
    (hh : h.val = y.val / 128) : pack96 x (ix2 i y) = (lane (q h i) (y.val % 128) : EReal) := by
  obtain ⟨h, hlt⟩ := h
  obtain rfl : h = y.val / 128 := hh
  pointwise [pack96]
  split_ifs with hd
  · rw [hx]; unfold lane; rw [dif_pos hd.2]
  · rw [pad_zero]; unfold lane; rw [dif_neg (fun H => hd ⟨hlt, H⟩)]; rfl

end Cert.KernelIdeal.Saved
-- ==== Proof.RefScore.lean ====
/-
  The dQ reference over real inputs, operation by operation: the gradient of the scores.
-/
module

public import proofs.«01_k».proof.Proof.Gen.ReferenceIdeal.Read
public import proofs.«01_k».proof.Proof.Reals
public import Idealize.ShloMosaic.Lib.Pointwise

@[expose] public section

set_option maxRecDepth 16384

noncomputable section

open Idealize.ShloMosaic Idealize.ShloMosaic.TcCoe Idealize.SL.Sem

namespace Cert.ReferenceIdeal.Dq

open Cert.ReferenceIdeal Cert.ReferenceIdeal.Gen Cert.ReferenceIdeal.Read Attn

variable {x0 x1 : (⟨S4096x8x96, .f32⟩ : BufTy).Contents (Elt Ideal)} {x2 x3 : (⟨S4096x8x64, .f32⟩ : BufTy).Contents (Elt Ideal)}
variable {q k : Fin 8 → Fin 4096 → Fin 96 → ℝ} {v g : Fin 8 → Fin 4096 → Fin 64 → ℝ}

/-- The row maxima. -/
abbrev tops (q k : Fin 8 → Fin 4096 → Fin 96 → ℝ) (h : Fin 8) : Fin 4096 → ℝ := top (q h) (k h)

theorem neg_inf : Ideal.ofBits .f32 0xFF800000#32 = ⊥ := by decide +kernel

theorem one_f32 : Ideal.ofBits .f32 0x3F800000#32 = 1 := by simp

/-! The indices at which the layout operations read their operands. -/

theorem idx26 (h : Fin 8) (i j : Fin 4096) : idx_main_v25 (idx_main_v26 (ix3 h i j)) = ix2 h i := by funext a; fin_cases a <;> rfl
theorem idx31 (h : Fin 8) (i j : Fin 4096) : idx_main_v30 (idx_main_v31 (ix3 h i j)) = ix2 h i := by funext a; fin_cases a <;> rfl
theorem idx48 (h : Fin 8) (i j : Fin 4096) : idx_main_v30 (idx_main_v48 (ix3 h i j)) = ix2 h i := by funext a; fin_cases a <;> rfl
theorem idx30 (h : Fin 8) (i : Fin 4096) : idx_main_v30 (ix3 h i 0) = ix2 h i := by funext a; fin_cases a <;> rfl
theorem idx29 (h : Fin 8) (i j : Fin 4096) : idx_main_v29 (ix2 h i) j = ix3 h i j := by funext a; fin_cases a <;> rfl
theorem idx45 (h : Fin 8) (i j : Fin 4096) : idx_main_v45 (ix2 h i) j = ix3 h i j := by funext a; fin_cases a <;> rfl
theorem idx42 (h : Fin 8) (i j : Fin 4096) : idx_main_v42 (ix3 h i j) = ix3 h i 0 := by funext a; fin_cases a <;> rfl
theorem idx51 (h : Fin 8) (i j : Fin 4096) : idx_main_v51 (ix3 h i j) = ix2 h i := by funext a; fin_cases a <;> rfl
theorem idx50 (h : Fin 8) (i : Fin 4096) : idx_main_v50 (ix2 h i) 0 = ix3 h i 0 := by funext a; fin_cases a <;> rfl
theorem idx46 (h : Fin 8) (i : Fin 4096) : idx_main_v46 (ix3 h i 0) = ix2 h i := by
  funext a
  have hi := i.isLt
  fin_cases a <;> apply Fin.ext
  · show ((h.val * 4096 + i.val) * 1 + 0) / 4096 = h.val
    omega
  · show ((h.val * 4096 + i.val) * 1 + 0) % 4096 = i.val
    omega

section scores
variable (h0 : ∀ i h d, x0 (ix3 i h d) = (q h i d : EReal)) (h1 : ∀ i h d, x1 (ix3 i h d) = (k h i d : EReal))
include h0 h1

theorem scores_eq (h : Fin 8) (i j : Fin 4096) :
    val_main_v7_0 x0 x1 (ix3 h i j) = if j ≤ i then (score (q h) (k h) i j : EReal) else ⊥ := by
  have e : val_main_v0 (F := Ideal) x0 x1 (ix3 h i j) = (score (q h) (k h) i j : EReal) := by
    pointwise [val_main_v0]
    simp only [h0, h1, ← EReal.coe_mul, ← coe_sum]
    rfl
  rw [val_main_v7_0_apply, e]
  have e1 : val_main_v7_1 (F := Ideal) (ix3 h i j) = IntOp.cmpi .sle (BitVec.ofNat 32 j.val) (BitVec.ofNat 32 i.val) := by
    pointwise [val_main_v7_1, val_main_v6, val_main_v5, val_main_v4, val_main_v3, val_main_v2, val_main_v1]
  have e2 : val_main_call0_v2 (F := Ideal) (ix3 h i j) = (⊥ : EReal) := by
    rw [val_main_call0_v2_apply]
    exact neg_inf
  rw [e1, e2]
  exact select_sle j.isLt i.isLt _ _

theorem tops_eq (h : Fin 8) (i : Fin 4096) : val_main_v8 x0 x1 (ix2 h i) = (tops q k h i : EReal) := by
  pointwise [val_main_v8]
  simp only [scores_eq h0 h1]
  rw [show val_main_cst_0 (F := Ideal) (Shape.Idx.first h_S_) = (⊥ : EReal) from neg_inf]
  exact fold_top (q h) (k h) i

theorem tops_eq' (h : Fin 8) (i : Fin 4096) : val_main_v15 x0 x1 (ix2 h i) = (tops q k h i : EReal) := by
  have e : val_main_v14 (F := Ideal) (ix2 h i) = (⊥ : EReal) := by
    rw [val_main_v14_apply]
    exact neg_inf
  rw [val_main_v15_apply, tops_eq h0 h1, e]
  exact bot_sup_eq _

theorem num_eq (h : Fin 8) (i j : Fin 4096) : val_main_v28 x0 x1 (ix3 h i j) = (num (q h) (k h) (tops q k h) i j : EReal) := by
  have e : val_main_v26 (F := Ideal) x0 x1 (ix3 h i j) = (tops q k h i : EReal) := by
    rw [val_main_v26_apply, val_main_v25_apply, idx26]
    exact tops_eq' h0 h1 h i
  rw [val_main_v28_apply, val_main_v27_apply, scores_eq h0 h1, e]
  exact exp_masked (q h) (k h) (tops q k h) i j

theorem den_eq (h : Fin 8) (i : Fin 4096) : val_main_v29 x0 x1 (ix2 h i) = (den (q h) (k h) (tops q k h) i : EReal) := by
  rw [val_main_v29_apply]
  simp only [idx29, num_eq h0 h1, ← coe_sum]
  exact (congrArg (· + _) Ideal.ofBits_zero_f32).trans (zero_add _)

theorem prob_eq (h : Fin 8) (i j : Fin 4096) : val_main_v32 x0 x1 (ix3 h i j) = (prob (q h) (k h) (tops q k h) i j : EReal) := by
  have e : val_main_v31 (F := Ideal) x0 x1 (ix3 h i j) = (den (q h) (k h) (tops q k h) i : EReal) := by
    rw [val_main_v31_apply, val_main_v30_apply, idx31]
    exact den_eq h0 h1 h i
  rw [val_main_v32_apply, num_eq h0 h1, e]
  exact div_coe_coe _ _ (den_pos _ _ _ _).ne'

theorem recip_eq (h : Fin 8) (i j : Fin 4096) : val_main_v42 x0 x1 (ix3 h i j)
    = ((1 / (den (q h) (k h) (tops q k h) i * den (q h) (k h) (tops q k h) i) : ℝ) : EReal) := by
  have hd := (den_pos (q h) (k h) (tops q k h) i).ne'
  have e : val_main_v30 (F := Ideal) x0 x1 (ix3 h i 0) = (den (q h) (k h) (tops q k h) i : EReal) := by
    rw [val_main_v30_apply, idx30]
    exact den_eq h0 h1 h i
  have e' : val_main_v33 (F := Ideal) x0 x1 (ix3 h i 0) = ((den (q h) (k h) (tops q k h) i * den (q h) (k h) (tops q k h) i : ℝ) : EReal) := by
    rw [val_main_v33_apply, e, EReal.coe_mul]
    rfl
  have e1 : val_main_v34 (F := Ideal) (ix3 h i 0) = ((1 : ℝ) : EReal) := by
    rw [val_main_v34_apply]
    exact one_f32
  have e2 : val_main_v35 (F := Ideal) x0 x1 (ix3 h i 0)
      = ((1 / (den (q h) (k h) (tops q k h) i * den (q h) (k h) (tops q k h) i) : ℝ) : EReal) := by
    rw [val_main_v35_apply, e', e1]
    exact div_coe_coe _ _ (mul_ne_zero hd hd)
  rw [val_main_v42_apply, idx42]
  exact e2

end scores

section gradient
variable (h2 : ∀ i h d, x2 (ix3 i h d) = (v h i d : EReal)) (h3 : ∀ i h d, x3 (ix3 i h d) = (g h i d : EReal))

include h2 h3 in
theorem dprob_eq (h : Fin 8) (i j : Fin 4096) : val_main_v39 x2 x3 (ix3 h i j) = (dprob (v h) (g h) i j : EReal) := by
  pointwise [val_main_v39, val_main_v38]
  simp only [h2, h3, ← EReal.coe_mul, ← coe_sum]
  rfl

variable (h0 : ∀ i h d, x0 (ix3 i h d) = (q h i d : EReal)) (h1 : ∀ i h d, x1 (ix3 i h d) = (k h i d : EReal))
include h0 h1 h2 h3

theorem mean_eq (h : Fin 8) (i : Fin 4096) : val_main_v45 x0 x1 x2 x3 (ix2 h i)
    = ((∑ j, dprob (v h) (g h) i j * (1 / (den (q h) (k h) (tops q k h) i * den (q h) (k h) (tops q k h) i)) * num (q h) (k h) (tops q k h) i j : ℝ) : EReal) := by
  have e : ∀ j, val_main_v44 (F := Ideal) x0 x1 x2 x3 (ix3 h i j)
      = ((dprob (v h) (g h) i j * (1 / (den (q h) (k h) (tops q k h) i * den (q h) (k h) (tops q k h) i)) * num (q h) (k h) (tops q k h) i j : ℝ) : EReal) := by
    intro j
    rw [val_main_v44_apply, val_main_v43_apply, dprob_eq h2 h3, recip_eq h0 h1, num_eq h0 h1, EReal.coe_mul, EReal.coe_mul]
    rfl
  rw [val_main_v45_apply]
  simp only [idx45, e, ← coe_sum]
  exact (congrArg (· + _) Ideal.ofBits_zero_f32).trans (zero_add _)

theorem dscore_eq (h : Fin 8) (i j : Fin 4096) :
    val_main_v54 x0 x1 x2 x3 (ix3 h i j) = (dscore (q h) (k h) (v h) (g h) (tops q k h) i j : EReal) := by
  have hd := (den_pos (q h) (k h) (tops q k h) i).ne'
  have e46 : val_main_v47 (F := Ideal) x0 x1 x2 x3 (ix3 h i 0)
      = ((-∑ j, dprob (v h) (g h) i j * (1 / (den (q h) (k h) (tops q k h) i * den (q h) (k h) (tops q k h) i)) * num (q h) (k h) (tops q k h) i j : ℝ) : EReal) := by
    rw [val_main_v47_apply, val_main_v46_apply, idx46, mean_eq h2 h3 h0 h1, EReal.coe_neg]
    rfl
  have e51 : val_main_v51 (F := Ideal) x0 x1 x2 x3 (ix3 h i j)
      = ((-∑ j, dprob (v h) (g h) i j * (1 / (den (q h) (k h) (tops q k h) i * den (q h) (k h) (tops q k h) i)) * num (q h) (k h) (tops q k h) i j : ℝ) : EReal) := by
    rw [val_main_v51_apply, idx51, val_main_v50_apply, Fin.sum_univ_one, idx50, e46]
    exact (congrArg (· + _) Ideal.ofBits_zero_f32).trans (zero_add _)
  have e49 : val_main_v49 (F := Ideal) x0 x1 x2 x3 (ix3 h i j) = ((dprob (v h) (g h) i j / den (q h) (k h) (tops q k h) i : ℝ) : EReal) := by
    have : val_main_v48 (F := Ideal) x0 x1 (ix3 h i j) = (den (q h) (k h) (tops q k h) i : EReal) := by
      rw [val_main_v48_apply, val_main_v30_apply, idx48]
      exact den_eq h0 h1 h i
    rw [val_main_v49_apply, dprob_eq h2 h3, this]
    exact div_coe_coe _ _ hd
  have e53 : val_main_v53 (F := Ideal) x0 x1 x2 x3 (ix3 h i j) = (dscore (q h) (k h) (v h) (g h) (tops q k h) i j : EReal) := by
    rw [val_main_v53_apply, val_main_v52_apply, e49, e51, num_eq h0 h1, ← dscore_quot, EReal.coe_mul, EReal.coe_add]
    rfl
  have e1 : val_main_v7_1 (F := Ideal) (ix3 h i j) = IntOp.cmpi .sle (BitVec.ofNat 32 j.val) (BitVec.ofNat 32 i.val) := by
    pointwise [val_main_v7_1, val_main_v6, val_main_v5, val_main_v4, val_main_v3, val_main_v2, val_main_v1]
  have e2 : val_main_call1_v0 (F := Ideal) (ix3 h i j) = (0 : EReal) := by
    rw [val_main_call1_v0_apply]
    exact Ideal.ofBits_zero_f32
  rw [val_main_v54_apply, e53, e1, e2]
  refine (select_sle j.isLt i.isLt _ _).trans ?_
  split_ifs with hji
  · rfl
  · rw [dscore_masked (q h) (k h) (v h) (g h) (tops q k h) (i := i) (j := j) hji]
    rfl

end gradient

end Cert.ReferenceIdeal.Dq
-- ==== Proof.Prefix.lean ====
/-
  What the host's lines leave in the arrays that the dQ call stages: the packed queries, keys, values and output
  gradients, and the saved outputs and row log-sums of the forward pass.
-/
module

public import proofs.«01_k».proof.Proof.Array
public import proofs.«01_k».proof.Proof.Saved
public import proofs.«01_k».proof.Proof.RefScore
public import Idealize.ShloMosaic.Lib.StableHlo.ReadAt

@[expose] public section

set_option maxRecDepth 16384

noncomputable section

open Idealize.ShloMosaic Idealize.ShloMosaic.TcCoe Idealize.SL.Sem

namespace Cert.KernelIdeal.Dq

open Cert.KernelIdeal Cert.KernelIdeal.Gen Attn Saved
open Cert.ReferenceIdeal.Read (val_main_v7_0 val_main_v8)
open Cert.ReferenceIdeal.Dq (scores_eq tops_eq)

section arrays
variable (m : (ℓ : Loc nD τ sig) → Buf (Elt Ideal) ℓ) (c : Dev nD)

/-- The argument arrays. -/
abbrev A0 : FVec Ideal S4096x8x96 .f32 := m (c, Proc.tc.devRef main_arg0)
@[inherit_doc A0] abbrev A1 : FVec Ideal S4096x8x96 .f32 := m (c, Proc.tc.devRef main_arg1)
@[inherit_doc A0] abbrev A2 : FVec Ideal S4096x8x64 .f32 := m (c, Proc.tc.devRef main_arg2)
@[inherit_doc A0] abbrev A3 : FVec Ideal S4096x8x64 .f32 := m (c, Proc.tc.devRef main_arg3)

theorem staged0 : (V m c main_v28 : S4096x1024.Idx → EReal) = pack96 (A0 m c) := by
  unfold V
  after_reads_simp
  all_goals try simp -implicitDefEqProofs only [StableHlo.TRef.toBuf, StableHlo.TRef.ofBuf, cast_cast, cast_eq]
  all_goals clean_types
  rfl

theorem staged1 : (V m c main_v31 : S4096x1024.Idx → EReal) = pack96 (A1 m c) := by
  unfold V
  after_reads_simp
  all_goals try simp -implicitDefEqProofs only [StableHlo.TRef.toBuf, StableHlo.TRef.ofBuf, cast_cast, cast_eq]
  all_goals clean_types
  rfl

theorem staged2 : (V m c main_v34 : S4096x1024.Idx → EReal) = pack64 (A2 m c) := by
  unfold V
  after_reads_simp
  all_goals try simp -implicitDefEqProofs only [StableHlo.TRef.toBuf, StableHlo.TRef.ofBuf, cast_cast, cast_eq]
  all_goals clean_types
  rfl

theorem staged3 : (V m c main_v36 : S4096x1024.Idx → EReal)
    = pack64 (outs (A2 m c) (probs (expo (val_main_v7_0 (F := Ideal) (A0 m c) (A1 m c)) (val_main_v8 (F := Ideal) (A0 m c) (A1 m c)))
        (sums (expo (val_main_v7_0 (F := Ideal) (A0 m c) (A1 m c)) (val_main_v8 (F := Ideal) (A0 m c) (A1 m c)))))) := by
  unfold V
  after_reads_simp
  all_goals try simp -implicitDefEqProofs only [StableHlo.TRef.toBuf, StableHlo.TRef.ofBuf, cast_cast, cast_eq]
  all_goals clean_types
  rfl

theorem staged4 : (V m c main_v25 : S4096x1024.Idx → EReal)
    = logsums (val_main_v8 (F := Ideal) (A0 m c) (A1 m c))
        (sums (expo (val_main_v7_0 (F := Ideal) (A0 m c) (A1 m c)) (val_main_v8 (F := Ideal) (A0 m c) (A1 m c)))) := by
  unfold V
  after_reads_simp
  all_goals try simp -implicitDefEqProofs only [StableHlo.TRef.toBuf, StableHlo.TRef.ofBuf, cast_cast, cast_eq]
  all_goals clean_types
  rfl

theorem staged5 : (V m c main_v38 : S4096x1024.Idx → EReal) = pack64 (A3 m c) := by
  unfold V
  after_reads_simp
  all_goals try simp -implicitDefEqProofs only [StableHlo.TRef.toBuf, StableHlo.TRef.ofBuf, cast_cast, cast_eq]
  all_goals clean_types
  rfl

end arrays

variable {m : (ℓ : Loc nD τ sig) → Buf (Elt Ideal) ℓ} {c : Dev nD}
variable {q k : Fin 8 → Fin 4096 → Fin 96 → ℝ} {v g : Fin 8 → Fin 4096 → Fin 64 → ℝ}

theorem col_div (h : Fin 8) (l : Fin 128) : h.val = (col h l).val / 128 := by simp only [col]; omega
theorem col_mod (h : Fin 8) (l : Fin 128) : (col h l).val % 128 = l.val := by simp only [col]; omega

/-- The staged arrays, where the arguments are real. -/
theorem staged (h0 : ∀ i h d, A0 m c (ix3 i h d) = (q h i d : EReal)) (h1 : ∀ i h d, A1 m c (ix3 i h d) = (k h i d : EReal))
    (h2 : ∀ i h d, A2 m c (ix3 i h d) = (v h i d : EReal)) (h3 : ∀ i h d, A3 m c (ix3 i h d) = (g h i d : EReal)) :
    Staged m c q k v g (fun h => top (q h) (k h)) := by
  have hs := scores_eq h0 h1
  have ht := tops_eq h0 h1
  have he := expo_eq hs ht
  have hd := sums_eq he
  have hp := probs_eq he hd
  have ho := outs_eq h2 hp
  constructor <;> intro i h l
  · refine (congrFun (staged0 m c) _).trans ((pack96_eq h0 h i _ (col_div h l)).trans ?_)
    rw [col_mod]
  · refine (congrFun (staged1 m c) _).trans ((pack96_eq h1 h i _ (col_div h l)).trans ?_)
    rw [col_mod]
  · refine (congrFun (staged2 m c) _).trans ((pack64_eq h2 h i _ (col_div h l)).trans ?_)
    rw [col_mod]
  · refine (congrFun (staged3 m c) _).trans ((pack64_eq ho h i _ (col_div h l)).trans ?_)
    rw [col_mod]
  · exact (congrFun (staged4 m c) _).trans (logsums_eq ht hd h i _ (col_div h l))
  · refine (congrFun (staged5 m c) _).trans ((pack64_eq h3 h i _ (col_div h l)).trans ?_)
    rw [col_mod]

end Cert.KernelIdeal.Dq
-- ==== Proof.RefResult.lean ====
/-
  The dQ reference's result over real inputs: the gradient of the queries, packed.
-/
module

public import proofs.«01_k».proof.Proof.RefScore

@[expose] public section

set_option maxRecDepth 16384

noncomputable section

open Idealize.ShloMosaic Idealize.ShloMosaic.TcCoe Idealize.SL.Sem

namespace Cert.ReferenceIdeal.Dq

open Cert.ReferenceIdeal Cert.ReferenceIdeal.Gen Cert.ReferenceIdeal.Read Attn

variable {x0 x1 : (⟨S4096x8x96, .f32⟩ : BufTy).Contents (Elt Ideal)} {x2 x3 : (⟨S4096x8x64, .f32⟩ : BufTy).Contents (Elt Ideal)}
variable {q k : Fin 8 → Fin 4096 → Fin 96 → ℝ} {v g : Fin 8 → Fin 4096 → Fin 64 → ℝ}

theorem result_eq (h0 : ∀ i h d, x0 (ix3 i h d) = (q h i d : EReal)) (h1 : ∀ i h d, x1 (ix3 i h d) = (k h i d : EReal))
    (h2 : ∀ i h d, x2 (ix3 i h d) = (v h i d : EReal)) (h3 : ∀ i h d, x3 (ix3 i h d) = (g h i d : EReal)) (i : Fin 4096) (y : Fin 1024) (h : Fin 8)
    (hh : h.val = y.val / 128) :
    val_main_v61 x0 x1 x2 x3 (ix2 i y) = (lane (dq (q h) (k h) (v h) (g h) (tops q k h) i) (y.val % 128) : EReal) := by
  have e : ∀ d, val_main_v58 (F := Ideal) x0 x1 x2 x3 (ix3 i h d) = (dq (q h) (k h) (v h) (g h) (tops q k h) i d : EReal) := by
    intro d
    pointwise [val_main_v58, val_main_v57]
    simp only [dscore_eq h2 h3 h0 h1, h1, ← EReal.coe_mul, ← coe_sum]
    rfl
  obtain ⟨h, hlt⟩ := h
  obtain rfl : h = y.val / 128 := hh
  pointwise [val_main_v61, val_main_v60]
  unfold lane
  split_ifs with hd
  · exact e _
  · rename_i h12
    exact absurd h12 (by decide)
  · exact (val_main_v59_apply _).trans Ideal.ofBits_zero_f32

end Cert.ReferenceIdeal.Dq
-- ==== Proof.Finite.lean ====
/-
  The precondition, read: arguments that are finite are real.
-/
module

public import proofs.«01_k».proof.Pre_finite
public import proofs.«01_k».proof.Proof.Reals
public import Idealize.ShloMosaic.Lib.ReduceAll
public import Idealize.ShloMosaic.Lib.Pointwise
public import Idealize.ShloMosaic.Lib.KernelVsHost

@[expose] public section

set_option maxRecDepth 16384

noncomputable section

open Idealize.ShloMosaic Idealize.SL.Sem

namespace Cert.Pre_finite

open Attn

instance facts : Cert.Pre_finite.Facts where
  bcast_S_S4096x8x96 := by decide
  reducesTo_S4096x8x96_S_d0_1_2 := by decide
  h_S_ := by decide
  bcast_S_S4096x8x64 := by decide
  reducesTo_S4096x8x64_S_d0_1_2 := by decide

/-- A value whose magnitude compares below infinity is real. -/
theorem real_of_lt (x : Ideal .f32) (h : FloatOps.cmpf .olt (FloatOps.hostAbsf x) (FloatOps.ofBits (F := Ideal) .f32 0x7F800000#32) = 1#1) :
    (x : EReal) = ((x : EReal).toReal : ℝ) := by
  rw [← Ideal.xori_weird_eq_hostAbsf_olt_inf] at h
  have h' : ¬ ((x : EReal) = ⊤ ∨ (x : EReal) = ⊥) := by
    intro hx
    have : FloatOps.weird x = 1#1 := by
      show BitVec.ofBool (decide ((x : EReal) = ⊤ ∨ (x : EReal) = ⊥)) = 1#1
      simp [hx]
    rw [this] at h
    exact absurd h (by decide)
  push Not at h'
  exact eq_toReal h'.1 h'.2

theorem fn_real {x0 x1 : FVec Ideal S4096x8x96 .f32} {x2 x3 : FVec Ideal S4096x8x64 .f32} (h : fn (F := Ideal) x0 x1 x2 x3 = fun _ => 1#1) :
    (∀ y, (x0 y : EReal) = ((x0 y : EReal).toReal : ℝ)) ∧ (∀ y, (x1 y : EReal) = ((x1 y : EReal).toReal : ℝ))
      ∧ (∀ y, (x2 y : EReal) = ((x2 y : EReal).toReal : ℝ)) ∧ (∀ y, (x3 y : EReal) = ((x3 y : EReal).toReal : ℝ)) := by
  haveI : Subsingleton S_.Idx := ⟨fun a b => funext fun z => z.elim0⟩
  obtain ⟨h, e3⟩ := IntOp.andi_eq_one.1 (congrFun h ix0)
  obtain ⟨h, e2⟩ := IntOp.andi_eq_one.1 h
  obtain ⟨e0, e1⟩ := IntOp.andi_eq_one.1 h
  exact ⟨fun y => real_of_lt _ (Host.reduce_andi_all _ _ _ _ _ e0 y), fun y => real_of_lt _ (Host.reduce_andi_all _ _ _ _ _ e1 y),
    fun y => real_of_lt _ (Host.reduce_andi_all _ _ _ _ _ e2 y), fun y => real_of_lt _ (Host.reduce_andi_all _ _ _ _ _ e3 y)⟩

end Cert.Pre_finite
-- ==== Proof.Dq.lean ====
/-
  The dQ call and its reference leave the same array.
-/
module

public import proofs.«01_k».proof.Defs
public import proofs.«01_k».proof.Proof.Prefix
public import proofs.«01_k».proof.Proof.RefResult
public import proofs.«01_k».proof.Proof.Finite
public import proofs.«01_k».proof.Proof.Gen.ReferenceIdeal.Run

@[expose] public section

set_option maxRecDepth 16384

noncomputable section

open Idealize.ShloMosaic Idealize.ShloMosaic.TcCoe Idealize.SL.Sem

namespace Cert.Proof

open Attn

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's array, whole, over real arguments. -/
theorem reference_array {x0 x1 : FVec Ideal Cert.ReferenceIdeal.S4096x8x96 .f32} {x2 x3 : FVec Ideal Cert.ReferenceIdeal.S4096x8x64 .f32}
    {q k : Fin 8 → Fin 4096 → Fin 96 → ℝ} {v g : Fin 8 → Fin 4096 → Fin 64 → ℝ}
    (h0 : ∀ i h d, x0 (ix3 i h d) = (q h i d : EReal)) (h1 : ∀ i h d, x1 (ix3 i h d) = (k h i d : EReal))
    (h2 : ∀ i h d, x2 (ix3 i h d) = (v h i d : EReal)) (h3 : ∀ i h d, x3 (ix3 i h d) = (g h i d : EReal)) :
    Cert.ReferenceIdeal.Read.val_main_v61 (F := Ideal) x0 x1 x2 x3 = Cert.KernelIdeal.Dq.packedDq q k v g (fun h => top (q h) (k h)) := by
  funext y
  obtain ⟨i, l, rfl⟩ : ∃ (i : Fin 4096) (l : Fin 1024), y = ix2 i l := ⟨y 0, y 1, by funext a; fin_cases a <;> rfl⟩
  exact Cert.ReferenceIdeal.Dq.result_eq h0 h1 h2 h3 i l ⟨l.val / 128, by have := l.isLt; omega⟩ rfl

theorem algebraic_dq : Cert.algebraic_KernelIdeal_ReferenceIdeal_pre_finite := by
  intro m ρ m' ρ' hpre hagree
  let q : Dev Cert.KernelIdeal.nD → Fin 8 → Fin 4096 → Fin 96 → ℝ := fun c h i d => (Cert.KernelIdeal.Dq.A0 m c (ix3 i h d) : EReal).toReal
  let k : Dev Cert.KernelIdeal.nD → Fin 8 → Fin 4096 → Fin 96 → ℝ := fun c h i d => (Cert.KernelIdeal.Dq.A1 m c (ix3 i h d) : EReal).toReal
  let v : Dev Cert.KernelIdeal.nD → Fin 8 → Fin 4096 → Fin 64 → ℝ := fun c h i d => (Cert.KernelIdeal.Dq.A2 m c (ix3 i h d) : EReal).toReal
  let g : Dev Cert.KernelIdeal.nD → Fin 8 → Fin 4096 → Fin 64 → ℝ := fun c h i d => (Cert.KernelIdeal.Dq.A3 m c (ix3 i h d) : EReal).toReal
  have hreal := fun c => Cert.Pre_finite.fn_real (hpre c)
  have h0 : ∀ c i h d, Cert.KernelIdeal.Dq.A0 m c (ix3 i h d) = (q c h i d : EReal) := fun c i h d => (hreal c).1 _
  have h1 : ∀ c i h d, Cert.KernelIdeal.Dq.A1 m c (ix3 i h d) = (k c h i d : EReal) := fun c i h d => (hreal c).2.1 _
  have h2 : ∀ c i h d, Cert.KernelIdeal.Dq.A2 m c (ix3 i h d) = (v c h i d : EReal) := fun c i h d => (hreal c).2.2.1 _
  have h3 : ∀ c i h d, Cert.KernelIdeal.Dq.A3 m c (ix3 i h d) = (g c h i d : EReal) := fun c i h d => (hreal c).2.2.2 _
  refine ⟨fun c => Cert.KernelIdeal.Dq.packedDq (q c) (k c) (v c) (g c) (fun h => top (q c h) (k c h)), ?_, ?_⟩
  · refine (θ_run Cert.KernelIdeal.defs _ _).mono (fun r h c => ?_) (Cert.KernelIdeal.Value.run_blocks (F := Ideal) m ρ)
    have hs := Cert.KernelIdeal.Dq.staged (h0 c) (h1 c) (h2 c) (h3 c)
    exact ⟨(h c).1.trans (Cert.KernelIdeal.Dq.array_eq hs), (h c).2.2⟩
  · refine (θ_run Cert.ReferenceIdeal.defs _ _).mono (fun r h c => ⟨?_, (h c).2⟩) (Cert.ReferenceIdeal.Value.run (F := Ideal) m' ρ')
    refine (h c).1.trans ((Cert.ReferenceIdeal.Read.val_main_v61_eq m' c).trans ?_)
    obtain ⟨a0, a1, a2, a3⟩ := hagree c
    rw [a0, a1, a2, a3]
    exact reference_array (h0 c) (h1 c) (h2 c) (h3 c)

end Cert.Proof
-- ==== Proof.KvStep.lean ====
/-
  What one grid point of the call for dK and dV leaves in its two output blocks, at any float instance: the two
  accumulators start at zero, the diagonal block, the only masked one, is added first, then the counted loop adds the
  query blocks behind it two a trip, and a point with an odd number of them adds the last one.
-/
module

public import proofs.«01_k».proof.Proof.Gen.Kernel2Ideal.Frame
public import Idealize.ShloMosaic.Lib.Pipeline.Value
public import Idealize.ShloMosaic.Lib.Tactic
public import Idealize.ShloMosaic.Lib.Pointwise
public import Idealize.ShloMosaic.Lib.VecWindow

@[expose] public section

set_option maxRecDepth 16384

noncomputable section

open Idealize.ShloMosaic Idealize.ShloMosaic.TcCoe Idealize.SL.Sem

namespace Cert.Kernel2Ideal.Dkv

open Cert.Kernel2Ideal Cert.Kernel2Ideal.Gen

variable {F : FTy → Type} [FloatOps F] [Named F]

/-- Rows `512 b … 512 b + 511` of an array of queries or output gradients. -/
def block {φ : EltTy} (X : Vec F S4096x128 φ) (b : ℕ) : Vec F S512x128 φ :=
  fun y => X (ix2 (⟨(512 * b + (y 0).val) % 4096, Nat.mod_lt _ (by decide)⟩ : Fin 4096) (⟨(y 1).val, (y 1).isLt⟩ : Fin 128))

/-- Entries `512 b … 512 b + 511` of the first row of an array of row log-sums or means. -/
def stretch (X : Vec F S8x4096 .f32) (b : ℕ) : Vec F S1x512 .f32 :=
  fun y => X (ix2 (0 : Fin 8) (⟨(512 * b + (y 1).val) % 4096, Nat.mod_lt _ (by decide)⟩ : Fin 4096))

/-- A load of 512 rows at row `512 b` is block `b`. -/
theorem ld_block {φ : EltTy} (X : Vec F S4096x128 φ) (b : ℕ) (hb : b < 8) (off : Fin 2 → ℕ) (h : off = ![512 * b, 0])
    (inb : ∀ a, off a + S512x128.size a ≤ S4096x128.size a) :
    View.ld X (Rect.unit (s := S4096x128) off S512x128.size inb) = block X b := by
  subst h
  funext y
  have h0 : (y 0).val < 512 := (y 0).isLt
  refine congrArg X (funext fun a => Fin.ext ?_)
  fin_cases a
  · show 512 * b + 1 * (y 0).val = (512 * b + (y 0).val) % 4096
    omega
  · show 0 + 1 * (y 1).val = (y 1).val
    omega

/-- A load of 512 entries of the first row at entry `512 b` is stretch `b`. -/
theorem ld_stretch (X : Vec F S8x4096 .f32) (b : ℕ) (hb : b < 8) (off : Fin 2 → ℕ) (h : off = ![0, 512 * b])
    (inb : ∀ a, off a + S1x512.size a ≤ S8x4096.size a) :
    View.ld X (Rect.unit (s := S8x4096) off S1x512.size inb) = stretch X b := by
  subst h
  funext y
  have h0 : (y 0).val < 1 := (y 0).isLt
  have h1 : (y 1).val < 512 := (y 1).isLt
  refine congrArg X (funext fun a => Fin.ext ?_)
  fin_cases a
  · show 0 + 1 * (y 0).val = 0
    omega
  · show 512 * b + 1 * (y 1).val = (512 * b + (y 1).val) % 4096
    omega

/-- One unmasked step of dV: the queries' block, the output gradients' block, the keys, the row log-sums. -/
def dvStep (q : Vec F S512x128 .bf16) (g : Vec F S512x128 .f32) (k : Vec F S512x128 .bf16) (l : Vec F S1x512 .f32)
    (s : Vec F S512x128 .f32) : Vec F S512x128 .f32 := k0_pay7 (k0_pay5 s q g k l)

/-- One unmasked step of dK, which also reads the values and the row means. -/
def dkStep (q : Vec F S512x128 .bf16) (g : Vec F S512x128 .f32) (k v : Vec F S512x128 .bf16) (l d : Vec F S1x512 .f32)
    (s : Vec F S512x128 .f32) : Vec F S512x128 .f32 := k0_pay8 (k0_pay6 s q g k l v d)

/-- A step of equal arguments. -/
theorem dv_congr (q : Vec F S512x128 .bf16) (g : Vec F S512x128 .f32) (l : Vec F S1x512 .f32) {k k' : Vec F S512x128 .bf16} (hk : k = k')
    {s s' : Vec F S512x128 .f32} (hs : s = s') : dvStep q g k l s = dvStep q g k' l s' := by rw [hk, hs]
@[inherit_doc dv_congr] theorem dk_congr (q : Vec F S512x128 .bf16) (g : Vec F S512x128 .f32) (l d : Vec F S1x512 .f32)
    {k k' v v' : Vec F S512x128 .bf16} (hk : k = k') (hv : v = v') {s s' : Vec F S512x128 .f32} (hs : s = s') :
    dkStep q g k v l d s = dkStep q g k' v' l d s' := by rw [hk, hv, hs]

/-- The trip's second half is the same step, its terms named apart. -/
theorem dk_second (s : Vec F S512x128 .f32) (q : Vec F S512x128 .bf16) (g : Vec F S512x128 .f32) (k v : Vec F S512x128 .bf16)
    (l d : Vec F S1x512 .f32) : k0_pay41 s (k0_pay9 q) (k0_pay11 q k l) (k0_pay13 v) (k0_pay14 g) d = dkStep q g k v l d s := rfl
@[inherit_doc dk_second] theorem dv_second (s : Vec F S512x128 .f32) (q : Vec F S512x128 .bf16) (g : Vec F S512x128 .f32)
    (k : Vec F S512x128 .bf16) (l : Vec F S1x512 .f32) : k0_pay40 (k0_pay12 s q g k l) = dvStep q g k l s := rfl

/-- The masked step on the diagonal, of dV and of dK, on zero. -/
def dvDiag (q : Vec F S512x128 .bf16) (g : Vec F S512x128 .f32) (k : Vec F S512x128 .bf16) (l : Vec F S1x512 .f32) : Vec F S512x128 .f32 :=
  k0_pay38 k0_pay34 (k0_pay36 g) (k0_pay37 q k l)
@[inherit_doc dvDiag] def dkDiag (q : Vec F S512x128 .bf16) (g : Vec F S512x128 .f32) (k v : Vec F S512x128 .bf16) (l d : Vec F S1x512 .f32) :
    Vec F S512x128 .f32 := k0_pay39 k0_pay33 (k0_pay35 q) (k0_pay36 g) (k0_pay37 q k l) v d

/-- The accumulators at the point of key block `n`, after the diagonal and the next `j` query blocks. -/
def dvAcc (x0 : Vec F S4096x128 .bf16) (x1 : Vec F S512x128 .bf16) (x3 : Vec F S8x4096 .f32) (x5 : Vec F S4096x128 .f32) (n : ℕ) :
    ℕ → Vec F S512x128 .f32
  | 0 => dvDiag (block x0 n) (block x5 n) x1 (stretch x3 n)
  | j + 1 => dvStep (block x0 (n + 1 + j)) (block x5 (n + 1 + j)) x1 (stretch x3 (n + 1 + j)) (dvAcc x0 x1 x3 x5 n j)
@[inherit_doc dvAcc] def dkAcc (x0 : Vec F S4096x128 .bf16) (x1 x2 : Vec F S512x128 .bf16) (x3 x4 : Vec F S8x4096 .f32)
    (x5 : Vec F S4096x128 .f32) (n : ℕ) : ℕ → Vec F S512x128 .f32
  | 0 => dkDiag (block x0 n) (block x5 n) x1 x2 (stretch x3 n) (stretch x4 n)
  | j + 1 => dkStep (block x0 (n + 1 + j)) (block x5 (n + 1 + j)) x1 x2 (stretch x3 (n + 1 + j)) (stretch x4 (n + 1 + j))
      (dkAcc x0 x1 x2 x3 x4 x5 n j)

/-! Where the two halves of a trip read. -/

theorem off3 (i : grid0.Coords) (k : Fin (k0_t1_loop i).trips) : k0_off3 i k = ![512 * ((i 1).val + 1 + 2 * k.val), 0] :=
  (k0_off3_eq i k).trans (congrArg (fun x : ℕ => (![x, 0] : Fin 2 → ℕ)) (by omega))
theorem off5 (i : grid0.Coords) (k : Fin (k0_t1_loop i).trips) : k0_off5 i k = ![512 * ((i 1).val + 1 + (2 * k.val + 1)), 0] :=
  (k0_off5_eq i k).trans (congrArg (fun x : ℕ => (![x, 0] : Fin 2 → ℕ)) (by omega))
theorem off4 (i : grid0.Coords) (k : Fin (k0_t1_loop i).trips) : k0_off4 i k = ![0, 512 * ((i 1).val + 1 + 2 * k.val)] :=
  (k0_off4_eq i k).trans (congrArg (fun x : ℕ => (![0, x] : Fin 2 → ℕ)) (by omega))
theorem off6 (i : grid0.Coords) (k : Fin (k0_t1_loop i).trips) : k0_off6 i k = ![0, 512 * ((i 1).val + 1 + (2 * k.val + 1))] :=
  (k0_off6_eq i k).trans (congrArg (fun x : ℕ => (![0, x] : Fin 2 → ℕ)) (by omega))

/-- The counted loop takes the blocks behind the diagonal two a trip. -/
theorem t1_trips : ∀ i : grid0.Coords, (k0_t1_loop i).trips = (7 - (i 1).val) / 2 := by decide +kernel

section Loop

variable (arg2 : Memref sig .tc .vmem S4096x128 .bf16) (harg2 : arg2.IsWhole)
  (arg3 : Memref sig .tc .vmem S512x128 .bf16) (harg3 : arg3.IsWhole)
  (arg4 : Memref sig .tc .vmem S512x128 .bf16) (harg4 : arg4.IsWhole)
  (arg5 : Memref sig .tc .vmem S8x4096 .f32) (harg5 : arg5.IsWhole)
  (arg6 : Memref sig .tc .vmem S8x4096 .f32) (harg6 : arg6.IsWhole)
  (arg7 : Memref sig .tc .vmem S4096x128 .f32) (harg7 : arg7.IsWhole)
  (arg8 : Memref sig .tc .vmem S512x128 .f32) (harg8 : arg8.IsWhole)
  (arg9 : Memref sig .tc .vmem S512x128 .f32) (harg9 : arg9.IsWhole)
  (arg10 : Memref sig .tc .vmem S512x128 .f32) (harg10 : arg10.IsWhole)
  (arg11 : Memref sig .tc .vmem S512x128 .f32) (harg11 : arg11.IsWhole)
  (w : BitVec 32) (v10 v11 : Vec F S512x128 .f32) (v13 : BitVec 32) (v16 : FVec F S512x128 .bf16) (v19 : FVec F S512x128 .f32)
  (v35 : FVec F S512x512 .f32) (v59 : BitVec 32)

/-- One trip adds two blocks to what it finds in dV's accumulator. -/
theorem trip_dv (𝒱 : Variants) (c : Dev nD) (bd : Option 𝒱.V) (i : grid0.Coords) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
    (k : Fin (k0_t1_loop i).trips) (f10 : BufTy.Contents (Elt F) arg10.view.ty) (f11 : BufTy.Contents (Elt F) arg11.view.ty) :
    arg11.view.read (Elt F) (arg11.view.writes (Elt F) f11 (tripL_k0_t1 (F := F) 𝒱 c bd i arg2 harg2 arg3 harg3 arg4 harg4 arg5 harg5 arg6 harg6 arg7 harg7 arg8 harg8 arg9 harg9 arg10 harg10 arg11 harg11 w v10 v11 v13 v16 v19 v35 v59 X2 X3 X4 X5 X6 X7 k f10 f11).2) =
      dvStep (arg2.view.readAt (Elt F) (Rect.unit (s := S4096x128) (k0_off5 i k) S512x128.size (k0_off5_inb i k)).toLoadRect X2) (arg7.view.readAt (Elt F) (Rect.unit (s := S4096x128) (k0_off5 i k) S512x128.size (k0_off5_inb i k)).toLoadRect X7) (arg3.view.read (Elt F) X3) (arg5.view.readAt (Elt F) (Rect.unit (s := S8x4096) (k0_off6 i k) S1x512.size (k0_off6_inb i k)).toLoadRect X5)
        (dvStep (arg2.view.readAt (Elt F) (Rect.unit (s := S4096x128) (k0_off3 i k) S512x128.size (k0_off3_inb i k)).toLoadRect X2) (arg7.view.readAt (Elt F) (Rect.unit (s := S4096x128) (k0_off3 i k) S512x128.size (k0_off3_inb i k)).toLoadRect X7) (arg3.view.read (Elt F) X3) (arg5.view.readAt (Elt F) (Rect.unit (s := S8x4096) (k0_off4 i k) S1x512.size (k0_off4_inb i k)).toLoadRect X5)
        (arg11.view.read (Elt F) f11)) := by
  unfold tripL_k0_t1 trip_k0_t1
  dsimp only
  refine (View.read_writes_full (s := S512x128) arg11.view f11 _ _ _).trans ?_
  refine (show _ = dvStep (arg2.view.readAt (Elt F) (Rect.unit (s := S4096x128) (k0_off5 i k) S512x128.size (k0_off5_inb i k)).toLoadRect X2) (arg7.view.readAt (Elt F) (Rect.unit (s := S4096x128) (k0_off5 i k) S512x128.size (k0_off5_inb i k)).toLoadRect X7) (arg3.view.readAt (Elt F) (Rect.unit (s := S512x128) ![0, 0] S512x128.size inb_S512x128_S512x128_0_0).toLoadRect X3) (arg5.view.readAt (Elt F) (Rect.unit (s := S8x4096) (k0_off6 i k) S1x512.size (k0_off6_inb i k)).toLoadRect X5)
        (trip_k0_t1.sl.v126 i arg2 arg3 arg5 arg7 arg11 X2 X3 X5 X7 k f11) from rfl).trans ?_
  refine dv_congr _ _ _ (View.readAt_full _ _ _) ?_
  unfold trip_k0_t1.sl.v126 trip_k0_t1.sl.HW_arg11_1
  refine (View.readCov_full (s := S512x128) arg11.view _ _ _ _).trans ?_
  refine (show _ = dvStep (arg2.view.readAt (Elt F) (Rect.unit (s := S4096x128) (k0_off3 i k) S512x128.size (k0_off3_inb i k)).toLoadRect X2) (arg7.view.readAt (Elt F) (Rect.unit (s := S4096x128) (k0_off3 i k) S512x128.size (k0_off3_inb i k)).toLoadRect X7) (arg3.view.readAt (Elt F) (Rect.unit (s := S512x128) ![0, 0] S512x128.size inb_S512x128_S512x128_0_0).toLoadRect X3) (arg5.view.readAt (Elt F) (Rect.unit (s := S8x4096) (k0_off4 i k) S1x512.size (k0_off4_inb i k)).toLoadRect X5)
        ((arg11.view.readAt (Elt F) (Rect.unit (s := S512x128) ![0, 0] S512x128.size inb_S512x128_S512x128_0_0).toLoadRect f11)) from rfl).trans ?_
  exact dv_congr _ _ _ (View.readAt_full _ _ _) (View.readAt_full _ _ _)

/-- One trip adds two blocks to what it finds in dK's accumulator. -/
theorem trip_dk (𝒱 : Variants) (c : Dev nD) (bd : Option 𝒱.V) (i : grid0.Coords) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
    (k : Fin (k0_t1_loop i).trips) (f10 : BufTy.Contents (Elt F) arg10.view.ty) (f11 : BufTy.Contents (Elt F) arg11.view.ty) :
    arg10.view.read (Elt F) (arg10.view.writes (Elt F) f10 (tripL_k0_t1 (F := F) 𝒱 c bd i arg2 harg2 arg3 harg3 arg4 harg4 arg5 harg5 arg6 harg6 arg7 harg7 arg8 harg8 arg9 harg9 arg10 harg10 arg11 harg11 w v10 v11 v13 v16 v19 v35 v59 X2 X3 X4 X5 X6 X7 k f10 f11).1) =
      dkStep (arg2.view.readAt (Elt F) (Rect.unit (s := S4096x128) (k0_off5 i k) S512x128.size (k0_off5_inb i k)).toLoadRect X2) (arg7.view.readAt (Elt F) (Rect.unit (s := S4096x128) (k0_off5 i k) S512x128.size (k0_off5_inb i k)).toLoadRect X7) (arg3.view.read (Elt F) X3) (arg4.view.read (Elt F) X4) (arg5.view.readAt (Elt F) (Rect.unit (s := S8x4096) (k0_off6 i k) S1x512.size (k0_off6_inb i k)).toLoadRect X5) (arg6.view.readAt (Elt F) (Rect.unit (s := S8x4096) (k0_off6 i k) S1x512.size (k0_off6_inb i k)).toLoadRect X6)
        (dkStep (arg2.view.readAt (Elt F) (Rect.unit (s := S4096x128) (k0_off3 i k) S512x128.size (k0_off3_inb i k)).toLoadRect X2) (arg7.view.readAt (Elt F) (Rect.unit (s := S4096x128) (k0_off3 i k) S512x128.size (k0_off3_inb i k)).toLoadRect X7) (arg3.view.read (Elt F) X3) (arg4.view.read (Elt F) X4) (arg5.view.readAt (Elt F) (Rect.unit (s := S8x4096) (k0_off4 i k) S1x512.size (k0_off4_inb i k)).toLoadRect X5) (arg6.view.readAt (Elt F) (Rect.unit (s := S8x4096) (k0_off4 i k) S1x512.size (k0_off4_inb i k)).toLoadRect X6)
        (arg10.view.read (Elt F) f10)) := by
  unfold tripL_k0_t1 trip_k0_t1
  dsimp only
  refine (View.read_writes_full (s := S512x128) arg10.view f10 _ _ _).trans ?_
  refine (show _ = dkStep (arg2.view.readAt (Elt F) (Rect.unit (s := S4096x128) (k0_off5 i k) S512x128.size (k0_off5_inb i k)).toLoadRect X2) (arg7.view.readAt (Elt F) (Rect.unit (s := S4096x128) (k0_off5 i k) S512x128.size (k0_off5_inb i k)).toLoadRect X7) (arg3.view.readAt (Elt F) (Rect.unit (s := S512x128) ![0, 0] S512x128.size inb_S512x128_S512x128_0_0).toLoadRect X3) (arg4.view.readAt (Elt F) (Rect.unit (s := S512x128) ![0, 0] S512x128.size inb_S512x128_S512x128_0_0).toLoadRect X4) (arg5.view.readAt (Elt F) (Rect.unit (s := S8x4096) (k0_off6 i k) S1x512.size (k0_off6_inb i k)).toLoadRect X5) (arg6.view.readAt (Elt F) (Rect.unit (s := S8x4096) (k0_off6 i k) S1x512.size (k0_off6_inb i k)).toLoadRect X6)
        (trip_k0_t1.sl.v127 i arg2 arg3 arg4 arg5 arg6 arg7 arg10 X2 X3 X4 X5 X6 X7 k f10) from rfl).trans ?_
  refine dk_congr _ _ _ _ (View.readAt_full _ _ _) (View.readAt_full _ _ _) ?_
  unfold trip_k0_t1.sl.v127 trip_k0_t1.sl.HW_arg10_1
  refine (View.readCov_full (s := S512x128) arg10.view _ _ _ _).trans ?_
  refine (show _ = dkStep (arg2.view.readAt (Elt F) (Rect.unit (s := S4096x128) (k0_off3 i k) S512x128.size (k0_off3_inb i k)).toLoadRect X2) (arg7.view.readAt (Elt F) (Rect.unit (s := S4096x128) (k0_off3 i k) S512x128.size (k0_off3_inb i k)).toLoadRect X7) (arg3.view.readAt (Elt F) (Rect.unit (s := S512x128) ![0, 0] S512x128.size inb_S512x128_S512x128_0_0).toLoadRect X3) (arg4.view.readAt (Elt F) (Rect.unit (s := S512x128) ![0, 0] S512x128.size inb_S512x128_S512x128_0_0).toLoadRect X4) (arg5.view.readAt (Elt F) (Rect.unit (s := S8x4096) (k0_off4 i k) S1x512.size (k0_off4_inb i k)).toLoadRect X5) (arg6.view.readAt (Elt F) (Rect.unit (s := S8x4096) (k0_off4 i k) S1x512.size (k0_off4_inb i k)).toLoadRect X6)
        ((arg10.view.readAt (Elt F) (Rect.unit (s := S512x128) ![0, 0] S512x128.size inb_S512x128_S512x128_0_0).toLoadRect f10)) from rfl).trans ?_
  exact dk_congr _ _ _ _ (View.readAt_full _ _ _) (View.readAt_full _ _ _) (View.readAt_full _ _ _)

/-- Before trip `k` dV's accumulator holds the diagonal and the next `2 k` blocks. -/
theorem loop_dv (𝒱 : Variants) (c : Dev nD) (bd : Option 𝒱.V) (i : grid0.Coords) (x0 : Vec F S4096x128 .bf16) (x1 x2 : Vec F S512x128 .bf16)
    (x3 x4 : Vec F S8x4096 .f32) (x5 : Vec F S4096x128 .f32)
    (G10 : BufTy.Contents (Elt F) arg10.view.ty) (G11 : BufTy.Contents (Elt F) arg11.view.ty)
    (hG : arg11.view.read (Elt F) G11 = dvAcc x0 x1 x3 x5 (i 1).val 0) :
    ∀ k : ℕ, k ≤ (k0_t1_loop i).trips → arg11.view.read (Elt F) (arg11.view.writes (Elt F) G11 (pb_k0_t1 (F := F) 𝒱 c bd i arg2 harg2 arg3 harg3 arg4 harg4 arg5 harg5 arg6 harg6 arg7 harg7 arg8 harg8 arg9 harg9 arg10 harg10 arg11 harg11 w v10 v11 v13 v16 v19 v35 v59 (harg2.unread x0) (harg3.unread x1) (harg4.unread x2) (harg5.unread x3) (harg6.unread x4) (harg7.unread x5) G10 G11 k).2)
        = dvAcc x0 x1 x3 x5 (i 1).val (2 * k)
  | 0, _ => hG
  | k + 1, hk => by
    have h2 := t1_trips i
    have h3 : (i 1).val < 8 := (i 1).isLt
    have e1 : (i 1).val + 1 + 2 * k < 8 := by omega
    have e2 : (i 1).val + 1 + (2 * k + 1) < 8 := by omega
    rw [pb_k0_t1_succ 𝒱 c bd i arg2 harg2 arg3 harg3 arg4 harg4 arg5 harg5 arg6 harg6 arg7 harg7 arg8 harg8 arg9 harg9 arg10 harg10 arg11 harg11 w v10 v11 v13 v16 v19 v35 v59 _ _ _ _ _ _ G10 G11 ⟨k, hk⟩]
    dsimp only
    rw [View.writes_append, trip_dv]
    simp only [View.readAt_eq_ld, Memref.IsWhole.read_unread]
    rw [loop_dv 𝒱 c bd i x0 x1 x2 x3 x4 x5 G10 G11 hG k (Nat.le_of_succ_le hk)]
    have o3 := off3 i ⟨k, hk⟩
    have o5 := off5 i ⟨k, hk⟩
    have o4 := off4 i ⟨k, hk⟩
    have o6 := off6 i ⟨k, hk⟩
    rw [ld_block x0 _ e1 _ o3, ld_block x5 _ e1 _ o3, ld_stretch x3 _ e1 _ o4, ld_block x0 _ e2 _ o5, ld_block x5 _ e2 _ o5, ld_stretch x3 _ e2 _ o6]
    rfl

/-- Before trip `k` dK's accumulator holds the diagonal and the next `2 k` blocks. -/
theorem loop_dk (𝒱 : Variants) (c : Dev nD) (bd : Option 𝒱.V) (i : grid0.Coords) (x0 : Vec F S4096x128 .bf16) (x1 x2 : Vec F S512x128 .bf16)
    (x3 x4 : Vec F S8x4096 .f32) (x5 : Vec F S4096x128 .f32)
    (G10 : BufTy.Contents (Elt F) arg10.view.ty) (G11 : BufTy.Contents (Elt F) arg11.view.ty)
    (hG : arg10.view.read (Elt F) G10 = dkAcc x0 x1 x2 x3 x4 x5 (i 1).val 0) :
    ∀ k : ℕ, k ≤ (k0_t1_loop i).trips → arg10.view.read (Elt F) (arg10.view.writes (Elt F) G10 (pb_k0_t1 (F := F) 𝒱 c bd i arg2 harg2 arg3 harg3 arg4 harg4 arg5 harg5 arg6 harg6 arg7 harg7 arg8 harg8 arg9 harg9 arg10 harg10 arg11 harg11 w v10 v11 v13 v16 v19 v35 v59 (harg2.unread x0) (harg3.unread x1) (harg4.unread x2) (harg5.unread x3) (harg6.unread x4) (harg7.unread x5) G10 G11 k).1)
        = dkAcc x0 x1 x2 x3 x4 x5 (i 1).val (2 * k)
  | 0, _ => hG
  | k + 1, hk => by
    have h2 := t1_trips i
    have h3 : (i 1).val < 8 := (i 1).isLt
    have e1 : (i 1).val + 1 + 2 * k < 8 := by omega
    have e2 : (i 1).val + 1 + (2 * k + 1) < 8 := by omega
    rw [pb_k0_t1_succ 𝒱 c bd i arg2 harg2 arg3 harg3 arg4 harg4 arg5 harg5 arg6 harg6 arg7 harg7 arg8 harg8 arg9 harg9 arg10 harg10 arg11 harg11 w v10 v11 v13 v16 v19 v35 v59 _ _ _ _ _ _ G10 G11 ⟨k, hk⟩]
    dsimp only
    rw [View.writes_append, trip_dk]
    simp only [View.readAt_eq_ld, Memref.IsWhole.read_unread]
    rw [loop_dk 𝒱 c bd i x0 x1 x2 x3 x4 x5 G10 G11 hG k (Nat.le_of_succ_le hk)]
    have o3 := off3 i ⟨k, hk⟩
    have o5 := off5 i ⟨k, hk⟩
    have o4 := off4 i ⟨k, hk⟩
    have o6 := off6 i ⟨k, hk⟩
    rw [ld_block x0 _ e1 _ o3, ld_block x5 _ e1 _ o3, ld_stretch x3 _ e1 _ o4, ld_block x0 _ e2 _ o5, ld_block x5 _ e2 _ o5, ld_stretch x3 _ e2 _ o6, ld_stretch x4 _ e1 _ o4, ld_stretch x4 _ e2 _ o6]
    rfl

end Loop

end Cert.Kernel2Ideal.Dkv
-- ==== Proof.KvBlock.lean ====
/-
  The two output blocks of one grid point of the call for dK and dV, opened from the generated run of either case of
  the body.
-/
module

public import proofs.«01_k».proof.Proof.KvStep

@[expose] public section

set_option maxRecDepth 16384

noncomputable section

open Idealize.ShloMosaic Idealize.ShloMosaic.TcCoe Idealize.SL.Sem

namespace Cert.Kernel2Ideal.Dkv

open Cert.Kernel2Ideal Cert.Kernel2Ideal.Gen

variable {F : FTy → Type} [FloatOps F] [Named F]

variable (c : Dev nD) (i : grid0.Coords) (arg2 : Memref sig .tc .vmem S4096x128 .bf16) (harg2 : arg2.IsWhole)
  (arg3 : Memref sig .tc .vmem S512x128 .bf16) (harg3 : arg3.IsWhole)
  (arg4 : Memref sig .tc .vmem S512x128 .bf16) (harg4 : arg4.IsWhole)
  (arg5 : Memref sig .tc .vmem S8x4096 .f32) (harg5 : arg5.IsWhole)
  (arg6 : Memref sig .tc .vmem S8x4096 .f32) (harg6 : arg6.IsWhole)
  (arg7 : Memref sig .tc .vmem S4096x128 .f32) (harg7 : arg7.IsWhole)
  (arg8 : Memref sig .tc .vmem S512x128 .f32) (harg8 : arg8.IsWhole)
  (arg9 : Memref sig .tc .vmem S512x128 .f32) (harg9 : arg9.IsWhole)
  (arg10 : Memref sig .tc .vmem S512x128 .f32) (harg10 : arg10.IsWhole)
  (arg11 : Memref sig .tc .vmem S512x128 .f32) (harg11 : arg11.IsWhole)
  (x0 : Vec F S4096x128 .bf16) (x1 x2 : Vec F S512x128 .bf16) (x3 x4 : Vec F S8x4096 .f32) (x5 : Vec F S4096x128 .f32)

/-- The remainder of the counted loop, whose trips were rounded off the first, is empty. -/
theorem t2_trips : ∀ i : grid0.Coords, (k0_t2_loop i).trips = 0 := by decide +kernel

/-- The points with a block left over are those of even key block. -/
theorem even_iff : ∀ i : grid0.Coords, cond0_0 i ↔ (i 1).val % 2 = 0 := by decide +kernel

/-- The zero offset, as the library writes it. -/
theorem hz : (![0, 0] : Fin 2 → Nat) = fun _ => 0 := funext fun a => by fin_cases a <;> rfl

/-- A whole-block load is the block. -/
theorem ld_f32 (X : Vec F S512x128 .f32) :
    View.ld X (Rect.unit (s := S512x128) ![0, 0] S512x128.size inb_S512x128_S512x128_0_0) = X := View.ld_unit_zero (S := S512x128) hz _ X

@[inherit_doc ld_f32] theorem ld_bf16 (X : Vec F S512x128 .bf16) :
    View.ld X (Rect.unit (s := S512x128) ![0, 0] S512x128.size inb_S512x128_S512x128_0_0) = X := View.ld_unit_zero (S := S512x128) hz _ X

/-- Steps over equal operands. -/
theorem dvStep_congr {q q' : Vec F S512x128 .bf16} {g g' : Vec F S512x128 .f32} {k k' : Vec F S512x128 .bf16} {l l' : Vec F S1x512 .f32}
    {s s' : Vec F S512x128 .f32} (hq : q = q') (hg : g = g') (hk : k = k') (hl : l = l') (hs : s = s') :
    dvStep q g k l s = dvStep q' g' k' l' s' := by subst hq hg hk hl hs; rfl
@[inherit_doc dvStep_congr] theorem dkStep_congr {q q' : Vec F S512x128 .bf16} {g g' : Vec F S512x128 .f32} {k k' v v' : Vec F S512x128 .bf16}
    {l l' d d' : Vec F S1x512 .f32} {s s' : Vec F S512x128 .f32} (hq : q = q') (hg : g = g') (hk : k = k') (hv : v = v') (hl : l = l')
    (hd : d = d') (hs : s = s') : dkStep q g k v l d s = dkStep q' g' k' v' l' d' s' := by subst hq hg hk hv hl hd hs; rfl

/-- The step of the block left over is the same step, its terms named apart. -/
theorem dv_last (s : Vec F S512x128 .f32) (q : Vec F S512x128 .bf16) (g : Vec F S512x128 .f32) (k : Vec F S512x128 .bf16) (l : Vec F S1x512 .f32) :
    k0_pay32 s q g k l = dvStep q g k l s := rfl
@[inherit_doc dv_last] theorem dk_last (s : Vec F S512x128 .f32) (q : Vec F S512x128 .bf16) (g : Vec F S512x128 .f32)
    (k v : Vec F S512x128 .bf16) (l d : Vec F S1x512 .f32) : k0_pay1 (k0_pay31 s q g k l v d) = dkStep q g k v l d s := rfl

/-- The diagonal steps over equal operands. -/
theorem dvDiag_congr {q q' : Vec F S512x128 .bf16} {g g' : Vec F S512x128 .f32} {k k' : Vec F S512x128 .bf16} {l l' : Vec F S1x512 .f32}
    {z : Vec F S512x128 .f32} (hz : z = k0_pay34) (hq : q = q') (hg : g = g') (hk : k = k') (hl : l = l') :
    k0_pay38 z (k0_pay36 g) (k0_pay37 q k l) = dvDiag q' g' k' l' := by subst hz hq hg hk hl; rfl
@[inherit_doc dvDiag_congr] theorem dkDiag_congr {q q' : Vec F S512x128 .bf16} {g g' : Vec F S512x128 .f32} {k k' v v' : Vec F S512x128 .bf16}
    {l l' d d' : Vec F S1x512 .f32} {z : Vec F S512x128 .f32} (hz : z = k0_pay33) (hq : q = q') (hg : g = g') (hk : k = k') (hv : v = v')
    (hl : l = l') (hd : d = d') :
    k0_pay39 z (k0_pay35 q) (k0_pay36 g) (k0_pay37 q k l) v d = dkDiag q' g' k' v' l' d' := by subst hz hq hg hk hv hl hd; rfl

/-- What the accumulator holds once the counted loop is done. -/
theorem after_dv (w : BitVec 32) (v10 v11 : Vec F S512x128 .f32) (v13 : BitVec 32) (v16 : FVec F S512x128 .bf16)
    (v19 : FVec F S512x128 .f32) (v35 : FVec F S512x512 .f32) (v59 : BitVec 32)
    (G : BufTy.Contents (Elt F) arg10.view.ty) (L : List (View.Piece (Elt F) S512x128 .f32))
    (hL : arg11.view.read (Elt F) (arg11.view.writes (Elt F) arg11.view.junk L) = dvAcc x0 x1 x3 x5 (i 1).val 0) :
    View.ld (arg11.view.read (Elt F) (arg11.view.writes (Elt F) arg11.view.junk
        ((pb_k0_t1 (F := F) Variants.none c none i arg2 harg2 arg3 harg3 arg4 harg4 arg5 harg5 arg6 harg6 arg7 harg7 arg8 harg8 arg9 harg9 arg10 harg10 arg11 harg11 w v10 v11 v13 v16 v19 v35 v59
            (harg2.unread x0) (harg3.unread x1) (harg4.unread x2) (harg5.unread x3) (harg6.unread x4) (harg7.unread x5)
            G (arg11.view.writes (Elt F) arg11.view.junk L) (k0_t1_loop i).trips).2 ++ L)))
        (Rect.unit (s := S512x128) ![0, 0] S512x128.size inb_S512x128_S512x128_0_0)
      = dvAcc x0 x1 x3 x5 (i 1).val (2 * (k0_t1_loop i).trips) := by
  rw [ld_f32, View.writes_append]
  exact loop_dv arg2 harg2 arg3 harg3 arg4 harg4 arg5 harg5 arg6 harg6 arg7 harg7 arg8 harg8 arg9 harg9 arg10 harg10 arg11 harg11 w v10 v11 v13 v16 v19 v35 v59
    Variants.none c none i x0 x1 x2 x3 x4 x5 G (arg11.view.writes (Elt F) arg11.view.junk L) hL (k0_t1_loop i).trips le_rfl

/-- What the accumulator holds once the counted loop is done. -/
theorem after_dk (w : BitVec 32) (v10 v11 : Vec F S512x128 .f32) (v13 : BitVec 32) (v16 : FVec F S512x128 .bf16)
    (v19 : FVec F S512x128 .f32) (v35 : FVec F S512x512 .f32) (v59 : BitVec 32)
    (G : BufTy.Contents (Elt F) arg11.view.ty) (L : List (View.Piece (Elt F) S512x128 .f32))
    (hL : arg10.view.read (Elt F) (arg10.view.writes (Elt F) arg10.view.junk L) = dkAcc x0 x1 x2 x3 x4 x5 (i 1).val 0) :
    View.ld (arg10.view.read (Elt F) (arg10.view.writes (Elt F) arg10.view.junk
        ((pb_k0_t1 (F := F) Variants.none c none i arg2 harg2 arg3 harg3 arg4 harg4 arg5 harg5 arg6 harg6 arg7 harg7 arg8 harg8 arg9 harg9 arg10 harg10 arg11 harg11 w v10 v11 v13 v16 v19 v35 v59
            (harg2.unread x0) (harg3.unread x1) (harg4.unread x2) (harg5.unread x3) (harg6.unread x4) (harg7.unread x5)
            (arg10.view.writes (Elt F) arg10.view.junk L) G (k0_t1_loop i).trips).1 ++ L)))
        (Rect.unit (s := S512x128) ![0, 0] S512x128.size inb_S512x128_S512x128_0_0)
      = dkAcc x0 x1 x2 x3 x4 x5 (i 1).val (2 * (k0_t1_loop i).trips) := by
  rw [ld_f32, View.writes_append]
  exact loop_dk arg2 harg2 arg3 harg3 arg4 harg4 arg5 harg5 arg6 harg6 arg7 harg7 arg8 harg8 arg9 harg9 arg10 harg10 arg11 harg11 w v10 v11 v13 v16 v19 v35 v59
    Variants.none c none i x0 x1 x2 x3 x4 x5 (arg10.view.writes (Elt F) arg10.view.junk L) G hL (k0_t1_loop i).trips le_rfl

/-- The block left over is the last. -/
theorem off11 : k0_off11 = ![512 * 7, 0] := k0_off11_eq
@[inherit_doc off11] theorem off12 : k0_off12 = ![0, 512 * 7] := k0_off12_eq

/-- What dK's output holds at a point of even key block, where the last query block is left over. -/
theorem out_A_6 (hc : cond0_0 i) :
    out0_A_6 (F := F) c i arg2 harg2 arg3 harg3 arg4 harg4 arg5 harg5 arg6 harg6 arg7 harg7 arg8 harg8 arg9 harg9 arg10 harg10 arg11 harg11 hc x0 x1 x2 x3 x4 x5
      = dkAcc x0 x1 x2 x3 x4 x5 (i 1).val (7 - (i 1).val) := by
  have h8 : (i 1).val < 8 := (i 1).isLt
  have ho := (even_iff i).mp hc
  have hi : 2 * (k0_t1_loop i).trips = 6 - (i 1).val := by
    have := t1_trips i; omega
  have e2 : Scf.trips (k0_t2_loop i).lb (k0_t2_loop i).ub (k0_t2_loop i).st = 0 := t2_trips i
  unfold out0_A_6
  unfold kernelRun0_A
  dsimp only
  refine (View.read_writes_full (s := S512x128) _ _ _ _ _).trans ?_
  unfold kernelRun0_A.sl.v71
  unfold kernelRun0_A.sl.HS0_1_1
  refine (View.readCov_full (s := S512x128) _ _ _ _ _).trans ?_
  unfold kernelRun0_A.sl.r_3
  simp only [View.readAt_eq_ld, Memref.IsWhole.read_unread]
  have hs : 7 - (i 1).val = 6 - (i 1).val + 1 := by omega
  have h7 : (i 1).val + 1 + (6 - (i 1).val) = 7 := by omega
  rw [hs]
  unfold dkAcc
  rw [h7]
  refine (dk_last _ _ _ _ _ _ _).trans (dkStep_congr (ld_block x0 7 (by decide) _ off11 _) (ld_block x5 7 (by decide) _ off11 _) (ld_bf16 _) (ld_bf16 _) (ld_stretch x3 7 (by decide) _ off12 _) (ld_stretch x4 7 (by decide) _ off12 _) ?_)
  unfold kernelRun0_A.sl.v77
  rw [e2]
  simp only [pb_k0_t2, List.nil_append, View.readCov]
  refine (after_dk c i arg2 harg2 arg3 harg3 arg4 harg4 arg5 harg5 arg6 harg6 arg7 harg7 arg8 harg8 arg9 harg9 arg10 harg10 arg11 harg11 x0 x1 x2 x3 x4 x5 _ _ _ _ _ _ _ _ _ _ ?_).trans (by rw [hi])
  unfold kernelRun0_A.sl.HS0_2
  refine (View.read_writes_full (s := S512x128) _ _ _ _ _).trans ?_
  unfold kernelRun0_A.sl.v11 kernelRun0_A.sl.r kernelRun0_A.sl.r_1 kernelRun0_A.sl.r_2
  simp only [View.readAt_eq_ld, Memref.IsWhole.read_unread]
  exact dkDiag_congr (View.readCov_full (s := S512x128) _ _ _ _ _) (ld_block x0 (i 1).val h8 _ (k0_off1_eq i) _) (ld_block x5 (i 1).val h8 _ (k0_off1_eq i) _) (ld_bf16 _) (ld_bf16 _) (ld_stretch x3 (i 1).val h8 _ (k0_off2_eq i) _) (ld_stretch x4 (i 1).val h8 _ (k0_off2_eq i) _)

/-- What dV's output holds at a point of even key block, where the last query block is left over. -/
theorem out_A_7 (hc : cond0_0 i) :
    out0_A_7 (F := F) c i arg2 harg2 arg3 harg3 arg4 harg4 arg5 harg5 arg6 harg6 arg7 harg7 arg8 harg8 arg9 harg9 arg10 harg10 arg11 harg11 hc x0 x1 x2 x3 x4 x5
      = dvAcc x0 x1 x3 x5 (i 1).val (7 - (i 1).val) := by
  have h8 : (i 1).val < 8 := (i 1).isLt
  have ho := (even_iff i).mp hc
  have hi : 2 * (k0_t1_loop i).trips = 6 - (i 1).val := by
    have := t1_trips i; omega
  have e2 : Scf.trips (k0_t2_loop i).lb (k0_t2_loop i).ub (k0_t2_loop i).st = 0 := t2_trips i
  unfold out0_A_7
  unfold kernelRun0_A
  dsimp only
  refine (View.read_writes_full (s := S512x128) _ _ _ _ _).trans ?_
  unfold kernelRun0_A.sl.v73
  unfold kernelRun0_A.sl.HS1_1_1
  refine (View.readCov_full (s := S512x128) _ _ _ _ _).trans ?_
  unfold kernelRun0_A.sl.r_4
  simp only [View.readAt_eq_ld, Memref.IsWhole.read_unread]
  have hs : 7 - (i 1).val = 6 - (i 1).val + 1 := by omega
  have h7 : (i 1).val + 1 + (6 - (i 1).val) = 7 := by omega
  rw [hs]
  unfold dvAcc
  rw [h7]
  refine (dv_last _ _ _ _ _).trans (dvStep_congr (ld_block x0 7 (by decide) _ off11 _) (ld_block x5 7 (by decide) _ off11 _) (ld_bf16 _) (ld_stretch x3 7 (by decide) _ off12 _) ?_)
  unfold kernelRun0_A.sl.v76
  rw [e2]
  simp only [pb_k0_t2, List.nil_append, View.readCov]
  refine (after_dv c i arg2 harg2 arg3 harg3 arg4 harg4 arg5 harg5 arg6 harg6 arg7 harg7 arg8 harg8 arg9 harg9 arg10 harg10 arg11 harg11 x0 x1 x2 x3 x4 x5 _ _ _ _ _ _ _ _ _ _ ?_).trans (by rw [hi])
  unfold kernelRun0_A.sl.HS1_2
  refine (View.read_writes_full (s := S512x128) _ _ _ _ _).trans ?_
  unfold kernelRun0_A.sl.v10 kernelRun0_A.sl.r_1 kernelRun0_A.sl.r_2
  simp only [View.readAt_eq_ld, Memref.IsWhole.read_unread]
  exact dvDiag_congr (View.readCov_full (s := S512x128) _ _ _ _ _) (ld_block x0 (i 1).val h8 _ (k0_off1_eq i) _) (ld_block x5 (i 1).val h8 _ (k0_off1_eq i) _) (ld_bf16 _) (ld_stretch x3 (i 1).val h8 _ (k0_off2_eq i) _)

/-- What dK's output holds at a point of odd key block, where the loop takes every block behind the diagonal. -/
theorem out_B_6 (hc : ¬cond0_0 i) :
    out0_B_6 (F := F) c i arg2 harg2 arg3 harg3 arg4 harg4 arg5 harg5 arg6 harg6 arg7 harg7 arg8 harg8 arg9 harg9 arg10 harg10 arg11 harg11 hc x0 x1 x2 x3 x4 x5
      = dkAcc x0 x1 x2 x3 x4 x5 (i 1).val (7 - (i 1).val) := by
  have h8 : (i 1).val < 8 := (i 1).isLt
  have ho := (even_iff i).not.mp hc
  have hi : 2 * (k0_t1_loop i).trips = 7 - (i 1).val := by
    have := t1_trips i; omega
  have e2 : Scf.trips (k0_t2_loop i).lb (k0_t2_loop i).ub (k0_t2_loop i).st = 0 := t2_trips i
  unfold out0_B_6
  unfold kernelRun0_B
  dsimp only
  refine (View.read_writes_full (s := S512x128) _ _ _ _ _).trans ?_
  unfold kernelRun0_B.sl.v71
  rw [e2]
  simp only [pb_k0_t2, List.nil_append, View.readCov]
  refine (after_dk c i arg2 harg2 arg3 harg3 arg4 harg4 arg5 harg5 arg6 harg6 arg7 harg7 arg8 harg8 arg9 harg9 arg10 harg10 arg11 harg11 x0 x1 x2 x3 x4 x5 _ _ _ _ _ _ _ _ _ _ ?_).trans (by rw [hi])
  unfold kernelRun0_B.sl.HS0_2
  refine (View.read_writes_full (s := S512x128) _ _ _ _ _).trans ?_
  unfold kernelRun0_B.sl.v11 kernelRun0_B.sl.r kernelRun0_B.sl.r_1 kernelRun0_B.sl.r_2
  simp only [View.readAt_eq_ld, Memref.IsWhole.read_unread]
  exact dkDiag_congr (View.readCov_full (s := S512x128) _ _ _ _ _) (ld_block x0 (i 1).val h8 _ (k0_off1_eq i) _) (ld_block x5 (i 1).val h8 _ (k0_off1_eq i) _) (ld_bf16 _) (ld_bf16 _) (ld_stretch x3 (i 1).val h8 _ (k0_off2_eq i) _) (ld_stretch x4 (i 1).val h8 _ (k0_off2_eq i) _)

/-- What dV's output holds at a point of odd key block, where the loop takes every block behind the diagonal. -/
theorem out_B_7 (hc : ¬cond0_0 i) :
    out0_B_7 (F := F) c i arg2 harg2 arg3 harg3 arg4 harg4 arg5 harg5 arg6 harg6 arg7 harg7 arg8 harg8 arg9 harg9 arg10 harg10 arg11 harg11 hc x0 x1 x2 x3 x4 x5
      = dvAcc x0 x1 x3 x5 (i 1).val (7 - (i 1).val) := by
  have h8 : (i 1).val < 8 := (i 1).isLt
  have ho := (even_iff i).not.mp hc
  have hi : 2 * (k0_t1_loop i).trips = 7 - (i 1).val := by
    have := t1_trips i; omega
  have e2 : Scf.trips (k0_t2_loop i).lb (k0_t2_loop i).ub (k0_t2_loop i).st = 0 := t2_trips i
  unfold out0_B_7
  unfold kernelRun0_B
  dsimp only
  refine (View.read_writes_full (s := S512x128) _ _ _ _ _).trans ?_
  unfold kernelRun0_B.sl.v73
  rw [e2]
  simp only [pb_k0_t2, List.nil_append, View.readCov]
  refine (after_dv c i arg2 harg2 arg3 harg3 arg4 harg4 arg5 harg5 arg6 harg6 arg7 harg7 arg8 harg8 arg9 harg9 arg10 harg10 arg11 harg11 x0 x1 x2 x3 x4 x5 _ _ _ _ _ _ _ _ _ _ ?_).trans (by rw [hi])
  unfold kernelRun0_B.sl.HS1_2
  refine (View.read_writes_full (s := S512x128) _ _ _ _ _).trans ?_
  unfold kernelRun0_B.sl.v10 kernelRun0_B.sl.r_1 kernelRun0_B.sl.r_2
  simp only [View.readAt_eq_ld, Memref.IsWhole.read_unread]
  exact dvDiag_congr (View.readCov_full (s := S512x128) _ _ _ _ _) (ld_block x0 (i 1).val h8 _ (k0_off1_eq i) _) (ld_block x5 (i 1).val h8 _ (k0_off1_eq i) _) (ld_bf16 _) (ld_stretch x3 (i 1).val h8 _ (k0_off2_eq i) _)

end Cert.Kernel2Ideal.Dkv
-- ==== Proof.KvReal.lean ====
/-
  The two output blocks of one grid point of the call for dK and dV over real inputs, at the ideal instance: row `r` of
  key block `n` is the sum over the queries from row `512 n + r` on.
-/
module

public import proofs.«01_k».proof.Proof.KvBlock
public import proofs.«01_k».proof.Proof.Reals
public import Idealize.ShloMosaic.Lib.Pointwise

@[expose] public section

set_option maxRecDepth 16384

noncomputable section

open Idealize.ShloMosaic Idealize.ShloMosaic.TcCoe Idealize.SL.Sem

namespace Cert.Kernel2Ideal.Dkv

open Cert.Kernel2Ideal Cert.Kernel2Ideal.Gen Attn

/-- The named mask is minus infinity. -/
theorem mask_eq : Named.named (F := Ideal) (φ := .f32) κ "mask" 0xF149F2CA#32 = (⊥ : EReal) := rfl

/-- The diagonal block's mask as a comparison of numbers. -/
theorem select_sle_add {r x : ℕ} (hr : r < 512) (hx : x < 512) (a b : EReal) :
    Scalar.select (IntOp.cmpi .sle (BitVec.ofNat 32 r) (IntOp.addi (BitVec.ofNat 32 x) 0#32)) a b = if r ≤ x then a else b := by
  have e : IntOp.addi (BitVec.ofNat 32 x) 0#32 = BitVec.ofNat 32 x := by simp [IntOp.addi]
  rw [e, WordCmp.cmpi_sle_ofNat (by omega) (by omega)]
  by_cases h : r ≤ x <;> simp [Scalar.select, h]

variable {x0 : Vec Ideal S4096x128 .bf16} {x1 x2 : Vec Ideal S512x128 .bf16} {x3 x4 : Vec Ideal S8x4096 .f32} {x5 : Vec Ideal S4096x128 .f32}
variable {Q G : Fin 4096 → Fin 128 → ℝ} {K V : Fin 512 → Fin 128 → ℝ} {L D : Fin 4096 → ℝ}

/-- A row of block `b` of queries as a row of the array. -/
def qrow (i : ℕ) : Fin 4096 := ⟨i % 4096, Nat.mod_lt _ (by decide)⟩

/-- What query `i` adds to lane `e` of row `r` of dV, and of dK. -/
def dvTerm (Q G : Fin 4096 → Fin 128 → ℝ) (K : Fin 512 → Fin 128 → ℝ) (L : Fin 4096 → ℝ) (r : Fin 512) (e : Fin 128) (i : ℕ) : ℝ :=
  Real.exp (∑ l, K r l * Q (qrow i) l - L (qrow i)) * G (qrow i) e
@[inherit_doc dvTerm] def dkTerm (Q G : Fin 4096 → Fin 128 → ℝ) (K V : Fin 512 → Fin 128 → ℝ) (L D : Fin 4096 → ℝ) (r : Fin 512) (e : Fin 128)
    (i : ℕ) : ℝ := Real.exp (∑ l, K r l * Q (qrow i) l - L (qrow i)) * (∑ l, V r l * G (qrow i) l - D (qrow i)) * Q (qrow i) e

theorem dvAcc_eq (h0 : ∀ i l, x0 (ix2 i l) = (Q i l : EReal)) (h1 : ∀ r l, x1 (ix2 r l) = (K r l : EReal))
    (h3 : ∀ i, x3 (ix2 0 i) = (L i : EReal)) (h5 : ∀ i l, x5 (ix2 i l) = (G i l : EReal)) (n j : ℕ) (r : Fin 512) (e : Fin 128) :
    dvAcc x0 x1 x3 x5 n j (ix2 r e) = (((∑ x : Fin 512, if r.val ≤ x.val then dvTerm Q G K L r e (512 * n + x.val) else 0)
      + ∑ b ∈ Finset.range j, ∑ x : Fin 512, dvTerm Q G K L r e (512 * (n + 1 + b) + x.val) : ℝ) : EReal) := by
  induction j with
  | zero =>
    show k0_pay38 k0_pay34 (k0_pay36 (block x5 n)) (k0_pay37 (block x0 n) x1 (stretch x3 n)) (ix2 r e) = _
    pointwise [k0_pay34, k0_pay35, k0_pay36, k0_pay37, k0_pay38, block, stretch, Ideal.ofBits_zero_f32]
    rw [Finset.range_zero, Finset.sum_empty, add_zero, coe_sum]
    refine Finset.sum_congr rfl fun x _ => ?_
    rw [select_sle_add r.isLt x.isLt, mask_eq]
    simp only [h0, h1, h3, h5, ← EReal.coe_mul, ← coe_sum, ← EReal.coe_sub]
    by_cases h : r.val ≤ x.val
    · rw [if_pos h, if_pos h]
      simp only [← EReal.coe_mul, ← coe_sum, ← EReal.coe_sub, Ideal.exp_coe]
      rfl
    · rw [if_neg h, if_neg h]
      simp
  | succ j ih =>
    show k0_pay7 (k0_pay5 (dvAcc x0 x1 x3 x5 n j) (block x0 (n + 1 + j)) (block x5 (n + 1 + j)) x1 (stretch x3 (n + 1 + j))) (ix2 r e) = _
    pointwise [k0_pay2, k0_pay3, k0_pay4, k0_pay5, k0_pay7, block, stretch]
    rw [ih, Finset.sum_range_succ]
    simp only [h0, h1, h3, h5, ← EReal.coe_mul, ← coe_sum, ← EReal.coe_sub, Ideal.exp_coe, ← EReal.coe_add, ← add_assoc]
    rfl

theorem dkAcc_eq (h0 : ∀ i l, x0 (ix2 i l) = (Q i l : EReal)) (h1 : ∀ r l, x1 (ix2 r l) = (K r l : EReal))
    (h2 : ∀ r l, x2 (ix2 r l) = (V r l : EReal)) (h3 : ∀ i, x3 (ix2 0 i) = (L i : EReal)) (h4 : ∀ i, x4 (ix2 0 i) = (D i : EReal))
    (h5 : ∀ i l, x5 (ix2 i l) = (G i l : EReal)) (n j : ℕ) (r : Fin 512) (e : Fin 128) :
    dkAcc x0 x1 x2 x3 x4 x5 n j (ix2 r e) = (((∑ x : Fin 512, if r.val ≤ x.val then dkTerm Q G K V L D r e (512 * n + x.val) else 0)
      + ∑ b ∈ Finset.range j, ∑ x : Fin 512, dkTerm Q G K V L D r e (512 * (n + 1 + b) + x.val) : ℝ) : EReal) := by
  induction j with
  | zero =>
    show k0_pay39 k0_pay33 (k0_pay35 (block x0 n)) (k0_pay36 (block x5 n)) (k0_pay37 (block x0 n) x1 (stretch x3 n)) x2 (stretch x4 n) (ix2 r e) = _
    pointwise [k0_pay33, k0_pay35, k0_pay36, k0_pay37, k0_pay39, block, stretch, Ideal.ofBits_zero_f32]
    rw [Finset.range_zero, Finset.sum_empty, add_zero, coe_sum]
    refine Finset.sum_congr rfl fun x _ => ?_
    rw [select_sle_add r.isLt x.isLt, mask_eq]
    simp only [h0, h1, h2, h3, h4, h5, ← EReal.coe_mul, ← coe_sum, ← EReal.coe_sub]
    by_cases h : r.val ≤ x.val
    · rw [if_pos h, if_pos h]
      simp only [← EReal.coe_mul, ← coe_sum, ← EReal.coe_sub, Ideal.exp_coe]
      rfl
    · rw [if_neg h, if_neg h]
      simp
  | succ j ih =>
    show k0_pay8 (k0_pay6 (dkAcc x0 x1 x2 x3 x4 x5 n j) (block x0 (n + 1 + j)) (block x5 (n + 1 + j)) x1 (stretch x3 (n + 1 + j)) x2
      (stretch x4 (n + 1 + j))) (ix2 r e) = _
    pointwise [k0_pay2, k0_pay3, k0_pay4, k0_pay6, k0_pay8, block, stretch]
    rw [ih, Finset.sum_range_succ]
    simp only [h0, h1, h2, h3, h4, h5, ← EReal.coe_mul, ← coe_sum, ← EReal.coe_sub, Ideal.exp_coe, ← EReal.coe_add, ← add_assoc]
    rfl

theorem dvBlock_eq (h0 : ∀ i l, x0 (ix2 i l) = (Q i l : EReal)) (h1 : ∀ r l, x1 (ix2 r l) = (K r l : EReal))
    (h3 : ∀ i, x3 (ix2 0 i) = (L i : EReal)) (h5 : ∀ i l, x5 (ix2 i l) = (G i l : EReal)) (n : ℕ) (hn : n < 8) (r : Fin 512) (e : Fin 128) :
    dvAcc x0 x1 x3 x5 n (7 - n) (ix2 r e)
      = ((∑ i : Fin 4096, if 512 * n + r.val ≤ i.val then dvTerm Q G K L r e i.val else 0 : ℝ) : EReal) := by
  rw [sum_from (dvTerm Q G K L r e) n r.val hn r.isLt]
  exact dvAcc_eq h0 h1 h3 h5 n (7 - n) r e

theorem dkBlock_eq (h0 : ∀ i l, x0 (ix2 i l) = (Q i l : EReal)) (h1 : ∀ r l, x1 (ix2 r l) = (K r l : EReal))
    (h2 : ∀ r l, x2 (ix2 r l) = (V r l : EReal)) (h3 : ∀ i, x3 (ix2 0 i) = (L i : EReal)) (h4 : ∀ i, x4 (ix2 0 i) = (D i : EReal))
    (h5 : ∀ i l, x5 (ix2 i l) = (G i l : EReal)) (n : ℕ) (hn : n < 8) (r : Fin 512) (e : Fin 128) :
    dkAcc x0 x1 x2 x3 x4 x5 n (7 - n) (ix2 r e)
      = ((∑ i : Fin 4096, if 512 * n + r.val ≤ i.val then dkTerm Q G K V L D r e i.val else 0 : ℝ) : EReal) := by
  rw [sum_from (dkTerm Q G K V L D r e) n r.val hn r.isLt]
  exact dkAcc_eq h0 h1 h2 h3 h4 h5 n (7 - n) r e

end Cert.Kernel2Ideal.Dkv
-- ==== Proof.KvArray.lean ====
/-
  The result arrays of the call for dK and dV: each grid point writes the two blocks of its head and key block, and the
  blocks tile the arrays.
-/
module

public import proofs.«01_k».proof.Proof.KvReal
public import proofs.«01_k».proof.Proof.Gen.Kernel2Ideal.Value
public import Idealize.ShloMosaic.Lib.Pipeline.ValueKit

@[expose] public section

set_option maxRecDepth 16384

noncomputable section

open Idealize.ShloMosaic Idealize.ShloMosaic.TcCoe Idealize.SL.Sem

namespace Cert.Kernel2Ideal.Dkv

open Cert.Kernel2Ideal Cert.Kernel2Ideal.Gen Attn

/-- Which block each window takes at a grid point: the head's lanes, or the head's row of sums; for the keys' side the
    key block's rows. -/
theorem idx : ∀ t : Fin grid0.N, win0_0.index t = ![0, (grid0.coords t 0).val]
    ∧ win0_1.index t = ![(grid0.coords t 1).val, (grid0.coords t 0).val] ∧ win0_2.index t = ![(grid0.coords t 1).val, (grid0.coords t 0).val]
    ∧ win0_3.index t = ![(grid0.coords t 0).val, 0] ∧ win0_4.index t = ![(grid0.coords t 0).val, 0]
    ∧ win0_5.index t = ![0, (grid0.coords t 0).val] ∧ win0_6.index t = ![(grid0.coords t 1).val, (grid0.coords t 0).val]
    ∧ win0_7.index t = ![(grid0.coords t 1).val, (grid0.coords t 0).val] := by
  decide +kernel

variable (m : (ℓ : Loc nD τ sig) → Buf (Elt Ideal) ℓ) (c : Dev nD)

/-- What point `t` writes back, whichever of the two cases it falls in. -/
theorem flushed6_eq (t : Fin cfg0.N) : (dats m 0 c).flushed 6 t = (cfg0.win 6).cut (grid0.coords t)
    (dkAcc (iblk m c 0 t) (iblk m c 1 t) (iblk m c 2 t) (iblk m c 3 t) (iblk m c 4 t) (iblk m c 5 t) (grid0.coords t 1).val (7 - (grid0.coords t 1).val)) := by
  by_cases h : t.val % 2 = 0
  · rw [Value.flushed6_A m c t h, out_A_6]
  · rw [Value.flushed6_B m c t h, out_B_6]
@[inherit_doc flushed6_eq] theorem flushed7_eq (t : Fin cfg0.N) : (dats m 0 c).flushed 7 t = (cfg0.win 7).cut (grid0.coords t)
    (dvAcc (iblk m c 0 t) (iblk m c 1 t) (iblk m c 3 t) (iblk m c 5 t) (grid0.coords t 1).val (7 - (grid0.coords t 1).val)) := by
  by_cases h : t.val % 2 = 0
  · rw [Value.flushed7_A m c t h, out_A_7 _ _ _ _ _ _ _ _ _ _ _ _ _ _ _ _ _ _ _ _ _ _ _ _ (iblk m c 2 t) _ (iblk m c 4 t)]
  · rw [Value.flushed7_B m c t h, out_B_7 _ _ _ _ _ _ _ _ _ _ _ _ _ _ _ _ _ _ _ _ _ _ _ _ (iblk m c 2 t) _ (iblk m c 4 t)]

/-- Column `128 h + l` of a packed array: lane `l` of head `h`. -/
def col (h : Fin 8) (l : Fin 128) : Fin 1024 := ⟨128 * h.val + l.val, by omega⟩

/-- Row `512 b + r`: row `r` of key block `b`. -/
def row (b : Fin 8) (r : Fin 512) : Fin 4096 := ⟨512 * b.val + r.val, by omega⟩

/-- Row `8 h`: the first of the eight equal rows that hold the sums of head `h`. -/
def first (h : Fin 8) : Fin 64 := ⟨8 * h.val, by omega⟩

/-- The head of a grid point, and its key block. -/
def hd (t : Fin cfg0.N) : Fin 8 := ⟨(grid0.coords t 0).val, (grid0.coords t 0).isLt⟩
@[inherit_doc hd] def kb (t : Fin cfg0.N) : Fin 8 := ⟨(grid0.coords t 1).val, (grid0.coords t 1).isLt⟩

/-- The place of an element of a window's block in its array. -/
theorem emb0 (t : Fin cfg0.N) (r : Fin 4096) (l : Fin 128) :
    (win0_0.blk t).view.emb (ix2 r l) = (ix2 r (col (hd t) l) : S4096x1024.Idx) := by
  blk_ext [row, col, first, hd, kb, idx t]

/-- Reading a window's block of an array. -/
theorem read0 (X : Buf (Elt Ideal) ((c : Thread nD τ).loc (Pipeline.arrRef spec0 0))) (t : Fin cfg0.N) (r : Fin 4096) (l : Fin 128) :
    (((cfg0.win 0).blk t).view.read (Elt Ideal) X (ix2 r l) : EReal) = (X : S4096x1024.Idx → EReal) (ix2 r (col (hd t) l)) :=
  congrArg X (emb0 t r l)

/-- An input window's block at an index. -/
theorem iblk0 (t : Fin cfg0.N) (r : Fin 4096) (l : Fin 128) :
    (iblk m c 0 t (ix2 r l) : EReal) = (V m c (Pipeline.arrRef spec0 0) : S4096x1024.Idx → EReal) (ix2 r (col (hd t) l)) :=
  read0 c (V m c (Pipeline.arrRef spec0 0)) t r l

@[inherit_doc emb0] theorem emb1 (t : Fin cfg0.N) (r : Fin 512) (l : Fin 128) :
    (win0_1.blk t).view.emb (ix2 r l) = (ix2 (row (kb t) r) (col (hd t) l) : S4096x1024.Idx) := by
  blk_ext [row, col, first, hd, kb, idx t]

@[inherit_doc read0] theorem read1 (X : Buf (Elt Ideal) ((c : Thread nD τ).loc (Pipeline.arrRef spec0 1))) (t : Fin cfg0.N) (r : Fin 512) (l : Fin 128) :
    (((cfg0.win 1).blk t).view.read (Elt Ideal) X (ix2 r l) : EReal) = (X : S4096x1024.Idx → EReal) (ix2 (row (kb t) r) (col (hd t) l)) :=
  congrArg X (emb1 t r l)

@[inherit_doc iblk0] theorem iblk1 (t : Fin cfg0.N) (r : Fin 512) (l : Fin 128) :
    (iblk m c 1 t (ix2 r l) : EReal) = (V m c (Pipeline.arrRef spec0 1) : S4096x1024.Idx → EReal) (ix2 (row (kb t) r) (col (hd t) l)) :=
  read1 c (V m c (Pipeline.arrRef spec0 1)) t r l

@[inherit_doc emb0] theorem emb2 (t : Fin cfg0.N) (r : Fin 512) (l : Fin 128) :
    (win0_2.blk t).view.emb (ix2 r l) = (ix2 (row (kb t) r) (col (hd t) l) : S4096x1024.Idx) := by
  blk_ext [row, col, first, hd, kb, idx t]

@[inherit_doc read0] theorem read2 (X : Buf (Elt Ideal) ((c : Thread nD τ).loc (Pipeline.arrRef spec0 2))) (t : Fin cfg0.N) (r : Fin 512) (l : Fin 128) :
    (((cfg0.win 2).blk t).view.read (Elt Ideal) X (ix2 r l) : EReal) = (X : S4096x1024.Idx → EReal) (ix2 (row (kb t) r) (col (hd t) l)) :=
  congrArg X (emb2 t r l)

@[inherit_doc iblk0] theorem iblk2 (t : Fin cfg0.N) (r : Fin 512) (l : Fin 128) :
    (iblk m c 2 t (ix2 r l) : EReal) = (V m c (Pipeline.arrRef spec0 2) : S4096x1024.Idx → EReal) (ix2 (row (kb t) r) (col (hd t) l)) :=
  read2 c (V m c (Pipeline.arrRef spec0 2)) t r l

@[inherit_doc emb0] theorem emb3 (t : Fin cfg0.N) (i : Fin 4096) :
    (win0_3.blk t).view.emb (ix2 (0 : Fin 8) i) = (ix2 (first (hd t)) i : S64x4096.Idx) := by
  blk_ext [row, col, first, hd, kb, idx t]

@[inherit_doc read0] theorem read3 (X : Buf (Elt Ideal) ((c : Thread nD τ).loc (Pipeline.arrRef spec0 3))) (t : Fin cfg0.N) (i : Fin 4096) :
    (((cfg0.win 3).blk t).view.read (Elt Ideal) X (ix2 (0 : Fin 8) i) : EReal) = (X : S64x4096.Idx → EReal) (ix2 (first (hd t)) i) :=
  congrArg X (emb3 t i)

@[inherit_doc iblk0] theorem iblk3 (t : Fin cfg0.N) (i : Fin 4096) :
    (iblk m c 3 t (ix2 (0 : Fin 8) i) : EReal) = (V m c (Pipeline.arrRef spec0 3) : S64x4096.Idx → EReal) (ix2 (first (hd t)) i) :=
  read3 c (V m c (Pipeline.arrRef spec0 3)) t i

@[inherit_doc emb0] theorem emb4 (t : Fin cfg0.N) (i : Fin 4096) :
    (win0_4.blk t).view.emb (ix2 (0 : Fin 8) i) = (ix2 (first (hd t)) i : S64x4096.Idx) := by
  blk_ext [row, col, first, hd, kb, idx t]

@[inherit_doc read0] theorem read4 (X : Buf (Elt Ideal) ((c : Thread nD τ).loc (Pipeline.arrRef spec0 4))) (t : Fin cfg0.N) (i : Fin 4096) :
    (((cfg0.win 4).blk t).view.read (Elt Ideal) X (ix2 (0 : Fin 8) i) : EReal) = (X : S64x4096.Idx → EReal) (ix2 (first (hd t)) i) :=
  congrArg X (emb4 t i)

@[inherit_doc iblk0] theorem iblk4 (t : Fin cfg0.N) (i : Fin 4096) :
    (iblk m c 4 t (ix2 (0 : Fin 8) i) : EReal) = (V m c (Pipeline.arrRef spec0 4) : S64x4096.Idx → EReal) (ix2 (first (hd t)) i) :=
  read4 c (V m c (Pipeline.arrRef spec0 4)) t i

@[inherit_doc emb0] theorem emb5 (t : Fin cfg0.N) (r : Fin 4096) (l : Fin 128) :
    (win0_5.blk t).view.emb (ix2 r l) = (ix2 r (col (hd t) l) : S4096x1024.Idx) := by
  blk_ext [row, col, first, hd, kb, idx t]

@[inherit_doc read0] theorem read5 (X : Buf (Elt Ideal) ((c : Thread nD τ).loc (Pipeline.arrRef spec0 5))) (t : Fin cfg0.N) (r : Fin 4096) (l : Fin 128) :
    (((cfg0.win 5).blk t).view.read (Elt Ideal) X (ix2 r l) : EReal) = (X : S4096x1024.Idx → EReal) (ix2 r (col (hd t) l)) :=
  congrArg X (emb5 t r l)

@[inherit_doc iblk0] theorem iblk5 (t : Fin cfg0.N) (r : Fin 4096) (l : Fin 128) :
    (iblk m c 5 t (ix2 r l) : EReal) = (V m c (Pipeline.arrRef spec0 5) : S4096x1024.Idx → EReal) (ix2 r (col (hd t) l)) :=
  read5 c (V m c (Pipeline.arrRef spec0 5)) t r l

@[inherit_doc emb0] theorem emb6 (t : Fin cfg0.N) (r : Fin 512) (l : Fin 128) :
    (win0_6.blk t).view.emb (ix2 r l) = (ix2 (row (kb t) r) (col (hd t) l) : S4096x1024.Idx) := by
  blk_ext [row, col, first, hd, kb, idx t]

@[inherit_doc emb0] theorem emb7 (t : Fin cfg0.N) (r : Fin 512) (l : Fin 128) :
    (win0_7.blk t).view.emb (ix2 r l) = (ix2 (row (kb t) r) (col (hd t) l) : S4096x1024.Idx) := by
  blk_ext [row, col, first, hd, kb, idx t]

/-- The arrays staged by the call, over real numbers: queries, keys, values and output gradients of every head, the rows
    padded with zeros, and the row log-sums and row means. -/
structure Staged (q k : Fin 8 → Fin 4096 → Fin 96 → ℝ) (v g : Fin 8 → Fin 4096 → Fin 64 → ℝ) (T : Fin 8 → Fin 4096 → ℝ) : Prop where
  hq : ∀ i h l, (V m c (Pipeline.arrRef spec0 0) : S4096x1024.Idx → EReal) (ix2 i (col h l)) = (lane (q h i) l.val : EReal)
  hk : ∀ i h l, (V m c (Pipeline.arrRef spec0 1) : S4096x1024.Idx → EReal) (ix2 i (col h l)) = (lane (k h i) l.val : EReal)
  hv : ∀ i h l, (V m c (Pipeline.arrRef spec0 2) : S4096x1024.Idx → EReal) (ix2 i (col h l)) = (lane (v h i) l.val : EReal)
  hl : ∀ i h, (V m c (Pipeline.arrRef spec0 3) : S64x4096.Idx → EReal) (ix2 (first h) i) = (lse (q h) (k h) (T h) i : EReal)
  hd : ∀ i h, (V m c (Pipeline.arrRef spec0 4) : S64x4096.Idx → EReal) (ix2 (first h) i) = (delta (q h) (k h) (v h) (g h) (T h) i : EReal)
  hg : ∀ i h l, (V m c (Pipeline.arrRef spec0 5) : S4096x1024.Idx → EReal) (ix2 i (col h l)) = (lane (g h i) l.val : EReal)

/-- The gradients of the keys and of the values, packed. -/
def packedDk (q k : Fin 8 → Fin 4096 → Fin 96 → ℝ) (v g : Fin 8 → Fin 4096 → Fin 64 → ℝ) (T : Fin 8 → Fin 4096 → ℝ) : S4096x1024.Idx → EReal := fun y =>
  let h : Fin 8 := ⟨(y 1).val / 128, by have : (y 1).val < 1024 := (y 1).isLt; omega⟩
  (lane (dk (q h) (k h) (v h) (g h) (T h) (y 0)) ((y 1).val % 128) : EReal)
@[inherit_doc packedDk] def packedDv (q k : Fin 8 → Fin 4096 → Fin 96 → ℝ) (g : Fin 8 → Fin 4096 → Fin 64 → ℝ) (T : Fin 8 → Fin 4096 → ℝ) :
    S4096x1024.Idx → EReal := fun y =>
  let h : Fin 8 := ⟨(y 1).val / 128, by have : (y 1).val < 1024 := (y 1).isLt; omega⟩
  (lane (dv (q h) (k h) (g h) (T h) (y 0)) ((y 1).val % 128) : EReal)

theorem packedDk_apply (q k : Fin 8 → Fin 4096 → Fin 96 → ℝ) (v g : Fin 8 → Fin 4096 → Fin 64 → ℝ) (T : Fin 8 → Fin 4096 → ℝ) (i : Fin 4096)
    (h : Fin 8) (l : Fin 128) : packedDk q k v g T (ix2 i (col h l)) = (lane (dk (q h) (k h) (v h) (g h) (T h) i) l.val : EReal) := by
  have e1 : (⟨(col h l).val / 128, by have := (col h l).isLt; omega⟩ : Fin 8) = h := by apply Fin.ext; simp only [col]; omega
  have e2 : (col h l).val % 128 = l.val := by simp only [col]; omega
  show (lane (dk (q ⟨(col h l).val / 128, _⟩) (k ⟨(col h l).val / 128, _⟩) (v ⟨(col h l).val / 128, _⟩) (g ⟨(col h l).val / 128, _⟩) (T ⟨(col h l).val / 128, _⟩) i)
    ((col h l).val % 128) : EReal) = _
  rw [e1, e2]

theorem packedDv_apply (q k : Fin 8 → Fin 4096 → Fin 96 → ℝ) (g : Fin 8 → Fin 4096 → Fin 64 → ℝ) (T : Fin 8 → Fin 4096 → ℝ) (i : Fin 4096)
    (h : Fin 8) (l : Fin 128) : packedDv q k g T (ix2 i (col h l)) = (lane (dv (q h) (k h) (g h) (T h) i) l.val : EReal) := by
  have e1 : (⟨(col h l).val / 128, by have := (col h l).isLt; omega⟩ : Fin 8) = h := by apply Fin.ext; simp only [col]; omega
  have e2 : (col h l).val % 128 = l.val := by simp only [col]; omega
  show (lane (dv (q ⟨(col h l).val / 128, _⟩) (k ⟨(col h l).val / 128, _⟩) (g ⟨(col h l).val / 128, _⟩) (T ⟨(col h l).val / 128, _⟩) i)
    ((col h l).val % 128) : EReal) = _
  rw [e1, e2]

/-- A score over padded rows, the key's row first, and likewise the gradient that reaches a weight. -/
theorem sum_lane_comm {n N : ℕ} (h : n ≤ N) (f g : Fin n → ℝ) : ∑ l : Fin N, lane f l.val * lane g l.val = ∑ d, g d * f d :=
  (sum_lane h f g).trans (Finset.sum_congr rfl fun _ _ => mul_comm _ _)

variable {m c}
variable {q k : Fin 8 → Fin 4096 → Fin 96 → ℝ} {v g : Fin 8 → Fin 4096 → Fin 64 → ℝ} {T : Fin 8 → Fin 4096 → ℝ}

theorem array6_eq (S : Staged m c q k v g T) : (dats m 0 c).arrAt 6 cfg0.N = packedDk q k v g T := by
  refine (dats m 0 c).arrAt_eq_of_covers 6 _ (by decide +kernel) fun t hf y => ?_
  have e := congrFun (flushed6_eq m c t) y
  blk_simp [idx t]
  refine Eq.trans e ?_
  obtain ⟨r, l, rfl⟩ : ∃ (r : Fin 512) (l : Fin 128), y = ix2 r l := ⟨y 0, y 1, by funext a; fin_cases a <;> rfl⟩
  refine Eq.trans ?_ (congrArg (packedDk q k v g T) (emb6 t r l)).symm
  rw [packedDk_apply]
  refine (dkBlock_eq (Q := fun i l => lane (q (hd t) i) l.val) (K := fun r l => lane (k (hd t) (row (kb t) r)) l.val)
    (V := fun r l => lane (v (hd t) (row (kb t) r)) l.val) (L := lse (q (hd t)) (k (hd t)) (T (hd t)))
    (D := delta (q (hd t)) (k (hd t)) (v (hd t)) (g (hd t)) (T (hd t))) (G := fun i l => lane (g (hd t) i) l.val)
    (fun i l => (iblk0 m c t i l).trans (S.hq _ _ _)) (fun r l => (iblk1 m c t r l).trans (S.hk _ _ _)) (fun r l => (iblk2 m c t r l).trans (S.hv _ _ _))
    (fun i => (iblk3 m c t i).trans (S.hl _ _)) (fun i => (iblk4 m c t i).trans (S.hd _ _)) (fun i l => (iblk5 m c t i l).trans (S.hg _ _ _))
    (kb t).val (kb t).isLt r l).trans ?_
  refine congrArg _ ?_
  unfold dk
  rw [← sum_mul_lane]
  refine Finset.sum_congr rfl fun i _ => ?_
  have ei : qrow i.val = i := Fin.ext (Nat.mod_eq_of_lt i.isLt)
  rw [← dscore_lse]
  unfold dkTerm
  simp only [ei, sum_lane_comm (show 96 ≤ 128 by decide), sum_lane_comm (show 64 ≤ 128 by decide)]
  show (if (row (kb t) r).val ≤ i.val then _ else _) = (if (row (kb t) r).val ≤ i.val then _ else _) * _
  split_ifs
  · rfl
  · simp

theorem array7_eq (S : Staged m c q k v g T) : (dats m 0 c).arrAt 7 cfg0.N = packedDv q k g T := by
  refine (dats m 0 c).arrAt_eq_of_covers 7 _ (by decide +kernel) fun t hf y => ?_
  have e := congrFun (flushed7_eq m c t) y
  blk_simp [idx t]
  refine Eq.trans e ?_
  obtain ⟨r, l, rfl⟩ : ∃ (r : Fin 512) (l : Fin 128), y = ix2 r l := ⟨y 0, y 1, by funext a; fin_cases a <;> rfl⟩
  refine Eq.trans ?_ (congrArg (packedDv q k g T) (emb7 t r l)).symm
  rw [packedDv_apply]
  refine (dvBlock_eq (Q := fun i l => lane (q (hd t) i) l.val) (K := fun r l => lane (k (hd t) (row (kb t) r)) l.val)
    (L := lse (q (hd t)) (k (hd t)) (T (hd t))) (G := fun i l => lane (g (hd t) i) l.val)
    (fun i l => (iblk0 m c t i l).trans (S.hq _ _ _)) (fun r l => (iblk1 m c t r l).trans (S.hk _ _ _))
    (fun i => (iblk3 m c t i).trans (S.hl _ _)) (fun i l => (iblk5 m c t i l).trans (S.hg _ _ _))
    (kb t).val (kb t).isLt r l).trans ?_
  refine congrArg _ ?_
  unfold dv
  rw [← sum_mul_lane]
  refine Finset.sum_congr rfl fun i _ => ?_
  have ei : qrow i.val = i := Fin.ext (Nat.mod_eq_of_lt i.isLt)
  rw [← exp_sub_lse]
  unfold dvTerm
  simp only [ei, sum_lane_comm (show 96 ≤ 128 by decide)]
  show (if (row (kb t) r).val ≤ i.val then _ else _) = (if (row (kb t) r).val ≤ i.val then _ else _) * _
  split_ifs
  · rfl
  · simp

end Cert.Kernel2Ideal.Dkv
-- ==== Proof.KvPrefix.lean ====
/-
  What the host's lines leave in the arrays that the call for dK and dV stages: the packed queries, keys, values and
  output gradients, and the row log-sums and row means, each repeated over eight rows.
-/
module

public import proofs.«01_k».proof.Proof.KvArray
public import proofs.«01_k».proof.Proof.Saved
public import proofs.«01_k».proof.Proof.RefScore
public import Idealize.ShloMosaic.Lib.StableHlo.ReadAt

@[expose] public section

set_option maxRecDepth 16384

noncomputable section

open Idealize.ShloMosaic Idealize.ShloMosaic.TcCoe Idealize.SL.Sem

namespace Cert.Kernel2Ideal.Dkv

open Cert.Kernel2Ideal Cert.Kernel2Ideal.Gen Attn
open Cert.KernelIdeal.Saved (expo sums probs outs pack64 pack96 expo_eq sums_eq probs_eq outs_eq pack64_eq pack96_eq)
open Cert.ReferenceIdeal.Read (val_main_v7_0 val_main_v8)
open Cert.ReferenceIdeal.Dq (scores_eq tops_eq)

/-- A number of every head and row, each head's repeated over eight rows. -/
def rows (x : FVec Ideal S8x4096 .f32) : FVec Ideal S64x4096 .f32 :=
  shapeCast S64x4096
    (broadcastInDim S8x8x4096 ![0, 1, 2] bcast_S8x1x4096_S8x8x4096_0_1_2 (broadcastInDim S8x1x4096 ![0, 2] bcast_S8x4096_S8x1x4096_0_2 x))
    shapeCasts_S8x8x4096_S64x4096

/-- The row log-sums. -/
def logs (t d : FVec Ideal S8x4096 .f32) : FVec Ideal S8x4096 .f32 :=
  shapeCast S8x4096
    (addf (broadcastInDim S8x4096x1 ![0, 1] bcast_S8x4096_S8x4096x1_0_1 t) (Host.log (broadcastInDim S8x4096x1 ![0, 1] bcast_S8x4096_S8x4096x1_0_1 d)))
    shapeCasts_S8x4096x1_S8x4096

/-- The row means: the output gradients times the outputs, summed over a head's entries. -/
def means (g o : FVec Ideal S4096x8x64 .f32) : FVec Ideal S8x4096 .f32 :=
  transpose S8x4096 [1, 0] (Host.reduceAdd (mulf g o) (constant S_ .f32 0x00000000#32) reducesTo_S4096x8x64_S4096x8_d2 h_S_)
    transposes_S4096x8_S8x4096_1_0

theorem rows_eq (x : FVec Ideal S8x4096 .f32) (h : Fin 8) (i : Fin 4096) : rows x (ix2 (first h) i) = x (ix2 h i) := by
  pointwise [rows]
  refine congrArg (fun a : Fin 8 => x (ix2 a i)) (Fin.ext ?_)
  simp only [first]
  omega

theorem logs_eq {t d : FVec Ideal S8x4096 .f32} {q k : Fin 8 → Fin 4096 → Fin 96 → ℝ} (ht : ∀ h i, t (ix2 h i) = (top (q h) (k h) i : EReal))
    (hd : ∀ h i, d (ix2 h i) = (den (q h) (k h) (top (q h) (k h)) i : EReal)) (h : Fin 8) (i : Fin 4096) :
    logs t d (ix2 h i) = (lse (q h) (k h) (top (q h) (k h)) i : EReal) := by
  pointwise [logs]
  rw [ht, hd, Ideal.log_coe, if_neg (not_le.mpr (den_pos _ _ _ _)), ← EReal.coe_add]
  rfl

theorem means_eq {x o : FVec Ideal S4096x8x64 .f32} {q k : Fin 8 → Fin 4096 → Fin 96 → ℝ} {v g : Fin 8 → Fin 4096 → Fin 64 → ℝ}
    (hx : ∀ i h d, x (ix3 i h d) = (g h i d : EReal)) (ho : ∀ i h d, o (ix3 i h d) = (out (q h) (k h) (v h) (top (q h) (k h)) i d : EReal))
    (h : Fin 8) (i : Fin 4096) : means x o (ix2 h i) = (delta (q h) (k h) (v h) (g h) (top (q h) (k h)) i : EReal) := by
  pointwise [means]
  simp only [hx, ho, ← EReal.coe_mul, ← coe_sum]
  rfl

section arrays
variable (m : (ℓ : Loc nD τ sig) → Buf (Elt Ideal) ℓ) (c : Dev nD)

/-- The argument arrays. -/
abbrev A0 : FVec Ideal S4096x8x96 .f32 := m (c, Proc.tc.devRef main_arg0)
@[inherit_doc A0] abbrev A1 : FVec Ideal S4096x8x96 .f32 := m (c, Proc.tc.devRef main_arg1)
@[inherit_doc A0] abbrev A2 : FVec Ideal S4096x8x64 .f32 := m (c, Proc.tc.devRef main_arg2)
@[inherit_doc A0] abbrev A3 : FVec Ideal S4096x8x64 .f32 := m (c, Proc.tc.devRef main_arg3)

theorem staged0 : (V m c main_v26 : S4096x1024.Idx → EReal) = pack96 (A0 m c) := by
  unfold V
  after_reads_simp
  all_goals try simp -implicitDefEqProofs only [StableHlo.TRef.toBuf, StableHlo.TRef.ofBuf, cast_cast, cast_eq]
  all_goals clean_types
  rfl

theorem staged1 : (V m c main_v29 : S4096x1024.Idx → EReal) = pack96 (A1 m c) := by
  unfold V
  after_reads_simp
  all_goals try simp -implicitDefEqProofs only [StableHlo.TRef.toBuf, StableHlo.TRef.ofBuf, cast_cast, cast_eq]
  all_goals clean_types
  rfl

theorem staged2 : (V m c main_v32 : S4096x1024.Idx → EReal) = pack64 (A2 m c) := by
  unfold V
  after_reads_simp
  all_goals try simp -implicitDefEqProofs only [StableHlo.TRef.toBuf, StableHlo.TRef.ofBuf, cast_cast, cast_eq]
  all_goals clean_types
  rfl

theorem staged3 : (V m c main_v35 : S64x4096.Idx → EReal)
    = rows (logs (val_main_v8 (F := Ideal) (A0 m c) (A1 m c))
        (sums (expo (val_main_v7_0 (F := Ideal) (A0 m c) (A1 m c)) (val_main_v8 (F := Ideal) (A0 m c) (A1 m c))))) := by
  unfold V
  after_reads_simp
  all_goals try simp -implicitDefEqProofs only [StableHlo.TRef.toBuf, StableHlo.TRef.ofBuf, cast_cast, cast_eq]
  all_goals clean_types
  rfl

theorem staged4 : (V m c main_v39 : S64x4096.Idx → EReal)
    = rows (means (A3 m c) (outs (A2 m c)
        (probs (expo (val_main_v7_0 (F := Ideal) (A0 m c) (A1 m c)) (val_main_v8 (F := Ideal) (A0 m c) (A1 m c)))
          (sums (expo (val_main_v7_0 (F := Ideal) (A0 m c) (A1 m c)) (val_main_v8 (F := Ideal) (A0 m c) (A1 m c))))))) := by
  unfold V
  after_reads_simp
  all_goals try simp -implicitDefEqProofs only [StableHlo.TRef.toBuf, StableHlo.TRef.ofBuf, cast_cast, cast_eq]
  all_goals clean_types
  rfl

theorem staged5 : (V m c main_v41 : S4096x1024.Idx → EReal) = pack64 (A3 m c) := by
  unfold V
  after_reads_simp
  all_goals try simp -implicitDefEqProofs only [StableHlo.TRef.toBuf, StableHlo.TRef.ofBuf, cast_cast, cast_eq]
  all_goals clean_types
  rfl

end arrays

variable {m : (ℓ : Loc nD τ sig) → Buf (Elt Ideal) ℓ} {c : Dev nD}
variable {q k : Fin 8 → Fin 4096 → Fin 96 → ℝ} {v g : Fin 8 → Fin 4096 → Fin 64 → ℝ}

theorem col_div (h : Fin 8) (l : Fin 128) : h.val = (col h l).val / 128 := by simp only [col]; omega
theorem col_mod (h : Fin 8) (l : Fin 128) : (col h l).val % 128 = l.val := by simp only [col]; omega

/-- The staged arrays, where the arguments are real. -/
theorem staged (h0 : ∀ i h d, A0 m c (ix3 i h d) = (q h i d : EReal)) (h1 : ∀ i h d, A1 m c (ix3 i h d) = (k h i d : EReal))
    (h2 : ∀ i h d, A2 m c (ix3 i h d) = (v h i d : EReal)) (h3 : ∀ i h d, A3 m c (ix3 i h d) = (g h i d : EReal)) :
    Staged m c q k v g (fun h => top (q h) (k h)) := by
  have hs := scores_eq h0 h1
  have ht := tops_eq h0 h1
  have he := expo_eq hs ht
  have hd := sums_eq he
  have hp := probs_eq he hd
  have ho := outs_eq h2 hp
  constructor
  · intro i h l
    refine (congrFun (staged0 m c) _).trans ((pack96_eq h0 h i _ (col_div h l)).trans ?_)
    rw [col_mod]
  · intro i h l
    refine (congrFun (staged1 m c) _).trans ((pack96_eq h1 h i _ (col_div h l)).trans ?_)
    rw [col_mod]
  · intro i h l
    refine (congrFun (staged2 m c) _).trans ((pack64_eq h2 h i _ (col_div h l)).trans ?_)
    rw [col_mod]
  · intro i h
    exact (congrFun (staged3 m c) _).trans ((rows_eq _ h i).trans (logs_eq ht hd h i))
  · intro i h
    exact (congrFun (staged4 m c) _).trans ((rows_eq _ h i).trans (means_eq h3 ho h i))
  · intro i h l
    refine (congrFun (staged5 m c) _).trans ((pack64_eq h3 h i _ (col_div h l)).trans ?_)
    rw [col_mod]

end Cert.Kernel2Ideal.Dkv
-- ==== Proof.KvRef.lean ====
/-
  The reference of the call for dK and dV over real inputs: the gradients of the keys and of the values, packed. Its
  first lines are those of the dQ reference.
-/
module

public import proofs.«01_k».proof.Proof.Gen.Reference2Ideal.Read
public import proofs.«01_k».proof.Proof.RefScore

@[expose] public section

set_option maxRecDepth 16384

noncomputable section

open Idealize.ShloMosaic Idealize.ShloMosaic.TcCoe Idealize.SL.Sem

namespace Cert.Reference2Ideal.Dkv

open Cert.Reference2Ideal Cert.Reference2Ideal.Gen Cert.Reference2Ideal.Read Attn
open Cert.ReferenceIdeal.Dq (tops dscore_eq prob_eq)

variable {x0 x1 : (⟨S4096x8x96, .f32⟩ : BufTy).Contents (Elt Ideal)} {x2 x3 : (⟨S4096x8x64, .f32⟩ : BufTy).Contents (Elt Ideal)}
variable {q k : Fin 8 → Fin 4096 → Fin 96 → ℝ} {v g : Fin 8 → Fin 4096 → Fin 64 → ℝ}

/-- The gradients of the scores and the weights, as the dQ reference names them. -/
theorem v54_eq : val_main_v54 (F := Ideal) x0 x1 x2 x3 = Cert.ReferenceIdeal.Read.val_main_v54 (F := Ideal) x0 x1 x2 x3 := rfl
@[inherit_doc v54_eq] theorem v32_eq : val_main_v32 (F := Ideal) x0 x1 = Cert.ReferenceIdeal.Read.val_main_v32 (F := Ideal) x0 x1 := rfl

variable (h0 : ∀ i h d, x0 (ix3 i h d) = (q h i d : EReal)) (h1 : ∀ i h d, x1 (ix3 i h d) = (k h i d : EReal))
  (h3 : ∀ i h d, x3 (ix3 i h d) = (g h i d : EReal))

include h0 h1 h3 in
theorem dv_eq (i : Fin 4096) (y : Fin 1024) (h : Fin 8) (hh : h.val = y.val / 128) :
    val_main_v64 x0 x1 x3 (ix2 i y) = (lane (dv (q h) (k h) (g h) (tops q k h) i) (y.val % 128) : EReal) := by
  have e : ∀ d, val_main_v41 (F := Ideal) x0 x1 x3 (ix3 i h d) = (dv (q h) (k h) (g h) (tops q k h) i d : EReal) := by
    intro d
    pointwise [val_main_v41, val_main_v40, val_main_v38]
    simp only [v32_eq, prob_eq h0 h1, h3, ← EReal.coe_mul, ← coe_sum, mul_comm (g _ _ _)]
    rfl
  obtain ⟨h, hlt⟩ := h
  obtain rfl : h = y.val / 128 := hh
  pointwise [val_main_v64, val_main_v63]
  unfold lane
  split_ifs with hd
  · exact e _
  · rename_i h12
    exact absurd h12 (by decide)
  · exact (val_main_v62_apply _).trans Ideal.ofBits_zero_f32

include h0 h1 h3 in
theorem dk_eq (h2 : ∀ i h d, x2 (ix3 i h d) = (v h i d : EReal)) (i : Fin 4096) (y : Fin 1024) (h : Fin 8) (hh : h.val = y.val / 128) :
    val_main_v61 x0 x1 x2 x3 (ix2 i y) = (lane (dk (q h) (k h) (v h) (g h) (tops q k h) i) (y.val % 128) : EReal) := by
  have e : ∀ d, val_main_v56 (F := Ideal) x0 x1 x2 x3 (ix3 i h d) = (dk (q h) (k h) (v h) (g h) (tops q k h) i d : EReal) := by
    intro d
    pointwise [val_main_v56, val_main_v55]
    simp only [v54_eq, dscore_eq h2 h3 h0 h1, h0, ← EReal.coe_mul, ← coe_sum]
    rfl
  obtain ⟨h, hlt⟩ := h
  obtain rfl : h = y.val / 128 := hh
  pointwise [val_main_v61, val_main_v60]
  unfold lane
  split_ifs with hd
  · exact e _
  · rename_i h12
    exact absurd h12 (by decide)
  · exact (val_main_v59_apply _).trans Ideal.ofBits_zero_f32

end Cert.Reference2Ideal.Dkv
-- ==== Proof.Dkv.lean ====
/-
  The call for dK and dV and its reference leave the same two arrays.
-/
module

public import proofs.«01_k».proof.Defs
public import proofs.«01_k».proof.Proof.KvPrefix
public import proofs.«01_k».proof.Proof.KvRef
public import proofs.«01_k».proof.Proof.Finite
public import proofs.«01_k».proof.Proof.Gen.Reference2Ideal.Run

@[expose] public section

set_option maxRecDepth 16384

noncomputable section

open Idealize.ShloMosaic Idealize.ShloMosaic.TcCoe Idealize.SL.Sem

namespace Cert.Proof

open Attn

theorem frame_reference2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

section arrays
variable {x0 x1 : FVec Ideal Cert.Reference2Ideal.S4096x8x96 .f32} {x2 x3 : FVec Ideal Cert.Reference2Ideal.S4096x8x64 .f32}
  {q k : Fin 8 → Fin 4096 → Fin 96 → ℝ} {v g : Fin 8 → Fin 4096 → Fin 64 → ℝ}
  (h0 : ∀ i h d, x0 (ix3 i h d) = (q h i d : EReal)) (h1 : ∀ i h d, x1 (ix3 i h d) = (k h i d : EReal))
  (h2 : ∀ i h d, x2 (ix3 i h d) = (v h i d : EReal)) (h3 : ∀ i h d, x3 (ix3 i h d) = (g h i d : EReal))

include h0 h1 h2 h3 in
/-- The reference's gradient of the keys, whole, over real arguments. -/
theorem reference_dk :
    Cert.Reference2Ideal.Read.val_main_v61 (F := Ideal) x0 x1 x2 x3 = Cert.Kernel2Ideal.Dkv.packedDk q k v g (fun h => top (q h) (k h)) := by
  funext y
  obtain ⟨i, l, rfl⟩ : ∃ (i : Fin 4096) (l : Fin 1024), y = ix2 i l := ⟨y 0, y 1, by funext a; fin_cases a <;> rfl⟩
  exact Cert.Reference2Ideal.Dkv.dk_eq h0 h1 h3 h2 i l ⟨l.val / 128, by have := l.isLt; omega⟩ rfl

include h0 h1 h3 in
/-- The reference's gradient of the values, whole, over real arguments. -/
theorem reference_dv :
    Cert.Reference2Ideal.Read.val_main_v64 (F := Ideal) x0 x1 x3 = Cert.Kernel2Ideal.Dkv.packedDv q k g (fun h => top (q h) (k h)) := by
  funext y
  obtain ⟨i, l, rfl⟩ : ∃ (i : Fin 4096) (l : Fin 1024), y = ix2 i l := ⟨y 0, y 1, by funext a; fin_cases a <;> rfl⟩
  exact Cert.Reference2Ideal.Dkv.dv_eq h0 h1 h3 i l ⟨l.val / 128, by have := l.isLt; omega⟩ rfl

end arrays

theorem algebraic_dkv : Cert.algebraic_Kernel2Ideal_Reference2Ideal_pre_finite := by
  intro m ρ m' ρ' hpre hagree
  let q : Dev Cert.Kernel2Ideal.nD → Fin 8 → Fin 4096 → Fin 96 → ℝ := fun c h i d => (Cert.Kernel2Ideal.Dkv.A0 m c (ix3 i h d) : EReal).toReal
  let k : Dev Cert.Kernel2Ideal.nD → Fin 8 → Fin 4096 → Fin 96 → ℝ := fun c h i d => (Cert.Kernel2Ideal.Dkv.A1 m c (ix3 i h d) : EReal).toReal
  let v : Dev Cert.Kernel2Ideal.nD → Fin 8 → Fin 4096 → Fin 64 → ℝ := fun c h i d => (Cert.Kernel2Ideal.Dkv.A2 m c (ix3 i h d) : EReal).toReal
  let g : Dev Cert.Kernel2Ideal.nD → Fin 8 → Fin 4096 → Fin 64 → ℝ := fun c h i d => (Cert.Kernel2Ideal.Dkv.A3 m c (ix3 i h d) : EReal).toReal
  have hreal := fun c => Cert.Pre_finite.fn_real (hpre c)
  have h0 : ∀ c i h d, Cert.Kernel2Ideal.Dkv.A0 m c (ix3 i h d) = (q c h i d : EReal) := fun c i h d => (hreal c).1 _
  have h1 : ∀ c i h d, Cert.Kernel2Ideal.Dkv.A1 m c (ix3 i h d) = (k c h i d : EReal) := fun c i h d => (hreal c).2.1 _
  have h2 : ∀ c i h d, Cert.Kernel2Ideal.Dkv.A2 m c (ix3 i h d) = (v c h i d : EReal) := fun c i h d => (hreal c).2.2.1 _
  have h3 : ∀ c i h d, Cert.Kernel2Ideal.Dkv.A3 m c (ix3 i h d) = (g c h i d : EReal) := fun c i h d => (hreal c).2.2.2 _
  refine ⟨fun c => Cert.Kernel2Ideal.Dkv.packedDk (q c) (k c) (v c) (g c) (fun h => top (q c h) (k c h)),
    fun c => Cert.Kernel2Ideal.Dkv.packedDv (q c) (k c) (g c) (fun h => top (q c h) (k c h)), ?_, ?_⟩
  · refine (θ_run Cert.Kernel2Ideal.defs _ _).mono (fun r h c => ?_) (Cert.Kernel2Ideal.Value.run_blocks (F := Ideal) m ρ)
    have hs := Cert.Kernel2Ideal.Dkv.staged (h0 c) (h1 c) (h2 c) (h3 c)
    exact ⟨(h c).1.trans (Cert.Kernel2Ideal.Dkv.array6_eq hs), (h c).2.1.trans (Cert.Kernel2Ideal.Dkv.array7_eq hs), (h c).2.2⟩
  · refine (θ_run Cert.Reference2Ideal.defs _ _).mono (fun r h c => ⟨?_, ?_, (h c).2.2⟩) (Cert.Reference2Ideal.Value.run (F := Ideal) m' ρ')
    · refine (h c).1.trans ((Cert.Reference2Ideal.Read.val_main_v61_eq m' c).trans ?_)
      obtain ⟨a0, a1, a2, a3⟩ := hagree c
      rw [a0, a1, a2, a3]
      exact reference_dk (h0 c) (h1 c) (h2 c) (h3 c)
    · refine (h c).2.1.trans ((Cert.Reference2Ideal.Read.val_main_v64_eq _ _ _).trans ?_)
      obtain ⟨a0, a1, a2, a3⟩ := hagree c
      rw [a0, a1, a3]
      exact reference_dv (h0 c) (h1 c) (h3 c)

end Cert.Proof
-- ==== Proof.Fold.lean ====
/-
  A sum gathered in pieces of equal length, one after the other.
-/
module

public import Mathlib.Algebra.BigOperators.Fin
public import Mathlib.Data.EReal.Operations

@[expose] public section

noncomputable section

namespace Fold

/-- A function on the first `N` numbers, zero beyond. -/
def ext {N : ℕ} (f : Fin N → EReal) (k : ℕ) : EReal := if h : k < N then f ⟨k, h⟩ else 0

theorem ext_of {N : ℕ} (f : Fin N → EReal) {k : ℕ} (h : k < N) : ext f k = f ⟨k, h⟩ := dif_pos h

/-- The sum of the first `n` values. -/
def upto {N : ℕ} (f : Fin N → EReal) (n : ℕ) : EReal := ∑ k ∈ Finset.range n, ext f k

theorem upto_all {N : ℕ} (f : Fin N → EReal) : upto f N = ∑ k, f k := by
  rw [upto, Finset.sum_range]
  exact Finset.sum_congr rfl fun k _ => ext_of f k.isLt

theorem upto_zero {N : ℕ} (f : Fin N → EReal) : upto f 0 = 0 := Finset.sum_range_zero _

/-- The next piece: `w` values from `n` on. -/
theorem upto_add {N : ℕ} (f : Fin N → EReal) {n w : ℕ} (h : n + w ≤ N) (g : Fin w → EReal)
    (hg : ∀ r : Fin w, g r = f ⟨n + r.val, by omega⟩) : upto f n + ∑ r, g r = upto f (n + w) := by
  rw [upto, upto, Finset.sum_range_add, Finset.sum_range (fun x => ext f (n + x))]
  refine congrArg _ (Finset.sum_congr rfl fun r _ => (hg r).trans (ext_of f _).symm)

/-- The first piece. -/
theorem upto_first {N : ℕ} (f : Fin N → EReal) {w : ℕ} (h : w ≤ N) (g : Fin w → EReal)
    (hg : ∀ r : Fin w, g r = f ⟨r.val, by omega⟩) : ∑ r, g r = upto f w := by
  rw [upto, Finset.sum_range]
  exact Finset.sum_congr rfl fun r _ => (hg r).trans (ext_of f _).symm

/-- A factor that is no negative and not infinite goes into a sum. -/
theorem scale_sum {N : ℕ} {r : EReal} (h : 0 ≤ r) (h' : r ≠ ⊤) (f : Fin N → EReal) : r * ∑ k, f k = ∑ k, r * f k := by
  induction N with
  | zero => simp
  | succ n ih => rw [Fin.sum_univ_succ, Fin.sum_univ_succ, EReal.left_distrib_of_nonneg_of_ne_top h h', ih]

end Fold
-- ==== Proof.Dwin.lean ====
/-
  The product for the gradient of the FFN's first weights: what each grid point leaves.
-/
module

public import proofs.«01_k».proof.Defs
public import proofs.«01_k».proof.Proof.Fold
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem

namespace Cert.Kernel3Ideal.Dwin

open Cert.Kernel3Ideal Cert.Kernel3Ideal.Gen Fold

theorem hz : (![0, 0] : Fin 2 → Nat) = fun _ => 0 := funext fun a => by fin_cases a <;> rfl
theorem hz3 : (![0, 0, 0] : Fin 3 → Nat) = fun _ => 0 := funext fun a => by fin_cases a <;> rfl

section cases
variable {F : FTy → Type} [FloatOps F] (c : Dev nD) (i : grid0.Coords)
  (a3 : Memref sig .tc .vmem S1024x1024 .bf16) (h3 : a3.IsWhole) (a4 : Memref sig .tc .vmem S1x1024x704 .bf16) (h4 : a4.IsWhole)
  (a5 : Memref sig .tc .vmem S1x1024x704 .bf16) (h5 : a5.IsWhole) (a6 : Memref sig .tc .vmem S1024x704 .f32) (h6 : a6.IsWhole)
  (x0 : Vec F S1024x1024 .bf16) (x1 : Vec F S1x1024x704 .bf16) (xs : Vec F S1024x704 .f32)

/-- The first point of a block starts from zeros. -/
theorem sout_A (hc0 : cond0_0 i) (hc1 : ¬cond0_1 i) :
    sout0_A_0 c i a3 h3 a4 h4 a5 h5 a6 h6 hc0 hc1 x0 x1 = k0_pay2 x0 x1 k0_pay1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x704) hz, View.readCov_unit_zero (S := S1024x704) _ hz]
  simp only [View.readAt_eq_ld, h3.read_unread, h4.read_unread, View.ld_unit_zero (S := S1024x1024) hz, View.ld_unit_zero (S := S1x1024x704) hz3]

/-- A middle point adds its product. -/
theorem sout_B (hc0 : ¬cond0_0 i) (hc1 : ¬cond0_1 i) :
    sout0_B_0 c i a3 h3 a4 h4 a5 h5 a6 h6 hc0 hc1 x0 x1 xs = k0_pay2 x0 x1 xs := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero hz]
  simp only [View.readAt_eq_ld, h3.read_unread, h4.read_unread, h6.read_unread, View.ld_unit_zero (S := S1024x1024) hz,
    View.ld_unit_zero (S := S1x1024x704) hz3, View.ld_unit_zero (S := S1024x704) hz]

/-- The last point writes the sum. -/
theorem out_C (hc0 : ¬cond0_0 i) (hc1 : cond0_1 i) :
    out0_C_2 c i a3 h3 a4 h4 a5 h5 a6 h6 hc0 hc1 x0 x1 xs = k0_pay3 (k0_pay2 x0 x1 xs) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz3, View.readCov_unit_zero (S := S1024x704) _ hz]
  simp only [View.readAt_eq_ld, h3.read_unread, h4.read_unread, h6.read_unread, View.ld_unit_zero (S := S1024x1024) hz,
    View.ld_unit_zero (S := S1x1024x704) hz3, View.ld_unit_zero (S := S1024x704) hz]

end cases

theorem pay2_apply (x0 : Vec Ideal S1024x1024 .bf16) (x1 : Vec Ideal S1x1024x704 .bf16) (xs : Vec Ideal S1024x704 .f32) (i : Fin 1024) (j : Fin 704) :
    (k0_pay2 x0 x1 xs (ix2 i j) : EReal) = xs (ix2 i j) + ∑ r : Fin 1024, (x0 (ix2 r i) * x1 (ix3 0 r j) : EReal) := by
  pointwise [k0_pay2]

theorem pay1_apply (i : Fin 1024) (j : Fin 704) : (k0_pay1 (F := Ideal) (ix2 i j) : EReal) = 0 := by
  pointwise [k0_pay1]

theorem pay3_apply (x : Vec Ideal S1024x704 .f32) (i : Fin 1024) (j : Fin 704) : (k0_pay3 x (ix3 0 i j) : EReal) = x (ix2 i j) := by
  pointwise [k0_pay3]

/-- Grid point `t` is block `t % 4` of the tokens, for block `t / 4` of the columns. -/
theorem idx : ∀ t : Fin grid0.N, win0_0.index t = ![t.val % 4, 0] ∧ win0_1.index t = ![t.val / 4, t.val % 4, 0] ∧ win0_2.index t = ![t.val / 4, 0, 0] := by
  decide +kernel

/-- Token `1024 b + r`, and column `704 n + j`. -/
def tok (b : ℕ) (r : Fin 1024) : Fin 4096 := ⟨(1024 * b + r.val) % 4096, Nat.mod_lt _ (by decide)⟩
@[inherit_doc tok] def col (n : Fin 8) (j : Fin 704) : Fin 5632 := ⟨n.val * 704 + j.val, by omega⟩

/-- The block of columns of a grid point. -/
def nb (t : Fin cfg0.N) : Fin 8 := ⟨t.val / 4, by have : t.val < 32 := t.isLt; omega⟩

theorem emb0 (t : Fin cfg0.N) (r i : Fin 1024) : (win0_0.blk t).view.emb (ix2 r i) = (ix2 (tok (t.val % 4) r) i : S4096x1024.Idx) := by
  blk_ext [tok, nb, idx t]

theorem emb1 (t : Fin cfg0.N) (r : Fin 1024) (j : Fin 704) :
    (win0_1.blk t).view.emb (ix3 0 r j) = (ix3 (nb t) (tok (t.val % 4) r) j : S8x4096x704.Idx) := by
  blk_ext [tok, nb, idx t]

theorem emb2 (t : Fin cfg0.N) (i : Fin 1024) (j : Fin 704) : (win0_2.blk t).view.emb (ix3 0 i j) = (ix3 (nb t) i j : S8x1024x704.Idx) := by
  blk_ext [tok, nb, idx t]

variable (m : (ℓ : Loc nD τ sig) → Buf (Elt Ideal) ℓ) (c : Dev nD)

/-- The arguments: the rows of `h`, and the gradients that reach the product. -/
abbrev A0 : FVec Ideal S4096x1024 .f32 := m (c, Proc.tc.devRef main_arg0)
@[inherit_doc A0] abbrev A1 : FVec Ideal S4096x5632 .f32 := m (c, Proc.tc.devRef main_arg1)

theorem staged0 : (V m c main_v3 : S4096x1024.Idx → EReal) = truncf .bf16 (A0 m c) bitsLt_bf16_f32 := by
  unfold V
  after_reads_simp
  all_goals try simp -implicitDefEqProofs only [StableHlo.TRef.toBuf, StableHlo.TRef.ofBuf, cast_cast, cast_eq]
  all_goals clean_types

theorem staged1 : (V m c main_v2 : S8x4096x704.Idx → EReal) =
    transpose S8x4096x704 [1, 0, 2] (shapeCast S4096x8x704 (truncf .bf16 (A1 m c) bitsLt_bf16_f32) shapeCasts_S4096x5632_S4096x8x704)
      transposes_S4096x8x704_S8x4096x704_1_0_2 := by
  unfold V
  after_reads_simp
  all_goals try simp -implicitDefEqProofs only [StableHlo.TRef.toBuf, StableHlo.TRef.ofBuf, cast_cast, cast_eq]
  all_goals clean_types
  rfl

theorem iblk0 (t : Fin cfg0.N) (r i : Fin 1024) : (iblk m c 0 t (ix2 r i) : EReal) = A0 m c (ix2 (tok (t.val % 4) r) i) :=
  (congrArg (V m c main_v3 : S4096x1024.Idx → EReal) (emb0 t r i)).trans (congrFun (staged0 m c) _)

theorem packed (x : FVec Ideal S4096x5632 .f32) (n : Fin 8) (k : Fin 4096) (j : Fin 704) :
    (transpose S8x4096x704 [1, 0, 2] (shapeCast S4096x8x704 (truncf .bf16 x bitsLt_bf16_f32) shapeCasts_S4096x5632_S4096x8x704)
      transposes_S4096x8x704_S8x4096x704_1_0_2 (ix3 n k j) : EReal) = x (ix2 k (col n j)) := by
  pointwise []
  rfl

theorem iblk1 (t : Fin cfg0.N) (r : Fin 1024) (j : Fin 704) : (iblk m c 1 t (ix3 0 r j) : EReal) = A1 m c (ix2 (tok (t.val % 4) r) (col (nb t) j)) :=
  (congrArg (V m c main_v2 : S8x4096x704.Idx → EReal) (emb1 t r j)).trans ((congrFun (staged1 m c) _).trans (packed _ _ _ _))

/-- The terms of an entry of the product. -/
def term (x0 : FVec Ideal S4096x1024 .f32) (x1 : FVec Ideal S4096x5632 .f32) (n : Fin 8) (i : Fin 1024) (j : Fin 704) (k : Fin 4096) : EReal :=
  x0 (ix2 k i) * x1 (ix2 k (col n j))

/-- A point adds the next 1024 tokens. -/
theorem step (t : Fin cfg0.N) (xs : Vec Ideal S1024x704 .f32) (i : Fin 1024) (j : Fin 704)
    (h : (xs (ix2 i j) : EReal) = upto (term (A0 m c) (A1 m c) (nb t) i j) (1024 * (t.val % 4))) :
    (k0_pay2 (iblk m c 0 t) (iblk m c 1 t) xs (ix2 i j) : EReal) = upto (term (A0 m c) (A1 m c) (nb t) i j) (1024 * (t.val % 4 + 1)) := by
  rw [pay2_apply, h]
  refine upto_add _ (by omega) _ fun r => ?_
  have e : tok (t.val % 4) r = ⟨1024 * (t.val % 4) + r.val, by omega⟩ := Fin.ext (Nat.mod_eq_of_lt (by omega))
  rw [iblk0, iblk1, e]
  rfl

/-- What a point that does not write leaves in the scratch: the sum so far. -/
theorem scratch (n : ℕ) : ∀ (hn : n < cfg0.N), ¬n % 4 = 3 → ∀ (i : Fin 1024) (j : Fin 704),
    ((outsAt0 m c n hn).2 (ix2 i j) : EReal) = upto (term (A0 m c) (A1 m c) (nb ⟨n, hn⟩) i j) (1024 * (n % 4 + 1)) := by
  induction n with
  | zero =>
    intro hn h1 i j
    rw [outsAt0_A m c ⟨0, hn⟩ rfl h1]
    dsimp only
    rw [sout_A]
    exact step m c ⟨0, hn⟩ _ i j ((pay1_apply i j).trans (upto_zero _).symm)
  | succ n ih =>
    intro hn h1 i j
    by_cases h0 : (n + 1) % 4 = 0
    · rw [outsAt0_A m c ⟨n + 1, hn⟩ h0 h1]
      dsimp only
      rw [sout_A]
      refine step m c ⟨n + 1, hn⟩ _ i j ((pay1_apply i j).trans ?_)
      simp only [h0, Nat.mul_zero, upto_zero]
    · rw [outsAt0_B m c ⟨n + 1, hn⟩ h0 h1]
      dsimp only
      rw [sout_B]
      refine step m c ⟨n + 1, hn⟩ _ i j ((ih (by omega) (by omega) i j).trans ?_)
      rw [show nb ⟨n, by omega⟩ = nb ⟨n + 1, hn⟩ from Fin.ext (by simp only [nb]; omega), show n % 4 + 1 = (n + 1) % 4 by omega]

/-- The product, in blocks of columns. -/
def result (x0 : FVec Ideal S4096x1024 .f32) (x1 : FVec Ideal S4096x5632 .f32) : S8x1024x704.Idx → EReal := fun y =>
  ∑ k, term x0 x1 (y 0) (y 1) (y 2) k

theorem array_eq : (dats m 0 c).arrAt 2 cfg0.N = result (A0 m c) (A1 m c) := by
  refine (dats m 0 c).arrAt_eq_of_covers 2 _ (by decide +kernel) fun t hf y => ?_
  have h3 : t.val % 4 = 3 := (flush0_2 t).mp hf
  have hp : t.val - 1 < cfg0.N := Nat.lt_of_le_of_lt (Nat.sub_le _ _) t.isLt
  have e := congrFun (Value.flushed2_C m c t (by omega) h3) y
  rw [out_C] at e
  blk_simp [idx t]
  refine Eq.trans e ?_
  obtain ⟨z, i, j, rfl⟩ : ∃ (z : Fin 1) (i : Fin 1024) (j : Fin 704), y = ix3 z i j := ⟨y 0, y 1, y 2, by funext a; fin_cases a <;> rfl⟩
  obtain rfl : z = 0 := Subsingleton.elim _ _
  refine Eq.trans ?_ (congrArg (result (A0 m c) (A1 m c)) (emb2 t i j)).symm
  refine (pay3_apply _ i j).trans ((step m c t _ i j ((scratch m c (t.val - 1) hp (by omega) i j).trans ?_)).trans ?_)
  · rw [show nb ⟨t.val - 1, hp⟩ = nb t from Fin.ext (by simp only [nb]; omega), show (t.val - 1) % 4 + 1 = t.val % 4 by omega]
  · rw [h3]
    exact upto_all _

/-- The reference's array is the same product. -/
theorem reference_eq (x0 : FVec Ideal S4096x1024 .f32) (x1 : FVec Ideal S4096x5632 .f32) :
    Cert.Reference3Ideal.Read.val_main_v6 (F := Ideal) x0 x1 = result x0 x1 := by
  funext y
  obtain ⟨n, i, j, rfl⟩ : ∃ (n : Fin 8) (i : Fin 1024) (j : Fin 704), y = ix3 n i j := ⟨y 0, y 1, y 2, by funext a; fin_cases a <;> rfl⟩
  rw [Cert.Reference3Ideal.Read.val_main_v6_apply, Cert.Reference3Ideal.Read.val_main_v5_apply, Cert.Reference3Ideal.Read.val_main_v4_apply,
    Cert.Reference3Ideal.Read.val_main_v3_apply, Cert.Reference3Ideal.Read.val_main_v2_apply]
  refine Finset.sum_congr rfl fun k _ => (mul_comm _ _).trans ?_
  refine congrArg₂ (fun (a : S4096x1024.Idx) (b : S4096x5632.Idx) => (x0 a * x1 b : EReal)) ?_ ?_ <;> funext a <;> fin_cases a <;> apply Fin.ext <;>
    simp [ix2, ix3, col] <;> omega

end Cert.Kernel3Ideal.Dwin

namespace Cert.Proof

theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic_dwin : Cert.algebraic_Kernel3Ideal_Reference3Ideal := by
  intro m ρ m' ρ' _ hagree
  refine ⟨fun c => Cert.Kernel3Ideal.Dwin.result (Cert.Kernel3Ideal.Dwin.A0 m c) (Cert.Kernel3Ideal.Dwin.A1 m c), ?_, ?_⟩
  · refine (θ_run Cert.Kernel3Ideal.defs _ _).mono (fun r h c => ?_) (Cert.Kernel3Ideal.Value.run_blocks (F := Ideal) m ρ)
    exact ⟨(h c).1.trans (Cert.Kernel3Ideal.Dwin.array_eq m c), (h c).2⟩
  · refine (θ_run Cert.Reference3Ideal.defs _ _).mono (fun r h c => ⟨?_, (h c).2⟩) (Cert.Reference3Ideal.Value.run (F := Ideal) m' ρ')
    refine (h c).1.trans ((Cert.Reference3Ideal.Read.val_main_v6_eq _ _).trans ?_)
    rw [(hagree c).1, (hagree c).2]
    exact Cert.Kernel3Ideal.Dwin.reference_eq _ _

end Cert.Proof
-- ==== Proof.Dwout.lean ====
/-
  The product for the gradient of the FFN's second weights: each grid point adds 1024 tokens' terms, and the last one halves.
-/
module

public import proofs.«01_k».proof.Defs
public import proofs.«01_k».proof.Proof.Fold
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem

namespace Cert.Kernel4Ideal.Dwout

open Cert.Kernel4Ideal Cert.Kernel4Ideal.Gen Fold

theorem hz : (![0, 0] : Fin 2 → Nat) = fun _ => 0 := funext fun a => by fin_cases a <;> rfl
theorem hz3 : (![0, 0, 0] : Fin 3 → Nat) = fun _ => 0 := funext fun a => by fin_cases a <;> rfl

section cases
variable {F : FTy → Type} [FloatOps F] (c : Dev nD) (i : grid0.Coords)
  (a3 : Memref sig .tc .vmem S1x1024x704 .bf16) (h3 : a3.IsWhole) (a4 : Memref sig .tc .vmem S1024x1024 .f32) (h4 : a4.IsWhole)
  (a5 : Memref sig .tc .vmem S1x704x1024 .bf16) (h5 : a5.IsWhole) (a6 : Memref sig .tc .vmem S704x1024 .f32) (h6 : a6.IsWhole)
  (x0 : Vec F S1x1024x704 .bf16) (x1 : Vec F S1024x1024 .f32) (xs : Vec F S704x1024 .f32)

/-- The first point of a block starts from zeros. -/
theorem sout_A (hc0 : cond0_0 i) (hc1 : ¬cond0_1 i) :
    sout0_A_0 c i a3 h3 a4 h4 a5 h5 a6 h6 hc0 hc1 x0 x1 = k0_pay2 x0 x1 k0_pay1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S704x1024) hz, View.readCov_unit_zero (S := S704x1024) _ hz]
  simp only [View.readAt_eq_ld, h3.read_unread, h4.read_unread, View.ld_unit_zero (S := S1x1024x704) hz3, View.ld_unit_zero (S := S1024x1024) hz]

/-- A middle point adds its product. -/
theorem sout_B (hc0 : ¬cond0_0 i) (hc1 : ¬cond0_1 i) :
    sout0_B_0 c i a3 h3 a4 h4 a5 h5 a6 h6 hc0 hc1 x0 x1 xs = k0_pay2 x0 x1 xs := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero hz]
  simp only [View.readAt_eq_ld, h3.read_unread, h4.read_unread, h6.read_unread, View.ld_unit_zero (S := S1x1024x704) hz3, View.ld_unit_zero (S := S1024x1024) hz, View.ld_unit_zero (S := S704x1024) hz]

/-- The last point writes the sum. -/
theorem out_C (hc0 : ¬cond0_0 i) (hc1 : cond0_1 i) :
    out0_C_2 c i a3 h3 a4 h4 a5 h5 a6 h6 hc0 hc1 x0 x1 xs = k0_pay3 (k0_pay2 x0 x1 xs) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz3, View.readCov_unit_zero (S := S704x1024) _ hz]
  simp only [View.readAt_eq_ld, h3.read_unread, h4.read_unread, h6.read_unread, View.ld_unit_zero (S := S1x1024x704) hz3, View.ld_unit_zero (S := S1024x1024) hz, View.ld_unit_zero (S := S704x1024) hz]

end cases

theorem pay2_apply (xs : Vec Ideal S704x1024 .f32) (x0 : Vec Ideal S1x1024x704 .bf16) (x1 : Vec Ideal S1024x1024 .f32) (i : Fin 704) (j : Fin 1024) :
    (k0_pay2 x0 x1 xs (ix2 i j) : EReal) = xs (ix2 i j) + ∑ r : Fin 1024, (x0 (ix3 0 r i) * x1 (ix2 r j) : EReal) := by
  pointwise [k0_pay2]

theorem pay1_apply (i : Fin 704) (j : Fin 1024) : (k0_pay1 (F := Ideal) (ix2 i j) : EReal) = 0 := by
  pointwise [k0_pay1]

theorem pay3_apply (x : Vec Ideal S704x1024 .f32) (i : Fin 704) (j : Fin 1024) : (k0_pay3 x (ix3 0 i j) : EReal) = Ideal.ofBits .f32 0x3F000000#32 * x (ix2 i j) := by
  pointwise [k0_pay3]

/-- Grid point `t` is part `t % 4` of the sum, for block `t / 4` of the result. -/
theorem idx : ∀ t : Fin grid0.N, win0_0.index t = ![t.val / 4, t.val % 4, 0] ∧ win0_1.index t = ![t.val % 4, 0] ∧ win0_2.index t = ![t.val / 4, 0, 0] := by
  decide +kernel

/-- Place `1024 b + r` of a sum. -/
def tok (b : ℕ) (r : Fin 1024) : Fin 4096 := ⟨(1024 * b + r.val) % 4096, Nat.mod_lt _ (by decide)⟩

/-- Block `b` of the columns. -/
def nb (b : ℕ) : Fin 4 := ⟨b % 4, Nat.mod_lt _ (by decide)⟩

/-- Column `704 n + i`. -/
def col (n : Fin 4) (i : Fin 704) : Fin 2816 := ⟨n.val * 704 + i.val, by omega⟩

theorem emb0 (t : Fin cfg0.N) (r : Fin 1024) (i : Fin 704) : (win0_0.blk t).view.emb (ix3 0 r i) = ((ix3 (nb (t.val / 4)) (tok (t.val % 4) r) i) : S4x4096x704.Idx) := by
  blk_ext [tok, nb, idx t]

theorem emb1 (t : Fin cfg0.N) (r : Fin 1024) (j : Fin 1024) : (win0_1.blk t).view.emb (ix2 r j) = ((ix2 (tok (t.val % 4) r) j) : S4096x1024.Idx) := by
  blk_ext [tok, nb, idx t]

theorem emb2 (t : Fin cfg0.N) (i : Fin 704) (j : Fin 1024) : (win0_2.blk t).view.emb (ix3 0 i j) = ((ix3 (nb (t.val / 4)) i j) : S4x704x1024.Idx) := by
  blk_ext [tok, nb, idx t]

variable (m : (ℓ : Loc nD τ sig) → Buf (Elt Ideal) ℓ) (c : Dev nD)

/-- The arguments. -/
abbrev A0 : FVec Ideal S4096x2816 .f32 := m (c, Proc.tc.devRef main_arg0)
@[inherit_doc A0] abbrev A1 : FVec Ideal S4096x1024 .f32 := m (c, Proc.tc.devRef main_arg1)

theorem staged0 : (V m c main_v2 : S4x4096x704.Idx → EReal) =
    transpose S4x4096x704 [1, 0, 2] (shapeCast S4096x4x704 (truncf .bf16 (A0 m c) bitsLt_bf16_f32) shapeCasts_S4096x2816_S4096x4x704)
      transposes_S4096x4x704_S4x4096x704_1_0_2 := by
  unfold V
  after_reads_simp
  all_goals try simp -implicitDefEqProofs only [StableHlo.TRef.toBuf, StableHlo.TRef.ofBuf, cast_cast, cast_eq]
  all_goals clean_types
  rfl

theorem packed (x : FVec Ideal S4096x2816 .f32) (n : Fin 4) (k : Fin 4096) (i : Fin 704) :
    (transpose S4x4096x704 [1, 0, 2] (shapeCast S4096x4x704 (truncf .bf16 x bitsLt_bf16_f32) shapeCasts_S4096x2816_S4096x4x704)
      transposes_S4096x4x704_S4x4096x704_1_0_2 (ix3 n k i) : EReal) = x (ix2 k (col n i)) := by
  pointwise []
  rfl

theorem iblk0 (t : Fin cfg0.N) (r : Fin 1024) (i : Fin 704) :
    (iblk m c 0 t (ix3 0 r i) : EReal) = A0 m c (ix2 (tok (t.val % 4) r) (col (nb (t.val / 4)) i)) :=
  (congrArg (V m c main_v2 : S4x4096x704.Idx → EReal) (emb0 t r i)).trans ((congrFun (staged0 m c) _).trans (packed _ _ _ _))

theorem staged1 : (V m c main_arg1 : S4096x1024.Idx → EReal) = A1 m c := by
  unfold V
  after_reads_simp
  all_goals try simp -implicitDefEqProofs only [StableHlo.TRef.toBuf, StableHlo.TRef.ofBuf, cast_cast, cast_eq]
  all_goals clean_types

theorem iblk1 (t : Fin cfg0.N) (r : Fin 1024) (j : Fin 1024) : (iblk m c 1 t (ix2 r j) : EReal) = A1 m c (ix2 (tok (t.val % 4) r) j) :=
  (congrArg (V m c main_arg1 : S4096x1024.Idx → EReal) (emb1 t r j)).trans (congrFun (staged1 m c) _)

/-- The terms of an entry of the product. -/
def term (x0 : FVec Ideal S4096x2816 .f32) (x1 : FVec Ideal S4096x1024 .f32) (y : S4x704x1024.Idx) (k : Fin 4096) : EReal :=
  x0 (ix2 k (col (y 0) (y 1))) * x1 (ix2 k (y 2))

/-- A point adds the next 1024 terms. -/
theorem step (t : Fin cfg0.N) (xs : Vec Ideal S704x1024 .f32) (i : Fin 704) (j : Fin 1024)
    (h : (xs (ix2 i j) : EReal) = upto (term (A0 m c) (A1 m c) (ix3 (nb (t.val / 4)) i j)) (1024 * (t.val % 4))) :
    (k0_pay2 (iblk m c 0 t) (iblk m c 1 t) xs (ix2 i j) : EReal) = upto (term (A0 m c) (A1 m c) (ix3 (nb (t.val / 4)) i j)) (1024 * (t.val % 4 + 1)) := by
  rw [pay2_apply, h]
  refine upto_add _ (by omega) _ fun r => ?_
  have e : tok (t.val % 4) r = ⟨1024 * (t.val % 4) + r.val, by omega⟩ := Fin.ext (Nat.mod_eq_of_lt (by omega))
  rw [iblk0, iblk1, e]
  rfl

/-- What a point that does not write leaves in the scratch: the sum so far. -/
theorem scratch (n : ℕ) : ∀ (hn : n < cfg0.N), ¬n % 4 = 3 → ∀ (i : Fin 704) (j : Fin 1024),
    ((outsAt0 m c n hn).2 (ix2 i j) : EReal) = upto (term (A0 m c) (A1 m c) (ix3 (nb (n / 4)) i j)) (1024 * (n % 4 + 1)) := by
  induction n with
  | zero =>
    intro hn h1 i j
    rw [outsAt0_A m c ⟨0, hn⟩ rfl h1]
    dsimp only
    rw [sout_A]
    exact step m c ⟨0, hn⟩ _ i j ((pay1_apply i j).trans (upto_zero _).symm)
  | succ n ih =>
    intro hn h1 i j
    by_cases h0 : (n + 1) % 4 = 0
    · rw [outsAt0_A m c ⟨n + 1, hn⟩ h0 h1]
      dsimp only
      rw [sout_A]
      refine step m c ⟨n + 1, hn⟩ _ i j ((pay1_apply i j).trans ?_)
      simp only [h0, Nat.mul_zero, upto_zero]
    · rw [outsAt0_B m c ⟨n + 1, hn⟩ h0 h1]
      dsimp only
      rw [sout_B]
      refine step m c ⟨n + 1, hn⟩ _ i j ((ih (by omega) (by omega) i j).trans ?_)
      rw [show n / 4 = (n + 1) / 4 by omega, show n % 4 + 1 = (n + 1) % 4 by omega]

/-- Half a sum is the sum of the halves. -/
theorem half_sum (f : Fin 4096 → EReal) :
    Ideal.ofBits .f32 0x3F000000#32 * ∑ k, f k = ∑ k, Ideal.ofBits .f32 0x3F000000#32 * f k := by
  have e : Ideal.ofBits .f32 0x3F000000#32 = ((1 / 2 : ℝ) : EReal) := by simp [Ideal.ofBits, Ideal.ieee, -EReal.coe_mul]; norm_num
  rw [e]
  exact scale_sum (EReal.coe_nonneg.mpr (by norm_num)) (EReal.coe_ne_top _) f

/-- Half the product. -/
def result (x0 : FVec Ideal S4096x2816 .f32) (x1 : FVec Ideal S4096x1024 .f32) : S4x704x1024.Idx → EReal := fun y => Ideal.ofBits .f32 0x3F000000#32 * ∑ k, term x0 x1 y k

theorem array_eq : (dats m 0 c).arrAt 2 cfg0.N = result (A0 m c) (A1 m c) := by
  refine (dats m 0 c).arrAt_eq_of_covers 2 _ (by decide +kernel) fun t hf y => ?_
  have h3 : t.val % 4 = 3 := (flush0_2 t).mp hf
  have hp : t.val - 1 < cfg0.N := Nat.lt_of_le_of_lt (Nat.sub_le _ _) t.isLt
  have e := congrFun (Value.flushed2_C m c t (by omega) h3) y
  rw [out_C] at e
  blk_simp [idx t]
  refine Eq.trans e ?_
  obtain ⟨z, i, j, rfl⟩ : ∃ (z : Fin 1) (i : Fin 704) (j : Fin 1024), y = ix3 z i j := ⟨y 0, y 1, y 2, by funext a; fin_cases a <;> rfl⟩
  obtain rfl : z = 0 := Subsingleton.elim _ _
  refine Eq.trans ?_ (congrArg (result (A0 m c) (A1 m c)) (emb2 t i j)).symm
  refine (pay3_apply _ i j).trans (congrArg (Ideal.ofBits .f32 0x3F000000#32 * ·) ((step m c t _ i j ((scratch m c (t.val - 1) hp (by omega) i j).trans ?_)).trans ?_))
  · rw [show (t.val - 1) / 4 = t.val / 4 by omega, show (t.val - 1) % 4 + 1 = t.val % 4 by omega]
  · rw [h3]
    exact upto_all _

/-- The reference's array is the same product. -/
theorem reference_eq (x0 : FVec Ideal S4096x2816 .f32) (x1 : FVec Ideal S4096x1024 .f32) :
    Cert.Reference4Ideal.Read.val_main_v9 (F := Ideal) x0 x1 = result x0 x1 := by
  funext y
  obtain ⟨n, i, j, rfl⟩ : ∃ (n : Fin 4) (i : Fin 704) (j : Fin 1024), y = ix3 n i j := ⟨y 0, y 1, y 2, by funext a; fin_cases a <;> rfl⟩
  rw [Cert.Reference4Ideal.Read.val_main_v9_apply, Cert.Reference4Ideal.Read.val_main_v8_apply, Cert.Reference4Ideal.Read.val_main_v7_apply,
    Cert.Reference4Ideal.Read.val_main_v6_apply]
  simp only [Cert.Reference4Ideal.Read.val_main_v5_apply, Cert.Reference4Ideal.Read.val_main_v4_apply]
  refine Eq.trans (Finset.sum_congr rfl fun k _ => ?_) (half_sum _).symm
  refine Eq.trans (mul_assoc _ _ _) (congrArg _ ((mul_comm _ _).trans ?_))
  refine congrArg₂ (fun (a : S4096x2816.Idx) (b : S4096x1024.Idx) => (x0 a * x1 b : EReal)) ?_ ?_ <;> funext a <;> fin_cases a <;> apply Fin.ext <;>
    simp [ix2, ix3, col] <;> omega

end Cert.Kernel4Ideal.Dwout

namespace Cert.Proof

theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic_dwout : Cert.algebraic_Kernel4Ideal_Reference4Ideal := by
  intro m ρ m' ρ' _ hagree
  refine ⟨fun c => Cert.Kernel4Ideal.Dwout.result (Cert.Kernel4Ideal.Dwout.A0 m c) (Cert.Kernel4Ideal.Dwout.A1 m c), ?_, ?_⟩
  · refine (θ_run Cert.Kernel4Ideal.defs _ _).mono (fun r h c => ?_) (Cert.Kernel4Ideal.Value.run_blocks (F := Ideal) m ρ)
    exact ⟨(h c).1.trans (Cert.Kernel4Ideal.Dwout.array_eq m c), (h c).2⟩
  · refine (θ_run Cert.Reference4Ideal.defs _ _).mono (fun r h c => ⟨?_, (h c).2⟩) (Cert.Reference4Ideal.Value.run (F := Ideal) m' ρ')
    refine (h c).1.trans ((Cert.Reference4Ideal.Read.val_main_v9_eq _ _).trans ?_)
    rw [(hagree c).1, (hagree c).2]
    exact Cert.Kernel4Ideal.Dwout.reference_eq _ _

end Cert.Proof
-- ==== Proof.ProjIn.lean ====
/-
  The product for the gradient of the rows that the in-projection takes: each grid point adds 2176 columns' terms.
-/
module

public import proofs.«01_k».proof.Defs
public import proofs.«01_k».proof.Proof.Fold
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem

namespace Cert.Kernel5Ideal.ProjIn

open Cert.Kernel5Ideal Cert.Kernel5Ideal.Gen Fold

theorem hz : (![0, 0] : Fin 2 → Nat) = fun _ => 0 := funext fun a => by fin_cases a <;> rfl

section cases
variable {F : FTy → Type} [FloatOps F] (c : Dev nD) (i : grid0.Coords)
  (a3 : Memref sig .tc .vmem S1024x2176 .bf16) (h3 : a3.IsWhole) (a4 : Memref sig .tc .vmem S1024x2176 .bf16) (h4 : a4.IsWhole)
  (a5 : Memref sig .tc .vmem S1024x1024 .bf16) (h5 : a5.IsWhole) (a6 : Memref sig .tc .vmem S1024x1024 .f32) (h6 : a6.IsWhole)
  (x0 : Vec F S1024x2176 .bf16) (x1 : Vec F S1024x2176 .bf16) (xs : Vec F S1024x1024 .f32)

/-- The first point of a block starts from zeros. -/
theorem sout_A (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x2176) hz, View.ld_unit_zero (S := S1024x2176) hz]

/-- A middle point adds its product. -/
theorem sout_B (hc0 : ¬cond0_0 i) (hc1 : ¬cond0_1 i) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero hz]
  simp only [View.readAt_eq_ld, h3.read_unread, h4.read_unread, h6.read_unread, View.ld_unit_zero (S := S1024x2176) hz, View.ld_unit_zero (S := S1024x2176) hz, View.ld_unit_zero (S := S1024x1024) hz]

/-- The last point writes the sum. -/
theorem out_C (hc0 : ¬cond0_0 i) (hc1 : cond0_1 i) :
    out0_C_2 c i a3 h3 a4 h4 a5 h5 a6 h6 hc0 hc1 x0 x1 xs = k0_pay3 (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x2176) hz, View.ld_unit_zero (S := S1024x2176) hz, View.ld_unit_zero (S := S1024x1024) hz]

end cases

theorem pay2_apply (xs : Vec Ideal S1024x1024 .f32) (x0 : Vec Ideal S1024x2176 .bf16) (x1 : Vec Ideal S1024x2176 .bf16) (i : Fin 1024) (j : Fin 1024) :
    (k0_pay2 xs x0 x1 (ix2 i j) : EReal) = xs (ix2 i j) + ∑ r : Fin 2176, (x0 (ix2 i r) * x1 (ix2 j r) : EReal) := by
  pointwise [k0_pay2]

theorem pay1_apply (i : Fin 1024) (j : Fin 1024) : (k0_pay1 (F := Ideal) (ix2 i j) : EReal) = 0 := by
  pointwise [k0_pay1]

theorem pay3_apply (x : Vec Ideal S1024x1024 .f32) (i : Fin 1024) (j : Fin 1024) : (k0_pay3 x (ix2 i j) : EReal) = x (ix2 i j) := by
  pointwise [k0_pay3]

/-- Grid point `t` is part `t % 3` of the sum, for block `t / 3` of the result. -/
theorem idx : ∀ t : Fin grid0.N, win0_0.index t = ![t.val / 3, t.val % 3] ∧ win0_1.index t = ![0, t.val % 3] ∧ win0_2.index t = ![t.val / 3, 0] := by
  decide +kernel

/-- Place `2176 b + r` of a sum. -/
def tok (b : ℕ) (r : Fin 2176) : Fin 6528 := ⟨(2176 * b + r.val) % 6528, Nat.mod_lt _ (by decide)⟩

/-- Row `1024 b + i`. -/
def row (b : ℕ) (i : Fin 1024) : Fin 4096 := ⟨(1024 * b + i.val) % 4096, Nat.mod_lt _ (by decide)⟩

theorem emb0 (t : Fin cfg0.N) (i : Fin 1024) (r : Fin 2176) : (win0_0.blk t).view.emb (ix2 i r) = ((ix2 (row (t.val / 3) i) (tok (t.val % 3) r)) : S4096x6528.Idx) := by
  blk_ext [tok, row, idx t]

theorem emb1 (t : Fin cfg0.N) (j : Fin 1024) (r : Fin 2176) : (win0_1.blk t).view.emb (ix2 j r) = ((ix2 j (tok (t.val % 3) r)) : S1024x6528.Idx) := by
  blk_ext [tok, row, idx t]

theorem emb2 (t : Fin cfg0.N) (i : Fin 1024) (j : Fin 1024) : (win0_2.blk t).view.emb (ix2 i j) = ((ix2 (row (t.val / 3) i) j) : S4096x1024.Idx) := by
  blk_ext [tok, row, idx t]

variable (m : (ℓ : Loc nD τ sig) → Buf (Elt Ideal) ℓ) (c : Dev nD)

/-- The arguments. -/
abbrev A0 : FVec Ideal S4096x6528 .f32 := m (c, Proc.tc.devRef main_arg0)
@[inherit_doc A0] abbrev A1 : FVec Ideal S1024x6528 .f32 := m (c, Proc.tc.devRef main_arg1)

theorem staged0 : (V m c main_v0 : S4096x6528.Idx → EReal) = truncf .bf16 (A0 m c) bitsLt_bf16_f32 := by
  unfold V
  after_reads_simp
  all_goals try simp -implicitDefEqProofs only [StableHlo.TRef.toBuf, StableHlo.TRef.ofBuf, cast_cast, cast_eq]
  all_goals clean_types

theorem staged1 : (V m c main_v1 : S1024x6528.Idx → EReal) = truncf .bf16 (A1 m c) bitsLt_bf16_f32 := by
  unfold V
  after_reads_simp
  all_goals try simp -implicitDefEqProofs only [StableHlo.TRef.toBuf, StableHlo.TRef.ofBuf, cast_cast, cast_eq]
  all_goals clean_types

theorem iblk0 (t : Fin cfg0.N) (i : Fin 1024) (r : Fin 2176) : (iblk m c 0 t (ix2 i r) : EReal) = A0 m c (ix2 (row (t.val / 3) i) (tok (t.val % 3) r)) :=
  (congrArg (V m c main_v0 : S4096x6528.Idx → EReal) (emb0 t i r)).trans (congrFun (staged0 m c) _)

theorem iblk1 (t : Fin cfg0.N) (j : Fin 1024) (r : Fin 2176) : (iblk m c 1 t (ix2 j r) : EReal) = A1 m c (ix2 j (tok (t.val % 3) r)) :=
  (congrArg (V m c main_v1 : S1024x6528.Idx → EReal) (emb1 t j r)).trans (congrFun (staged1 m c) _)

/-- The terms of an entry of the product. -/
def term (x0 : FVec Ideal S4096x6528 .f32) (x1 : FVec Ideal S1024x6528 .f32) (y : S4096x1024.Idx) (k : Fin 6528) : EReal :=
  x0 (ix2 (y 0) k) * x1 (ix2 (y 1) k)

/-- A point adds the next 2176 terms. -/
theorem step (t : Fin cfg0.N) (xs : Vec Ideal S1024x1024 .f32) (i : Fin 1024) (j : Fin 1024)
    (h : (xs (ix2 i j) : EReal) = upto (term (A0 m c) (A1 m c) (ix2 (row (t.val / 3) i) j)) (2176 * (t.val % 3))) :
    (k0_pay2 xs (iblk m c 0 t) (iblk m c 1 t) (ix2 i j) : EReal) = upto (term (A0 m c) (A1 m c) (ix2 (row (t.val / 3) i) j)) (2176 * (t.val % 3 + 1)) := by
  rw [pay2_apply, h]
  refine upto_add _ (by omega) _ fun r => ?_
  have e : tok (t.val % 3) r = ⟨2176 * (t.val % 3) + r.val, by omega⟩ := Fin.ext (Nat.mod_eq_of_lt (by omega))
  rw [iblk0, iblk1, e]
  rfl

/-- What a point that does not write leaves in the scratch: the sum so far. -/
theorem scratch (n : ℕ) : ∀ (hn : n < cfg0.N), ¬n % 3 = 2 → ∀ (i : Fin 1024) (j : Fin 1024),
    ((outsAt0 m c n hn).2 (ix2 i j) : EReal) = upto (term (A0 m c) (A1 m c) (ix2 (row (n / 3) i) j)) (2176 * (n % 3 + 1)) := by
  induction n with
  | zero =>
    intro hn h1 i j
    rw [outsAt0_A m c ⟨0, hn⟩ rfl h1]
    dsimp only
    rw [sout_A]
    exact step m c ⟨0, hn⟩ _ i j ((pay1_apply i j).trans (upto_zero _).symm)
  | succ n ih =>
    intro hn h1 i j
    by_cases h0 : (n + 1) % 3 = 0
    · rw [outsAt0_A m c ⟨n + 1, hn⟩ h0 h1]
      dsimp only
      rw [sout_A]
      refine step m c ⟨n + 1, hn⟩ _ i j ((pay1_apply i j).trans ?_)
      simp only [h0, Nat.mul_zero, upto_zero]
    · rw [outsAt0_B m c ⟨n + 1, hn⟩ h0 h1]
      dsimp only
      rw [sout_B]
      refine step m c ⟨n + 1, hn⟩ _ i j ((ih (by omega) (by omega) i j).trans ?_)
      rw [show n / 3 = (n + 1) / 3 by omega, show n % 3 + 1 = (n + 1) % 3 by omega]

/-- The product. -/
def result (x0 : FVec Ideal S4096x6528 .f32) (x1 : FVec Ideal S1024x6528 .f32) : S4096x1024.Idx → EReal := fun y => ∑ k, term x0 x1 y k

theorem array_eq : (dats m 0 c).arrAt 2 cfg0.N = result (A0 m c) (A1 m c) := by
  refine (dats m 0 c).arrAt_eq_of_covers 2 _ (by decide +kernel) fun t hf y => ?_
  have h3 : t.val % 3 = 2 := (flush0_2 t).mp hf
  have hp : t.val - 1 < cfg0.N := Nat.lt_of_le_of_lt (Nat.sub_le _ _) t.isLt
  have e := congrFun (Value.flushed2_C m c t (by omega) h3) y
  rw [out_C] at e
  blk_simp [idx t]
  refine Eq.trans e ?_
  obtain ⟨i, j, rfl⟩ : ∃ (i : Fin 1024) (j : Fin 1024), y = ix2 i j := ⟨y 0, y 1, by funext a; fin_cases a <;> rfl⟩
  refine Eq.trans ?_ (congrArg (result (A0 m c) (A1 m c)) (emb2 t i j)).symm
  refine (pay3_apply _ i j).trans (((step m c t _ i j ((scratch m c (t.val - 1) hp (by omega) i j).trans ?_)).trans ?_))
  · rw [show (t.val - 1) / 3 = t.val / 3 by omega, show (t.val - 1) % 3 + 1 = t.val % 3 by omega]
  · rw [h3]
    exact upto_all _

/-- The reference's array is the same product. -/
theorem reference_eq (x0 : FVec Ideal S4096x6528 .f32) (x1 : FVec Ideal S1024x6528 .f32) :
    Cert.Reference5Ideal.Read.val_main_v3 (F := Ideal) x0 x1 = result x0 x1 := by
  funext y
  rw [Cert.Reference5Ideal.Read.val_main_v3_apply, Cert.Reference5Ideal.Read.val_main_v2_apply]
  exact Finset.sum_congr rfl fun k _ => congrArg₂ (fun (a : S4096x6528.Idx) (b : S1024x6528.Idx) => (x0 a * x1 b : EReal))
    (funext fun a => by fin_cases a <;> rfl) (funext fun a => by fin_cases a <;> rfl)

end Cert.Kernel5Ideal.ProjIn

namespace Cert.Proof

theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic_projin : Cert.algebraic_Kernel5Ideal_Reference5Ideal := by
  intro m ρ m' ρ' _ hagree
  refine ⟨fun c => Cert.Kernel5Ideal.ProjIn.result (Cert.Kernel5Ideal.ProjIn.A0 m c) (Cert.Kernel5Ideal.ProjIn.A1 m c), ?_, ?_⟩
  · refine (θ_run Cert.Kernel5Ideal.defs _ _).mono (fun r h c => ?_) (Cert.Kernel5Ideal.Value.run_blocks (F := Ideal) m ρ)
    exact ⟨(h c).1.trans (Cert.Kernel5Ideal.ProjIn.array_eq m c), (h c).2⟩
  · refine (θ_run Cert.Reference5Ideal.defs _ _).mono (fun r h c => ⟨?_, (h c).2⟩) (Cert.Reference5Ideal.Value.run (F := Ideal) m' ρ')
    refine (h c).1.trans ((Cert.Reference5Ideal.Read.val_main_v3_eq _ _).trans ?_)
    rw [(hagree c).1, (hagree c).2]
    exact Cert.Kernel5Ideal.ProjIn.reference_eq _ _

end Cert.Proof
-- ==== Proof.ProjGrad.lean ====
/-
  The product for the gradient of the in-projection's weights: each grid point adds 1024 tokens' terms.
-/
module

public import proofs.«01_k».proof.Defs
public import proofs.«01_k».proof.Proof.Fold
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem

namespace Cert.Kernel6Ideal.ProjGrad

open Cert.Kernel6Ideal Cert.Kernel6Ideal.Gen Fold

theorem hz : (![0, 0] : Fin 2 → Nat) = fun _ => 0 := funext fun a => by fin_cases a <;> rfl

section cases
variable {F : FTy → Type} [FloatOps F] (c : Dev nD) (i : grid0.Coords)
  (a3 : Memref sig .tc .vmem S1024x1024 .bf16) (h3 : a3.IsWhole) (a4 : Memref sig .tc .vmem S1024x2176 .bf16) (h4 : a4.IsWhole)
  (a5 : Memref sig .tc .vmem S1024x2176 .bf16) (h5 : a5.IsWhole) (a6 : Memref sig .tc .vmem S1024x2176 .f32) (h6 : a6.IsWhole)
  (x0 : Vec F S1024x1024 .bf16) (x1 : Vec F S1024x2176 .bf16) (xs : Vec F S1024x2176 .f32)

/-- The first point of a block starts from zeros. -/
theorem sout_A (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x2176) hz, View.readCov_unit_zero (S := S1024x2176) _ hz]
  simp only [View.readAt_eq_ld, h3.read_unread, h4.read_unread, View.ld_unit_zero (S := S1024x1024) hz, View.ld_unit_zero (S := S1024x2176) hz]

/-- A middle point adds its product. -/
theorem sout_B (hc0 : ¬cond0_0 i) (hc1 : ¬cond0_1 i) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero hz]
  simp only [View.readAt_eq_ld, h3.read_unread, h4.read_unread, h6.read_unread, View.ld_unit_zero (S := S1024x1024) hz, View.ld_unit_zero (S := S1024x2176) hz, View.ld_unit_zero (S := S1024x2176) hz]

/-- The last point writes the sum. -/
theorem out_C (hc0 : ¬cond0_0 i) (hc1 : cond0_1 i) :
    out0_C_2 c i a3 h3 a4 h4 a5 h5 a6 h6 hc0 hc1 x0 x1 xs = k0_pay3 (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz, View.readCov_unit_zero (S := S1024x2176) _ hz]
  simp only [View.readAt_eq_ld, h3.read_unread, h4.read_unread, h6.read_unread, View.ld_unit_zero (S := S1024x1024) hz, View.ld_unit_zero (S := S1024x2176) hz, View.ld_unit_zero (S := S1024x2176) hz]

end cases

theorem pay2_apply (xs : Vec Ideal S1024x2176 .f32) (x0 : Vec Ideal S1024x1024 .bf16) (x1 : Vec Ideal S1024x2176 .bf16) (i : Fin 1024) (j : Fin 2176) :
    (k0_pay2 xs x0 x1 (ix2 i j) : EReal) = xs (ix2 i j) + ∑ r : Fin 1024, (x0 (ix2 r i) * x1 (ix2 r j) : EReal) := by
  pointwise [k0_pay2]

theorem pay1_apply (i : Fin 1024) (j : Fin 2176) : (k0_pay1 (F := Ideal) (ix2 i j) : EReal) = 0 := by
  pointwise [k0_pay1]

theorem pay3_apply (x : Vec Ideal S1024x2176 .f32) (i : Fin 1024) (j : Fin 2176) : (k0_pay3 x (ix2 i j) : EReal) = x (ix2 i j) := by
  pointwise [k0_pay3]

/-- Grid point `t` is part `t % 4` of the sum, for block `t / 4` of the result. -/
theorem idx : ∀ t : Fin grid0.N, win0_0.index t = ![t.val % 4, 0] ∧ win0_1.index t = ![t.val % 4, t.val / 4] ∧ win0_2.index t = ![0, t.val / 4] := by
  decide +kernel

/-- Place `1024 b + r` of a sum. -/
def tok (b : ℕ) (r : Fin 1024) : Fin 4096 := ⟨(1024 * b + r.val) % 4096, Nat.mod_lt _ (by decide)⟩

/-- Column `2176 b + j`. -/
def col (b : ℕ) (j : Fin 2176) : Fin 6528 := ⟨(2176 * b + j.val) % 6528, Nat.mod_lt _ (by decide)⟩

theorem emb0 (t : Fin cfg0.N) (r : Fin 1024) (i : Fin 1024) : (win0_0.blk t).view.emb (ix2 r i) = ((ix2 (tok (t.val % 4) r) i) : S4096x1024.Idx) := by
  blk_ext [tok, col, idx t]

theorem emb1 (t : Fin cfg0.N) (r : Fin 1024) (j : Fin 2176) : (win0_1.blk t).view.emb (ix2 r j) = ((ix2 (tok (t.val % 4) r) (col (t.val / 4) j)) : S4096x6528.Idx) := by
  blk_ext [tok, col, idx t]

theorem emb2 (t : Fin cfg0.N) (i : Fin 1024) (j : Fin 2176) : (win0_2.blk t).view.emb (ix2 i j) = ((ix2 i (col (t.val / 4) j)) : S1024x6528.Idx) := by
  blk_ext [tok, col, idx t]

variable (m : (ℓ : Loc nD τ sig) → Buf (Elt Ideal) ℓ) (c : Dev nD)

/-- The arguments. -/
abbrev A0 : FVec Ideal S4096x1024 .f32 := m (c, Proc.tc.devRef main_arg0)
@[inherit_doc A0] abbrev A1 : FVec Ideal S4096x6528 .f32 := m (c, Proc.tc.devRef main_arg1)

theorem staged0 : (V m c main_v0 : S4096x1024.Idx → EReal) = truncf .bf16 (A0 m c) bitsLt_bf16_f32 := by
  unfold V
  after_reads_simp
  all_goals try simp -implicitDefEqProofs only [StableHlo.TRef.toBuf, StableHlo.TRef.ofBuf, cast_cast, cast_eq]
  all_goals clean_types

theorem staged1 : (V m c main_v1 : S4096x6528.Idx → EReal) = truncf .bf16 (A1 m c) bitsLt_bf16_f32 := by
  unfold V
  after_reads_simp
  all_goals try simp -implicitDefEqProofs only [StableHlo.TRef.toBuf, StableHlo.TRef.ofBuf, cast_cast, cast_eq]
  all_goals clean_types

theorem iblk0 (t : Fin cfg0.N) (r : Fin 1024) (i : Fin 1024) : (iblk m c 0 t (ix2 r i) : EReal) = A0 m c (ix2 (tok (t.val % 4) r) i) :=
  (congrArg (V m c main_v0 : S4096x1024.Idx → EReal) (emb0 t r i)).trans (congrFun (staged0 m c) _)

theorem iblk1 (t : Fin cfg0.N) (r : Fin 1024) (j : Fin 2176) : (iblk m c 1 t (ix2 r j) : EReal) = A1 m c (ix2 (tok (t.val % 4) r) (col (t.val / 4) j)) :=
  (congrArg (V m c main_v1 : S4096x6528.Idx → EReal) (emb1 t r j)).trans (congrFun (staged1 m c) _)

/-- The terms of an entry of the product. -/
def term (x0 : FVec Ideal S4096x1024 .f32) (x1 : FVec Ideal S4096x6528 .f32) (y : S1024x6528.Idx) (k : Fin 4096) : EReal :=
  x0 (ix2 k (y 0)) * x1 (ix2 k (y 1))

/-- A point adds the next 1024 terms. -/
theorem step (t : Fin cfg0.N) (xs : Vec Ideal S1024x2176 .f32) (i : Fin 1024) (j : Fin 2176)
    (h : (xs (ix2 i j) : EReal) = upto (term (A0 m c) (A1 m c) (ix2 i (col (t.val / 4) j))) (1024 * (t.val % 4))) :
    (k0_pay2 xs (iblk m c 0 t) (iblk m c 1 t) (ix2 i j) : EReal) = upto (term (A0 m c) (A1 m c) (ix2 i (col (t.val / 4) j))) (1024 * (t.val % 4 + 1)) := by
  rw [pay2_apply, h]
  refine upto_add _ (by omega) _ fun r => ?_
  have e : tok (t.val % 4) r = ⟨1024 * (t.val % 4) + r.val, by omega⟩ := Fin.ext (Nat.mod_eq_of_lt (by omega))
  rw [iblk0, iblk1, e]
  rfl

/-- What a point that does not write leaves in the scratch: the sum so far. -/
theorem scratch (n : ℕ) : ∀ (hn : n < cfg0.N), ¬n % 4 = 3 → ∀ (i : Fin 1024) (j : Fin 2176),
    ((outsAt0 m c n hn).2 (ix2 i j) : EReal) = upto (term (A0 m c) (A1 m c) (ix2 i (col (n / 4) j))) (1024 * (n % 4 + 1)) := by
  induction n with
  | zero =>
    intro hn h1 i j
    rw [outsAt0_A m c ⟨0, hn⟩ rfl h1]
    dsimp only
    rw [sout_A]
    exact step m c ⟨0, hn⟩ _ i j ((pay1_apply i j).trans (upto_zero _).symm)
  | succ n ih =>
    intro hn h1 i j
    by_cases h0 : (n + 1) % 4 = 0
    · rw [outsAt0_A m c ⟨n + 1, hn⟩ h0 h1]
      dsimp only
      rw [sout_A]
      refine step m c ⟨n + 1, hn⟩ _ i j ((pay1_apply i j).trans ?_)
      simp only [h0, Nat.mul_zero, upto_zero]
    · rw [outsAt0_B m c ⟨n + 1, hn⟩ h0 h1]
      dsimp only
      rw [sout_B]
      refine step m c ⟨n + 1, hn⟩ _ i j ((ih (by omega) (by omega) i j).trans ?_)
      rw [show n / 4 = (n + 1) / 4 by omega, show n % 4 + 1 = (n + 1) % 4 by omega]

/-- The product. -/
def result (x0 : FVec Ideal S4096x1024 .f32) (x1 : FVec Ideal S4096x6528 .f32) : S1024x6528.Idx → EReal := fun y => ∑ k, term x0 x1 y k

theorem array_eq : (dats m 0 c).arrAt 2 cfg0.N = result (A0 m c) (A1 m c) := by
  refine (dats m 0 c).arrAt_eq_of_covers 2 _ (by decide +kernel) fun t hf y => ?_
  have h3 : t.val % 4 = 3 := (flush0_2 t).mp hf
  have hp : t.val - 1 < cfg0.N := Nat.lt_of_le_of_lt (Nat.sub_le _ _) t.isLt
  have e := congrFun (Value.flushed2_C m c t (by omega) h3) y
  rw [out_C] at e
  blk_simp [idx t]
  refine Eq.trans e ?_
  obtain ⟨i, j, rfl⟩ : ∃ (i : Fin 1024) (j : Fin 2176), y = ix2 i j := ⟨y 0, y 1, by funext a; fin_cases a <;> rfl⟩
  refine Eq.trans ?_ (congrArg (result (A0 m c) (A1 m c)) (emb2 t i j)).symm
  refine (pay3_apply _ i j).trans (((step m c t _ i j ((scratch m c (t.val - 1) hp (by omega) i j).trans ?_)).trans ?_))
  · rw [show (t.val - 1) / 4 = t.val / 4 by omega, show (t.val - 1) % 4 + 1 = t.val % 4 by omega]
  · rw [h3]
    exact upto_all _

/-- The reference's array is the same product. -/
theorem reference_eq (x0 : FVec Ideal S4096x1024 .f32) (x1 : FVec Ideal S4096x6528 .f32) :
    Cert.Reference6Ideal.Read.val_main_v4 (F := Ideal) x0 x1 = result x0 x1 := by
  funext y
  rw [Cert.Reference6Ideal.Read.val_main_v4_apply, Cert.Reference6Ideal.Read.val_main_v3_apply, Cert.Reference6Ideal.Read.val_main_v2_apply]
  exact Finset.sum_congr rfl fun k _ => (mul_comm _ _).trans (congrArg₂ (fun (a : S4096x1024.Idx) (b : S4096x6528.Idx) => (x0 a * x1 b : EReal))
    (funext fun a => by fin_cases a <;> rfl) (funext fun a => by fin_cases a <;> rfl))

end Cert.Kernel6Ideal.ProjGrad

namespace Cert.Proof

theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic_projgrad : Cert.algebraic_Kernel6Ideal_Reference6Ideal := by
  intro m ρ m' ρ' _ hagree
  refine ⟨fun c => Cert.Kernel6Ideal.ProjGrad.result (Cert.Kernel6Ideal.ProjGrad.A0 m c) (Cert.Kernel6Ideal.ProjGrad.A1 m c), ?_, ?_⟩
  · refine (θ_run Cert.Kernel6Ideal.defs _ _).mono (fun r h c => ?_) (Cert.Kernel6Ideal.Value.run_blocks (F := Ideal) m ρ)
    exact ⟨(h c).1.trans (Cert.Kernel6Ideal.ProjGrad.array_eq m c), (h c).2⟩
  · refine (θ_run Cert.Reference6Ideal.defs _ _).mono (fun r h c => ⟨?_, (h c).2⟩) (Cert.Reference6Ideal.Value.run (F := Ideal) m' ρ')
    refine (h c).1.trans ((Cert.Reference6Ideal.Read.val_main_v4_eq _ _).trans ?_)
    rw [(hagree c).1, (hagree c).2]
    exact Cert.Kernel6Ideal.ProjGrad.reference_eq _ _

end Cert.Proof
-- ==== Proof.OutGrad.lean ====
/-
  The product for the gradient of the out-projection's weights: each grid point adds 1024 tokens' terms.
-/
module

public import proofs.«01_k».proof.Defs
public import proofs.«01_k».proof.Proof.Fold
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem

namespace Cert.Kernel7Ideal.OutGrad

open Cert.Kernel7Ideal Cert.Kernel7Ideal.Gen Fold

theorem hz : (![0, 0] : Fin 2 → Nat) = fun _ => 0 := funext fun a => by fin_cases a <;> rfl

section cases
variable {F : FTy → Type} [FloatOps F] (c : Dev nD) (i : grid0.Coords)
  (a3 : Memref sig .tc .vmem S1024x512 .bf16) (h3 : a3.IsWhole) (a4 : Memref sig .tc .vmem S1024x1024 .f32) (h4 : a4.IsWhole)
  (a5 : Memref sig .tc .vmem S512x1024 .bf16) (h5 : a5.IsWhole) (a6 : Memref sig .tc .vmem S512x1024 .f32) (h6 : a6.IsWhole)
  (x0 : Vec F S1024x512 .bf16) (x1 : Vec F S1024x1024 .f32) (xs : Vec F S512x1024 .f32)

/-- The first point of a block starts from zeros. -/
theorem sout_A (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S512x1024) hz, View.readCov_unit_zero (S := S512x1024) _ hz]
  simp only [View.readAt_eq_ld, h3.read_unread, h4.read_unread, View.ld_unit_zero (S := S1024x512) hz, View.ld_unit_zero (S := S1024x1024) hz]

/-- A middle point adds its product. -/
theorem sout_B (hc0 : ¬cond0_0 i) (hc1 : ¬cond0_1 i) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero hz]
  simp only [View.readAt_eq_ld, h3.read_unread, h4.read_unread, h6.read_unread, View.ld_unit_zero (S := S1024x512) hz, View.ld_unit_zero (S := S1024x1024) hz, View.ld_unit_zero (S := S512x1024) hz]

/-- The last point writes the sum. -/
theorem out_C (hc0 : ¬cond0_0 i) (hc1 : cond0_1 i) :
    out0_C_2 c i a3 h3 a4 h4 a5 h5 a6 h6 hc0 hc1 x0 x1 xs = k0_pay3 (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz, View.readCov_unit_zero (S := S512x1024) _ hz]
  simp only [View.readAt_eq_ld, h3.read_unread, h4.read_unread, h6.read_unread, View.ld_unit_zero (S := S1024x512) hz, View.ld_unit_zero (S := S1024x1024) hz, View.ld_unit_zero (S := S512x1024) hz]

end cases

theorem pay2_apply (xs : Vec Ideal S512x1024 .f32) (x0 : Vec Ideal S1024x512 .bf16) (x1 : Vec Ideal S1024x1024 .f32) (i : Fin 512) (j : Fin 1024) :
    (k0_pay2 xs x0 x1 (ix2 i j) : EReal) = xs (ix2 i j) + ∑ r : Fin 1024, (x0 (ix2 r i) * x1 (ix2 r j) : EReal) := by
  pointwise [k0_pay2]

theorem pay1_apply (i : Fin 512) (j : Fin 1024) : (k0_pay1 (F := Ideal) (ix2 i j) : EReal) = 0 := by
  pointwise [k0_pay1]

theorem pay3_apply (x : Vec Ideal S512x1024 .f32) (i : Fin 512) (j : Fin 1024) : (k0_pay3 x (ix2 i j) : EReal) = x (ix2 i j) := by
  pointwise [k0_pay3]

/-- Grid point `t` is part `t % 4` of the sum, for block `t / 4` of the result. -/
theorem idx : ∀ t : Fin grid0.N, win0_0.index t = ![t.val % 4, t.val / 4] ∧ win0_1.index t = ![t.val % 4, 0] ∧ win0_2.index t = ![t.val / 4, 0] := by
  decide +kernel

/-- Place `1024 b + r` of a sum. -/
def tok (b : ℕ) (r : Fin 1024) : Fin 4096 := ⟨(1024 * b + r.val) % 4096, Nat.mod_lt _ (by decide)⟩

/-- Row `512 b + i`. -/
def row (b : ℕ) (i : Fin 512) : Fin 1024 := ⟨(512 * b + i.val) % 1024, Nat.mod_lt _ (by decide)⟩

theorem emb0 (t : Fin cfg0.N) (r : Fin 1024) (i : Fin 512) : (win0_0.blk t).view.emb (ix2 r i) = ((ix2 (tok (t.val % 4) r) (row (t.val / 4) i)) : S4096x1024.Idx) := by
  blk_ext [tok, row, idx t]

theorem emb1 (t : Fin cfg0.N) (r : Fin 1024) (j : Fin 1024) : (win0_1.blk t).view.emb (ix2 r j) = ((ix2 (tok (t.val % 4) r) j) : S4096x1024.Idx) := by
  blk_ext [tok, row, idx t]

theorem emb2 (t : Fin cfg0.N) (i : Fin 512) (j : Fin 1024) : (win0_2.blk t).view.emb (ix2 i j) = ((ix2 (row (t.val / 4) i) j) : S1024x1024.Idx) := by
  blk_ext [tok, row, idx t]

variable (m : (ℓ : Loc nD τ sig) → Buf (Elt Ideal) ℓ) (c : Dev nD)

/-- The arguments. -/
abbrev A0 : FVec Ideal S4096x1024 .f32 := m (c, Proc.tc.devRef main_arg0)
@[inherit_doc A0] abbrev A1 : FVec Ideal S4096x1024 .f32 := m (c, Proc.tc.devRef main_arg1)

theorem staged0 : (V m c main_v0 : S4096x1024.Idx → EReal) = truncf .bf16 (A0 m c) bitsLt_bf16_f32 := by
  unfold V
  after_reads_simp
  all_goals try simp -implicitDefEqProofs only [StableHlo.TRef.toBuf, StableHlo.TRef.ofBuf, cast_cast, cast_eq]
  all_goals clean_types

theorem staged1 : (V m c main_arg1 : S4096x1024.Idx → EReal) = A1 m c := by
  unfold V
  after_reads_simp
  all_goals try simp -implicitDefEqProofs only [StableHlo.TRef.toBuf, StableHlo.TRef.ofBuf, cast_cast, cast_eq]
  all_goals clean_types

theorem iblk0 (t : Fin cfg0.N) (r : Fin 1024) (i : Fin 512) : (iblk m c 0 t (ix2 r i) : EReal) = A0 m c (ix2 (tok (t.val % 4) r) (row (t.val / 4) i)) :=
  (congrArg (V m c main_v0 : S4096x1024.Idx → EReal) (emb0 t r i)).trans (congrFun (staged0 m c) _)

theorem iblk1 (t : Fin cfg0.N) (r : Fin 1024) (j : Fin 1024) : (iblk m c 1 t (ix2 r j) : EReal) = A1 m c (ix2 (tok (t.val % 4) r) j) :=
  (congrArg (V m c main_arg1 : S4096x1024.Idx → EReal) (emb1 t r j)).trans (congrFun (staged1 m c) _)

/-- The terms of an entry of the product. -/
def term (x0 : FVec Ideal S4096x1024 .f32) (x1 : FVec Ideal S4096x1024 .f32) (y : S1024x1024.Idx) (k : Fin 4096) : EReal :=
  x0 (ix2 k (y 0)) * x1 (ix2 k (y 1))

/-- A point adds the next 1024 terms. -/
theorem step (t : Fin cfg0.N) (xs : Vec Ideal S512x1024 .f32) (i : Fin 512) (j : Fin 1024)
    (h : (xs (ix2 i j) : EReal) = upto (term (A0 m c) (A1 m c) (ix2 (row (t.val / 4) i) j)) (1024 * (t.val % 4))) :
    (k0_pay2 xs (iblk m c 0 t) (iblk m c 1 t) (ix2 i j) : EReal) = upto (term (A0 m c) (A1 m c) (ix2 (row (t.val / 4) i) j)) (1024 * (t.val % 4 + 1)) := by
  rw [pay2_apply, h]
  refine upto_add _ (by omega) _ fun r => ?_
  have e : tok (t.val % 4) r = ⟨1024 * (t.val % 4) + r.val, by omega⟩ := Fin.ext (Nat.mod_eq_of_lt (by omega))
  rw [iblk0, iblk1, e]
  rfl

/-- What a point that does not write leaves in the scratch: the sum so far. -/
theorem scratch (n : ℕ) : ∀ (hn : n < cfg0.N), ¬n % 4 = 3 → ∀ (i : Fin 512) (j : Fin 1024),
    ((outsAt0 m c n hn).2 (ix2 i j) : EReal) = upto (term (A0 m c) (A1 m c) (ix2 (row (n / 4) i) j)) (1024 * (n % 4 + 1)) := by
  induction n with
  | zero =>
    intro hn h1 i j
    rw [outsAt0_A m c ⟨0, hn⟩ rfl h1]
    dsimp only
    rw [sout_A]
    exact step m c ⟨0, hn⟩ _ i j ((pay1_apply i j).trans (upto_zero _).symm)
  | succ n ih =>
    intro hn h1 i j
    by_cases h0 : (n + 1) % 4 = 0
    · rw [outsAt0_A m c ⟨n + 1, hn⟩ h0 h1]
      dsimp only
      rw [sout_A]
      refine step m c ⟨n + 1, hn⟩ _ i j ((pay1_apply i j).trans ?_)
      simp only [h0, Nat.mul_zero, upto_zero]
    · rw [outsAt0_B m c ⟨n + 1, hn⟩ h0 h1]
      dsimp only
      rw [sout_B]
      refine step m c ⟨n + 1, hn⟩ _ i j ((ih (by omega) (by omega) i j).trans ?_)
      rw [show n / 4 = (n + 1) / 4 by omega, show n % 4 + 1 = (n + 1) % 4 by omega]

/-- The product. -/
def result (x0 : FVec Ideal S4096x1024 .f32) (x1 : FVec Ideal S4096x1024 .f32) : S1024x1024.Idx → EReal := fun y => ∑ k, term x0 x1 y k

theorem array_eq : (dats m 0 c).arrAt 2 cfg0.N = result (A0 m c) (A1 m c) := by
  refine (dats m 0 c).arrAt_eq_of_covers 2 _ (by decide +kernel) fun t hf y => ?_
  have h3 : t.val % 4 = 3 := (flush0_2 t).mp hf
  have hp : t.val - 1 < cfg0.N := Nat.lt_of_le_of_lt (Nat.sub_le _ _) t.isLt
  have e := congrFun (Value.flushed2_C m c t (by omega) h3) y
  rw [out_C] at e
  blk_simp [idx t]
  refine Eq.trans e ?_
  obtain ⟨i, j, rfl⟩ : ∃ (i : Fin 512) (j : Fin 1024), y = ix2 i j := ⟨y 0, y 1, by funext a; fin_cases a <;> rfl⟩
  refine Eq.trans ?_ (congrArg (result (A0 m c) (A1 m c)) (emb2 t i j)).symm
  refine (pay3_apply _ i j).trans (((step m c t _ i j ((scratch m c (t.val - 1) hp (by omega) i j).trans ?_)).trans ?_))
  · rw [show (t.val - 1) / 4 = t.val / 4 by omega, show (t.val - 1) % 4 + 1 = t.val % 4 by omega]
  · rw [h3]
    exact upto_all _

/-- The reference's array is the same product. -/
theorem reference_eq (x0 : FVec Ideal S4096x1024 .f32) (x1 : FVec Ideal S4096x1024 .f32) :
    Cert.Reference7Ideal.Read.val_main_v4 (F := Ideal) x0 x1 = result x0 x1 := by
  funext y
  rw [Cert.Reference7Ideal.Read.val_main_v4_apply, Cert.Reference7Ideal.Read.val_main_v3_apply, Cert.Reference7Ideal.Read.val_main_v2_apply]
  exact Finset.sum_congr rfl fun k _ => (mul_comm _ _).trans (congrArg₂ (fun (a : S4096x1024.Idx) (b : S4096x1024.Idx) => (x0 a * x1 b : EReal))
    (funext fun a => by fin_cases a <;> rfl) (funext fun a => by fin_cases a <;> rfl))

end Cert.Kernel7Ideal.OutGrad

namespace Cert.Proof

theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic_outgrad : Cert.algebraic_Kernel7Ideal_Reference7Ideal := by
  intro m ρ m' ρ' _ hagree
  refine ⟨fun c => Cert.Kernel7Ideal.OutGrad.result (Cert.Kernel7Ideal.OutGrad.A0 m c) (Cert.Kernel7Ideal.OutGrad.A1 m c), ?_, ?_⟩
  · refine (θ_run Cert.Kernel7Ideal.defs _ _).mono (fun r h c => ?_) (Cert.Kernel7Ideal.Value.run_blocks (F := Ideal) m ρ)
    exact ⟨(h c).1.trans (Cert.Kernel7Ideal.OutGrad.array_eq m c), (h c).2⟩
  · refine (θ_run Cert.Reference7Ideal.defs _ _).mono (fun r h c => ⟨?_, (h c).2⟩) (Cert.Reference7Ideal.Value.run (F := Ideal) m' ρ')
    refine (h c).1.trans ((Cert.Reference7Ideal.Read.val_main_v4_eq _ _).trans ?_)
    rw [(hagree c).1, (hagree c).2]
    exact Cert.Kernel7Ideal.OutGrad.reference_eq _ _

end Cert.Proof
-- ==== Proof.BranchGrad.lean ====
/-
  The product for the gradient of a branch's weights: each grid point adds 1024 tokens' terms.
-/
module

public import proofs.«01_k».proof.Defs
public import proofs.«01_k».proof.Proof.Fold
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem

namespace Cert.Kernel8Ideal.BranchGrad

open Cert.Kernel8Ideal Cert.Kernel8Ideal.Gen Fold

theorem hz : (![0, 0] : Fin 2 → Nat) = fun _ => 0 := funext fun a => by fin_cases a <;> rfl

section cases
variable {F : FTy → Type} [FloatOps F] (c : Dev nD) (i : grid0.Coords)
  (a3 : Memref sig .tc .vmem S1024x512 .f32) (h3 : a3.IsWhole) (a4 : Memref sig .tc .vmem S1024x1024 .bf16) (h4 : a4.IsWhole)
  (a5 : Memref sig .tc .vmem S512x1024 .bf16) (h5 : a5.IsWhole) (a6 : Memref sig .tc .vmem S512x1024 .f32) (h6 : a6.IsWhole)
  (x0 : Vec F S1024x512 .f32) (x1 : Vec F S1024x1024 .bf16) (xs : Vec F S512x1024 .f32)

/-- The first point of a block starts from zeros. -/
theorem sout_A (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S512x1024) hz, View.readCov_unit_zero (S := S512x1024) _ hz]
  simp only [View.readAt_eq_ld, h3.read_unread, h4.read_unread, View.ld_unit_zero (S := S1024x512) hz, View.ld_unit_zero (S := S1024x1024) hz]

/-- A middle point adds its product. -/
theorem sout_B (hc0 : ¬cond0_0 i) (hc1 : ¬cond0_1 i) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero hz]
  simp only [View.readAt_eq_ld, h3.read_unread, h4.read_unread, h6.read_unread, View.ld_unit_zero (S := S1024x512) hz, View.ld_unit_zero (S := S1024x1024) hz, View.ld_unit_zero (S := S512x1024) hz]

/-- The last point writes the sum. -/
theorem out_C (hc0 : ¬cond0_0 i) (hc1 : cond0_1 i) :
    out0_C_2 c i a3 h3 a4 h4 a5 h5 a6 h6 hc0 hc1 x0 x1 xs = k0_pay3 (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz, View.readCov_unit_zero (S := S512x1024) _ hz]
  simp only [View.readAt_eq_ld, h3.read_unread, h4.read_unread, h6.read_unread, View.ld_unit_zero (S := S1024x512) hz, View.ld_unit_zero (S := S1024x1024) hz, View.ld_unit_zero (S := S512x1024) hz]

end cases

theorem pay2_apply (xs : Vec Ideal S512x1024 .f32) (x0 : Vec Ideal S1024x512 .f32) (x1 : Vec Ideal S1024x1024 .bf16) (i : Fin 512) (j : Fin 1024) :
    (k0_pay2 xs x0 x1 (ix2 i j) : EReal) = xs (ix2 i j) + ∑ r : Fin 1024, (x0 (ix2 r i) * x1 (ix2 r j) : EReal) := by
  pointwise [k0_pay2]

theorem pay1_apply (i : Fin 512) (j : Fin 1024) : (k0_pay1 (F := Ideal) (ix2 i j) : EReal) = 0 := by
  pointwise [k0_pay1]

theorem pay3_apply (x : Vec Ideal S512x1024 .f32) (i : Fin 512) (j : Fin 1024) : (k0_pay3 x (ix2 i j) : EReal) = x (ix2 i j) := by
  pointwise [k0_pay3]

/-- Grid point `t` is part `t % 4` of the sum. -/
theorem idx : ∀ t : Fin grid0.N, win0_0.index t = ![t.val % 4, 0] ∧ win0_1.index t = ![t.val % 4, 0] ∧ win0_2.index t = ![0, 0] := by
  decide +kernel

/-- Place `1024 b + r` of a sum. -/
def tok (b : ℕ) (r : Fin 1024) : Fin 4096 := ⟨(1024 * b + r.val) % 4096, Nat.mod_lt _ (by decide)⟩

theorem emb0 (t : Fin cfg0.N) (r : Fin 1024) (i : Fin 512) : (win0_0.blk t).view.emb (ix2 r i) = ((ix2 (tok (t.val % 4) r) i) : S4096x512.Idx) := by
  blk_ext [tok, idx t]

theorem emb1 (t : Fin cfg0.N) (r : Fin 1024) (j : Fin 1024) : (win0_1.blk t).view.emb (ix2 r j) = ((ix2 (tok (t.val % 4) r) j) : S4096x1024.Idx) := by
  blk_ext [tok, idx t]

theorem emb2 (t : Fin cfg0.N) (i : Fin 512) (j : Fin 1024) : (win0_2.blk t).view.emb (ix2 i j) = ((ix2 i j) : S512x1024.Idx) := by
  blk_ext [tok, idx t]

variable (m : (ℓ : Loc nD τ sig) → Buf (Elt Ideal) ℓ) (c : Dev nD)

/-- The arguments. -/
abbrev A0 : FVec Ideal S4096x512 .f32 := m (c, Proc.tc.devRef main_arg0)
@[inherit_doc A0] abbrev A1 : FVec Ideal S4096x1024 .f32 := m (c, Proc.tc.devRef main_arg1)

theorem staged0 : (V m c main_arg0 : S4096x512.Idx → EReal) = A0 m c := by
  unfold V
  after_reads_simp
  all_goals try simp -implicitDefEqProofs only [StableHlo.TRef.toBuf, StableHlo.TRef.ofBuf, cast_cast, cast_eq]
  all_goals clean_types

theorem staged1 : (V m c main_v0 : S4096x1024.Idx → EReal) = truncf .bf16 (A1 m c) bitsLt_bf16_f32 := by
  unfold V
  after_reads_simp
  all_goals try simp -implicitDefEqProofs only [StableHlo.TRef.toBuf, StableHlo.TRef.ofBuf, cast_cast, cast_eq]
  all_goals clean_types

theorem iblk0 (t : Fin cfg0.N) (r : Fin 1024) (i : Fin 512) : (iblk m c 0 t (ix2 r i) : EReal) = A0 m c (ix2 (tok (t.val % 4) r) i) :=
  (congrArg (V m c main_arg0 : S4096x512.Idx → EReal) (emb0 t r i)).trans (congrFun (staged0 m c) _)

theorem iblk1 (t : Fin cfg0.N) (r : Fin 1024) (j : Fin 1024) : (iblk m c 1 t (ix2 r j) : EReal) = A1 m c (ix2 (tok (t.val % 4) r) j) :=
  (congrArg (V m c main_v0 : S4096x1024.Idx → EReal) (emb1 t r j)).trans (congrFun (staged1 m c) _)

/-- The terms of an entry of the product. -/
def term (x0 : FVec Ideal S4096x512 .f32) (x1 : FVec Ideal S4096x1024 .f32) (y : S512x1024.Idx) (k : Fin 4096) : EReal :=
  x0 (ix2 k (y 0)) * x1 (ix2 k (y 1))

/-- A point adds the next 1024 terms. -/
theorem step (t : Fin cfg0.N) (xs : Vec Ideal S512x1024 .f32) (i : Fin 512) (j : Fin 1024)
    (h : (xs (ix2 i j) : EReal) = upto (term (A0 m c) (A1 m c) (ix2 i j)) (1024 * (t.val % 4))) :
    (k0_pay2 xs (iblk m c 0 t) (iblk m c 1 t) (ix2 i j) : EReal) = upto (term (A0 m c) (A1 m c) (ix2 i j)) (1024 * (t.val % 4 + 1)) := by
  rw [pay2_apply, h]
  refine upto_add _ (by omega) _ fun r => ?_
  have e : tok (t.val % 4) r = ⟨1024 * (t.val % 4) + r.val, by omega⟩ := Fin.ext (Nat.mod_eq_of_lt (by omega))
  rw [iblk0, iblk1, e]
  rfl

/-- What a point that does not write leaves in the scratch: the sum so far. -/
theorem scratch (n : ℕ) : ∀ (hn : n < cfg0.N), ¬n % 4 = 3 → ∀ (i : Fin 512) (j : Fin 1024),
    ((outsAt0 m c n hn).2 (ix2 i j) : EReal) = upto (term (A0 m c) (A1 m c) (ix2 i j)) (1024 * (n % 4 + 1)) := by
  induction n with
  | zero =>
    intro hn h1 i j
    rw [outsAt0_A m c ⟨0, hn⟩ rfl h1]
    dsimp only
    rw [sout_A]
    exact step m c ⟨0, hn⟩ _ i j ((pay1_apply i j).trans (upto_zero _).symm)
  | succ n ih =>
    intro hn h1 i j
    by_cases h0 : (n + 1) % 4 = 0
    · rw [outsAt0_A m c ⟨n + 1, hn⟩ h0 h1]
      dsimp only
      rw [sout_A]
      refine step m c ⟨n + 1, hn⟩ _ i j ((pay1_apply i j).trans ?_)
      simp only [h0, Nat.mul_zero, upto_zero]
    · rw [outsAt0_B m c ⟨n + 1, hn⟩ h0 h1]
      dsimp only
      rw [sout_B]
      refine step m c ⟨n + 1, hn⟩ _ i j ((ih (by omega) (by omega) i j).trans ?_)
      rw [show n % 4 + 1 = (n + 1) % 4 by omega]

/-- The product. -/
def result (x0 : FVec Ideal S4096x512 .f32) (x1 : FVec Ideal S4096x1024 .f32) : S512x1024.Idx → EReal := fun y => ∑ k, term x0 x1 y k

theorem array_eq : (dats m 0 c).arrAt 2 cfg0.N = result (A0 m c) (A1 m c) := by
  refine (dats m 0 c).arrAt_eq_of_covers 2 _ (by decide +kernel) fun t hf y => ?_
  have h3 : t.val % 4 = 3 := (flush0_2 t).mp hf
  have hp : t.val - 1 < cfg0.N := Nat.lt_of_le_of_lt (Nat.sub_le _ _) t.isLt
  have e := congrFun (Value.flushed2_C m c t (by omega) h3) y
  rw [out_C] at e
  blk_simp [idx t]
  refine Eq.trans e ?_
  obtain ⟨i, j, rfl⟩ : ∃ (i : Fin 512) (j : Fin 1024), y = ix2 i j := ⟨y 0, y 1, by funext a; fin_cases a <;> rfl⟩
  refine Eq.trans ?_ (congrArg (result (A0 m c) (A1 m c)) (emb2 t i j)).symm
  refine (pay3_apply _ i j).trans (((step m c t _ i j ((scratch m c (t.val - 1) hp (by omega) i j).trans ?_)).trans ?_))
  · rw [show (t.val - 1) % 4 + 1 = t.val % 4 by omega]
  · rw [h3]
    exact upto_all _

/-- The reference's array is the same product. -/
theorem reference_eq (x0 : FVec Ideal S4096x512 .f32) (x1 : FVec Ideal S4096x1024 .f32) :
    Cert.Reference8Ideal.Read.val_main_v4 (F := Ideal) x0 x1 = result x0 x1 := by
  funext y
  rw [Cert.Reference8Ideal.Read.val_main_v4_apply, Cert.Reference8Ideal.Read.val_main_v3_apply, Cert.Reference8Ideal.Read.val_main_v2_apply]
  exact Finset.sum_congr rfl fun k _ => (mul_comm _ _).trans (congrArg₂ (fun (a : S4096x512.Idx) (b : S4096x1024.Idx) => (x0 a * x1 b : EReal))
    (funext fun a => by fin_cases a <;> rfl) (funext fun a => by fin_cases a <;> rfl))

end Cert.Kernel8Ideal.BranchGrad

namespace Cert.Proof

theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic_branchgrad : Cert.algebraic_Kernel8Ideal_Reference8Ideal := by
  intro m ρ m' ρ' _ hagree
  refine ⟨fun c => Cert.Kernel8Ideal.BranchGrad.result (Cert.Kernel8Ideal.BranchGrad.A0 m c) (Cert.Kernel8Ideal.BranchGrad.A1 m c), ?_, ?_⟩
  · refine (θ_run Cert.Kernel8Ideal.defs _ _).mono (fun r h c => ?_) (Cert.Kernel8Ideal.Value.run_blocks (F := Ideal) m ρ)
    exact ⟨(h c).1.trans (Cert.Kernel8Ideal.BranchGrad.array_eq m c), (h c).2⟩
  · refine (θ_run Cert.Reference8Ideal.defs _ _).mono (fun r h c => ⟨?_, (h c).2⟩) (Cert.Reference8Ideal.Value.run (F := Ideal) m' ρ')
    refine (h c).1.trans ((Cert.Reference8Ideal.Read.val_main_v4_eq _ _).trans ?_)
    rw [(hagree c).1, (hagree c).2]
    exact Cert.Kernel8Ideal.BranchGrad.reference_eq _ _

end Cert.Proof
-- ==== Proof.Ffn.lean ====
/-
  The gated FFN's forward pass as plain sums: a token's normalised row, its hidden columns, and the terms of a result.
-/
module

public import Idealize.ShloMosaic.Lib.Pointwise

@[expose] public section

noncomputable section

open Idealize.ShloMosaic

namespace Ffn

/-- The place of a gate column, and of an up column, among the columns of the first weights. -/
def left (n : Fin 2816) : Fin 5632 := ⟨n.val, by omega⟩
@[inherit_doc left] def right (n : Fin 2816) : Fin 5632 := ⟨2816 + n.val, by omega⟩

variable (x : Fin 4096 → Fin 1024 → EReal) (g : Fin 1024 → EReal) (w : Fin 1024 → Fin 5632 → EReal) (wo : Fin 2816 → Fin 1024 → EReal)

/-- A row over the root of its mean square, times the gain. -/
def hid (s : Fin 4096) (k : Fin 1024) : EReal :=
  x s k * Ideal.rsqrt (Ideal.div (∑ l, x s l * x s l) (Ideal.ofBits .f32 0x44800000#32) + Ideal.ofBits .f32 0x358637BD#32) * g k

/-- An entry of the first product. -/
def pre (s : Fin 4096) (n : Fin 5632) : EReal := ∑ k, hid x g s k * w k n

/-- A gate through `silu`, times its up column. -/
def act (a b : EReal) : EReal := a * Ideal.div 1 (1 + Ideal.exp (0 - a)) * b

/-- A term of the second product. -/
def term (s : Fin 4096) (j : Fin 1024) (n : Fin 2816) : EReal := act (pre x g w s (left n)) (pre x g w s (right n)) * wo n j

/-- The result. -/
def result (s : Fin 4096) (j : Fin 1024) : EReal := x s j + Ideal.ofBits .f32 0x3F000000#32 * ∑ n, term x g w wo s j n

/-- Column `704 b + n` of the hidden ones. -/
def hcol (b : ℕ) (n : Fin 704) : Fin 2816 := ⟨(704 * b + n.val) % 2816, Nat.mod_lt _ (by decide)⟩

/-- What is saved for the backward pass: the gate columns and the up columns, in blocks of 704. -/
def saved (a : Fin 2) (b : Fin 4) (s : Fin 4096) (n : Fin 704) : EReal :=
  pre x g w s (if a = 0 then left (hcol b.val n) else right (hcol b.val n))

end Ffn
-- ==== Proof.FfnFwd.lean ====
/-
  The forward pass of the gated FFN: each block of 512 tokens is normalised once, and each of its four grid points adds
  the terms of 704 hidden columns.
-/
module

public import proofs.«01_k».proof.Defs
public import proofs.«01_k».proof.Proof.Fold
public import proofs.«01_k».proof.Proof.Ffn
public import proofs.«01_k».proof.Proof.Gen.Kernel9Ideal.Value
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem

namespace Cert.Kernel9Ideal.FfnFwd

open Cert.Kernel9Ideal Cert.Kernel9Ideal.Gen Fold

theorem hz : (![0, 0] : Fin 2 → Nat) = fun _ => 0 := funext fun a => by fin_cases a <;> rfl
theorem hz4 : (![0, 0, 0, 0] : Fin 4 → Nat) = fun _ => 0 := funext fun a => by fin_cases a <;> rfl

section cases
variable {F : FTy → Type} [FloatOps F]

/-- A block stored as two halves, read at an index. -/
theorem halves (p q : Vec F S1x1x512x704 .bf16) (h1 : ∀ a, (![1, 0, 0, 0] : Fin 4 → Nat) a + S1x1x512x704.size a ≤ S2x1x512x704.size a)
    (h0 : ∀ a, (![0, 0, 0, 0] : Fin 4 → Nat) a + S1x1x512x704.size a ≤ S2x1x512x704.size a) (a : Fin 2) (b : Fin 1) (i : Fin 512) (j : Fin 704) :
    View.canon [(⟨Rect.unit ![1, 0, 0, 0] S1x1x512x704.size h1, p⟩ : View.Piece (Elt F) S2x1x512x704 .bf16), ⟨Rect.unit ![0, 0, 0, 0] S1x1x512x704.size h0, q⟩] (ix4 a b i j) =
      if a = 0 then q (ix4 0 0 i j) else p (ix4 0 0 i j) := by
  obtain rfl : b = 0 := Subsingleton.elim _ _
  have e0 : (ix4 0 0 i j : S2x1x512x704.Idx) = (Rect.unit (s := S2x1x512x704) ![0, 0, 0, 0] S1x1x512x704.size h0).emb (ix4 0 0 i j : S1x1x512x704.Idx) := by
    funext a
    fin_cases a <;> exact Fin.ext (by simp [Rect.emb_apply, ix4])
  have e1 : (ix4 1 0 i j : S2x1x512x704.Idx) = (Rect.unit (s := S2x1x512x704) ![1, 0, 0, 0] S1x1x512x704.size h1).emb (ix4 0 0 i j : S1x1x512x704.Idx) := by
    funext a
    fin_cases a <;> exact Fin.ext (by simp [Rect.emb_apply, ix4])
  obtain rfl | rfl : a = 0 ∨ a = 1 := by omega
  · have hn : (ix4 0 0 i j : S2x1x512x704.Idx) ∉ (Rect.unit (s := S2x1x512x704) ![1, 0, 0, 0] S1x1x512x704.size h1).set := fun h => by
      have h' : 1 ≤ 0 := ((Rect.mem_set_unit.mp h) 0).1
      omega
    rw [if_pos rfl]
    refine (View.canon_cons_of_not_mem (⟨Rect.unit (s := S2x1x512x704) ![1, 0, 0, 0] S1x1x512x704.size h1, p⟩ : View.Piece (Elt F) S2x1x512x704 .bf16) _ hn).trans ?_
    rw [e0]
    exact View.canon_cons_emb (Rect.unit (s := S2x1x512x704) ![0, 0, 0, 0] S1x1x512x704.size h0) q [] (ix4 0 0 i j)
  · rw [if_neg (by decide), e1]
    exact View.canon_cons_emb (Rect.unit (s := S2x1x512x704) ![1, 0, 0, 0] S1x1x512x704.size h1) p _ (ix4 0 0 i j)

variable (c : Dev nD) (i : grid0.Coords)
  (a2 : Memref sig .tc .vmem S512x1024 .f32) (h2 : a2.IsWhole) (a3 : Memref sig .tc .vmem S1x1024 .f32) (h3 : a3.IsWhole)
  (a4 : Memref sig .tc .vmem S1x1x1024x704 .bf16) (h4 : a4.IsWhole) (a5 : Memref sig .tc .vmem S1x1x1024x704 .bf16) (h5 : a5.IsWhole)
  (a6 : Memref sig .tc .vmem S2x1x352x1024 .bf16) (h6 : a6.IsWhole) (a7 : Memref sig .tc .vmem S512x1024 .f32) (h7 : a7.IsWhole)
  (a8 : Memref sig .tc .vmem S2x1x512x704 .bf16) (h8 : a8.IsWhole) (a9 : Memref sig .tc .vmem S512x1024 .bf16) (h9 : a9.IsWhole)
  (a10 : Memref sig .tc .vmem S512x1024 .f32) (h10 : a10.IsWhole)
  (x0 : Vec F S512x1024 .f32) (x1 : Vec F S1x1024 .f32) (x2 x3 : Vec F S1x1x1024x704 .bf16) (x4 : Vec F S2x1x352x1024 .bf16)
  (xh : Vec F S512x1024 .bf16) (xs : Vec F S512x1024 .f32)

/-- The first point of a block normalises its rows. -/
theorem hidden_A (hc0 : cond0_0 i) (hc1 : ¬cond0_1 i) :
    sout0_A_0 c i a2 h2 a3 h3 a4 h4 a5 h5 a6 h6 a7 h7 a8 h8 a9 h9 a10 h10 hc0 hc1 x0 x1 x2 x3 x4 = k0_pay3 x0 x1 := by
  unfold sout0_A_0
  rw [View.read_writes_eq_canon _ _ _ (scover0_A_0 c i a2 h2 a3 h3 a4 h4 a5 h5 a6 h6 a7 h7 a8 h8 a9 h9 a10 h10 hc0 hc1 x0 x1 x2 x3 x4)]
  unfold kernelRun0_A
  dsimp only
  sl_unfold_words
  rw [View.canon_unit_zero hz]
  simp only [View.readAt_eq_ld, h2.read_unread, h3.read_unread, View.ld_unit_zero (S := S512x1024) hz, View.ld_unit_zero (S := S1x1024) hz]

/-- The first point of a block starts its sum from zeros. -/
theorem sum_A (hc0 : cond0_0 i) (hc1 : ¬cond0_1 i) :
    sout0_A_1 c i a2 h2 a3 h3 a4 h4 a5 h5 a6 h6 a7 h7 a8 h8 a9 h9 a10 h10 hc0 hc1 x0 x1 x2 x3 x4 = k0_pay1 k0_pay4 (k0_pay9 (k0_pay3 x0 x1) x2 x3) x4 := by
  unfold sout0_A_1
  rw [View.read_writes_eq_canon _ _ _ (scover0_A_1 c i a2 h2 a3 h3 a4 h4 a5 h5 a6 h6 a7 h7 a8 h8 a9 h9 a10 h10 hc0 hc1 x0 x1 x2 x3 x4)]
  unfold kernelRun0_A
  dsimp only
  sl_unfold_words
  rw [View.canon_cons_unit_zero (S := S512x1024) hz, View.readCov_unit_zero (S := S512x1024) _ hz, View.readCov_unit_zero (S := S512x1024) _ hz]
  simp only [View.readAt_eq_ld, h2.read_unread, h3.read_unread, h4.read_unread, h5.read_unread, h6.read_unread, View.ld_unit_zero (S := S512x1024) hz,
    View.ld_unit_zero (S := S1x1024) hz, View.ld_unit_zero (S := S1x1x1024x704) hz4, View.ld_unit_zero (S := S2x1x352x1024) hz4]

/-- A middle point adds its terms. -/
theorem sum_B (hc0 : ¬cond0_0 i) (hc1 : ¬cond0_1 i) :
    sout0_B_1 c i a2 h2 a3 h3 a4 h4 a5 h5 a6 h6 a7 h7 a8 h8 a9 h9 a10 h10 hc0 hc1 x0 x1 x2 x3 x4 xh xs = k0_pay1 xs (k0_pay9 xh x2 x3) x4 := by
  unfold sout0_B_1
  rw [View.read_writes_eq_canon _ _ _ (scover0_B_1 c i a2 h2 a3 h3 a4 h4 a5 h5 a6 h6 a7 h7 a8 h8 a9 h9 a10 h10 hc0 hc1 x0 x1 x2 x3 x4 xh xs)]
  unfold kernelRun0_B
  dsimp only
  sl_unfold_words
  rw [View.canon_unit_zero hz]
  simp only [View.readAt_eq_ld, h4.read_unread, h5.read_unread, h6.read_unread, h9.read_unread, h10.read_unread, View.ld_unit_zero (S := S512x1024) hz,
    View.ld_unit_zero (S := S1x1x1024x704) hz4, View.ld_unit_zero (S := S2x1x352x1024) hz4]

/-- The last point writes the result. -/
theorem out_C (hc0 : ¬cond0_0 i) (hc1 : cond0_1 i) :
    out0_C_5 c i a2 h2 a3 h3 a4 h4 a5 h5 a6 h6 a7 h7 a8 h8 a9 h9 a10 h10 hc0 hc1 x0 x1 x2 x3 x4 xh xs = k0_pay2 x0 (k0_pay1 xs (k0_pay9 xh x2 x3) x4) := by
  unfold out0_C_5
  rw [View.read_writes_eq_canon _ _ _ (cover0_C_5 c i a2 h2 a3 h3 a4 h4 a5 h5 a6 h6 a7 h7 a8 h8 a9 h9 a10 h10 hc0 hc1 x0 x1 x2 x3 x4 xh xs)]
  unfold kernelRun0_C
  dsimp only
  sl_unfold_words
  rw [View.canon_unit_zero hz, View.readCov_unit_zero (S := S512x1024) _ hz]
  simp only [View.readAt_eq_ld, h2.read_unread, h4.read_unread, h5.read_unread, h6.read_unread, h9.read_unread, h10.read_unread, View.ld_unit_zero (S := S512x1024) hz,
    View.ld_unit_zero (S := S1x1x1024x704) hz4, View.ld_unit_zero (S := S2x1x352x1024) hz4]

/-- Every point writes its gate and up columns, from the normalised rows. -/
theorem saved_A (hc0 : cond0_0 i) (hc1 : ¬cond0_1 i) (a : Fin 2) (b : Fin 1) (r : Fin 512) (j : Fin 704) :
    out0_A_6 c i a2 h2 a3 h3 a4 h4 a5 h5 a6 h6 a7 h7 a8 h8 a9 h9 a10 h10 hc0 hc1 x0 x1 x2 x3 x4 (ix4 a b r j) =
      if a = 0 then k0_pay7 (k0_pay3 x0 x1) x2 (ix4 0 0 r j) else k0_pay8 (k0_pay3 x0 x1) x3 (ix4 0 0 r j) := by
  unfold out0_A_6
  rw [View.read_writes_eq_canon _ _ _ (cover0_A_6 c i a2 h2 a3 h3 a4 h4 a5 h5 a6 h6 a7 h7 a8 h8 a9 h9 a10 h10 hc0 hc1 x0 x1 x2 x3 x4)]
  unfold kernelRun0_A
  dsimp only
  sl_unfold_words
  rw [View.readCov_unit_zero (S := S512x1024) _ hz]
  rw [halves]
  simp only [View.readAt_eq_ld, h2.read_unread, h3.read_unread, h4.read_unread, h5.read_unread, View.ld_unit_zero (S := S512x1024) hz,
    View.ld_unit_zero (S := S1x1024) hz, View.ld_unit_zero (S := S1x1x1024x704) hz4]

@[inherit_doc saved_A]
theorem saved_B (hc0 : ¬cond0_0 i) (hc1 : ¬cond0_1 i) (a : Fin 2) (b : Fin 1) (r : Fin 512) (j : Fin 704) :
    out0_B_6 c i a2 h2 a3 h3 a4 h4 a5 h5 a6 h6 a7 h7 a8 h8 a9 h9 a10 h10 hc0 hc1 x0 x1 x2 x3 x4 xh xs (ix4 a b r j) =
      if a = 0 then k0_pay7 xh x2 (ix4 0 0 r j) else k0_pay8 xh x3 (ix4 0 0 r j) := by
  unfold out0_B_6
  rw [View.read_writes_eq_canon _ _ _ (cover0_B_6 c i a2 h2 a3 h3 a4 h4 a5 h5 a6 h6 a7 h7 a8 h8 a9 h9 a10 h10 hc0 hc1 x0 x1 x2 x3 x4 xh xs)]
  unfold kernelRun0_B
  dsimp only
  sl_unfold_words
  rw [halves]
  simp only [View.readAt_eq_ld, h4.read_unread, h5.read_unread, h9.read_unread, View.ld_unit_zero (S := S512x1024) hz,
    View.ld_unit_zero (S := S1x1x1024x704) hz4]

@[inherit_doc saved_A]
theorem saved_C (hc0 : ¬cond0_0 i) (hc1 : cond0_1 i) (a : Fin 2) (b : Fin 1) (r : Fin 512) (j : Fin 704) :
    out0_C_6 c i a2 h2 a3 h3 a4 h4 a5 h5 a6 h6 a7 h7 a8 h8 a9 h9 a10 h10 hc0 hc1 x0 x1 x2 x3 x4 xh xs (ix4 a b r j) =
      if a = 0 then k0_pay7 xh x2 (ix4 0 0 r j) else k0_pay8 xh x3 (ix4 0 0 r j) := by
  unfold out0_C_6
  rw [View.read_writes_eq_canon _ _ _ (cover0_C_6 c i a2 h2 a3 h3 a4 h4 a5 h5 a6 h6 a7 h7 a8 h8 a9 h9 a10 h10 hc0 hc1 x0 x1 x2 x3 x4 xh xs)]
  unfold kernelRun0_C
  dsimp only
  sl_unfold_words
  rw [halves]
  simp only [View.readAt_eq_ld, h4.read_unread, h5.read_unread, h9.read_unread, View.ld_unit_zero (S := S512x1024) hz,
    View.ld_unit_zero (S := S1x1x1024x704) hz4]

end cases

end Cert.Kernel9Ideal.FfnFwd
-- ==== Proof.FfnArray.lean ====
/-
  The FFN's forward call: the arrays it leaves, and the reference's.
-/
module

public import proofs.«01_k».proof.Proof.FfnFwd
public import proofs.«01_k».proof.Proof.Gen.Reference9Ideal.Run
public import proofs.«01_k».proof.Proof.Gen.Reference9Ideal.Read

@[expose] public section

set_option maxRecDepth 16384

noncomputable section

open Idealize.ShloMosaic Idealize.ShloMosaic.TcCoe Idealize.SL.Sem

namespace Cert.Kernel9Ideal.FfnFwd

open Cert.Kernel9Ideal Cert.Kernel9Ideal.Gen Fold Ffn

theorem pay3_apply (x : Vec Ideal S512x1024 .f32) (g : Vec Ideal S1x1024 .f32) (i : Fin 512) (k : Fin 1024) :
    (k0_pay3 x g (ix2 i k) : EReal) = x (ix2 i k) * Ideal.rsqrt (Ideal.div (∑ l : Fin 1024, (x (ix2 i l) * x (ix2 i l) : EReal)) (Ideal.ofBits .f32 0x44800000#32)
      + Ideal.ofBits .f32 0x358637BD#32) * g (ix2 0 k) := by
  pointwise [k0_pay3]

theorem pay4_apply (i : Fin 512) (j : Fin 1024) : (k0_pay4 (F := Ideal) (ix2 i j) : EReal) = 0 := by
  pointwise [k0_pay4]

theorem pay7_apply (x : Vec Ideal S512x1024 .bf16) (w : Vec Ideal S1x1x1024x704 .bf16) (i : Fin 512) (n : Fin 704) :
    (k0_pay7 x w (ix4 0 0 i n) : EReal) = ∑ k : Fin 1024, (x (ix2 i k) * w (ix4 0 0 k n) : EReal) := by
  pointwise [k0_pay7, k0_pay5]

theorem pay8_apply (x : Vec Ideal S512x1024 .bf16) (w : Vec Ideal S1x1x1024x704 .bf16) (i : Fin 512) (n : Fin 704) :
    (k0_pay8 x w (ix4 0 0 i n) : EReal) = ∑ k : Fin 1024, (x (ix2 i k) * w (ix4 0 0 k n) : EReal) := by
  pointwise [k0_pay8, k0_pay6]

theorem pay9_apply (x : Vec Ideal S512x1024 .bf16) (w w' : Vec Ideal S1x1x1024x704 .bf16) (i : Fin 512) (n : Fin 704) :
    (k0_pay9 x w w' (ix2 i n) : EReal) = act (∑ k : Fin 1024, (x (ix2 i k) * w (ix4 0 0 k n) : EReal)) (∑ k : Fin 1024, (x (ix2 i k) * w' (ix4 0 0 k n) : EReal)) := by
  pointwise [k0_pay9, k0_pay5, k0_pay6]
  rfl

theorem pay1_apply (xs : Vec Ideal S512x1024 .f32) (p : FVec Ideal S512x704 .f32) (w : Vec Ideal S2x1x352x1024 .bf16) (i : Fin 512) (j : Fin 1024) :
    (k0_pay1 xs p w (ix2 i j) : EReal) =
      xs (ix2 i j) + ∑ n : Fin 704, (p (ix2 i n) * w (ix4 ⟨n.val / 352, by omega⟩ 0 ⟨n.val % 352, Nat.mod_lt _ (by decide)⟩ j) : EReal) := by
  pointwise [k0_pay1]

theorem pay2_apply (x xs : Vec Ideal S512x1024 .f32) (i : Fin 512) (j : Fin 1024) :
    (k0_pay2 x xs (ix2 i j) : EReal) = x (ix2 i j) + Ideal.ofBits .f32 0x3F000000#32 * xs (ix2 i j) := by
  pointwise [k0_pay2]

/-- Grid point `t` is part `t % 4` of the sum, for block `t / 4` of the tokens. -/
theorem idx : ∀ t : Fin grid0.N, win0_0.index t = ![t.val / 4, 0] ∧ win0_1.index t = ![0, 0] ∧ win0_2.index t = ![t.val % 4, 0, 0, 0] ∧
    win0_3.index t = ![t.val % 4 + 4, 0, 0, 0] ∧ win0_4.index t = ![t.val % 4, 0, 0, 0] ∧ win0_5.index t = ![t.val / 4, 0] ∧
    win0_6.index t = ![0, t.val % 4, t.val / 4, 0] := by
  decide +kernel

/-- Token `512 b + i`. -/
def row (b : ℕ) (i : Fin 512) : Fin 4096 := ⟨(512 * b + i.val) % 4096, Nat.mod_lt _ (by decide)⟩

/-- Block `b` of the first weights, and block `2 b + a` of the second. -/
def win (b : ℕ) : Fin 8 := ⟨b % 8, Nat.mod_lt _ (by decide)⟩
@[inherit_doc win] def wout (b : ℕ) (a : Fin 2) : Fin 8 := ⟨(2 * b + a.val) % 8, Nat.mod_lt _ (by decide)⟩

theorem emb0 (t : Fin cfg0.N) (i : Fin 512) (k : Fin 1024) : (win0_0.blk t).view.emb (ix2 i k) = (ix2 (row (t.val / 4) i) k : S4096x1024.Idx) := by
  blk_ext [row, idx t]

theorem emb1 (t : Fin cfg0.N) (k : Fin 1024) : (win0_1.blk t).view.emb (ix2 0 k) = (ix2 0 k : S1x1024.Idx) := by
  blk_ext [idx t]

theorem emb2 (t : Fin cfg0.N) (k : Fin 1024) (n : Fin 704) : (win0_2.blk t).view.emb (ix4 0 0 k n) = (ix4 (win (t.val % 4)) 0 k n : S8x2x1024x704.Idx) := by
  blk_ext [win, idx t]

theorem emb3 (t : Fin cfg0.N) (k : Fin 1024) (n : Fin 704) : (win0_3.blk t).view.emb (ix4 0 0 k n) = (ix4 (win (t.val % 4 + 4)) 0 k n : S8x2x1024x704.Idx) := by
  blk_ext [win, idx t]

theorem emb4 (t : Fin cfg0.N) (a : Fin 2) (r : Fin 352) (j : Fin 1024) :
    (win0_4.blk t).view.emb (ix4 a 0 r j) = (ix4 (wout (t.val % 4) a) 0 r j : S8x2x352x1024.Idx) := by
  blk_ext [wout, idx t]

theorem emb5 (t : Fin cfg0.N) (i : Fin 512) (j : Fin 1024) : (win0_5.blk t).view.emb (ix2 i j) = (ix2 (row (t.val / 4) i) j : S4096x1024.Idx) := by
  blk_ext [row, idx t]

/-- Part `t % 4`, as an index of the saved blocks. -/
def part (t : ℕ) : Fin 4 := ⟨t % 4, Nat.mod_lt _ (by decide)⟩

theorem emb6 (t : Fin cfg0.N) (a : Fin 2) (b : Fin 1) (i : Fin 512) (n : Fin 704) :
    (win0_6.blk t).view.emb (ix4 a b i n) = (ix4 a (part t.val) (row (t.val / 4) i) n : S2x4x4096x704.Idx) := by
  obtain rfl : b = 0 := Subsingleton.elim _ _
  blk_ext [row, part, idx t]

variable (m : (ℓ : Loc nD τ sig) → Buf (Elt Ideal) ℓ) (c : Dev nD)

/-- The arguments. -/
abbrev A0 : FVec Ideal S4096x1024 .f32 := m (c, Proc.tc.devRef main_arg0)
@[inherit_doc A0] abbrev A1 : FVec Ideal S1024 .f32 := m (c, Proc.tc.devRef main_arg1)
@[inherit_doc A0] abbrev A2 : FVec Ideal S2x1024x5632 .f32 := m (c, Proc.tc.devRef main_arg2)
@[inherit_doc A0] abbrev A3 : FVec Ideal S2x2816x1024 .f32 := m (c, Proc.tc.devRef main_arg3)

/-- The arguments by index: the rows, the gain, and the weights of the first of the two FFNs. -/
def X (x : FVec Ideal S4096x1024 .f32) (s : Fin 4096) (k : Fin 1024) : EReal := x (ix2 s k)
@[inherit_doc X] def G (g : FVec Ideal S1024 .f32) (k : Fin 1024) : EReal := g (ix1 k)
@[inherit_doc X] def W (w : FVec Ideal S2x1024x5632 .f32) (k : Fin 1024) (n : Fin 5632) : EReal := w (ix3 0 k n)
@[inherit_doc X] def Wo (w : FVec Ideal S2x2816x1024 .f32) (n : Fin 2816) (j : Fin 1024) : EReal := w (ix3 0 n j)

theorem staged0 : (V m c main_arg0 : S4096x1024.Idx → EReal) = A0 m c := by
  unfold V
  after_reads_simp
  all_goals try simp -implicitDefEqProofs only [StableHlo.TRef.toBuf, StableHlo.TRef.ofBuf, cast_cast, cast_eq]
  all_goals clean_types

theorem staged1 : (V m c main_v0 : S1x1024.Idx → EReal) = shapeCast S1x1024 (A1 m c) shapeCasts_S1024_S1x1024 := by
  unfold V
  after_reads_simp
  all_goals try simp -implicitDefEqProofs only [StableHlo.TRef.toBuf, StableHlo.TRef.ofBuf, cast_cast, cast_eq]
  all_goals clean_types
  rfl

theorem staged2 : (V m c main_v3 : S8x2x1024x704.Idx → EReal) =
    transpose S8x2x1024x704 [2, 0, 1, 3] (shapeCast S2x1024x8x704 (truncf .bf16 (A2 m c) bitsLt_bf16_f32) shapeCasts_S2x1024x5632_S2x1024x8x704)
      transposes_S2x1024x8x704_S8x2x1024x704_2_0_1_3 := by
  unfold V
  after_reads_simp
  all_goals try simp -implicitDefEqProofs only [StableHlo.TRef.toBuf, StableHlo.TRef.ofBuf, cast_cast, cast_eq]
  all_goals clean_types
  rfl

theorem staged4 : (V m c main_v6 : S8x2x352x1024.Idx → EReal) =
    transpose S8x2x352x1024 [1, 0, 2, 3] (shapeCast S2x8x352x1024 (truncf .bf16 (A3 m c) bitsLt_bf16_f32) shapeCasts_S2x2816x1024_S2x8x352x1024)
      transposes_S2x8x352x1024_S8x2x352x1024_1_0_2_3 := by
  unfold V
  after_reads_simp
  all_goals try simp -implicitDefEqProofs only [StableHlo.TRef.toBuf, StableHlo.TRef.ofBuf, cast_cast, cast_eq]
  all_goals clean_types
  rfl

theorem gain_row (g : FVec Ideal S1024 .f32) (k : Fin 1024) : (shapeCast S1x1024 g shapeCasts_S1024_S1x1024 (ix2 0 k) : EReal) = G g k := by
  pointwise [G]

theorem packed_in (x : FVec Ideal S2x1024x5632 .f32) (b : Fin 8) (k : Fin 1024) (n : Fin 704) :
    (transpose S8x2x1024x704 [2, 0, 1, 3] (shapeCast S2x1024x8x704 (truncf .bf16 x bitsLt_bf16_f32) shapeCasts_S2x1024x5632_S2x1024x8x704)
      transposes_S2x1024x8x704_S8x2x1024x704_2_0_1_3 (ix4 b 0 k n) : EReal) = W x k ⟨b.val * 704 + n.val, by omega⟩ := by
  pointwise [W]

theorem packed_out (x : FVec Ideal S2x2816x1024 .f32) (b : Fin 8) (r : Fin 352) (j : Fin 1024) :
    (transpose S8x2x352x1024 [1, 0, 2, 3] (shapeCast S2x8x352x1024 (truncf .bf16 x bitsLt_bf16_f32) shapeCasts_S2x2816x1024_S2x8x352x1024)
      transposes_S2x8x352x1024_S8x2x352x1024_1_0_2_3 (ix4 b 0 r j) : EReal) = Wo x ⟨b.val * 352 + r.val, by omega⟩ j := by
  pointwise [Wo]

theorem iblk0 (t : Fin cfg0.N) (i : Fin 512) (k : Fin 1024) : (iblk m c 0 t (ix2 i k) : EReal) = X (A0 m c) (row (t.val / 4) i) k :=
  (congrArg (V m c main_arg0 : S4096x1024.Idx → EReal) (emb0 t i k)).trans (congrFun (staged0 m c) _)

theorem iblk1 (t : Fin cfg0.N) (k : Fin 1024) : (iblk m c 1 t (ix2 0 k) : EReal) = G (A1 m c) k :=
  (congrArg (V m c main_v0 : S1x1024.Idx → EReal) (emb1 t k)).trans ((congrFun (staged1 m c) _).trans (gain_row _ _))

theorem iblk2 (t : Fin cfg0.N) (k : Fin 1024) (n : Fin 704) : (iblk m c 2 t (ix4 0 0 k n) : EReal) = W (A2 m c) k (left (hcol (t.val % 4) n)) :=
  (congrArg (V m c main_v3 : S8x2x1024x704.Idx → EReal) (emb2 t k n)).trans ((congrFun (staged2 m c) _).trans ((packed_in _ _ _ _).trans
    (congrArg (W _ k) (Fin.ext (by simp only [win, left, hcol]; omega)))))

theorem iblk3 (t : Fin cfg0.N) (k : Fin 1024) (n : Fin 704) : (iblk m c 3 t (ix4 0 0 k n) : EReal) = W (A2 m c) k (right (hcol (t.val % 4) n)) :=
  (congrArg (V m c main_v3 : S8x2x1024x704.Idx → EReal) (emb3 t k n)).trans ((congrFun (staged2 m c) _).trans ((packed_in _ _ _ _).trans
    (congrArg (W _ k) (Fin.ext (by simp only [win, right, hcol]; omega)))))

theorem iblk4 (t : Fin cfg0.N) (n : Fin 704) (j : Fin 1024) :
    (iblk m c 4 t (ix4 ⟨n.val / 352, by omega⟩ 0 ⟨n.val % 352, Nat.mod_lt _ (by decide)⟩ j) : EReal) = Wo (A3 m c) (hcol (t.val % 4) n) j :=
  (congrArg (V m c main_v6 : S8x2x352x1024.Idx → EReal) (emb4 t _ _ j)).trans ((congrFun (staged4 m c) _).trans ((packed_out _ _ _ _).trans
    (congrArg (fun n => Wo _ n j) (Fin.ext (by simp only [wout, hcol]; omega)))))

/-- A block's rows hold the normalised rows of its tokens. -/
def Normal (b : ℕ) (xh : Vec Ideal S512x1024 .bf16) : Prop :=
  ∀ (i : Fin 512) (k : Fin 1024), (xh (ix2 i k) : EReal) = hid (X (A0 m c)) (G (A1 m c)) (row b i) k

theorem normal_A (t : Fin cfg0.N) : Normal m c (t.val / 4) (k0_pay3 (iblk m c 0 t) (iblk m c 1 t)) := fun i k => by
  rw [pay3_apply]
  simp only [iblk0, iblk1]
  rfl

theorem gate_sum (t : Fin cfg0.N) (xh : Vec Ideal S512x1024 .bf16) (h : Normal m c (t.val / 4) xh) (i : Fin 512) (n : Fin 704) :
    ∑ k : Fin 1024, (xh (ix2 i k) * iblk m c 2 t (ix4 0 0 k n) : EReal) = pre (X (A0 m c)) (G (A1 m c)) (W (A2 m c)) (row (t.val / 4) i) (left (hcol (t.val % 4) n)) :=
  Finset.sum_congr rfl fun k _ => by rw [iblk2, h i k]

theorem up_sum (t : Fin cfg0.N) (xh : Vec Ideal S512x1024 .bf16) (h : Normal m c (t.val / 4) xh) (i : Fin 512) (n : Fin 704) :
    ∑ k : Fin 1024, (xh (ix2 i k) * iblk m c 3 t (ix4 0 0 k n) : EReal) = pre (X (A0 m c)) (G (A1 m c)) (W (A2 m c)) (row (t.val / 4) i) (right (hcol (t.val % 4) n)) :=
  Finset.sum_congr rfl fun k _ => by rw [iblk3, h i k]

/-- The terms of an entry of the second product. -/
abbrev terms (b : ℕ) (i : Fin 512) (j : Fin 1024) : Fin 2816 → EReal :=
  term (X (A0 m c)) (G (A1 m c)) (W (A2 m c)) (Wo (A3 m c)) (row b i) j

/-- A point adds the terms of the next 704 hidden columns. -/
theorem step (t : Fin cfg0.N) (xh : Vec Ideal S512x1024 .bf16) (hh : Normal m c (t.val / 4) xh) (xs : Vec Ideal S512x1024 .f32) (i : Fin 512) (j : Fin 1024)
    (h : (xs (ix2 i j) : EReal) = upto (terms m c (t.val / 4) i j) (704 * (t.val % 4))) :
    (k0_pay1 xs (k0_pay9 xh (iblk m c 2 t) (iblk m c 3 t)) (iblk m c 4 t) (ix2 i j) : EReal) = upto (terms m c (t.val / 4) i j) (704 * (t.val % 4 + 1)) := by
  rw [pay1_apply, h]
  refine upto_add _ (by omega) _ fun n => ?_
  have e : hcol (t.val % 4) n = ⟨704 * (t.val % 4) + n.val, by omega⟩ := Fin.ext (Nat.mod_eq_of_lt (by omega))
  rw [pay9_apply, gate_sum m c t xh hh, up_sum m c t xh hh, iblk4, e]
  rfl

/-- What a point that does not write the result leaves in the scratches: the normalised rows, and the sum so far. -/
theorem scratch (n : ℕ) : ∀ (hn : n < cfg0.N), ¬n % 4 = 3 → Normal m c (n / 4) (outsAt0 m c n hn).2.2.1 ∧ ∀ (i : Fin 512) (j : Fin 1024),
    ((outsAt0 m c n hn).2.2.2 (ix2 i j) : EReal) = upto (terms m c (n / 4) i j) (704 * (n % 4 + 1)) := by
  induction n with
  | zero =>
    intro hn h1
    rw [outsAt0_A m c ⟨0, hn⟩ rfl h1]
    dsimp only
    rw [hidden_A, sum_A]
    exact ⟨normal_A m c ⟨0, hn⟩, fun i j => step m c ⟨0, hn⟩ _ (normal_A m c ⟨0, hn⟩) _ i j ((pay4_apply i j).trans (upto_zero _).symm)⟩
  | succ n ih =>
    intro hn h1
    by_cases h0 : (n + 1) % 4 = 0
    · rw [outsAt0_A m c ⟨n + 1, hn⟩ h0 h1]
      dsimp only
      rw [hidden_A, sum_A]
      refine ⟨normal_A m c ⟨n + 1, hn⟩, fun i j => step m c ⟨n + 1, hn⟩ _ (normal_A m c ⟨n + 1, hn⟩) _ i j ((pay4_apply i j).trans ?_)⟩
      simp only [h0, Nat.mul_zero, upto_zero]
    · have e : n / 4 = (n + 1) / 4 := by omega
      obtain ⟨hh, hs⟩ := ih (by omega) (by omega)
      rw [e] at hh hs
      rw [outsAt0_B m c ⟨n + 1, hn⟩ h0 h1]
      dsimp only
      rw [sum_B]
      refine ⟨hh, fun i j => step m c ⟨n + 1, hn⟩ _ hh _ i j ((hs i j).trans ?_)⟩
      rw [show n % 4 + 1 = (n + 1) % 4 by omega]

theorem before (t : Fin cfg0.N) (h0 : ¬t.val % 4 = 0) (hp : t.val - 1 < cfg0.N) :
    Normal m c (t.val / 4) (outsAt0 m c (t.val - 1) hp).2.2.1 ∧ ∀ (i : Fin 512) (j : Fin 1024),
      ((outsAt0 m c (t.val - 1) hp).2.2.2 (ix2 i j) : EReal) = upto (terms m c (t.val / 4) i j) (704 * (t.val % 4)) := by
  obtain ⟨hh, hs⟩ := scratch m c (t.val - 1) hp (by omega)
  rw [show (t.val - 1) / 4 = t.val / 4 by omega] at hh hs
  rw [show (t.val - 1) % 4 + 1 = t.val % 4 by omega] at hs
  exact ⟨hh, hs⟩

/-- The first result. -/
def out (x0 : FVec Ideal S4096x1024 .f32) (x1 : FVec Ideal S1024 .f32) (x2 : FVec Ideal S2x1024x5632 .f32) (x3 : FVec Ideal S2x2816x1024 .f32) : S4096x1024.Idx → EReal :=
  fun y => result (X x0) (G x1) (W x2) (Wo x3) (y 0) (y 1)

/-- The second. -/
def gu (x0 : FVec Ideal S4096x1024 .f32) (x1 : FVec Ideal S1024 .f32) (x2 : FVec Ideal S2x1024x5632 .f32) : S2x4x4096x704.Idx → EReal :=
  fun y => saved (X x0) (G x1) (W x2) (y 0) (y 1) (y 2) (y 3)

/-- What the last point of a block writes is the result. -/
theorem out_at (t : Fin cfg0.N) (h3 : t.val % 4 = 3) (i : Fin 512) (j : Fin 1024) :
    ((outsAt0 m c t.val t.isLt).1 (ix2 i j) : EReal) = result (X (A0 m c)) (G (A1 m c)) (W (A2 m c)) (Wo (A3 m c)) (row (t.val / 4) i) j := by
  have hp : t.val - 1 < cfg0.N := Nat.lt_of_le_of_lt (Nat.sub_le _ _) t.isLt
  obtain ⟨hh, hs⟩ := before m c t (by omega) hp
  rw [outsAt0_C m c t (by omega) h3]
  dsimp only
  rw [out_C]
  refine (pay2_apply _ _ i j).trans (congrArg₂ (fun a b : EReal => a + Ideal.ofBits .f32 0x3F000000#32 * b) (iblk0 m c t i j) ((step m c t _ hh _ i j (hs i j)).trans ?_))
  rw [h3]
  exact upto_all _

theorem out_eq : (dats m 0 c).arrAt 5 cfg0.N = out (A0 m c) (A1 m c) (A2 m c) (A3 m c) := by
  refine (dats m 0 c).arrAt_eq_of_covers 5 _ (by decide +kernel) fun t hf y => ?_
  have e := congrFun (Value.flushed5 m c t) y
  blk_simp [idx t]
  refine Eq.trans e ?_
  obtain ⟨i, j, rfl⟩ : ∃ (i : Fin 512) (j : Fin 1024), y = ix2 i j := ⟨y 0, y 1, by funext a; fin_cases a <;> rfl⟩
  exact (out_at m c t ((flush0_5 t).mp hf) i j).trans (congrArg (out (A0 m c) (A1 m c) (A2 m c) (A3 m c)) (emb5 t i j)).symm

theorem halves_eq (t : Fin cfg0.N) (xh : Vec Ideal S512x1024 .bf16) (h : Normal m c (t.val / 4) xh) (a : Fin 2) (i : Fin 512) (n : Fin 704) :
    ((if a = 0 then k0_pay7 xh (iblk m c 2 t) (ix4 0 0 i n) else k0_pay8 xh (iblk m c 3 t) (ix4 0 0 i n) : Elt Ideal .bf16) : EReal) =
      saved (X (A0 m c)) (G (A1 m c)) (W (A2 m c)) a (part t.val) (row (t.val / 4) i) n := by
  unfold saved
  by_cases ha : a = 0
  · rw [if_pos ha, if_pos ha]
    exact (pay7_apply _ _ i n).trans (gate_sum m c t xh h i n)
  · rw [if_neg ha, if_neg ha]
    exact (pay8_apply _ _ i n).trans (up_sum m c t xh h i n)

theorem saved_at (t : Fin cfg0.N) (a : Fin 2) (b : Fin 1) (i : Fin 512) (n : Fin 704) :
    ((outsAt0 m c t.val t.isLt).2.1 (ix4 a b i n) : EReal) = saved (X (A0 m c)) (G (A1 m c)) (W (A2 m c)) a (part t.val) (row (t.val / 4) i) n := by
  have hp : t.val - 1 < cfg0.N := Nat.lt_of_le_of_lt (Nat.sub_le _ _) t.isLt
  by_cases h0 : t.val % 4 = 0
  · rw [outsAt0_A m c t h0 (by omega)]
    dsimp only
    rw [saved_A]
    exact halves_eq m c t _ (normal_A m c t) a i n
  · by_cases h1 : t.val % 4 = 3
    · rw [outsAt0_C m c t h0 h1]
      dsimp only
      rw [saved_C]
      exact halves_eq m c t _ (before m c t h0 hp).1 a i n
    · rw [outsAt0_B m c t h0 h1]
      dsimp only
      rw [saved_B]
      exact halves_eq m c t _ (before m c t h0 hp).1 a i n

theorem gu_eq : (dats m 0 c).arrAt 6 cfg0.N = gu (A0 m c) (A1 m c) (A2 m c) := by
  refine (dats m 0 c).arrAt_eq_of_covers 6 _ (by decide +kernel) fun t hf y => ?_
  have e := congrFun (Value.flushed6 m c t) y
  blk_simp [idx t]
  refine Eq.trans e ?_
  obtain ⟨a, b, i, n, rfl⟩ : ∃ (a : Fin 2) (b : Fin 1) (i : Fin 512) (n : Fin 704), y = ix4 a b i n := ⟨y 0, y 1, y 2, y 3, by funext a; fin_cases a <;> rfl⟩
  exact (saved_at m c t a b i n).trans (congrArg (gu (A0 m c) (A1 m c) (A2 m c)) (emb6 t a b i n)).symm

end Cert.Kernel9Ideal.FfnFwd
-- ==== Proof.FfnRef.lean ====
/-
  The FFN's forward call against the reference.
-/
module

public import proofs.«01_k».proof.Proof.FfnArray

@[expose] public section

set_option maxRecDepth 16384

noncomputable section

open Idealize.ShloMosaic Idealize.ShloMosaic.TcCoe Idealize.SL.Sem

namespace Cert.Kernel9Ideal.FfnFwd

open Cert.Reference9Ideal.Read Ffn
open Cert.Reference9Ideal (S4096x1024 S1024 S2x1024x5632 S2x2816x1024 S4096x5632 S4096x2816 S4x4096x704 S1x4x4096x704 S2x4x4096x704)

variable (x0 : FVec Ideal S4096x1024 .f32) (x1 : FVec Ideal S1024 .f32) (x2 : FVec Ideal S2x1024x5632 .f32) (x3 : FVec Ideal S2x2816x1024 .f32)

theorem ref_hid (s : Fin 4096) (k : Fin 1024) : (val_main_v12 (F := Ideal) x0 x1 (ix2 s k) : EReal) = hid (X x0) (G x1) s k := by
  have e (l : Fin 1024) : idx_main_v1 (idx_main_v2 (idx_main_v8 (ix2 s k))) l = ix2 s l := funext fun a => by fin_cases a <;> rfl
  have f : idx_main_v10 (idx_main_v11 (ix2 s k)) = ix1 k := funext fun a => by fin_cases a; rfl
  pointwise [val_main_v12_apply, val_main_v11_apply, val_main_v10_apply, val_main_v9_apply, val_main_v8_apply, val_main_v7_apply, val_main_v6_apply, val_main_v5_apply,
    val_main_v4_apply, val_main_v3_apply, val_main_v2_apply, val_main_v1_apply, val_main_v0_apply, val_main_cst_apply, val_main_cst_0_apply, val_main_cst_1_apply, hid, X, G]
  simp only [e, f]

theorem ref_pre (s : Fin 4096) (n : Fin 5632) : (val_main_v15 (F := Ideal) x0 x1 x2 (ix2 s n) : EReal) = pre (X x0) (G x1) (W x2) s n := by
  rw [val_main_v15_apply]
  refine Finset.sum_congr rfl fun k _ => congrArg₂ (· * · : EReal → EReal → EReal) ?_ ?_
  · exact (congrArg (val_main_v12 (F := Ideal) x0 x1) (funext fun a => by fin_cases a <;> rfl)).trans (ref_hid x0 x1 s k)
  · rw [val_main_v14_apply, val_main_v13_apply]
    exact congrArg x2 (funext fun a => by fin_cases a <;> exact Fin.ext (by simp [ix2, ix3]; try omega))

theorem ref_left (s : Fin 4096) (n : Fin 2816) : (val_main_v16 (F := Ideal) x0 x1 x2 (ix2 s n) : EReal) = pre (X x0) (G x1) (W x2) s (left n) := by
  rw [val_main_v16_apply, ← ref_pre]
  exact congrArg (val_main_v15 (F := Ideal) x0 x1 x2) (funext fun a => by fin_cases a <;> rfl)

theorem ref_right (s : Fin 4096) (n : Fin 2816) : (val_main_v17 (F := Ideal) x0 x1 x2 (ix2 s n) : EReal) = pre (X x0) (G x1) (W x2) s (right n) := by
  rw [val_main_v17_apply, ← ref_pre]
  exact congrArg (val_main_v15 (F := Ideal) x0 x1 x2) (funext fun a => by fin_cases a <;> rfl)

theorem ref_act (s : Fin 4096) (n : Fin 2816) :
    (val_main_v19 (F := Ideal) x0 x1 x2 (ix2 s n) : EReal) = act (pre (X x0) (G x1) (W x2) s (left n)) (pre (X x0) (G x1) (W x2) s (right n)) := by
  rw [val_main_v19_apply, val_main_v18_apply, val_main_call0_v5_apply, val_main_call0_v4_apply, val_main_call0_v3_apply, val_main_call0_v2_apply, val_main_call0_v1_apply,
    val_main_call0_v0_apply, val_main_call0_cst_apply, val_main_call0_cst_0_apply, ref_left, ref_right]
  pointwise [act]
  rw [zero_sub]

theorem reference_out : val_main_v25 (F := Ideal) x0 x1 x2 x3 = out x0 x1 x2 x3 := by
  funext y
  obtain ⟨s, j, rfl⟩ : ∃ (s : Fin 4096) (j : Fin 1024), y = ix2 s j := ⟨y 0, y 1, by funext a; fin_cases a <;> rfl⟩
  rw [val_main_v25_apply, val_main_v24_apply, val_main_v23_apply, val_main_cst_2_apply, val_main_v22_apply]
  refine congrArg (fun z : EReal => x0 (ix2 s j) + Ideal.ofBits .f32 0x3F000000#32 * z) (Finset.sum_congr rfl fun n _ => congrArg₂ (· * · : EReal → EReal → EReal) ?_ ?_)
  · exact (congrArg (val_main_v19 (F := Ideal) x0 x1 x2) (funext fun a => by fin_cases a <;> rfl)).trans (ref_act x0 x1 x2 s n)
  · rw [val_main_v21_apply, val_main_v20_apply]
    exact congrArg x3 (funext fun a => by fin_cases a <;> exact Fin.ext (by simp [ix2, ix3]; try omega))

theorem reference_gu : val_main_v34 (F := Ideal) x0 x1 x2 = gu x0 x1 x2 := by
  funext y
  obtain ⟨a, b, s, n, rfl⟩ : ∃ (a : Fin 2) (b : Fin 4) (s : Fin 4096) (n : Fin 704), y = ix4 a b s n := ⟨y 0, y 1, y 2, y 3, by funext a; fin_cases a <;> rfl⟩
  have h : (hcol b.val n).val = 704 * b.val + n.val := Nat.mod_eq_of_lt (by omega)
  unfold val_main_v34 gu saved
  by_cases ha : a = 0
  · subst ha
    rw [concatenate_pair_apply_left (s₁ := S1x4x4096x704) (s₂ := S1x4x4096x704) 0 _ _ _ (ix4 (0 : Fin 2) b s n) rfl (ix4 (0 : Fin 1) b s n) (fun i => by fin_cases i <;> rfl)]
    rw [val_main_v32_apply, val_main_v28_apply, val_main_v27_apply, val_main_v26_apply]
    refine Eq.trans ?_ (ref_left x0 x1 x2 s (hcol b.val n))
    exact congrArg (val_main_v16 (F := Ideal) x0 x1 x2) (funext fun a => by fin_cases a <;> exact Fin.ext (by simp [ix2, ix4, h]; try omega))
  · obtain rfl : a = 1 := by omega
    rw [concatenate_pair_apply_right (s₁ := S1x4x4096x704) (s₂ := S1x4x4096x704) 0 _ _ _ (ix4 (1 : Fin 2) b s n) rfl rfl (ix4 (0 : Fin 1) b s n) (fun i hi => by fin_cases i <;> first | rfl | exact absurd rfl hi) rfl]
    rw [val_main_v33_apply, val_main_v31_apply, val_main_v30_apply, val_main_v29_apply]
    refine Eq.trans ?_ (ref_right x0 x1 x2 s (hcol b.val n))
    exact congrArg (val_main_v17 (F := Ideal) x0 x1 x2) (funext fun a => by fin_cases a <;> exact Fin.ext (by simp [ix2, ix4, h]; try omega))

end Cert.Kernel9Ideal.FfnFwd

namespace Cert.Proof

open Cert.Kernel9Ideal.FfnFwd in
theorem algebraic_ffnfwd : Cert.algebraic_Kernel9Ideal_Reference9Ideal := by
  intro m ρ m' ρ' _ hagree
  refine ⟨fun c => out (A0 m c) (A1 m c) (A2 m c) (A3 m c), fun c => gu (A0 m c) (A1 m c) (A2 m c), ?_, ?_⟩
  · refine (θ_run Cert.Kernel9Ideal.defs _ _).mono (fun r h c => ?_) (Cert.Kernel9Ideal.Value.run_blocks (F := Ideal) m ρ)
    exact ⟨(h c).1.trans (out_eq m c), (h c).2.1.trans (gu_eq m c), (h c).2.2⟩
  · refine (θ_run Cert.Reference9Ideal.defs _ _).mono (fun r h c => ⟨?_, ?_, (h c).2.2⟩) (Cert.Reference9Ideal.Value.run (F := Ideal) m' ρ')
    · refine (h c).1.trans ((Cert.Reference9Ideal.Read.val_main_v25_eq _ _ _ _).trans ?_)
      rw [(hagree c).1, (hagree c).2.1, (hagree c).2.2.1, (hagree c).2.2.2]
      exact reference_out _ _ _ _
    · refine (h c).2.1.trans ((Cert.Reference9Ideal.Read.val_main_v34_eq _ _ _).trans ?_)
      rw [(hagree c).1, (hagree c).2.1, (hagree c).2.2.1]
      exact reference_gu _ _ _

theorem frame_reference9 : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

end Cert.Proof
-- ==== Proof.FfnSecond.lean ====
/-
  The second FFN's forward call is the first's, run on weights whose two entries are exchanged.
-/
module

public import proofs.«01_k».proof.Proof.FfnRef
public import proofs.«01_k».proof.Proof.Gen.Kernel10Ideal.Value
public import proofs.«01_k».proof.Proof.Gen.Reference10Ideal.Run
public import proofs.«01_k».proof.Proof.Gen.Reference10Ideal.Read

@[expose] public section

set_option maxRecDepth 16384

noncomputable section

open Idealize.ShloMosaic Idealize.ShloMosaic.TcCoe Idealize.SL.Sem

namespace Cert.Kernel10Ideal.FfnSecond

open Cert.Kernel10Ideal Cert.Kernel10Ideal.Gen Ffn
open Cert.Kernel9Ideal.FfnFwd (X G W Wo out gu row win wout part A0 A1 A2 A3 emb5 emb6 staged2 staged4)

/-- The two FFNs' weights exchanged. -/
def swapIn (w : FVec Ideal S2x1024x5632 .f32) : FVec Ideal S2x1024x5632 .f32 := fun i => w (ix3 (Fin.rev (n := 2) (i 0)) (i 1) (i 2))
@[inherit_doc swapIn] def swapOut (w : FVec Ideal S2x2816x1024 .f32) : FVec Ideal S2x2816x1024 .f32 := fun i => w (ix3 (Fin.rev (n := 2) (i 0)) (i 1) (i 2))

theorem idx : ∀ t : Fin grid0.N, win0_2.index t = ![t.val % 4, 1, 0, 0] ∧ win0_3.index t = ![t.val % 4 + 4, 1, 0, 0] ∧ win0_4.index t = ![t.val % 4, 1, 0, 0] ∧
    win0_5.index t = ![t.val / 4, 0] ∧ win0_6.index t = ![0, t.val % 4, t.val / 4, 0] := by
  decide +kernel

theorem emb2 (t : Fin cfg0.N) (k : Fin 1024) (n : Fin 704) : (win0_2.blk t).view.emb (ix4 0 0 k n) = (ix4 (win (t.val % 4)) 1 k n : S8x2x1024x704.Idx) := by
  blk_ext [win, idx t]

theorem emb3 (t : Fin cfg0.N) (k : Fin 1024) (n : Fin 704) : (win0_3.blk t).view.emb (ix4 0 0 k n) = (ix4 (win (t.val % 4 + 4)) 1 k n : S8x2x1024x704.Idx) := by
  blk_ext [win, idx t]

theorem emb4 (t : Fin cfg0.N) (a : Fin 2) (r : Fin 352) (j : Fin 1024) :
    (win0_4.blk t).view.emb (ix4 a 0 r j) = (ix4 (wout (t.val % 4) a) 1 r j : S8x2x352x1024.Idx) := by
  blk_ext [wout, idx t]

variable (m : (ℓ : Loc nD τ sig) → Buf (Elt Ideal) ℓ) (c : Dev nD)

theorem packed_in (x : FVec Ideal S2x1024x5632 .f32) (b : Fin 8) (k : Fin 1024) (n : Fin 704) :
    (transpose S8x2x1024x704 [2, 0, 1, 3] (shapeCast S2x1024x8x704 (truncf .bf16 x bitsLt_bf16_f32) shapeCasts_S2x1024x5632_S2x1024x8x704)
      transposes_S2x1024x8x704_S8x2x1024x704_2_0_1_3 (ix4 b 1 k n) : EReal) = W (swapIn x) k ⟨b.val * 704 + n.val, by omega⟩ := by
  pointwise [W, swapIn]
  rfl

theorem packed_out (x : FVec Ideal S2x2816x1024 .f32) (b : Fin 8) (r : Fin 352) (j : Fin 1024) :
    (transpose S8x2x352x1024 [1, 0, 2, 3] (shapeCast S2x8x352x1024 (truncf .bf16 x bitsLt_bf16_f32) shapeCasts_S2x2816x1024_S2x8x352x1024)
      transposes_S2x8x352x1024_S8x2x352x1024_1_0_2_3 (ix4 b 1 r j) : EReal) = Wo (swapOut x) ⟨b.val * 352 + r.val, by omega⟩ j := by
  pointwise [Wo, swapOut]
  rfl

/-- The memory with both weights exchanged. -/
def other : (ℓ : Loc nD τ sig) → Buf (Elt Ideal) ℓ :=
  Function.update (Function.update m (c, Proc.tc.devRef main_arg2) (swapIn (A2 m c))) (c, Proc.tc.devRef main_arg3) (swapOut (A3 m c))

/-- Different arguments are different places. -/
theorem place {a b : Ref sig .tc} (h : (Proc.tc.devRef a : DevRef τ sig) ≠ Proc.tc.devRef b) : ((c, Proc.tc.devRef a) : Loc nD τ sig) ≠ (c, Proc.tc.devRef b) :=
  fun e => h (congrArg Prod.snd e)

theorem other0 : A0 (other m c) c = A0 m c := by
  unfold other A0
  rw [Function.update_of_ne, Function.update_of_ne] <;> exact place c (by decide)

theorem other1 : A1 (other m c) c = A1 m c := by
  unfold other A1
  rw [Function.update_of_ne, Function.update_of_ne] <;> exact place c (by decide)

theorem other2 : A2 (other m c) c = swapIn (A2 m c) := by
  unfold other A2
  rw [Function.update_of_ne, Function.update_self]
  exact place c (by decide)

theorem other3 : A3 (other m c) c = swapOut (A3 m c) :=
  Function.update_self _ _ _

/-- The blocks of the call are the first call's in the exchanged memory. -/
theorem iblk0 (t : Fin cfg0.N) : (iblk m c 0 t : S512x1024.Idx → EReal) = Cert.Kernel9Ideal.Gen.iblk (other m c) c 0 t := by
  funext y
  obtain ⟨i, k, rfl⟩ : ∃ (i : Fin 512) (k : Fin 1024), y = ix2 i k := ⟨y 0, y 1, by funext a; fin_cases a <;> rfl⟩
  rw [Cert.Kernel9Ideal.FfnFwd.iblk0, other0]
  exact Cert.Kernel9Ideal.FfnFwd.iblk0 m c t i k

theorem iblk1 (t : Fin cfg0.N) : (iblk m c 1 t : S1x1024.Idx → EReal) = Cert.Kernel9Ideal.Gen.iblk (other m c) c 1 t := by
  funext y
  obtain ⟨k, rfl⟩ : ∃ k : Fin 1024, y = ix2 0 k := ⟨y 1, by funext a; fin_cases a; exacts [Subsingleton.elim (α := Fin 1) _ _, rfl]⟩
  rw [Cert.Kernel9Ideal.FfnFwd.iblk1, other1]
  exact Cert.Kernel9Ideal.FfnFwd.iblk1 m c t k

theorem iblk2 (t : Fin cfg0.N) : (iblk m c 2 t : S1x1x1024x704.Idx → EReal) = Cert.Kernel9Ideal.Gen.iblk (other m c) c 2 t := by
  funext y
  obtain ⟨k, n, rfl⟩ : ∃ (k : Fin 1024) (n : Fin 704), y = ix4 0 0 k n :=
    ⟨y 2, y 3, by funext a; fin_cases a; exacts [Subsingleton.elim (α := Fin 1) _ _, Subsingleton.elim (α := Fin 1) _ _, rfl, rfl]⟩
  rw [Cert.Kernel9Ideal.FfnFwd.iblk2, other2]
  exact (congrArg (V m c main_v3 : S8x2x1024x704.Idx → EReal) (emb2 t k n)).trans ((congrFun (staged2 m c) _).trans ((packed_in _ _ _ _).trans
    (congrArg (W _ k) (Fin.ext (by simp only [win, left, hcol]; omega)))))

theorem iblk3 (t : Fin cfg0.N) : (iblk m c 3 t : S1x1x1024x704.Idx → EReal) = Cert.Kernel9Ideal.Gen.iblk (other m c) c 3 t := by
  funext y
  obtain ⟨k, n, rfl⟩ : ∃ (k : Fin 1024) (n : Fin 704), y = ix4 0 0 k n :=
    ⟨y 2, y 3, by funext a; fin_cases a; exacts [Subsingleton.elim (α := Fin 1) _ _, Subsingleton.elim (α := Fin 1) _ _, rfl, rfl]⟩
  rw [Cert.Kernel9Ideal.FfnFwd.iblk3, other2]
  exact (congrArg (V m c main_v3 : S8x2x1024x704.Idx → EReal) (emb3 t k n)).trans ((congrFun (staged2 m c) _).trans ((packed_in _ _ _ _).trans
    (congrArg (W _ k) (Fin.ext (by simp only [win, right, hcol]; omega)))))

theorem iblk4 (t : Fin cfg0.N) : (iblk m c 4 t : S2x1x352x1024.Idx → EReal) = Cert.Kernel9Ideal.Gen.iblk (other m c) c 4 t := by
  funext y
  obtain ⟨a, r, j, rfl⟩ : ∃ (a : Fin 2) (r : Fin 352) (j : Fin 1024), y = ix4 a 0 r j :=
    ⟨y 0, y 2, y 3, by funext a; fin_cases a; exacts [rfl, Subsingleton.elim (α := Fin 1) _ _, rfl, rfl]⟩
  refine Eq.trans ?_ ((congrArg (Cert.Kernel9Ideal.Gen.V (other m c) c main_v6 : S8x2x352x1024.Idx → EReal) (Cert.Kernel9Ideal.FfnFwd.emb4 t a r j)).trans
    ((congrFun (staged4 (other m c) c) _).trans (Cert.Kernel9Ideal.FfnFwd.packed_out _ _ _ _))).symm
  rw [other3]
  exact (congrArg (V m c main_v6 : S8x2x352x1024.Idx → EReal) (emb4 t a r j)).trans ((congrFun (staged4 m c) _).trans (packed_out _ _ _ _))

/-! The two calls' bodies are the same, so what the first's leave, case by case, the second's do. -/

section cases
variable (c : Dev nD) (i : grid0.Coords)
  (a2 : Memref sig .tc .vmem S512x1024 .f32) (h2 : a2.IsWhole) (a3 : Memref sig .tc .vmem S1x1024 .f32) (h3 : a3.IsWhole)
  (a4 : Memref sig .tc .vmem S1x1x1024x704 .bf16) (h4 : a4.IsWhole) (a5 : Memref sig .tc .vmem S1x1x1024x704 .bf16) (h5 : a5.IsWhole)
  (a6 : Memref sig .tc .vmem S2x1x352x1024 .bf16) (h6 : a6.IsWhole) (a7 : Memref sig .tc .vmem S512x1024 .f32) (h7 : a7.IsWhole)
  (a8 : Memref sig .tc .vmem S2x1x512x704 .bf16) (h8 : a8.IsWhole) (a9 : Memref sig .tc .vmem S512x1024 .bf16) (h9 : a9.IsWhole)
  (a10 : Memref sig .tc .vmem S512x1024 .f32) (h10 : a10.IsWhole)
  (x0 : Vec Ideal S512x1024 .f32) (x1 : Vec Ideal S1x1024 .f32) (x2 x3 : Vec Ideal S1x1x1024x704 .bf16) (x4 : Vec Ideal S2x1x352x1024 .bf16)
  (xh : Vec Ideal S512x1024 .bf16) (xs : Vec Ideal S512x1024 .f32)

@[inherit_doc Cert.Kernel9Ideal.FfnFwd.hidden_A]
theorem hidden_A (hc0 : cond0_0 i) (hc1 : ¬cond0_1 i) :
    sout0_A_0 c i a2 h2 a3 h3 a4 h4 a5 h5 a6 h6 a7 h7 a8 h8 a9 h9 a10 h10 hc0 hc1 x0 x1 x2 x3 x4 = Cert.Kernel9Ideal.Gen.k0_pay3 x0 x1 :=
  Cert.Kernel9Ideal.FfnFwd.hidden_A c i a2 h2 a3 h3 a4 h4 a5 h5 a6 h6 a7 h7 a8 h8 a9 h9 a10 h10 x0 x1 x2 x3 x4 hc0 hc1

@[inherit_doc Cert.Kernel9Ideal.FfnFwd.sum_A]
theorem sum_A (hc0 : cond0_0 i) (hc1 : ¬cond0_1 i) :
    sout0_A_1 c i a2 h2 a3 h3 a4 h4 a5 h5 a6 h6 a7 h7 a8 h8 a9 h9 a10 h10 hc0 hc1 x0 x1 x2 x3 x4 = Cert.Kernel9Ideal.Gen.k0_pay1 Cert.Kernel9Ideal.Gen.k0_pay4 (Cert.Kernel9Ideal.Gen.k0_pay9 (Cert.Kernel9Ideal.Gen.k0_pay3 x0 x1) x2 x3) x4 :=
  Cert.Kernel9Ideal.FfnFwd.sum_A c i a2 h2 a3 h3 a4 h4 a5 h5 a6 h6 a7 h7 a8 h8 a9 h9 a10 h10 x0 x1 x2 x3 x4 hc0 hc1

@[inherit_doc Cert.Kernel9Ideal.FfnFwd.sum_B]
theorem sum_B (hc0 : ¬cond0_0 i) (hc1 : ¬cond0_1 i) :
    sout0_B_1 c i a2 h2 a3 h3 a4 h4 a5 h5 a6 h6 a7 h7 a8 h8 a9 h9 a10 h10 hc0 hc1 x0 x1 x2 x3 x4 xh xs = Cert.Kernel9Ideal.Gen.k0_pay1 xs (Cert.Kernel9Ideal.Gen.k0_pay9 xh x2 x3) x4 :=
  Cert.Kernel9Ideal.FfnFwd.sum_B c i a2 h2 a3 h3 a4 h4 a5 h5 a6 h6 a7 h7 a8 h8 a9 h9 a10 h10 x0 x1 x2 x3 x4 xh xs hc0 hc1

@[inherit_doc Cert.Kernel9Ideal.FfnFwd.out_C]
theorem out_C (hc0 : ¬cond0_0 i) (hc1 : cond0_1 i) :
    out0_C_5 c i a2 h2 a3 h3 a4 h4 a5 h5 a6 h6 a7 h7 a8 h8 a9 h9 a10 h10 hc0 hc1 x0 x1 x2 x3 x4 xh xs = Cert.Kernel9Ideal.Gen.k0_pay2 x0 (Cert.Kernel9Ideal.Gen.k0_pay1 xs (Cert.Kernel9Ideal.Gen.k0_pay9 xh x2 x3) x4) :=
  Cert.Kernel9Ideal.FfnFwd.out_C c i a2 h2 a3 h3 a4 h4 a5 h5 a6 h6 a7 h7 a8 h8 a9 h9 a10 h10 x0 x1 x2 x3 x4 xh xs hc0 hc1

@[inherit_doc Cert.Kernel9Ideal.FfnFwd.saved_A]
theorem saved_A (hc0 : cond0_0 i) (hc1 : ¬cond0_1 i) (a : Fin 2) (b : Fin 1) (r : Fin 512) (j : Fin 704) :
    out0_A_6 c i a2 h2 a3 h3 a4 h4 a5 h5 a6 h6 a7 h7 a8 h8 a9 h9 a10 h10 hc0 hc1 x0 x1 x2 x3 x4 (ix4 a b r j) = if a = 0 then Cert.Kernel9Ideal.Gen.k0_pay7 (Cert.Kernel9Ideal.Gen.k0_pay3 x0 x1) x2 (ix4 0 0 r j) else Cert.Kernel9Ideal.Gen.k0_pay8 (Cert.Kernel9Ideal.Gen.k0_pay3 x0 x1) x3 (ix4 0 0 r j) :=
  Cert.Kernel9Ideal.FfnFwd.saved_A c i a2 h2 a3 h3 a4 h4 a5 h5 a6 h6 a7 h7 a8 h8 a9 h9 a10 h10 x0 x1 x2 x3 x4 hc0 hc1 a b r j

@[inherit_doc Cert.Kernel9Ideal.FfnFwd.saved_B]
theorem saved_B (hc0 : ¬cond0_0 i) (hc1 : ¬cond0_1 i) (a : Fin 2) (b : Fin 1) (r : Fin 512) (j : Fin 704) :
    out0_B_6 c i a2 h2 a3 h3 a4 h4 a5 h5 a6 h6 a7 h7 a8 h8 a9 h9 a10 h10 hc0 hc1 x0 x1 x2 x3 x4 xh xs (ix4 a b r j) = if a = 0 then Cert.Kernel9Ideal.Gen.k0_pay7 xh x2 (ix4 0 0 r j) else Cert.Kernel9Ideal.Gen.k0_pay8 xh x3 (ix4 0 0 r j) :=
  Cert.Kernel9Ideal.FfnFwd.saved_B c i a2 h2 a3 h3 a4 h4 a5 h5 a6 h6 a7 h7 a8 h8 a9 h9 a10 h10 x0 x1 x2 x3 x4 xh xs hc0 hc1 a b r j

@[inherit_doc Cert.Kernel9Ideal.FfnFwd.saved_C]
theorem saved_C (hc0 : ¬cond0_0 i) (hc1 : cond0_1 i) (a : Fin 2) (b : Fin 1) (r : Fin 512) (j : Fin 704) :
    out0_C_6 c i a2 h2 a3 h3 a4 h4 a5 h5 a6 h6 a7 h7 a8 h8 a9 h9 a10 h10 hc0 hc1 x0 x1 x2 x3 x4 xh xs (ix4 a b r j) = if a = 0 then Cert.Kernel9Ideal.Gen.k0_pay7 xh x2 (ix4 0 0 r j) else Cert.Kernel9Ideal.Gen.k0_pay8 xh x3 (ix4 0 0 r j) :=
  Cert.Kernel9Ideal.FfnFwd.saved_C c i a2 h2 a3 h3 a4 h4 a5 h5 a6 h6 a7 h7 a8 h8 a9 h9 a10 h10 x0 x1 x2 x3 x4 xh xs hc0 hc1 a b r j

end cases

/-- The scratches hold the same after a point that starts a block. -/
theorem scratch_A (t : Fin cfg0.N) (h0 : t.val % 4 = 0) (h1 : ¬t.val % 4 = 3) :
    (outsAt0 m c t.val t.isLt).2.2.1 = (Cert.Kernel9Ideal.Gen.outsAt0 (other m c) c t.val t.isLt).2.2.1 ∧ (outsAt0 m c t.val t.isLt).2.2.2 = (Cert.Kernel9Ideal.Gen.outsAt0 (other m c) c t.val t.isLt).2.2.2 := by
  rw [outsAt0_A m c t h0 h1, Cert.Kernel9Ideal.Gen.outsAt0_A (other m c) c t h0 h1]
  dsimp only
  rw [hidden_A, sum_A, Cert.Kernel9Ideal.FfnFwd.hidden_A, Cert.Kernel9Ideal.FfnFwd.sum_A, iblk0, iblk1, iblk2, iblk3, iblk4]
  exact ⟨rfl, rfl⟩

/-- So they do after every point but the last of a block. -/
theorem scratch_eq (n : ℕ) : ∀ hn : n < cfg0.N, ¬n % 4 = 3 →
    (outsAt0 m c n hn).2.2.1 = (Cert.Kernel9Ideal.Gen.outsAt0 (other m c) c n hn).2.2.1 ∧ (outsAt0 m c n hn).2.2.2 = (Cert.Kernel9Ideal.Gen.outsAt0 (other m c) c n hn).2.2.2 := by
  induction n with
  | zero => exact fun hn h1 => scratch_A m c ⟨0, hn⟩ rfl h1
  | succ n ih =>
    intro hn h1
    by_cases h0 : (n + 1) % 4 = 0
    · exact scratch_A m c ⟨n + 1, hn⟩ h0 h1
    · obtain ⟨hh, hs⟩ := ih (by omega) (by omega)
      rw [outsAt0_B m c ⟨n + 1, hn⟩ h0 h1, Cert.Kernel9Ideal.Gen.outsAt0_B (other m c) c ⟨n + 1, hn⟩ h0 h1]
      dsimp only
      rw [sum_B, Cert.Kernel9Ideal.FfnFwd.sum_B, iblk2, iblk3, iblk4]
      refine ⟨hh, ?_⟩
      simp only [Nat.add_sub_cancel, hh, hs]

theorem first_eq (t : Fin cfg0.N) (h1 : t.val % 4 = 3) : (outsAt0 m c t.val t.isLt).1 = (Cert.Kernel9Ideal.Gen.outsAt0 (other m c) c t.val t.isLt).1 := by
  have h0 : ¬t.val % 4 = 0 := by omega
  obtain ⟨hh, hs⟩ := scratch_eq m c (t.val - 1) (Nat.lt_of_le_of_lt (Nat.sub_le _ _) t.isLt) (by omega)
  rw [outsAt0_C m c t h0 h1, Cert.Kernel9Ideal.Gen.outsAt0_C (other m c) c t h0 h1]
  dsimp only
  rw [out_C, Cert.Kernel9Ideal.FfnFwd.out_C, iblk0, iblk2, iblk3, iblk4, hh, hs]

theorem second_eq (t : Fin cfg0.N) (a : Fin 2) (b : Fin 1) (i : Fin 512) (n : Fin 704) :
    ((outsAt0 m c t.val t.isLt).2.1 (ix4 a b i n) : EReal) = (Cert.Kernel9Ideal.Gen.outsAt0 (other m c) c t.val t.isLt).2.1 (ix4 a b i n) := by
  by_cases h0 : t.val % 4 = 0
  · rw [outsAt0_A m c t h0 (by omega), Cert.Kernel9Ideal.Gen.outsAt0_A (other m c) c t h0 (by omega)]
    dsimp only
    rw [saved_A, Cert.Kernel9Ideal.FfnFwd.saved_A, iblk0, iblk1, iblk2, iblk3]
  · obtain ⟨hh, -⟩ := scratch_eq m c (t.val - 1) (Nat.lt_of_le_of_lt (Nat.sub_le _ _) t.isLt) (by omega)
    by_cases h1 : t.val % 4 = 3
    · rw [outsAt0_C m c t h0 h1, Cert.Kernel9Ideal.Gen.outsAt0_C (other m c) c t h0 h1]
      dsimp only
      rw [saved_C, Cert.Kernel9Ideal.FfnFwd.saved_C, iblk2, iblk3, hh]
    · rw [outsAt0_B m c t h0 h1, Cert.Kernel9Ideal.Gen.outsAt0_B (other m c) c t h0 h1]
      dsimp only
      rw [saved_B, Cert.Kernel9Ideal.FfnFwd.saved_B, iblk2, iblk3, hh]

theorem out_eq : (dats m 0 c).arrAt 5 cfg0.N = out (A0 m c) (A1 m c) (swapIn (A2 m c)) (swapOut (A3 m c)) := by
  refine (dats m 0 c).arrAt_eq_of_covers 5 _ (by decide +kernel) fun t hf y => ?_
  have e := congrFun (Value.flushed5 m c t) y
  blk_simp [idx t]
  refine Eq.trans e ?_
  obtain ⟨i, j, rfl⟩ : ∃ (i : Fin 512) (j : Fin 1024), y = ix2 i j := ⟨y 0, y 1, by funext a; fin_cases a <;> rfl⟩
  refine Eq.trans ?_ (congrArg (out (A0 m c) (A1 m c) (swapIn (A2 m c)) (swapOut (A3 m c))) (emb5 t i j)).symm
  refine (congrFun (first_eq m c t ((flush0_5 t).mp hf)) _).trans ((Cert.Kernel9Ideal.FfnFwd.out_at (other m c) c t ((flush0_5 t).mp hf) i j).trans ?_)
  rw [other0, other1, other2, other3]
  rfl

theorem gu_eq : (dats m 0 c).arrAt 6 cfg0.N = gu (A0 m c) (A1 m c) (swapIn (A2 m c)) := by
  refine (dats m 0 c).arrAt_eq_of_covers 6 _ (by decide +kernel) fun t hf y => ?_
  have e := congrFun (Value.flushed6 m c t) y
  blk_simp [idx t]
  refine Eq.trans e ?_
  obtain ⟨a, b, i, n, rfl⟩ : ∃ (a : Fin 2) (b : Fin 1) (i : Fin 512) (n : Fin 704), y = ix4 a b i n := ⟨y 0, y 1, y 2, y 3, by funext a; fin_cases a <;> rfl⟩
  refine Eq.trans ?_ (congrArg (gu (A0 m c) (A1 m c) (swapIn (A2 m c))) (emb6 t a b i n)).symm
  refine (second_eq m c t a b i n).trans ((Cert.Kernel9Ideal.FfnFwd.saved_at (other m c) c t a b i n).trans ?_)
  rw [other0, other1, other2]
  rfl

section reference
variable (x0 : FVec Ideal S4096x1024 .f32) (x1 : FVec Ideal S1024 .f32) (x2 : FVec Ideal S2x1024x5632 .f32) (x3 : FVec Ideal S2x2816x1024 .f32)

theorem ref_in : Cert.Reference10Ideal.Read.val_main_v14 (F := Ideal) x2 = Cert.Reference9Ideal.Read.val_main_v14 (F := Ideal) (swapIn x2) := by
  funext y
  rw [Cert.Reference10Ideal.Read.val_main_v14_apply, Cert.Reference10Ideal.Read.val_main_v13_apply, Cert.Reference9Ideal.Read.val_main_v14_apply, Cert.Reference9Ideal.Read.val_main_v13_apply]
  unfold swapIn
  exact congrArg x2 (funext fun a => by fin_cases a <;> rfl)

theorem ref_out : Cert.Reference10Ideal.Read.val_main_v21 (F := Ideal) x3 = Cert.Reference9Ideal.Read.val_main_v21 (F := Ideal) (swapOut x3) := by
  funext y
  rw [Cert.Reference10Ideal.Read.val_main_v21_apply, Cert.Reference10Ideal.Read.val_main_v20_apply, Cert.Reference9Ideal.Read.val_main_v21_apply, Cert.Reference9Ideal.Read.val_main_v20_apply]
  unfold swapOut
  exact congrArg x3 (funext fun a => by fin_cases a <;> rfl)

/-- The first product of the second reference is the first's on the exchanged weights. -/
theorem ref_pre : Cert.Reference10Ideal.Read.val_main_v15 (F := Ideal) x0 x1 x2 = Cert.Reference9Ideal.Read.val_main_v15 (F := Ideal) x0 x1 (swapIn x2) :=
  congrArg (fun w => Host.dotGeneral (F := Ideal) Cert.Reference9Ideal.dot_S4096x1024_S1024x5632_S4096x5632_1_0_0_1_n_n none (Cert.Reference9Ideal.Read.val_main_v12 (F := Ideal) x0 x1) w)
    (ref_in x2)

theorem ref_second : Cert.Reference10Ideal.Read.val_main_v34 (F := Ideal) x0 x1 x2 = Cert.Reference9Ideal.Read.val_main_v34 (F := Ideal) x0 x1 (swapIn x2) := by
  unfold Cert.Reference10Ideal.Read.val_main_v34 Cert.Reference10Ideal.Read.val_main_v33 Cert.Reference10Ideal.Read.val_main_v32 Cert.Reference10Ideal.Read.val_main_v31
    Cert.Reference10Ideal.Read.val_main_v30 Cert.Reference10Ideal.Read.val_main_v29 Cert.Reference10Ideal.Read.val_main_v28 Cert.Reference10Ideal.Read.val_main_v27
    Cert.Reference10Ideal.Read.val_main_v26 Cert.Reference10Ideal.Read.val_main_v17 Cert.Reference10Ideal.Read.val_main_v16
  rw [ref_pre]
  rfl

theorem ref_first : Cert.Reference10Ideal.Read.val_main_v25 (F := Ideal) x0 x1 x2 x3 = Cert.Reference9Ideal.Read.val_main_v25 (F := Ideal) x0 x1 (swapIn x2) (swapOut x3) := by
  unfold Cert.Reference10Ideal.Read.val_main_v25 Cert.Reference10Ideal.Read.val_main_v24 Cert.Reference10Ideal.Read.val_main_v22 Cert.Reference10Ideal.Read.val_main_v19
    Cert.Reference10Ideal.Read.val_main_v18 Cert.Reference10Ideal.Read.val_main_call0_v5 Cert.Reference10Ideal.Read.val_main_call0_v3 Cert.Reference10Ideal.Read.val_main_call0_v1
    Cert.Reference10Ideal.Read.val_main_call0_v0 Cert.Reference10Ideal.Read.val_main_v17 Cert.Reference10Ideal.Read.val_main_v16
  rw [ref_pre, ref_out]
  rfl

end reference

end Cert.Kernel10Ideal.FfnSecond

namespace Cert.Proof

open Cert.Kernel10Ideal.FfnSecond in
open Cert.Kernel9Ideal.FfnFwd (out gu A0 A1 A2 A3 reference_out reference_gu) in
theorem algebraic_ffnsecond : Cert.algebraic_Kernel10Ideal_Reference10Ideal := by
  intro m ρ m' ρ' _ hagree
  refine ⟨fun c => out (A0 m c) (A1 m c) (swapIn (A2 m c)) (swapOut (A3 m c)), fun c => gu (A0 m c) (A1 m c) (swapIn (A2 m c)), ?_, ?_⟩
  · refine (θ_run Cert.Kernel10Ideal.defs _ _).mono (fun r h c => ?_) (Cert.Kernel10Ideal.Value.run_blocks (F := Ideal) m ρ)
    exact ⟨(h c).1.trans (out_eq m c), (h c).2.1.trans (gu_eq m c), (h c).2.2⟩
  · refine (θ_run Cert.Reference10Ideal.defs _ _).mono (fun r h c => ⟨?_, ?_, (h c).2.2⟩) (Cert.Reference10Ideal.Value.run (F := Ideal) m' ρ')
    · refine (h c).1.trans ((Cert.Reference10Ideal.Read.val_main_v25_eq _ _ _ _).trans ?_)
      rw [(hagree c).1, (hagree c).2.1, (hagree c).2.2.1, (hagree c).2.2.2]
      exact (ref_first _ _ _ _).trans (reference_out _ _ _ _)
    · refine (h c).2.1.trans ((Cert.Reference10Ideal.Read.val_main_v34_eq _ _ _).trans ?_)
      rw [(hagree c).1, (hagree c).2.1, (hagree c).2.2.1]
      exact (ref_second _ _ _).trans (reference_gu _ _ _)

theorem frame_reference10 : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)

end Cert.Proof
-- ==== Proof.ProjFwd.lean ====
/-
  The in-projection: each grid point writes one block of the product.
-/
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem

namespace Cert.Kernel11Ideal.ProjFwd

open Cert.Kernel11Ideal Cert.Kernel11Ideal.Gen

theorem hz : (![0, 0] : Fin 2 → Nat) = fun _ => 0 := funext fun a => by fin_cases a <;> rfl

/-- A point zeroes its sum, adds its product and writes it. -/
theorem out_A {F : FTy → Type} [FloatOps F] (c : Dev nD) (i : grid0.Coords)
    (a3 : Memref sig .tc .vmem S512x1024 .bf16) (h3 : a3.IsWhole) (a4 : Memref sig .tc .vmem S1024x2176 .bf16) (h4 : a4.IsWhole)
    (a5 : Memref sig .tc .vmem S512x2176 .f32) (h5 : a5.IsWhole) (a6 : Memref sig .tc .vmem S512x2176 .f32) (h6 : a6.IsWhole)
    (x0 : Vec F S512x1024 .bf16) (x1 : Vec F S1024x2176 .bf16) (hc0 : cond0_0 i) (hc1 : cond0_1 i) :
    out0_A_2 c i a3 h3 a4 h4 a5 h5 a6 h6 hc0 hc1 x0 x1 = k0_pay3 (k0_pay2 k0_pay1 x0 x1) := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero hz]
  rw [View.readCov_cons_unit_lit' (S := S512x2176) (e := .f32) _ _ _ _ _ (fun a => congrFun hz a) (fun a => congrFun hz a), View.readCov_unit_zero (S := S512x2176) _ hz]
  simp only [View.readAt_eq_ld, h3.read_unread, h4.read_unread, View.ld_unit_zero (S := S512x1024) hz, View.ld_unit_zero (S := S1024x2176) hz]

theorem pay_apply (x0 : Vec Ideal S512x1024 .bf16) (x1 : Vec Ideal S1024x2176 .bf16) (i : Fin 512) (j : Fin 2176) :
    (k0_pay3 (k0_pay2 k0_pay1 x0 x1) (ix2 i j) : EReal) = ∑ r : Fin 1024, (x0 (ix2 i r) * x1 (ix2 r j) : EReal) := by
  pointwise [k0_pay3, k0_pay2, k0_pay1]

/-- Grid point `t` writes block `t % 3` of the columns of block `t / 3` of the rows. -/
theorem idx : ∀ t : Fin grid0.N, win0_0.index t = ![t.val / 3, 0] ∧ win0_1.index t = ![0, t.val % 3] ∧ win0_2.index t = ![t.val / 3, t.val % 3] := by
  decide +kernel

/-- Row `512 b + i`. -/
def row (b : ℕ) (i : Fin 512) : Fin 4096 := ⟨(512 * b + i.val) % 4096, Nat.mod_lt _ (by decide)⟩

/-- Column `2176 b + j`. -/
def col (b : ℕ) (j : Fin 2176) : Fin 6528 := ⟨(2176 * b + j.val) % 6528, Nat.mod_lt _ (by decide)⟩

theorem emb0 (t : Fin cfg0.N) (i : Fin 512) (r : Fin 1024) : (win0_0.blk t).view.emb (ix2 i r) = ((ix2 (row (t.val / 3) i) r) : S4096x1024.Idx) := by
  blk_ext [row, col, idx t]

theorem emb1 (t : Fin cfg0.N) (r : Fin 1024) (j : Fin 2176) : (win0_1.blk t).view.emb (ix2 r j) = ((ix2 r (col (t.val % 3) j)) : S1024x6528.Idx) := by
  blk_ext [row, col, idx t]

theorem emb2 (t : Fin cfg0.N) (i : Fin 512) (j : Fin 2176) :
    (win0_2.blk t).view.emb (ix2 i j) = ((ix2 (row (t.val / 3) i) (col (t.val % 3) j)) : S4096x6528.Idx) := by
  blk_ext [row, col, idx t]

variable (m : (ℓ : Loc nD τ sig) → Buf (Elt Ideal) ℓ) (c : Dev nD)

/-- The arguments. -/
abbrev A0 : FVec Ideal S4096x1024 .f32 := m (c, Proc.tc.devRef main_arg0)
@[inherit_doc A0] abbrev A1 : FVec Ideal S1024x6528 .f32 := m (c, Proc.tc.devRef main_arg1)

theorem staged0 : (V m c main_v0 : S4096x1024.Idx → EReal) = truncf .bf16 (A0 m c) bitsLt_bf16_f32 := by
  unfold V
  after_reads_simp
  all_goals try simp -implicitDefEqProofs only [StableHlo.TRef.toBuf, StableHlo.TRef.ofBuf, cast_cast, cast_eq]
  all_goals clean_types

theorem staged1 : (V m c main_v1 : S1024x6528.Idx → EReal) = truncf .bf16 (A1 m c) bitsLt_bf16_f32 := by
  unfold V
  after_reads_simp
  all_goals try simp -implicitDefEqProofs only [StableHlo.TRef.toBuf, StableHlo.TRef.ofBuf, cast_cast, cast_eq]
  all_goals clean_types

theorem iblk0 (t : Fin cfg0.N) (i : Fin 512) (r : Fin 1024) : (iblk m c 0 t (ix2 i r) : EReal) = A0 m c (ix2 (row (t.val / 3) i) r) :=
  (congrArg (V m c main_v0 : S4096x1024.Idx → EReal) (emb0 t i r)).trans (congrFun (staged0 m c) _)

theorem iblk1 (t : Fin cfg0.N) (r : Fin 1024) (j : Fin 2176) : (iblk m c 1 t (ix2 r j) : EReal) = A1 m c (ix2 r (col (t.val % 3) j)) :=
  (congrArg (V m c main_v1 : S1024x6528.Idx → EReal) (emb1 t r j)).trans (congrFun (staged1 m c) _)

/-- The product. -/
def result (x0 : FVec Ideal S4096x1024 .f32) (x1 : FVec Ideal S1024x6528 .f32) : S4096x6528.Idx → EReal :=
  fun y => ∑ k : Fin 1024, (x0 (ix2 (y 0) k) * x1 (ix2 k (y 1)) : EReal)

theorem array_eq : (dats m 0 c).arrAt 2 cfg0.N = result (A0 m c) (A1 m c) := by
  refine (dats m 0 c).arrAt_eq_of_covers 2 _ (by decide +kernel) fun t hf y => ?_
  have e := congrFun (Value.flushed2_A m c t) y
  rw [out_A] at e
  blk_simp [idx t]
  refine Eq.trans e ?_
  obtain ⟨i, j, rfl⟩ : ∃ (i : Fin 512) (j : Fin 2176), y = ix2 i j := ⟨y 0, y 1, by funext a; fin_cases a <;> rfl⟩
  refine Eq.trans ?_ (congrArg (result (A0 m c) (A1 m c)) (emb2 t i j)).symm
  refine (pay_apply _ _ i j).trans (Finset.sum_congr rfl fun k _ => ?_)
  rw [iblk0, iblk1]
  rfl

/-- The reference's array is the same product. -/
theorem reference_eq (x0 : FVec Ideal S4096x1024 .f32) (x1 : FVec Ideal S1024x6528 .f32) :
    Cert.Reference11Ideal.Read.val_main_v0 (F := Ideal) x0 x1 = result x0 x1 := by
  funext y
  rw [Cert.Reference11Ideal.Read.val_main_v0_apply]
  exact Finset.sum_congr rfl fun k _ => congrArg₂ (fun (a : S4096x1024.Idx) (b : S1024x6528.Idx) => (x0 a * x1 b : EReal))
    (funext fun a => by fin_cases a <;> rfl) (funext fun a => by fin_cases a <;> rfl)

end Cert.Kernel11Ideal.ProjFwd

namespace Cert.Proof

theorem frame_reference11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem algebraic_projfwd : Cert.algebraic_Kernel11Ideal_Reference11Ideal := by
  intro m ρ m' ρ' _ hagree
  refine ⟨fun c => Cert.Kernel11Ideal.ProjFwd.result (Cert.Kernel11Ideal.ProjFwd.A0 m c) (Cert.Kernel11Ideal.ProjFwd.A1 m c), ?_, ?_⟩
  · refine (θ_run Cert.Kernel11Ideal.defs _ _).mono (fun r h c => ?_) (Cert.Kernel11Ideal.Value.run_blocks (F := Ideal) m ρ)
    exact ⟨(h c).1.trans (Cert.Kernel11Ideal.ProjFwd.array_eq m c), (h c).2⟩
  · refine (θ_run Cert.Reference11Ideal.defs _ _).mono (fun r h c => ⟨?_, (h c).2⟩) (Cert.Reference11Ideal.Value.run (F := Ideal) m' ρ')
    refine (h c).1.trans ((Cert.Reference11Ideal.Read.val_main_v0_eq _ _).trans ?_)
    rw [(hagree c).1, (hagree c).2]
    exact Cert.Kernel11Ideal.ProjFwd.reference_eq _ _

end Cert.Proof
-- ==== Proof.BranchBGrad.lean ====
/-
  The product for the gradient of the second branch's weights: each grid point adds 1024 tokens' terms.
-/
module

public import proofs.«01_k».proof.Defs
public import proofs.«01_k».proof.Proof.Fold
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem

namespace Cert.Kernel12Ideal.BranchBGrad

open Cert.Kernel12Ideal Cert.Kernel12Ideal.Gen Fold

theorem hz : (![0, 0] : Fin 2 → Nat) = fun _ => 0 := funext fun a => by fin_cases a <;> rfl

section cases
variable {F : FTy → Type} [FloatOps F] (c : Dev nD) (i : grid0.Coords)
  (a3 : Memref sig .tc .vmem S1024x512 .f32) (h3 : a3.IsWhole) (a4 : Memref sig .tc .vmem S1024x1024 .bf16) (h4 : a4.IsWhole)
  (a5 : Memref sig .tc .vmem S512x1024 .bf16) (h5 : a5.IsWhole) (a6 : Memref sig .tc .vmem S512x1024 .f32) (h6 : a6.IsWhole)
  (x0 : Vec F S1024x512 .f32) (x1 : Vec F S1024x1024 .bf16) (xs : Vec F S512x1024 .f32)

/-- The first point of a block starts from zeros. -/
theorem sout_A (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S512x1024) hz, View.readCov_unit_zero (S := S512x1024) _ hz]
  simp only [View.readAt_eq_ld, h3.read_unread, h4.read_unread, View.ld_unit_zero (S := S1024x512) hz, View.ld_unit_zero (S := S1024x1024) hz]

/-- A middle point adds its product. -/
theorem sout_B (hc0 : ¬cond0_0 i) (hc1 : ¬cond0_1 i) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero hz]
  simp only [View.readAt_eq_ld, h3.read_unread, h4.read_unread, h6.read_unread, View.ld_unit_zero (S := S1024x512) hz, View.ld_unit_zero (S := S1024x1024) hz, View.ld_unit_zero (S := S512x1024) hz]

/-- The last point writes the sum. -/
theorem out_C (hc0 : ¬cond0_0 i) (hc1 : cond0_1 i) :
    out0_C_2 c i a3 h3 a4 h4 a5 h5 a6 h6 hc0 hc1 x0 x1 xs = k0_pay3 (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz, View.readCov_unit_zero (S := S512x1024) _ hz]
  simp only [View.readAt_eq_ld, h3.read_unread, h4.read_unread, h6.read_unread, View.ld_unit_zero (S := S1024x512) hz, View.ld_unit_zero (S := S1024x1024) hz, View.ld_unit_zero (S := S512x1024) hz]

end cases

theorem pay2_apply (xs : Vec Ideal S512x1024 .f32) (x0 : Vec Ideal S1024x512 .f32) (x1 : Vec Ideal S1024x1024 .bf16) (i : Fin 512) (j : Fin 1024) :
    (k0_pay2 xs x0 x1 (ix2 i j) : EReal) = xs (ix2 i j) + ∑ r : Fin 1024, (x0 (ix2 r i) * x1 (ix2 r j) : EReal) := by
  pointwise [k0_pay2]

theorem pay1_apply (i : Fin 512) (j : Fin 1024) : (k0_pay1 (F := Ideal) (ix2 i j) : EReal) = 0 := by
  pointwise [k0_pay1]

theorem pay3_apply (x : Vec Ideal S512x1024 .f32) (i : Fin 512) (j : Fin 1024) : (k0_pay3 x (ix2 i j) : EReal) = x (ix2 i j) := by
  pointwise [k0_pay3]

/-- Grid point `t` is part `t % 4` of the sum, for block `t / 4` of the result. -/
theorem idx : ∀ t : Fin grid0.N, win0_0.index t = ![t.val % 4, t.val / 4] ∧ win0_1.index t = ![t.val % 4, 0] ∧ win0_2.index t = ![t.val / 4, 0] := by
  decide +kernel

/-- Place `1024 b + r` of a sum. -/
def tok (b : ℕ) (r : Fin 1024) : Fin 4096 := ⟨(1024 * b + r.val) % 4096, Nat.mod_lt _ (by decide)⟩

/-- Row `512 b + i`. -/
def row (b : ℕ) (i : Fin 512) : Fin 1024 := ⟨(512 * b + i.val) % 1024, Nat.mod_lt _ (by decide)⟩

theorem emb0 (t : Fin cfg0.N) (r : Fin 1024) (i : Fin 512) : (win0_0.blk t).view.emb (ix2 r i) = ((ix2 (tok (t.val % 4) r) (row (t.val / 4) i)) : S4096x1024.Idx) := by
  blk_ext [tok, row, idx t]

theorem emb1 (t : Fin cfg0.N) (r : Fin 1024) (j : Fin 1024) : (win0_1.blk t).view.emb (ix2 r j) = ((ix2 (tok (t.val % 4) r) j) : S4096x1024.Idx) := by
  blk_ext [tok, row, idx t]

theorem emb2 (t : Fin cfg0.N) (i : Fin 512) (j : Fin 1024) : (win0_2.blk t).view.emb (ix2 i j) = ((ix2 (row (t.val / 4) i) j) : S1024x1024.Idx) := by
  blk_ext [tok, row, idx t]

variable (m : (ℓ : Loc nD τ sig) → Buf (Elt Ideal) ℓ) (c : Dev nD)

/-- The arguments. -/
abbrev A0 : FVec Ideal S4096x1024 .f32 := m (c, Proc.tc.devRef main_arg0)
@[inherit_doc A0] abbrev A1 : FVec Ideal S4096x1024 .f32 := m (c, Proc.tc.devRef main_arg1)

theorem staged0 : (V m c main_arg0 : S4096x1024.Idx → EReal) = A0 m c := by
  unfold V
  after_reads_simp
  all_goals try simp -implicitDefEqProofs only [StableHlo.TRef.toBuf, StableHlo.TRef.ofBuf, cast_cast, cast_eq]
  all_goals clean_types

theorem staged1 : (V m c main_v0 : S4096x1024.Idx → EReal) = truncf .bf16 (A1 m c) bitsLt_bf16_f32 := by
  unfold V
  after_reads_simp
  all_goals try simp -implicitDefEqProofs only [StableHlo.TRef.toBuf, StableHlo.TRef.ofBuf, cast_cast, cast_eq]
  all_goals clean_types

theorem iblk0 (t : Fin cfg0.N) (r : Fin 1024) (i : Fin 512) : (iblk m c 0 t (ix2 r i) : EReal) = A0 m c (ix2 (tok (t.val % 4) r) (row (t.val / 4) i)) :=
  (congrArg (V m c main_arg0 : S4096x1024.Idx → EReal) (emb0 t r i)).trans (congrFun (staged0 m c) _)

theorem iblk1 (t : Fin cfg0.N) (r : Fin 1024) (j : Fin 1024) : (iblk m c 1 t (ix2 r j) : EReal) = A1 m c (ix2 (tok (t.val % 4) r) j) :=
  (congrArg (V m c main_v0 : S4096x1024.Idx → EReal) (emb1 t r j)).trans (congrFun (staged1 m c) _)

/-- The terms of an entry of the product. -/
def term (x0 : FVec Ideal S4096x1024 .f32) (x1 : FVec Ideal S4096x1024 .f32) (y : S1024x1024.Idx) (k : Fin 4096) : EReal :=
  x0 (ix2 k (y 0)) * x1 (ix2 k (y 1))

/-- A point adds the next 1024 terms. -/
theorem step (t : Fin cfg0.N) (xs : Vec Ideal S512x1024 .f32) (i : Fin 512) (j : Fin 1024)
    (h : (xs (ix2 i j) : EReal) = upto (term (A0 m c) (A1 m c) (ix2 (row (t.val / 4) i) j)) (1024 * (t.val % 4))) :
    (k0_pay2 xs (iblk m c 0 t) (iblk m c 1 t) (ix2 i j) : EReal) = upto (term (A0 m c) (A1 m c) (ix2 (row (t.val / 4) i) j)) (1024 * (t.val % 4 + 1)) := by
  rw [pay2_apply, h]
  refine upto_add _ (by omega) _ fun r => ?_
  have e : tok (t.val % 4) r = ⟨1024 * (t.val % 4) + r.val, by omega⟩ := Fin.ext (Nat.mod_eq_of_lt (by omega))
  rw [iblk0, iblk1, e]
  rfl

/-- What a point that does not write leaves in the scratch: the sum so far. -/
theorem scratch (n : ℕ) : ∀ (hn : n < cfg0.N), ¬n % 4 = 3 → ∀ (i : Fin 512) (j : Fin 1024),
    ((outsAt0 m c n hn).2 (ix2 i j) : EReal) = upto (term (A0 m c) (A1 m c) (ix2 (row (n / 4) i) j)) (1024 * (n % 4 + 1)) := by
  induction n with
  | zero =>
    intro hn h1 i j
    rw [outsAt0_A m c ⟨0, hn⟩ rfl h1]
    dsimp only
    rw [sout_A]
    exact step m c ⟨0, hn⟩ _ i j ((pay1_apply i j).trans (upto_zero _).symm)
  | succ n ih =>
    intro hn h1 i j
    by_cases h0 : (n + 1) % 4 = 0
    · rw [outsAt0_A m c ⟨n + 1, hn⟩ h0 h1]
      dsimp only
      rw [sout_A]
      refine step m c ⟨n + 1, hn⟩ _ i j ((pay1_apply i j).trans ?_)
      simp only [h0, Nat.mul_zero, upto_zero]
    · rw [outsAt0_B m c ⟨n + 1, hn⟩ h0 h1]
      dsimp only
      rw [sout_B]
      refine step m c ⟨n + 1, hn⟩ _ i j ((ih (by omega) (by omega) i j).trans ?_)
      rw [show n / 4 = (n + 1) / 4 by omega, show n % 4 + 1 = (n + 1) % 4 by omega]

/-- The product. -/
def result (x0 : FVec Ideal S4096x1024 .f32) (x1 : FVec Ideal S4096x1024 .f32) : S1024x1024.Idx → EReal := fun y => ∑ k, term x0 x1 y k

theorem array_eq : (dats m 0 c).arrAt 2 cfg0.N = result (A0 m c) (A1 m c) := by
  refine (dats m 0 c).arrAt_eq_of_covers 2 _ (by decide +kernel) fun t hf y => ?_
  have h3 : t.val % 4 = 3 := (flush0_2 t).mp hf
  have hp : t.val - 1 < cfg0.N := Nat.lt_of_le_of_lt (Nat.sub_le _ _) t.isLt
  have e := congrFun (Value.flushed2_C m c t (by omega) h3) y
  rw [out_C] at e
  blk_simp [idx t]
  refine Eq.trans e ?_
  obtain ⟨i, j, rfl⟩ : ∃ (i : Fin 512) (j : Fin 1024), y = ix2 i j := ⟨y 0, y 1, by funext a; fin_cases a <;> rfl⟩
  refine Eq.trans ?_ (congrArg (result (A0 m c) (A1 m c)) (emb2 t i j)).symm
  refine (pay3_apply _ i j).trans (((step m c t _ i j ((scratch m c (t.val - 1) hp (by omega) i j).trans ?_)).trans ?_))
  · rw [show (t.val - 1) / 4 = t.val / 4 by omega, show (t.val - 1) % 4 + 1 = t.val % 4 by omega]
  · rw [h3]
    exact upto_all _

/-- The reference's array is the same product. -/
theorem reference_eq (x0 : FVec Ideal S4096x1024 .f32) (x1 : FVec Ideal S4096x1024 .f32) :
    Cert.Reference12Ideal.Read.val_main_v4 (F := Ideal) x0 x1 = result x0 x1 := by
  funext y
  rw [Cert.Reference12Ideal.Read.val_main_v4_apply, Cert.Reference12Ideal.Read.val_main_v3_apply, Cert.Reference12Ideal.Read.val_main_v2_apply]
  exact Finset.sum_congr rfl fun k _ => (mul_comm _ _).trans (congrArg₂ (fun (a : S4096x1024.Idx) (b : S4096x1024.Idx) => (x0 a * x1 b : EReal))
    (funext fun a => by fin_cases a <;> rfl) (funext fun a => by fin_cases a <;> rfl))

end Cert.Kernel12Ideal.BranchBGrad

namespace Cert.Proof

theorem frame_reference12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

theorem algebraic_branchbgrad : Cert.algebraic_Kernel12Ideal_Reference12Ideal := by
  intro m ρ m' ρ' _ hagree
  refine ⟨fun c => Cert.Kernel12Ideal.BranchBGrad.result (Cert.Kernel12Ideal.BranchBGrad.A0 m c) (Cert.Kernel12Ideal.BranchBGrad.A1 m c), ?_, ?_⟩
  · refine (θ_run Cert.Kernel12Ideal.defs _ _).mono (fun r h c => ?_) (Cert.Kernel12Ideal.Value.run_blocks (F := Ideal) m ρ)
    exact ⟨(h c).1.trans (Cert.Kernel12Ideal.BranchBGrad.array_eq m c), (h c).2⟩
  · refine (θ_run Cert.Reference12Ideal.defs _ _).mono (fun r h c => ⟨?_, (h c).2⟩) (Cert.Reference12Ideal.Value.run (F := Ideal) m' ρ')
    refine (h c).1.trans ((Cert.Reference12Ideal.Read.val_main_v4_eq _ _).trans ?_)
    rw [(hagree c).1, (hagree c).2]
    exact Cert.Kernel12Ideal.BranchBGrad.reference_eq _ _

end Cert.Proof
-- ==== Proof.Merge.lean ====
/-
  The merge of the three branches as plain sums: a gate of each branch, the branch's product, and the product of their sum;
  and the gradients of the branches and of the gates.
-/
module

public import Idealize.ShloMosaic.Lib.Pointwise

@[expose] public section

noncomputable section

open Idealize.ShloMosaic

namespace Merge

/-- The logistic function. -/
def logi (a : EReal) : EReal := Ideal.div 1 (1 + Ideal.exp (0 - a))

/-- Gate column `j` of branch `b` among the columns of the projection. -/
def gcol (b : Fin 3) (j : Fin 1024) : Fin 6528 := ⟨3072 + 1024 * b.val + j.val, by omega⟩

/-- An entry of a product. -/
def prod {l n : ℕ} (y : Fin l → EReal) (w : Fin l → Fin n → EReal) (j : Fin n) : EReal := ∑ k, y k * w k j

variable (ya : Fin 4096 → Fin 512 → EReal) (yb : Fin 4096 → Fin 1024 → EReal) (yc : Fin 4096 → Fin 512 → EReal)
  (p : Fin 4096 → Fin 6528 → EReal) (x : Fin 4096 → Fin 1024 → EReal)
  (wa : Fin 512 → Fin 1024 → EReal) (wb : Fin 1024 → Fin 1024 → EReal) (wc : Fin 512 → Fin 1024 → EReal) (wo : Fin 1024 → Fin 1024 → EReal)

/-- The gate of a branch. -/
def gate (b : Fin 3) (s : Fin 4096) (j : Fin 1024) : EReal := logi (p s (gcol b j))

/-- The gated sum of the branches' products. -/
def merged (s : Fin 4096) (j : Fin 1024) : EReal :=
  gate p 0 s j * prod (ya s) wa j + gate p 1 s j * prod (yb s) wb j + gate p 2 s j * prod (yc s) wc j

/-- The result: the gated sum's product, added to the input. -/
def result (s : Fin 4096) (j : Fin 1024) : EReal := x s j + prod (merged ya yb yc p wa wb wc s) wo j

variable {l : ℕ} (y : Fin 4096 → Fin l → EReal) (w : Fin l → Fin 1024 → EReal) (dx : Fin 4096 → Fin 1024 → EReal)

/-- An entry of a product with a transposed matrix. -/
def prodT {l n : ℕ} (t : Fin n → EReal) (w : Fin l → Fin n → EReal) (k : Fin l) : EReal := ∑ j, t j * w k j

/-- The gradient of a branch's product. -/
def dtBranch (b : Fin 3) (s : Fin 4096) (j : Fin 1024) : EReal := prodT (dx s) wo j * gate p b s j

/-- The gradient of a branch. -/
def dyBranch (b : Fin 3) (s : Fin 4096) (k : Fin l) : EReal := prodT (dtBranch p wo dx b s) w k

/-- The gradient of a branch's gate, before the logistic function. -/
def dgBranch (b : Fin 3) (s : Fin 4096) (j : Fin 1024) : EReal :=
  prodT (dx s) wo j * prod (y s) w j * (gate p b s j * (1 - gate p b s j))

/-- The gradient of the gates: column `1024 b + j` is column `j` of branch `b`. -/
def dgates (s : Fin 4096) (q : Fin 3072) : EReal :=
  if q.val < 1024 then dgBranch p wo ya wa dx 0 s ⟨q.val % 1024, Nat.mod_lt _ (by decide)⟩
  else if q.val < 2048 then dgBranch p wo yb wb dx 1 s ⟨q.val % 1024, Nat.mod_lt _ (by decide)⟩
  else dgBranch p wo yc wc dx 2 s ⟨q.val % 1024, Nat.mod_lt _ (by decide)⟩

end Merge
-- ==== Proof.MergeFwd.lean ====
/-
  The merge's forward pass: each grid point gates and adds the three branches' products for 256 tokens, writes the sum, and
  adds its product to the input.
-/
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import proofs.«01_k».proof.Proof.Merge
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem

namespace Cert.Kernel13Ideal.MergeFwd

open Cert.Kernel13Ideal Cert.Kernel13Ideal.Gen Merge

theorem hz : (![0, 0] : Fin 2 → Nat) = fun _ => 0 := funext fun a => by fin_cases a <;> rfl

section cases
variable {F : FTy → Type} [FloatOps F]

/-- The gate columns of a branch. -/
def gates (g : Vec F S256x3072 .f32) (b : Fin 3) : Vec F S256x1024 .f32 :=
  fun y => g (ix2 (y 0 : Fin 256) (⟨1024 * b.val + (y 1).val, by have h : (y 1).val < 1024 := (y 1).isLt; omega⟩ : Fin 3072))

theorem ld_gates (g : Vec F S256x3072 .f32) (b : Fin 3) (off : Fin 2 → ℕ) (hoff : off = ![0, 1024 * b.val]) (inb : ∀ a, off a + S256x1024.size a ≤ S256x3072.size a) :
    View.ld g (Rect.unit (s := S256x3072) off S256x1024.size inb) = gates g b := by
  subst hoff
  funext y
  refine View.ld_unit_apply_of g _ _ _ y _ fun a => ?_
  fin_cases a
  · exact (Nat.zero_add _).symm
  · rfl

variable (c : Dev nD) (i : grid0.Coords)
  (a1 : Memref sig .tc .vmem S256x512 .f32) (h1 : a1.IsWhole) (a2 : Memref sig .tc .vmem S256x1024 .f32) (h2 : a2.IsWhole)
  (a3 : Memref sig .tc .vmem S256x512 .f32) (h3 : a3.IsWhole) (a4 : Memref sig .tc .vmem S256x3072 .f32) (h4 : a4.IsWhole)
  (a5 : Memref sig .tc .vmem S256x1024 .f32) (h5 : a5.IsWhole) (a6 : Memref sig .tc .vmem S512x1024 .bf16) (h6 : a6.IsWhole)
  (a7 : Memref sig .tc .vmem S1024x1024 .bf16) (h7 : a7.IsWhole) (a8 : Memref sig .tc .vmem S512x1024 .bf16) (h8 : a8.IsWhole)
  (a9 : Memref sig .tc .vmem S1024x1024 .bf16) (h9 : a9.IsWhole) (a10 : Memref sig .tc .vmem S256x1024 .f32) (h10 : a10.IsWhole)
  (a11 : Memref sig .tc .vmem S256x1024 .bf16) (h11 : a11.IsWhole)
  (x0 : Vec F S256x512 .f32) (x1 : Vec F S256x1024 .f32) (x2 : Vec F S256x512 .f32) (x3 : Vec F S256x3072 .f32) (x4 : Vec F S256x1024 .f32)
  (x5 : Vec F S512x1024 .bf16) (x6 : Vec F S1024x1024 .bf16) (x7 : Vec F S512x1024 .bf16) (x8 : Vec F S1024x1024 .bf16)

/-- The gated sum a point writes. -/
theorem out_sum : out0_A_10 c i a1 h1 a2 h2 a3 h3 a4 h4 a5 h5 a6 h6 a7 h7 a8 h8 a9 h9 a10 h10 a11 h11 x0 x1 x2 x3 x4 x5 x6 x7 x8 =
    k0_pay2 (k0_pay4 (gates x3 0) x0 x5 (gates x3 1) x1 x6) (k0_pay5 (gates x3 2)) x2 x7 := by
  unfold out0_A_10
  rw [View.read_writes_eq_canon _ _ _ (cover0_A_10 c i a1 h1 a2 h2 a3 h3 a4 h4 a5 h5 a6 h6 a7 h7 a8 h8 a9 h9 a10 h10 a11 h11 x0 x1 x2 x3 x4 x5 x6 x7 x8)]
  unfold kernelRun0_A
  dsimp only
  try sl_unfold_words
  rw [View.canon_unit_zero hz]
  simp only [View.readAt_eq_ld, h1.read_unread, h2.read_unread, h3.read_unread, h4.read_unread, h6.read_unread, h7.read_unread, h8.read_unread,
    View.ld_unit_zero (S := S256x512) hz, View.ld_unit_zero (S := S256x1024) hz, View.ld_unit_zero (S := S512x1024) hz, View.ld_unit_zero (S := S1024x1024) hz]
  rw [ld_gates x3 0 ![0, 0] rfl, ld_gates x3 1 ![0, 1024] rfl, ld_gates x3 2 ![0, 2048] rfl]

/-- The result a point writes. -/
theorem out_result : out0_A_9 c i a1 h1 a2 h2 a3 h3 a4 h4 a5 h5 a6 h6 a7 h7 a8 h8 a9 h9 a10 h10 a11 h11 x0 x1 x2 x3 x4 x5 x6 x7 x8 =
    k0_pay3 (k0_pay4 (gates x3 0) x0 x5 (gates x3 1) x1 x6) (k0_pay5 (gates x3 2)) x2 x7 x4 x8 := by
  unfold out0_A_9
  rw [View.read_writes_eq_canon _ _ _ (cover0_A_9 c i a1 h1 a2 h2 a3 h3 a4 h4 a5 h5 a6 h6 a7 h7 a8 h8 a9 h9 a10 h10 a11 h11 x0 x1 x2 x3 x4 x5 x6 x7 x8)]
  unfold kernelRun0_A
  dsimp only
  try sl_unfold_words
  rw [View.canon_unit_zero hz]
  simp only [View.readAt_eq_ld, h1.read_unread, h2.read_unread, h3.read_unread, h4.read_unread, h5.read_unread, h6.read_unread, h7.read_unread, h8.read_unread, h9.read_unread,
    View.ld_unit_zero (S := S256x512) hz, View.ld_unit_zero (S := S256x1024) hz, View.ld_unit_zero (S := S512x1024) hz, View.ld_unit_zero (S := S1024x1024) hz]
  rw [ld_gates x3 0 ![0, 0] rfl, ld_gates x3 1 ![0, 1024] rfl, ld_gates x3 2 ![0, 2048] rfl]

end cases

theorem pay1_apply (u v : FVec Ideal S256x1024 .f32) (y : Vec Ideal S256x512 .f32) (w : Vec Ideal S512x1024 .bf16) (i : Fin 256) (j : Fin 1024) :
    (k0_pay1 u v y w (ix2 i j) : EReal) = u (ix2 i j) + Ideal.div 1 (1 + v (ix2 i j)) * ∑ k : Fin 512, (y (ix2 i k) * w (ix2 k j) : EReal) := by
  pointwise [k0_pay1]

theorem pay4_apply (g : Vec Ideal S256x1024 .f32) (y : Vec Ideal S256x512 .f32) (w : Vec Ideal S512x1024 .bf16) (g' : Vec Ideal S256x1024 .f32)
    (y' : Vec Ideal S256x1024 .f32) (w' : Vec Ideal S1024x1024 .bf16) (i : Fin 256) (j : Fin 1024) :
    (k0_pay4 g y w g' y' w' (ix2 i j) : EReal) =
      logi (g (ix2 i j)) * ∑ k : Fin 512, (y (ix2 i k) * w (ix2 k j) : EReal) + logi (g' (ix2 i j)) * ∑ k : Fin 1024, (y' (ix2 i k) * w' (ix2 k j) : EReal) := by
  pointwise [k0_pay4, logi]

theorem pay5_apply (g : Vec Ideal S256x1024 .f32) (i : Fin 256) (j : Fin 1024) : (k0_pay5 g (ix2 i j) : EReal) = Ideal.exp (0 - g (ix2 i j)) := by
  pointwise [k0_pay5]

theorem pay2_apply (u v : FVec Ideal S256x1024 .f32) (y : Vec Ideal S256x512 .f32) (w : Vec Ideal S512x1024 .bf16) (i : Fin 256) (j : Fin 1024) :
    (k0_pay2 u v y w (ix2 i j) : EReal) = k0_pay1 u v y w (ix2 i j) := by
  pointwise [k0_pay2]

theorem pay3_apply (u v : FVec Ideal S256x1024 .f32) (y : Vec Ideal S256x512 .f32) (w : Vec Ideal S512x1024 .bf16) (x : Vec Ideal S256x1024 .f32)
    (wo : Vec Ideal S1024x1024 .bf16) (i : Fin 256) (j : Fin 1024) :
    (k0_pay3 u v y w x wo (ix2 i j) : EReal) = x (ix2 i j) + ∑ k : Fin 1024, (k0_pay1 u v y w (ix2 i k) * wo (ix2 k j) : EReal) := by
  pointwise [k0_pay3]

/-- Grid point `t` reads and writes row block `t`, and the gates' columns. -/
theorem idx : ∀ t : Fin grid0.N, win0_0.index t = ![t.val, 0] ∧ win0_1.index t = ![t.val, 0] ∧ win0_2.index t = ![t.val, 0] ∧ win0_3.index t = ![t.val, 1] ∧
    win0_4.index t = ![t.val, 0] ∧ win0_5.index t = ![0, 0] ∧ win0_6.index t = ![0, 0] ∧ win0_7.index t = ![0, 0] ∧ win0_8.index t = ![0, 0] ∧
    win0_9.index t = ![t.val, 0] ∧ win0_10.index t = ![t.val, 0] := by
  decide +kernel

/-- Row `256 b + i`. -/
def row (b : ℕ) (i : Fin 256) : Fin 4096 := ⟨(256 * b + i.val) % 4096, Nat.mod_lt _ (by decide)⟩

theorem emb0 (t : Fin cfg0.N) (i : Fin 256) (k : Fin 512) : (win0_0.blk t).view.emb (ix2 i k) = ((ix2 (row t.val i) k) : S4096x512.Idx) := by blk_ext [row, idx t]
theorem emb1 (t : Fin cfg0.N) (i : Fin 256) (k : Fin 1024) : (win0_1.blk t).view.emb (ix2 i k) = ((ix2 (row t.val i) k) : S4096x1024.Idx) := by blk_ext [row, idx t]
theorem emb2 (t : Fin cfg0.N) (i : Fin 256) (k : Fin 512) : (win0_2.blk t).view.emb (ix2 i k) = ((ix2 (row t.val i) k) : S4096x512.Idx) := by blk_ext [row, idx t]
theorem emb4 (t : Fin cfg0.N) (i : Fin 256) (k : Fin 1024) : (win0_4.blk t).view.emb (ix2 i k) = ((ix2 (row t.val i) k) : S4096x1024.Idx) := by blk_ext [row, idx t]
theorem emb5 (t : Fin cfg0.N) (k : Fin 512) (j : Fin 1024) : (win0_5.blk t).view.emb (ix2 k j) = ((ix2 k j) : S512x1024.Idx) := by blk_ext [idx t]
theorem emb6 (t : Fin cfg0.N) (k : Fin 1024) (j : Fin 1024) : (win0_6.blk t).view.emb (ix2 k j) = ((ix2 k j) : S1024x1024.Idx) := by blk_ext [idx t]
theorem emb7 (t : Fin cfg0.N) (k : Fin 512) (j : Fin 1024) : (win0_7.blk t).view.emb (ix2 k j) = ((ix2 k j) : S512x1024.Idx) := by blk_ext [idx t]
theorem emb8 (t : Fin cfg0.N) (k : Fin 1024) (j : Fin 1024) : (win0_8.blk t).view.emb (ix2 k j) = ((ix2 k j) : S1024x1024.Idx) := by blk_ext [idx t]
theorem emb9 (t : Fin cfg0.N) (i : Fin 256) (k : Fin 1024) : (win0_9.blk t).view.emb (ix2 i k) = ((ix2 (row t.val i) k) : S4096x1024.Idx) := by blk_ext [row, idx t]
theorem emb10 (t : Fin cfg0.N) (i : Fin 256) (k : Fin 1024) : (win0_10.blk t).view.emb (ix2 i k) = ((ix2 (row t.val i) k) : S4096x1024.Idx) := by blk_ext [row, idx t]

variable (m : (ℓ : Loc nD τ sig) → Buf (Elt Ideal) ℓ) (c : Dev nD)

/-- The arguments. -/
abbrev A0 : FVec Ideal S4096x512 .f32 := m (c, Proc.tc.devRef main_arg0)
@[inherit_doc A0] abbrev A1 : FVec Ideal S4096x1024 .f32 := m (c, Proc.tc.devRef main_arg1)
@[inherit_doc A0] abbrev A2 : FVec Ideal S4096x512 .f32 := m (c, Proc.tc.devRef main_arg2)
@[inherit_doc A0] abbrev A3 : FVec Ideal S4096x6528 .f32 := m (c, Proc.tc.devRef main_arg3)
@[inherit_doc A0] abbrev A4 : FVec Ideal S4096x1024 .f32 := m (c, Proc.tc.devRef main_arg4)
@[inherit_doc A0] abbrev A5 : FVec Ideal S512x1024 .f32 := m (c, Proc.tc.devRef main_arg5)
@[inherit_doc A0] abbrev A6 : FVec Ideal S1024x1024 .f32 := m (c, Proc.tc.devRef main_arg6)
@[inherit_doc A0] abbrev A7 : FVec Ideal S512x1024 .f32 := m (c, Proc.tc.devRef main_arg7)
@[inherit_doc A0] abbrev A8 : FVec Ideal S1024x1024 .f32 := m (c, Proc.tc.devRef main_arg8)

theorem staged5 : (V m c main_v0 : S512x1024.Idx → EReal) = truncf .bf16 (A5 m c) bitsLt_bf16_f32 := by
  unfold V
  after_reads_simp
  all_goals try simp -implicitDefEqProofs only [StableHlo.TRef.toBuf, StableHlo.TRef.ofBuf, cast_cast, cast_eq]
  all_goals clean_types

theorem staged6 : (V m c main_v1 : S1024x1024.Idx → EReal) = truncf .bf16 (A6 m c) bitsLt_bf16_f32 := by
  unfold V
  after_reads_simp
  all_goals try simp -implicitDefEqProofs only [StableHlo.TRef.toBuf, StableHlo.TRef.ofBuf, cast_cast, cast_eq]
  all_goals clean_types

theorem staged7 : (V m c main_v2 : S512x1024.Idx → EReal) = truncf .bf16 (A7 m c) bitsLt_bf16_f32 := by
  unfold V
  after_reads_simp
  all_goals try simp -implicitDefEqProofs only [StableHlo.TRef.toBuf, StableHlo.TRef.ofBuf, cast_cast, cast_eq]
  all_goals clean_types

theorem staged8 : (V m c main_v3 : S1024x1024.Idx → EReal) = truncf .bf16 (A8 m c) bitsLt_bf16_f32 := by
  unfold V
  after_reads_simp
  all_goals try simp -implicitDefEqProofs only [StableHlo.TRef.toBuf, StableHlo.TRef.ofBuf, cast_cast, cast_eq]
  all_goals clean_types

theorem iblk0 (t : Fin cfg0.N) (i : Fin 256) (k : Fin 512) : (iblk m c 0 t (ix2 i k) : EReal) = A0 m c (ix2 (row t.val i) k) :=
  (congrArg (V m c main_arg0 : S4096x512.Idx → EReal) (emb0 t i k)).trans (congrFun (V_main_arg0 m c) _)
theorem iblk1 (t : Fin cfg0.N) (i : Fin 256) (k : Fin 1024) : (iblk m c 1 t (ix2 i k) : EReal) = A1 m c (ix2 (row t.val i) k) :=
  (congrArg (V m c main_arg1 : S4096x1024.Idx → EReal) (emb1 t i k)).trans (congrFun (V_main_arg1 m c) _)
theorem iblk2 (t : Fin cfg0.N) (i : Fin 256) (k : Fin 512) : (iblk m c 2 t (ix2 i k) : EReal) = A2 m c (ix2 (row t.val i) k) :=
  (congrArg (V m c main_arg2 : S4096x512.Idx → EReal) (emb2 t i k)).trans (congrFun (V_main_arg2 m c) _)
theorem iblk4 (t : Fin cfg0.N) (i : Fin 256) (k : Fin 1024) : (iblk m c 4 t (ix2 i k) : EReal) = A4 m c (ix2 (row t.val i) k) :=
  (congrArg (V m c main_arg4 : S4096x1024.Idx → EReal) (emb4 t i k)).trans (congrFun (V_main_arg4 m c) _)
theorem iblk5 (t : Fin cfg0.N) (k : Fin 512) (j : Fin 1024) : (iblk m c 5 t (ix2 k j) : EReal) = A5 m c (ix2 k j) :=
  (congrArg (V m c main_v0 : S512x1024.Idx → EReal) (emb5 t k j)).trans (congrFun (staged5 m c) _)
theorem iblk6 (t : Fin cfg0.N) (k : Fin 1024) (j : Fin 1024) : (iblk m c 6 t (ix2 k j) : EReal) = A6 m c (ix2 k j) :=
  (congrArg (V m c main_v1 : S1024x1024.Idx → EReal) (emb6 t k j)).trans (congrFun (staged6 m c) _)
theorem iblk7 (t : Fin cfg0.N) (k : Fin 512) (j : Fin 1024) : (iblk m c 7 t (ix2 k j) : EReal) = A7 m c (ix2 k j) :=
  (congrArg (V m c main_v2 : S512x1024.Idx → EReal) (emb7 t k j)).trans (congrFun (staged7 m c) _)
theorem iblk8 (t : Fin cfg0.N) (k : Fin 1024) (j : Fin 1024) : (iblk m c 8 t (ix2 k j) : EReal) = A8 m c (ix2 k j) :=
  (congrArg (V m c main_v3 : S1024x1024.Idx → EReal) (emb8 t k j)).trans (congrFun (staged8 m c) _)

/-- The gates' columns a point reads. -/
theorem gates_apply (t : Fin cfg0.N) (b : Fin 3) (i : Fin 256) (j : Fin 1024) : (gates (X0_3 m c t) b (ix2 i j) : EReal) = A3 m c (ix2 (row t.val i) (gcol b j)) := by
  unfold gates X0_3 Pipeline.Window.fill
  rw [dif_pos (moved0_3 t _)]
  refine Eq.trans (congrArg (V m c main_arg3 : S4096x6528.Idx → EReal) ?_) (congrFun (V_main_arg3 m c) _)
  blk_ext [row, gcol, idx t]

/-- Arrays as functions of their row and column. -/
abbrev T {a b : ℕ} (x : (Shape.mk 2 ![a, b]).Idx → EReal) (i : Fin a) (j : Fin b) : EReal := x (ix2 i j)

/-- The gated sum of the branches. -/
def sums (x0 : FVec Ideal S4096x512 .f32) (x1 : FVec Ideal S4096x1024 .f32) (x2 : FVec Ideal S4096x512 .f32) (x3 : FVec Ideal S4096x6528 .f32)
    (x5 : FVec Ideal S512x1024 .f32) (x6 : FVec Ideal S1024x1024 .f32) (x7 : FVec Ideal S512x1024 .f32) : S4096x1024.Idx → EReal :=
  fun y => merged (T x0) (T x1) (T x2) (T x3) (T x5) (T x6) (T x7) (y 0) (y 1)

/-- The result. -/
def out (x0 : FVec Ideal S4096x512 .f32) (x1 : FVec Ideal S4096x1024 .f32) (x2 : FVec Ideal S4096x512 .f32) (x3 : FVec Ideal S4096x6528 .f32)
    (x4 : FVec Ideal S4096x1024 .f32) (x5 : FVec Ideal S512x1024 .f32) (x6 : FVec Ideal S1024x1024 .f32) (x7 : FVec Ideal S512x1024 .f32)
    (x8 : FVec Ideal S1024x1024 .f32) : S4096x1024.Idx → EReal :=
  fun y => result (T x0) (T x1) (T x2) (T x3) (T x4) (T x5) (T x6) (T x7) (T x8) (y 0) (y 1)

/-- The gated sum of a point's block. -/
theorem point_sum (t : Fin cfg0.N) (i : Fin 256) (j : Fin 1024) :
    (k0_pay1 (k0_pay4 (gates (X0_3 m c t) 0) (iblk m c 0 t) (iblk m c 5 t) (gates (X0_3 m c t) 1) (iblk m c 1 t) (iblk m c 6 t)) (k0_pay5 (gates (X0_3 m c t) 2))
      (iblk m c 2 t) (iblk m c 7 t) (ix2 i j) : EReal) =
    merged (T (A0 m c)) (T (A1 m c)) (T (A2 m c)) (T (A3 m c)) (T (A5 m c)) (T (A6 m c)) (T (A7 m c)) (row t.val i) j := by
  rw [pay1_apply, pay4_apply, pay5_apply]
  simp only [gates_apply, iblk0, iblk1, iblk2, iblk5, iblk6, iblk7]
  rfl

theorem sums_eq : (dats m 0 c).arrAt 10 cfg0.N = sums (A0 m c) (A1 m c) (A2 m c) (A3 m c) (A5 m c) (A6 m c) (A7 m c) := by
  refine (dats m 0 c).arrAt_eq_of_covers 10 _ (by decide +kernel) fun t hf y => ?_
  have e := congrFun (Value.flushed10_A m c t) y
  rw [out_sum] at e
  blk_simp [idx t]
  refine Eq.trans e ?_
  obtain ⟨i, j, rfl⟩ : ∃ (i : Fin 256) (j : Fin 1024), y = ix2 i j := ⟨y 0, y 1, by funext a; fin_cases a <;> rfl⟩
  refine Eq.trans ?_ (congrArg (sums (A0 m c) (A1 m c) (A2 m c) (A3 m c) (A5 m c) (A6 m c) (A7 m c)) (emb10 t i j)).symm
  exact (pay2_apply _ _ _ _ i j).trans (point_sum m c t i j)

theorem out_eq : (dats m 0 c).arrAt 9 cfg0.N = out (A0 m c) (A1 m c) (A2 m c) (A3 m c) (A4 m c) (A5 m c) (A6 m c) (A7 m c) (A8 m c) := by
  refine (dats m 0 c).arrAt_eq_of_covers 9 _ (by decide +kernel) fun t hf y => ?_
  have e := congrFun (Value.flushed9_A m c t) y
  rw [out_result] at e
  blk_simp [idx t]
  refine Eq.trans e ?_
  obtain ⟨i, j, rfl⟩ : ∃ (i : Fin 256) (j : Fin 1024), y = ix2 i j := ⟨y 0, y 1, by funext a; fin_cases a <;> rfl⟩
  refine Eq.trans ?_ (congrArg (out (A0 m c) (A1 m c) (A2 m c) (A3 m c) (A4 m c) (A5 m c) (A6 m c) (A7 m c) (A8 m c)) (emb9 t i j)).symm
  refine (pay3_apply _ _ _ _ _ _ i j).trans ?_
  simp only [point_sum, iblk4, iblk8]
  rfl

section reference

open Cert.Reference13Ideal.Read

variable (x0 : FVec Ideal S4096x512 .f32) (x1 : FVec Ideal S4096x1024 .f32) (x2 : FVec Ideal S4096x512 .f32) (x3 : FVec Ideal S4096x6528 .f32)
  (x4 : FVec Ideal S4096x1024 .f32) (x5 : FVec Ideal S512x1024 .f32) (x6 : FVec Ideal S1024x1024 .f32) (x7 : FVec Ideal S512x1024 .f32) (x8 : FVec Ideal S1024x1024 .f32)

theorem ref_logi (s : Fin 4096) (j : Fin 3072) : (val_main_v9 (F := Ideal) x3 (ix2 s j) : EReal) = logi (x3 (ix2 s (⟨3072 + j.val, by omega⟩ : Fin 6528))) := by
  rw [val_main_v9_apply, val_main_v8_apply, val_main_v7_apply, val_main_v6_apply, val_main_v5_apply, val_main_v4_apply, val_main_v0_apply,
    val_main_cst_apply, val_main_cst_0_apply]
  have e : idx_main_v0 (ix2 s j) = ix2 s (⟨3072 + j.val, by omega⟩ : Fin 6528) := funext fun a => by fin_cases a <;> rfl
  rw [e]
  pointwise [logi]
  rw [zero_sub]

theorem ref_gate (b : Fin 3) (s : Fin 4096) (j : Fin 1024) (e : Cert.Reference13Ideal.S4096x3072.Idx) (h0 : (e 0).val = s.val) (h1 : (e 1).val = 1024 * b.val + j.val) :
    (val_main_v9 (F := Ideal) x3 e : EReal) = gate (T x3) b s j := by
  have he : e = ix2 s (⟨1024 * b.val + j.val, by omega⟩ : Fin 3072) := funext fun a => by fin_cases a; exacts [Fin.ext h0, Fin.ext h1]
  rw [he]
  refine (ref_logi x3 s _).trans ?_
  unfold gate T
  exact congrArg (fun k => logi (x3 (ix2 s k))) (Fin.ext (by simp only [gcol]; omega))

theorem ref_sum (s : Fin 4096) (j : Fin 1024) :
    (val_main_v17 (F := Ideal) x0 x1 x2 x3 x5 x6 x7 (ix2 s j) : EReal) = merged (T x0) (T x1) (T x2) (T x3) (T x5) (T x6) (T x7) s j := by
  rw [val_main_v17_apply, val_main_v16_apply, val_main_v15_apply, val_main_v14_apply, val_main_v13_apply, val_main_v12_apply, val_main_v11_apply, val_main_v10_apply,
    val_main_v3_apply, val_main_v2_apply, val_main_v1_apply,
    ref_gate x3 0 s j _ rfl (by simp [ix2]), ref_gate x3 1 s j _ rfl (by simp [ix2]), ref_gate x3 2 s j _ rfl (by simp [ix2])]
  unfold merged prod T
  refine congrArg₂ (· + · : EReal → EReal → EReal) (congrArg₂ (· + · : EReal → EReal → EReal) ?_ ?_) ?_ <;>
    refine congrArg (_ * · : EReal → EReal) (Finset.sum_congr rfl fun k _ => congrArg₂ (· * · : EReal → EReal → EReal) ?_ ?_)
  · exact congrArg x0 (funext fun a => by fin_cases a <;> rfl)
  · exact congrArg x5 (funext fun a => by fin_cases a <;> rfl)
  · exact congrArg x1 (funext fun a => by fin_cases a <;> rfl)
  · exact congrArg x6 (funext fun a => by fin_cases a <;> rfl)
  · exact congrArg x2 (funext fun a => by fin_cases a <;> rfl)
  · exact congrArg x7 (funext fun a => by fin_cases a <;> rfl)

theorem reference_sums : val_main_v20 (F := Ideal) x0 x1 x2 x3 x5 x6 x7 = sums x0 x1 x2 x3 x5 x6 x7 := by
  funext y
  obtain ⟨s, j, rfl⟩ : ∃ (s : Fin 4096) (j : Fin 1024), y = ix2 s j := ⟨y 0, y 1, by funext a; fin_cases a <;> rfl⟩
  exact (val_main_v20_apply _ _ _ _ _ _ _ _).trans (ref_sum x0 x1 x2 x3 x5 x6 x7 s j)

theorem reference_out : val_main_v19 (F := Ideal) x0 x1 x2 x3 x4 x5 x6 x7 x8 = out x0 x1 x2 x3 x4 x5 x6 x7 x8 := by
  funext y
  obtain ⟨s, j, rfl⟩ : ∃ (s : Fin 4096) (j : Fin 1024), y = ix2 s j := ⟨y 0, y 1, by funext a; fin_cases a <;> rfl⟩
  rw [val_main_v19_apply, val_main_v18_apply]
  refine congrArg (x4 (ix2 s j) + · : EReal → EReal) (Finset.sum_congr rfl fun k _ => congrArg₂ (· * · : EReal → EReal → EReal) ?_ ?_)
  · exact (congrArg (val_main_v17 (F := Ideal) x0 x1 x2 x3 x5 x6 x7) (funext fun a => by fin_cases a <;> rfl)).trans (ref_sum x0 x1 x2 x3 x5 x6 x7 s k)
  · exact congrArg x8 (funext fun a => by fin_cases a <;> rfl)

end reference

end Cert.Kernel13Ideal.MergeFwd

namespace Cert.Proof

theorem frame_reference13 : Cert.quiescent_Reference13Ideal := fun m ρ _ =>
  (θ_run Cert.Reference13Ideal.defs _ _).mono (fun r h => ⟨fun c => (h c).2.2, sem_eq_zero_of_no_sems (by decide) r.2⟩)
    (Cert.Reference13Ideal.Value.run (F := Ideal) m ρ)

open Cert.Kernel13Ideal.MergeFwd in
theorem algebraic_mergefwd : Cert.algebraic_Kernel13Ideal_Reference13Ideal := by
  intro m ρ m' ρ' _ hagree
  refine ⟨fun c => out (A0 m c) (A1 m c) (A2 m c) (A3 m c) (A4 m c) (A5 m c) (A6 m c) (A7 m c) (A8 m c),
    fun c => sums (A0 m c) (A1 m c) (A2 m c) (A3 m c) (A5 m c) (A6 m c) (A7 m c), ?_, ?_⟩
  · refine (θ_run Cert.Kernel13Ideal.defs _ _).mono (fun r h c => ?_) (Cert.Kernel13Ideal.Value.run_blocks (F := Ideal) m ρ)
    exact ⟨(h c).1.trans (out_eq m c), (h c).2.1.trans (sums_eq m c), (h c).2.2⟩
  · refine (θ_run Cert.Reference13Ideal.defs _ _).mono (fun r h c => ⟨?_, ?_, (h c).2.2⟩) (Cert.Reference13Ideal.Value.run (F := Ideal) m' ρ')
    · refine (h c).1.trans ((Cert.Reference13Ideal.Read.val_main_v19_eq _ _ _ _ _ _ _ _ _).trans ?_)
      obtain ⟨e0, e1, e2, e3, e4, e5, e6, e7, e8⟩ := hagree c
      rw [e0, e1, e2, e3, e4, e5, e6, e7, e8]
      exact reference_out _ _ _ _ _ _ _ _ _
    · refine (h c).2.1.trans ((Cert.Reference13Ideal.Read.val_main_v20_eq _ _ _ _ _ _ _).trans ?_)
      obtain ⟨e0, e1, e2, e3, e4, e5, e6, e7, e8⟩ := hagree c
      rw [e0, e1, e2, e3, e5, e6, e7]
      exact reference_sums _ _ _ _ _ _ _

end Cert.Proof
-- ==== Proof.MergeBwd.lean ====
/-
  The merge's backward pass: each grid point takes 256 tokens' gradient of the merged sum, and gives the gradients of the three
  branches, of their products and of the gates.
-/
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import proofs.«01_k».proof.Proof.Merge
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem

namespace Cert.Kernel14Ideal.MergeBwd

open Cert.Kernel14Ideal Cert.Kernel14Ideal.Gen Merge

theorem hz : (![0, 0] : Fin 2 → Nat) = fun _ => 0 := funext fun a => by fin_cases a <;> rfl

section cases
variable {F : FTy → Type} [FloatOps F]

/-- The gate columns of a branch. -/
def gates (g : Vec F S256x3072 .f32) (b : Fin 3) : Vec F S256x1024 .f32 :=
  fun y => g (ix2 (y 0 : Fin 256) (⟨1024 * b.val + (y 1).val, by have h : (y 1).val < 1024 := (y 1).isLt; omega⟩ : Fin 3072))

theorem ld_gates (g : Vec F S256x3072 .f32) (b : Fin 3) (off : Fin 2 → ℕ) (hoff : off = ![0, 1024 * b.val]) (inb : ∀ a, off a + S256x1024.size a ≤ S256x3072.size a) :
    View.ld g (Rect.unit (s := S256x3072) off S256x1024.size inb) = gates g b := by
  subst hoff
  funext y
  refine View.ld_unit_apply_of g _ _ _ y _ fun a => ?_
  fin_cases a
  · exact (Nat.zero_add _).symm
  · rfl

/-- A block stored as three column blocks, read at an index. -/
theorem thirds (p2 p1 p0 : Vec F S256x1024 .bf16) (h2 : ∀ a, (![0, 2048] : Fin 2 → Nat) a + S256x1024.size a ≤ S256x3072.size a)
    (h1 : ∀ a, (![0, 1024] : Fin 2 → Nat) a + S256x1024.size a ≤ S256x3072.size a)
    (h0 : ∀ a, (![0, 0] : Fin 2 → Nat) a + S256x1024.size a ≤ S256x3072.size a) (i : Fin 256) (q : Fin 3072) :
    View.canon [(⟨Rect.unit ![0, 2048] S256x1024.size h2, p2⟩ : View.Piece (Elt F) S256x3072 .bf16), ⟨Rect.unit ![0, 1024] S256x1024.size h1, p1⟩,
      ⟨Rect.unit ![0, 0] S256x1024.size h0, p0⟩] (ix2 i q) =
      if q.val < 1024 then p0 (ix2 i (⟨q.val % 1024, Nat.mod_lt _ (by decide)⟩ : Fin 1024))
      else if q.val < 2048 then p1 (ix2 i (⟨q.val % 1024, Nat.mod_lt _ (by decide)⟩ : Fin 1024))
      else p2 (ix2 i (⟨q.val % 1024, Nat.mod_lt _ (by decide)⟩ : Fin 1024)) := by
  have hq := q.isLt
  have e (o : ℕ) (h : ∀ a, (![0, o] : Fin 2 → Nat) a + S256x1024.size a ≤ S256x3072.size a) (ho : q.val = o + q.val % 1024) :
      (ix2 i q : S256x3072.Idx) = (Rect.unit (s := S256x3072) ![0, o] S256x1024.size h).emb (ix2 i (⟨q.val % 1024, Nat.mod_lt _ (by decide)⟩ : Fin 1024) : S256x1024.Idx) := by
    funext a
    fin_cases a
    · exact Fin.ext (by simp [Rect.emb_apply, ix2])
    · exact Fin.ext (by simpa [Rect.emb_apply, ix2] using ho)
  have hn (o : ℕ) (h : ∀ a, (![0, o] : Fin 2 → Nat) a + S256x1024.size a ≤ S256x3072.size a) (ho : q.val < o) :
      (ix2 i q : S256x3072.Idx) ∉ (Rect.unit (s := S256x3072) ![0, o] S256x1024.size h).set := fun hm => by
    have h' : o ≤ q.val := ((Rect.mem_set_unit.mp hm) 1).1
    omega
  split_ifs with c1 c2
  · refine (View.canon_cons_of_not_mem (⟨Rect.unit (s := S256x3072) ![0, 2048] S256x1024.size h2, p2⟩ : View.Piece (Elt F) S256x3072 .bf16) _ (hn 2048 h2 (by omega))).trans ?_
    refine (View.canon_cons_of_not_mem (⟨Rect.unit (s := S256x3072) ![0, 1024] S256x1024.size h1, p1⟩ : View.Piece (Elt F) S256x3072 .bf16) _ (hn 1024 h1 (by omega))).trans ?_
    rw [e 0 h0 (by omega)]
    exact View.canon_cons_emb (Rect.unit (s := S256x3072) ![0, 0] S256x1024.size h0) p0 [] _
  · refine (View.canon_cons_of_not_mem (⟨Rect.unit (s := S256x3072) ![0, 2048] S256x1024.size h2, p2⟩ : View.Piece (Elt F) S256x3072 .bf16) _ (hn 2048 h2 (by omega))).trans ?_
    rw [e 1024 h1 (by omega)]
    exact View.canon_cons_emb (Rect.unit (s := S256x3072) ![0, 1024] S256x1024.size h1) p1 _ _
  · rw [e 2048 h2 (by omega)]
    exact View.canon_cons_emb (Rect.unit (s := S256x3072) ![0, 2048] S256x1024.size h2) p2 _ _

variable (c : Dev nD) (i : grid0.Coords)
  (a1 : Memref sig .tc .vmem S256x512 .f32) (h1 : a1.IsWhole) (a2 : Memref sig .tc .vmem S256x1024 .f32) (h2 : a2.IsWhole)
  (a3 : Memref sig .tc .vmem S256x512 .f32) (h3 : a3.IsWhole) (a4 : Memref sig .tc .vmem S256x3072 .f32) (h4 : a4.IsWhole)
  (a5 : Memref sig .tc .vmem S256x1024 .f32) (h5 : a5.IsWhole) (a6 : Memref sig .tc .vmem S512x1024 .bf16) (h6 : a6.IsWhole)
  (a7 : Memref sig .tc .vmem S1024x1024 .bf16) (h7 : a7.IsWhole) (a8 : Memref sig .tc .vmem S512x1024 .bf16) (h8 : a8.IsWhole)
  (a9 : Memref sig .tc .vmem S1024x1024 .bf16) (h9 : a9.IsWhole) (a10 : Memref sig .tc .vmem S256x512 .f32) (h10 : a10.IsWhole)
  (a11 : Memref sig .tc .vmem S256x1024 .f32) (h11 : a11.IsWhole) (a12 : Memref sig .tc .vmem S256x512 .f32) (h12 : a12.IsWhole)
  (a13 : Memref sig .tc .vmem S256x3072 .bf16) (h13 : a13.IsWhole) (a14 : Memref sig .tc .vmem S256x1024 .bf16) (h14 : a14.IsWhole)
  (a15 : Memref sig .tc .vmem S256x1024 .bf16) (h15 : a15.IsWhole) (a16 : Memref sig .tc .vmem S256x1024 .bf16) (h16 : a16.IsWhole)
  (x0 : Vec F S256x512 .f32) (x1 : Vec F S256x1024 .f32) (x2 : Vec F S256x512 .f32) (x3 : Vec F S256x3072 .f32) (x4 : Vec F S256x1024 .f32)
  (x5 : Vec F S512x1024 .bf16) (x6 : Vec F S1024x1024 .bf16) (x7 : Vec F S512x1024 .bf16) (x8 : Vec F S1024x1024 .bf16)

/-- The gradient of branch a a point writes. -/
theorem out_dya : out0_A_9 c i a1 h1 a2 h2 a3 h3 a4 h4 a5 h5 a6 h6 a7 h7 a8 h8 a9 h9 a10 h10 a11 h11 a12 h12 a13 h13 a14 h14 a15 h15 a16 h16 x0 x1 x2 x3 x4 x5 x6 x7 x8 =
    k0_pay9 x4 x8 (gates x3 0) x5 := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 a14 h14 a15 h15 a16 h16 x0 x1 x2 x3 x4 x5 x6 x7 x8)]
  unfold kernelRun0_A
  dsimp only
  try sl_unfold_words
  rw [View.canon_unit_zero hz]
  simp only [View.readAt_eq_ld, h1.read_unread, h2.read_unread, h3.read_unread, h4.read_unread, h5.read_unread, h6.read_unread, h7.read_unread, h8.read_unread, h9.read_unread,
    View.ld_unit_zero (S := S256x512) hz, View.ld_unit_zero (S := S256x1024) hz, View.ld_unit_zero (S := S512x1024) hz, View.ld_unit_zero (S := S1024x1024) hz]
  rw [ld_gates x3 0 ![0, 0] rfl]

/-- The gradient of branch b a point writes. -/
theorem out_dyb : out0_A_10 c i a1 h1 a2 h2 a3 h3 a4 h4 a5 h5 a6 h6 a7 h7 a8 h8 a9 h9 a10 h10 a11 h11 a12 h12 a13 h13 a14 h14 a15 h15 a16 h16 x0 x1 x2 x3 x4 x5 x6 x7 x8 =
    k0_pay13 (k0_pay5 x4 x8) (gates x3 1) x6 := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 a15 h15 a16 h16 x0 x1 x2 x3 x4 x5 x6 x7 x8)]
  unfold kernelRun0_A
  dsimp only
  try sl_unfold_words
  rw [View.canon_unit_zero hz]
  simp only [View.readAt_eq_ld, h1.read_unread, h2.read_unread, h3.read_unread, h4.read_unread, h5.read_unread, h6.read_unread, h7.read_unread, h8.read_unread, h9.read_unread,
    View.ld_unit_zero (S := S256x512) hz, View.ld_unit_zero (S := S256x1024) hz, View.ld_unit_zero (S := S512x1024) hz, View.ld_unit_zero (S := S1024x1024) hz]
  rw [ld_gates x3 1 ![0, 1024] rfl]

/-- The gradient of branch c a point writes. -/
theorem out_dyc : out0_A_11 c i a1 h1 a2 h2 a3 h3 a4 h4 a5 h5 a6 h6 a7 h7 a8 h8 a9 h9 a10 h10 a11 h11 a12 h12 a13 h13 a14 h14 a15 h15 a16 h16 x0 x1 x2 x3 x4 x5 x6 x7 x8 =
    k0_pay4 (k0_pay5 x4 x8) (k0_pay14 (gates x3 2)) k0_pay15 x7 := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 a15 h15 a16 h16 x0 x1 x2 x3 x4 x5 x6 x7 x8)]
  unfold kernelRun0_A
  dsimp only
  try sl_unfold_words
  rw [View.canon_unit_zero hz]
  simp only [View.readAt_eq_ld, h1.read_unread, h2.read_unread, h3.read_unread, h4.read_unread, h5.read_unread, h6.read_unread, h7.read_unread, h8.read_unread, h9.read_unread,
    View.ld_unit_zero (S := S256x512) hz, View.ld_unit_zero (S := S256x1024) hz, View.ld_unit_zero (S := S512x1024) hz, View.ld_unit_zero (S := S1024x1024) hz]
  rw [ld_gates x3 2 ![0, 2048] rfl]

/-- The gradient of branch a's product a point writes. -/
theorem out_ta : out0_A_13 c i a1 h1 a2 h2 a3 h3 a4 h4 a5 h5 a6 h6 a7 h7 a8 h8 a9 h9 a10 h10 a11 h11 a12 h12 a13 h13 a14 h14 a15 h15 a16 h16 x0 x1 x2 x3 x4 x5 x6 x7 x8 =
    k0_pay8 x4 x8 (gates x3 0) := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 x0 x1 x2 x3 x4 x5 x6 x7 x8)]
  unfold kernelRun0_A
  dsimp only
  try sl_unfold_words
  rw [View.canon_unit_zero hz]
  simp only [View.readAt_eq_ld, h1.read_unread, h2.read_unread, h3.read_unread, h4.read_unread, h5.read_unread, h6.read_unread, h7.read_unread, h8.read_unread, h9.read_unread,
    View.ld_unit_zero (S := S256x512) hz, View.ld_unit_zero (S := S256x1024) hz, View.ld_unit_zero (S := S512x1024) hz, View.ld_unit_zero (S := S1024x1024) hz]
  rw [ld_gates x3 0 ![0, 0] rfl]

/-- The gradient of branch b's product a point writes. -/
theorem out_tb : out0_A_14 c i a1 h1 a2 h2 a3 h3 a4 h4 a5 h5 a6 h6 a7 h7 a8 h8 a9 h9 a10 h10 a11 h11 a12 h12 a13 h13 a14 h14 a15 h15 a16 h16 x0 x1 x2 x3 x4 x5 x6 x7 x8 =
    k0_pay12 (k0_pay5 x4 x8) (gates x3 1) := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 x0 x1 x2 x3 x4 x5 x6 x7 x8)]
  unfold kernelRun0_A
  dsimp only
  try sl_unfold_words
  rw [View.canon_unit_zero hz]
  simp only [View.readAt_eq_ld, h1.read_unread, h2.read_unread, h3.read_unread, h4.read_unread, h5.read_unread, h6.read_unread, h7.read_unread, h8.read_unread, h9.read_unread,
    View.ld_unit_zero (S := S256x512) hz, View.ld_unit_zero (S := S256x1024) hz, View.ld_unit_zero (S := S512x1024) hz, View.ld_unit_zero (S := S1024x1024) hz]
  rw [ld_gates x3 1 ![0, 1024] rfl]

/-- The gradient of branch c's product a point writes. -/
theorem out_tc : out0_A_15 c i a1 h1 a2 h2 a3 h3 a4 h4 a5 h5 a6 h6 a7 h7 a8 h8 a9 h9 a10 h10 a11 h11 a12 h12 a13 h13 a14 h14 a15 h15 a16 h16 x0 x1 x2 x3 x4 x5 x6 x7 x8 =
    k0_pay3 (k0_pay5 x4 x8) (k0_pay14 (gates x3 2)) k0_pay15 := by
  unfold out0_A_15
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 x0 x1 x2 x3 x4 x5 x6 x7 x8)]
  unfold kernelRun0_A
  dsimp only
  try sl_unfold_words
  rw [View.canon_unit_zero hz]
  simp only [View.readAt_eq_ld, h1.read_unread, h2.read_unread, h3.read_unread, h4.read_unread, h5.read_unread, h6.read_unread, h7.read_unread, h8.read_unread, h9.read_unread,
    View.ld_unit_zero (S := S256x512) hz, View.ld_unit_zero (S := S256x1024) hz, View.ld_unit_zero (S := S512x1024) hz, View.ld_unit_zero (S := S1024x1024) hz]
  rw [ld_gates x3 2 ![0, 2048] rfl]

/-- The gradient of the gates a point writes. -/
theorem out_dg (r : Fin 256) (q : Fin 3072) : out0_A_12 c i a1 h1 a2 h2 a3 h3 a4 h4 a5 h5 a6 h6 a7 h7 a8 h8 a9 h9 a10 h10 a11 h11 a12 h12 a13 h13 a14 h14 a15 h15 a16 h16 x0 x1 x2 x3 x4 x5 x6 x7 x8 (ix2 r q) =
    if q.val < 1024 then k0_pay7 x4 x8 (gates x3 0) x0 x5 (ix2 r (⟨q.val % 1024, Nat.mod_lt _ (by decide)⟩ : Fin 1024))
    else if q.val < 2048 then k0_pay11 (k0_pay5 x4 x8) (gates x3 1) x1 x6 (ix2 r (⟨q.val % 1024, Nat.mod_lt _ (by decide)⟩ : Fin 1024))
    else k0_pay2 (k0_pay5 x4 x8) (k0_pay14 (gates x3 2)) k0_pay15 x2 x7 (ix2 r (⟨q.val % 1024, Nat.mod_lt _ (by decide)⟩ : Fin 1024)) := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 x0 x1 x2 x3 x4 x5 x6 x7 x8)]
  unfold kernelRun0_A
  dsimp only
  try sl_unfold_words
  rw [thirds]
  simp only [View.readAt_eq_ld, h1.read_unread, h2.read_unread, h3.read_unread, h4.read_unread, h5.read_unread, h6.read_unread, h7.read_unread, h8.read_unread, h9.read_unread,
    View.ld_unit_zero (S := S256x512) hz, View.ld_unit_zero (S := S256x1024) hz, View.ld_unit_zero (S := S512x1024) hz, View.ld_unit_zero (S := S1024x1024) hz]
  rw [ld_gates x3 0 ![0, 0] rfl, ld_gates x3 1 ![0, 1024] rfl, ld_gates x3 2 ![0, 2048] rfl]

end cases

theorem pay5_apply (v : Vec Ideal S256x1024 .f32) (w : Vec Ideal S1024x1024 .bf16) (i : Fin 256) (j : Fin 1024) :
    (k0_pay5 v w (ix2 i j) : EReal) = ∑ k : Fin 1024, (v (ix2 i k) * w (ix2 j k) : EReal) := by
  pointwise [k0_pay5]

theorem pay6_apply (g : Vec Ideal S256x1024 .f32) (i : Fin 256) (j : Fin 1024) : (k0_pay6 g (ix2 i j) : EReal) = logi (g (ix2 i j)) := by
  pointwise [k0_pay6, logi]

theorem pay10_apply (g : Vec Ideal S256x1024 .f32) (i : Fin 256) (j : Fin 1024) : (k0_pay10 g (ix2 i j) : EReal) = logi (g (ix2 i j)) := by
  pointwise [k0_pay10, logi]

theorem pay1_apply (g : Vec Ideal S256x1024 .f32) (i : Fin 256) (j : Fin 1024) : (k0_pay1 (k0_pay14 g) k0_pay15 (ix2 i j) : EReal) = logi (g (ix2 i j)) := by
  pointwise [k0_pay1, k0_pay14, k0_pay15, logi]

theorem pay8_apply (v : Vec Ideal S256x1024 .f32) (wo : Vec Ideal S1024x1024 .bf16) (g : Vec Ideal S256x1024 .f32) (i : Fin 256) (j : Fin 1024) :
    (k0_pay8 v wo g (ix2 i j) : EReal) = k0_pay5 v wo (ix2 i j) * logi (g (ix2 i j)) := by
  rw [← pay6_apply]
  pointwise [k0_pay8]

theorem pay12_apply (d : FVec Ideal S256x1024 .f32) (g : Vec Ideal S256x1024 .f32) (i : Fin 256) (j : Fin 1024) :
    (k0_pay12 d g (ix2 i j) : EReal) = d (ix2 i j) * logi (g (ix2 i j)) := by
  rw [← pay10_apply]
  pointwise [k0_pay12]

theorem pay3_apply (d : FVec Ideal S256x1024 .f32) (g : Vec Ideal S256x1024 .f32) (i : Fin 256) (j : Fin 1024) :
    (k0_pay3 d (k0_pay14 g) k0_pay15 (ix2 i j) : EReal) = d (ix2 i j) * logi (g (ix2 i j)) := by
  rw [← pay1_apply]
  pointwise [k0_pay3]

theorem pay9_apply (v : Vec Ideal S256x1024 .f32) (wo : Vec Ideal S1024x1024 .bf16) (g : Vec Ideal S256x1024 .f32) (w : Vec Ideal S512x1024 .bf16) (i : Fin 256) (k : Fin 512) :
    (k0_pay9 v wo g w (ix2 i k) : EReal) = ∑ j : Fin 1024, (k0_pay8 v wo g (ix2 i j) * w (ix2 k j) : EReal) := by
  pointwise [k0_pay9]

theorem pay13_apply (d : FVec Ideal S256x1024 .f32) (g : Vec Ideal S256x1024 .f32) (w : Vec Ideal S1024x1024 .bf16) (i : Fin 256) (k : Fin 1024) :
    (k0_pay13 d g w (ix2 i k) : EReal) = ∑ j : Fin 1024, (k0_pay12 d g (ix2 i j) * w (ix2 k j) : EReal) := by
  pointwise [k0_pay13]

theorem pay4_apply (d u v : FVec Ideal S256x1024 .f32) (w : Vec Ideal S512x1024 .bf16) (i : Fin 256) (k : Fin 512) :
    (k0_pay4 d u v w (ix2 i k) : EReal) = ∑ j : Fin 1024, (k0_pay3 d u v (ix2 i j) * w (ix2 k j) : EReal) := by
  pointwise [k0_pay4]

theorem pay7_apply (v : Vec Ideal S256x1024 .f32) (wo : Vec Ideal S1024x1024 .bf16) (g : Vec Ideal S256x1024 .f32) (y : Vec Ideal S256x512 .f32) (w : Vec Ideal S512x1024 .bf16)
    (i : Fin 256) (j : Fin 1024) :
    (k0_pay7 v wo g y w (ix2 i j) : EReal) =
      k0_pay5 v wo (ix2 i j) * (∑ k : Fin 512, (y (ix2 i k) * w (ix2 k j) : EReal)) * (logi (g (ix2 i j)) * (1 - logi (g (ix2 i j)))) := by
  rw [← pay6_apply, ← mul_assoc (G := EReal)]
  pointwise [k0_pay7]

theorem pay11_apply (d : FVec Ideal S256x1024 .f32) (g y : Vec Ideal S256x1024 .f32) (w : Vec Ideal S1024x1024 .bf16) (i : Fin 256) (j : Fin 1024) :
    (k0_pay11 d g y w (ix2 i j) : EReal) =
      d (ix2 i j) * (∑ k : Fin 1024, (y (ix2 i k) * w (ix2 k j) : EReal)) * (logi (g (ix2 i j)) * (1 - logi (g (ix2 i j)))) := by
  rw [← pay10_apply, ← mul_assoc (G := EReal)]
  pointwise [k0_pay11]

theorem pay2_apply (d : FVec Ideal S256x1024 .f32) (g : Vec Ideal S256x1024 .f32) (y : Vec Ideal S256x512 .f32) (w : Vec Ideal S512x1024 .bf16) (i : Fin 256) (j : Fin 1024) :
    (k0_pay2 d (k0_pay14 g) k0_pay15 y w (ix2 i j) : EReal) =
      d (ix2 i j) * (∑ k : Fin 512, (y (ix2 i k) * w (ix2 k j) : EReal)) * (logi (g (ix2 i j)) * (1 - logi (g (ix2 i j)))) := by
  rw [← pay1_apply, ← mul_assoc (G := EReal)]
  pointwise [k0_pay2]

/-- Grid point `t` reads and writes row block `t`, and the gates' columns. -/
theorem idx : ∀ t : Fin grid0.N, win0_0.index t = ![t.val, 0] ∧ win0_1.index t = ![t.val, 0] ∧ win0_2.index t = ![t.val, 0] ∧ win0_3.index t = ![t.val, 1] ∧
    win0_4.index t = ![t.val, 0] ∧ win0_5.index t = ![0, 0] ∧ win0_6.index t = ![0, 0] ∧ win0_7.index t = ![0, 0] ∧ win0_8.index t = ![0, 0] ∧
    win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] := by
  decide +kernel

/-- Row `256 b + i`. -/
def row (b : ℕ) (i : Fin 256) : Fin 4096 := ⟨(256 * b + i.val) % 4096, Nat.mod_lt _ (by decide)⟩

theorem emb0 (t : Fin cfg0.N) (i : Fin 256) (k : Fin 512) : (win0_0.blk t).view.emb (ix2 i k) = ((ix2 (row t.val i) k) : S4096x512.Idx) := by blk_ext [row, idx t]
theorem emb1 (t : Fin cfg0.N) (i : Fin 256) (k : Fin 1024) : (win0_1.blk t).view.emb (ix2 i k) = ((ix2 (row t.val i) k) : S4096x1024.Idx) := by blk_ext [row, idx t]
theorem emb2 (t : Fin cfg0.N) (i : Fin 256) (k : Fin 512) : (win0_2.blk t).view.emb (ix2 i k) = ((ix2 (row t.val i) k) : S4096x512.Idx) := by blk_ext [row, idx t]
theorem emb4 (t : Fin cfg0.N) (i : Fin 256) (k : Fin 1024) : (win0_4.blk t).view.emb (ix2 i k) = ((ix2 (row t.val i) k) : S4096x1024.Idx) := by blk_ext [row, idx t]
theorem emb5 (t : Fin cfg0.N) (k : Fin 512) (j : Fin 1024) : (win0_5.blk t).view.emb (ix2 k j) = ((ix2 k j) : S512x1024.Idx) := by blk_ext [idx t]
theorem emb6 (t : Fin cfg0.N) (k : Fin 1024) (j : Fin 1024) : (win0_6.blk t).view.emb (ix2 k j) = ((ix2 k j) : S1024x1024.Idx) := by blk_ext [idx t]
theorem emb7 (t : Fin cfg0.N) (k : Fin 512) (j : Fin 1024) : (win0_7.blk t).view.emb (ix2 k j) = ((ix2 k j) : S512x1024.Idx) := by blk_ext [idx t]
theorem emb8 (t : Fin cfg0.N) (k : Fin 1024) (j : Fin 1024) : (win0_8.blk t).view.emb (ix2 k j) = ((ix2 k j) : S1024x1024.Idx) := by blk_ext [idx t]
theorem emb9 (t : Fin cfg0.N) (i : Fin 256) (k : Fin 512) : (win0_9.blk t).view.emb (ix2 i k) = ((ix2 (row t.val i) k) : S4096x512.Idx) := by blk_ext [row, idx t]
theorem emb10 (t : Fin cfg0.N) (i : Fin 256) (k : Fin 1024) : (win0_10.blk t).view.emb (ix2 i k) = ((ix2 (row t.val i) k) : S4096x1024.Idx) := by blk_ext [row, idx t]
theorem emb11 (t : Fin cfg0.N) (i : Fin 256) (k : Fin 512) : (win0_11.blk t).view.emb (ix2 i k) = ((ix2 (row t.val i) k) : S4096x512.Idx) := by blk_ext [row, idx t]
theorem emb12 (t : Fin cfg0.N) (i : Fin 256) (k : Fin 3072) : (win0_12.blk t).view.emb (ix2 i k) = ((ix2 (row t.val i) k) : S4096x3072.Idx) := by blk_ext [row, idx t]
theorem emb13 (t : Fin cfg0.N) (i : Fin 256) (k : Fin 1024) : (win0_13.blk t).view.emb (ix2 i k) = ((ix2 (row t.val i) k) : S4096x1024.Idx) := by blk_ext [row, idx t]
theorem emb14 (t : Fin cfg0.N) (i : Fin 256) (k : Fin 1024) : (win0_14.blk t).view.emb (ix2 i k) = ((ix2 (row t.val i) k) : S4096x1024.Idx) := by blk_ext [row, idx t]
theorem emb15 (t : Fin cfg0.N) (i : Fin 256) (k : Fin 1024) : (win0_15.blk t).view.emb (ix2 i k) = ((ix2 (row t.val i) k) : S4096x1024.Idx) := by blk_ext [row, idx t]

variable (m : (ℓ : Loc nD τ sig) → Buf (Elt Ideal) ℓ) (c : Dev nD)

/-- The arguments. -/
abbrev A0 : FVec Ideal S4096x512 .f32 := m (c, Proc.tc.devRef main_arg0)
@[inherit_doc A0] abbrev A1 : FVec Ideal S4096x1024 .f32 := m (c, Proc.tc.devRef main_arg1)
@[inherit_doc A0] abbrev A2 : FVec Ideal S4096x512 .f32 := m (c, Proc.tc.devRef main_arg2)
@[inherit_doc A0] abbrev A3 : FVec Ideal S4096x6528 .f32 := m (c, Proc.tc.devRef main_arg3)
@[inherit_doc A0] abbrev A4 : FVec Ideal S4096x1024 .f32 := m (c, Proc.tc.devRef main_arg4)
@[inherit_doc A0] abbrev A5 : FVec Ideal S512x1024 .f32 := m (c, Proc.tc.devRef main_arg5)
@[inherit_doc A0] abbrev A6 : FVec Ideal S1024x1024 .f32 := m (c, Proc.tc.devRef main_arg6)
@[inherit_doc A0] abbrev A7 : FVec Ideal S512x1024 .f32 := m (c, Proc.tc.devRef main_arg7)
@[inherit_doc A0] abbrev A8 : FVec Ideal S1024x1024 .f32 := m (c, Proc.tc.devRef main_arg8)

theorem staged5 : (V m c main_v0 : S512x1024.Idx → EReal) = truncf .bf16 (A5 m c) bitsLt_bf16_f32 := by
  unfold V
  after_reads_simp
  all_goals try simp -implicitDefEqProofs only [StableHlo.TRef.toBuf, StableHlo.TRef.ofBuf, cast_cast, cast_eq]
  all_goals clean_types

theorem staged6 : (V m c main_v1 : S1024x1024.Idx → EReal) = truncf .bf16 (A6 m c) bitsLt_bf16_f32 := by
  unfold V
  after_reads_simp
  all_goals try simp -implicitDefEqProofs only [StableHlo.TRef.toBuf, StableHlo.TRef.ofBuf, cast_cast, cast_eq]
  all_goals clean_types

theorem staged7 : (V m c main_v2 : S512x1024.Idx → EReal) = truncf .bf16 (A7 m c) bitsLt_bf16_f32 := by
  unfold V
  after_reads_simp
  all_goals try simp -implicitDefEqProofs only [StableHlo.TRef.toBuf, StableHlo.TRef.ofBuf, cast_cast, cast_eq]
  all_goals clean_types

theorem staged8 : (V m c main_v3 : S1024x1024.Idx → EReal) = truncf .bf16 (A8 m c) bitsLt_bf16_f32 := by
  unfold V
  after_reads_simp
  all_goals try simp -implicitDefEqProofs only [StableHlo.TRef.toBuf, StableHlo.TRef.ofBuf, cast_cast, cast_eq]
  all_goals clean_types

theorem iblk0 (t : Fin cfg0.N) (i : Fin 256) (k : Fin 512) : (iblk m c 0 t (ix2 i k) : EReal) = A0 m c (ix2 (row t.val i) k) :=
  (congrArg (V m c main_arg0 : S4096x512.Idx → EReal) (emb0 t i k)).trans (congrFun (V_main_arg0 m c) _)
theorem iblk1 (t : Fin cfg0.N) (i : Fin 256) (k : Fin 1024) : (iblk m c 1 t (ix2 i k) : EReal) = A1 m c (ix2 (row t.val i) k) :=
  (congrArg (V m c main_arg1 : S4096x1024.Idx → EReal) (emb1 t i k)).trans (congrFun (V_main_arg1 m c) _)
theorem iblk2 (t : Fin cfg0.N) (i : Fin 256) (k : Fin 512) : (iblk m c 2 t (ix2 i k) : EReal) = A2 m c (ix2 (row t.val i) k) :=
  (congrArg (V m c main_arg2 : S4096x512.Idx → EReal) (emb2 t i k)).trans (congrFun (V_main_arg2 m c) _)
theorem iblk4 (t : Fin cfg0.N) (i : Fin 256) (k : Fin 1024) : (iblk m c 4 t (ix2 i k) : EReal) = A4 m c (ix2 (row t.val i) k) :=
  (congrArg (V m c main_arg4 : S4096x1024.Idx → EReal) (emb4 t i k)).trans (congrFun (V_main_arg4 m c) _)
theorem iblk5 (t : Fin cfg0.N) (k : Fin 512) (j : Fin 1024) : (iblk m c 5 t (ix2 k j) : EReal) = A5 m c (ix2 k j) :=
  (congrArg (V m c main_v0 : S512x1024.Idx → EReal) (emb5 t k j)).trans (congrFun (staged5 m c) _)
theorem iblk6 (t : Fin cfg0.N) (k : Fin 1024) (j : Fin 1024) : (iblk m c 6 t (ix2 k j) : EReal) = A6 m c (ix2 k j) :=
  (congrArg (V m c main_v1 : S1024x1024.Idx → EReal) (emb6 t k j)).trans (congrFun (staged6 m c) _)
theorem iblk7 (t : Fin cfg0.N) (k : Fin 512) (j : Fin 1024) : (iblk m c 7 t (ix2 k j) : EReal) = A7 m c (ix2 k j) :=
  (congrArg (V m c main_v2 : S512x1024.Idx → EReal) (emb7 t k j)).trans (congrFun (staged7 m c) _)
theorem iblk8 (t : Fin cfg0.N) (k : Fin 1024) (j : Fin 1024) : (iblk m c 8 t (ix2 k j) : EReal) = A8 m c (ix2 k j) :=
  (congrArg (V m c main_v3 : S1024x1024.Idx → EReal) (emb8 t k j)).trans (congrFun (staged8 m c) _)

/-- The gates' columns a point reads. -/
theorem gates_apply (t : Fin cfg0.N) (b : Fin 3) (i : Fin 256) (j : Fin 1024) : (gates (X0_3 m c t) b (ix2 i j) : EReal) = A3 m c (ix2 (row t.val i) (gcol b j)) := by
  unfold gates X0_3 Pipeline.Window.fill
  rw [dif_pos (moved0_3 t _)]
  refine Eq.trans (congrArg (V m c main_arg3 : S4096x6528.Idx → EReal) ?_) (congrFun (V_main_arg3 m c) _)
  blk_ext [row, gcol, idx t]

/-- Arrays as functions of their row and column. -/
abbrev T {a b : ℕ} (x : (Shape.mk 2 ![a, b]).Idx → EReal) (i : Fin a) (j : Fin b) : EReal := x (ix2 i j)

/-- The gradient of a branch's product. -/
def dt (b : Fin 3) (x3 : FVec Ideal S4096x6528 .f32) (x4 : FVec Ideal S4096x1024 .f32) (x8 : FVec Ideal S1024x1024 .f32) : S4096x1024.Idx → EReal :=
  fun y => dtBranch (T x3) (T x8) (T x4) b (y 0) (y 1)

/-- The gradient of a branch of 512 columns. -/
def dyNarrow (b : Fin 3) (x3 : FVec Ideal S4096x6528 .f32) (x4 : FVec Ideal S4096x1024 .f32) (w : FVec Ideal S512x1024 .f32) (x8 : FVec Ideal S1024x1024 .f32) :
    S4096x512.Idx → EReal := fun y => dyBranch (T x3) (T x8) (T w) (T x4) b (y 0) (y 1)

/-- The gradient of the branch of 1024 columns. -/
def dyWide (x3 : FVec Ideal S4096x6528 .f32) (x4 : FVec Ideal S4096x1024 .f32) (w : FVec Ideal S1024x1024 .f32) (x8 : FVec Ideal S1024x1024 .f32) :
    S4096x1024.Idx → EReal := fun y => dyBranch (T x3) (T x8) (T w) (T x4) 1 (y 0) (y 1)

/-- The gradient of the gates. -/
def dg (x0 : FVec Ideal S4096x512 .f32) (x1 : FVec Ideal S4096x1024 .f32) (x2 : FVec Ideal S4096x512 .f32) (x3 : FVec Ideal S4096x6528 .f32)
    (x4 : FVec Ideal S4096x1024 .f32) (x5 : FVec Ideal S512x1024 .f32) (x6 : FVec Ideal S1024x1024 .f32) (x7 : FVec Ideal S512x1024 .f32)
    (x8 : FVec Ideal S1024x1024 .f32) : S4096x3072.Idx → EReal :=
  fun y => dgates (T x0) (T x1) (T x2) (T x3) (T x5) (T x6) (T x7) (T x8) (T x4) (y 0) (y 1)

/-- The gradient of the merged sum of a point's rows. -/
theorem point_dm (t : Fin cfg0.N) (i : Fin 256) (j : Fin 1024) :
    (k0_pay5 (iblk m c 4 t) (iblk m c 8 t) (ix2 i j) : EReal) = prodT (T (A4 m c) (row t.val i)) (T (A8 m c)) j := by
  rw [pay5_apply]
  simp only [iblk4, iblk8]
  rfl

theorem point_dt0 (t : Fin cfg0.N) (i : Fin 256) (j : Fin 1024) :
    (k0_pay8 (iblk m c 4 t) (iblk m c 8 t) (gates (X0_3 m c t) 0) (ix2 i j) : EReal) = dtBranch (T (A3 m c)) (T (A8 m c)) (T (A4 m c)) 0 (row t.val i) j := by
  rw [pay8_apply, point_dm, gates_apply]
  rfl

theorem point_dt1 (t : Fin cfg0.N) (i : Fin 256) (j : Fin 1024) :
    (k0_pay12 (k0_pay5 (iblk m c 4 t) (iblk m c 8 t)) (gates (X0_3 m c t) 1) (ix2 i j) : EReal) = dtBranch (T (A3 m c)) (T (A8 m c)) (T (A4 m c)) 1 (row t.val i) j := by
  rw [pay12_apply, point_dm, gates_apply]
  rfl

theorem point_dt2 (t : Fin cfg0.N) (i : Fin 256) (j : Fin 1024) :
    (k0_pay3 (k0_pay5 (iblk m c 4 t) (iblk m c 8 t)) (k0_pay14 (gates (X0_3 m c t) 2)) k0_pay15 (ix2 i j) : EReal) = dtBranch (T (A3 m c)) (T (A8 m c)) (T (A4 m c)) 2 (row t.val i) j := by
  rw [pay3_apply, point_dm, gates_apply]
  rfl

theorem dt0_eq : (dats m 0 c).arrAt 13 cfg0.N = dt 0 (A3 m c) (A4 m c) (A8 m c) := by
  refine (dats m 0 c).arrAt_eq_of_covers 13 _ (by decide +kernel) fun t hf y => ?_
  have e := congrFun (Value.flushed13_A m c t) y
  rw [out_ta] at e
  blk_simp [idx t]
  refine Eq.trans e ?_
  obtain ⟨i, j, rfl⟩ : ∃ (i : Fin 256) (j : Fin 1024), y = ix2 i j := ⟨y 0, y 1, by funext a; fin_cases a <;> rfl⟩
  refine Eq.trans ?_ (congrArg (dt 0 (A3 m c) (A4 m c) (A8 m c)) (emb13 t i j)).symm
  exact point_dt0 m c t i j

theorem dt1_eq : (dats m 0 c).arrAt 14 cfg0.N = dt 1 (A3 m c) (A4 m c) (A8 m c) := by
  refine (dats m 0 c).arrAt_eq_of_covers 14 _ (by decide +kernel) fun t hf y => ?_
  have e := congrFun (Value.flushed14_A m c t) y
  rw [out_tb] at e
  blk_simp [idx t]
  refine Eq.trans e ?_
  obtain ⟨i, j, rfl⟩ : ∃ (i : Fin 256) (j : Fin 1024), y = ix2 i j := ⟨y 0, y 1, by funext a; fin_cases a <;> rfl⟩
  refine Eq.trans ?_ (congrArg (dt 1 (A3 m c) (A4 m c) (A8 m c)) (emb14 t i j)).symm
  exact point_dt1 m c t i j

theorem dt2_eq : (dats m 0 c).arrAt 15 cfg0.N = dt 2 (A3 m c) (A4 m c) (A8 m c) := by
  refine (dats m 0 c).arrAt_eq_of_covers 15 _ (by decide +kernel) fun t hf y => ?_
  have e := congrFun (Value.flushed15_A m c t) y
  rw [out_tc] at e
  blk_simp [idx t]
  refine Eq.trans e ?_
  obtain ⟨i, j, rfl⟩ : ∃ (i : Fin 256) (j : Fin 1024), y = ix2 i j := ⟨y 0, y 1, by funext a; fin_cases a <;> rfl⟩
  refine Eq.trans ?_ (congrArg (dt 2 (A3 m c) (A4 m c) (A8 m c)) (emb15 t i j)).symm
  exact point_dt2 m c t i j

theorem dy0_eq : (dats m 0 c).arrAt 9 cfg0.N = dyNarrow 0 (A3 m c) (A4 m c) (A5 m c) (A8 m c) := by
  refine (dats m 0 c).arrAt_eq_of_covers 9 _ (by decide +kernel) fun t hf y => ?_
  have e := congrFun (Value.flushed9_A m c t) y
  rw [out_dya] at e
  blk_simp [idx t]
  refine Eq.trans e ?_
  obtain ⟨i, j, rfl⟩ : ∃ (i : Fin 256) (j : Fin 512), y = ix2 i j := ⟨y 0, y 1, by funext a; fin_cases a <;> rfl⟩
  refine Eq.trans ?_ (congrArg (dyNarrow 0 (A3 m c) (A4 m c) (A5 m c) (A8 m c)) (emb9 t i j)).symm
  refine (pay9_apply _ _ _ _ i j).trans ?_
  simp only [point_dt0, iblk5]
  rfl

theorem dy1_eq : (dats m 0 c).arrAt 10 cfg0.N = dyWide (A3 m c) (A4 m c) (A6 m c) (A8 m c) := by
  refine (dats m 0 c).arrAt_eq_of_covers 10 _ (by decide +kernel) fun t hf y => ?_
  have e := congrFun (Value.flushed10_A m c t) y
  rw [out_dyb] at e
  blk_simp [idx t]
  refine Eq.trans e ?_
  obtain ⟨i, j, rfl⟩ : ∃ (i : Fin 256) (j : Fin 1024), y = ix2 i j := ⟨y 0, y 1, by funext a; fin_cases a <;> rfl⟩
  refine Eq.trans ?_ (congrArg (dyWide (A3 m c) (A4 m c) (A6 m c) (A8 m c)) (emb10 t i j)).symm
  refine (pay13_apply _ _ _ i j).trans ?_
  simp only [point_dt1, iblk6]
  rfl

theorem dy2_eq : (dats m 0 c).arrAt 11 cfg0.N = dyNarrow 2 (A3 m c) (A4 m c) (A7 m c) (A8 m c) := by
  refine (dats m 0 c).arrAt_eq_of_covers 11 _ (by decide +kernel) fun t hf y => ?_
  have e := congrFun (Value.flushed11_A m c t) y
  rw [out_dyc] at e
  blk_simp [idx t]
  refine Eq.trans e ?_
  obtain ⟨i, j, rfl⟩ : ∃ (i : Fin 256) (j : Fin 512), y = ix2 i j := ⟨y 0, y 1, by funext a; fin_cases a <;> rfl⟩
  refine Eq.trans ?_ (congrArg (dyNarrow 2 (A3 m c) (A4 m c) (A7 m c) (A8 m c)) (emb11 t i j)).symm
  refine (pay4_apply _ _ _ _ i j).trans ?_
  simp only [point_dt2, iblk7]
  rfl

theorem dg_eq : (dats m 0 c).arrAt 12 cfg0.N = dg (A0 m c) (A1 m c) (A2 m c) (A3 m c) (A4 m c) (A5 m c) (A6 m c) (A7 m c) (A8 m c) := by
  refine (dats m 0 c).arrAt_eq_of_covers 12 _ (by decide +kernel) fun t hf y => ?_
  have e := congrFun (Value.flushed12_A m c t) y
  blk_simp [idx t]
  refine Eq.trans e ?_
  obtain ⟨i, j, rfl⟩ : ∃ (i : Fin 256) (j : Fin 3072), y = ix2 i j := ⟨y 0, y 1, by funext a; fin_cases a <;> rfl⟩
  refine Eq.trans ?_ (congrArg (dg (A0 m c) (A1 m c) (A2 m c) (A3 m c) (A4 m c) (A5 m c) (A6 m c) (A7 m c) (A8 m c)) (emb12 t i j)).symm
  refine (out_dg c _ _ _ _ _ _ _ _ _ _ _ _ _ _ _ _ _ _ _ _ _ _ _ _ _ _ _ _ _ _ _ _ _ _ _ _ _ _ _ _ _ _ i j).trans ?_
  rw [pay7_apply, pay11_apply, pay2_apply]
  simp only [point_dm, gates_apply, iblk0, iblk1, iblk2, iblk5, iblk6, iblk7]
  rfl

section reference

open Cert.Reference14Ideal.Read
variable (x0 : FVec Ideal S4096x512 .f32) (x1 : FVec Ideal S4096x1024 .f32) (x2 : FVec Ideal S4096x512 .f32) (x3 : FVec Ideal S4096x6528 .f32)
  (x4 : FVec Ideal S4096x1024 .f32) (x5 : FVec Ideal S512x1024 .f32) (x6 : FVec Ideal S1024x1024 .f32) (x7 : FVec Ideal S512x1024 .f32) (x8 : FVec Ideal S1024x1024 .f32)

theorem ref_logi (s : Fin 4096) (j : Fin 3072) : (val_main_v9 (F := Ideal) x3 (ix2 s j) : EReal) = logi (x3 (ix2 s (⟨3072 + j.val, by omega⟩ : Fin 6528))) := by
  rw [val_main_v9_apply, val_main_v8_apply, val_main_v7_apply, val_main_v6_apply, val_main_v5_apply, val_main_v4_apply, val_main_v0_apply,
    val_main_cst_apply, val_main_cst_0_apply]
  have e : idx_main_v0 (ix2 s j) = ix2 s (⟨3072 + j.val, by omega⟩ : Fin 6528) := funext fun a => by fin_cases a <;> rfl
  rw [e]
  pointwise [logi]
  rw [zero_sub]

theorem ref_gate (b : Fin 3) (s : Fin 4096) (j : Fin 1024) (e : Cert.Reference14Ideal.S4096x3072.Idx) (h0 : (e 0).val = s.val) (h1 : (e 1).val = 1024 * b.val + j.val) :
    (val_main_v9 (F := Ideal) x3 e : EReal) = gate (T x3) b s j := by
  have he : e = ix2 s (⟨1024 * b.val + j.val, by omega⟩ : Fin 3072) := funext fun a => by fin_cases a; exacts [Fin.ext h0, Fin.ext h1]
  rw [he]
  refine (ref_logi x3 s _).trans ?_
  unfold gate T
  exact congrArg (fun k => logi (x3 (ix2 s k))) (Fin.ext (by simp only [gcol]; omega))

theorem ref_dm (s : Fin 4096) (j : Fin 1024) : (val_main_v22 (F := Ideal) x4 x8 (ix2 s j) : EReal) = prodT (T x4 s) (T x8) j := by
  rw [val_main_v22_apply]
  refine Finset.sum_congr rfl fun k _ => congrArg₂ (· * · : EReal → EReal → EReal) ?_ ?_
  · exact congrArg x4 (funext fun a => by fin_cases a <;> rfl)
  · exact congrArg x8 (funext fun a => by fin_cases a <;> rfl)

theorem ref_dt0 (s : Fin 4096) (j : Fin 1024) : (val_main_v27 (F := Ideal) x3 x4 x8 (ix2 s j) : EReal) = dtBranch (T x3) (T x8) (T x4) 0 s j := by
  rw [val_main_v27_apply, val_main_v13_apply, ref_gate x3 0 s j _ rfl (by simp [ix2]), ref_dm]
  exact mul_comm _ _

theorem ref_dt1 (s : Fin 4096) (j : Fin 1024) : (val_main_v25 (F := Ideal) x3 x4 x8 (ix2 s j) : EReal) = dtBranch (T x3) (T x8) (T x4) 1 s j := by
  rw [val_main_v25_apply, val_main_v14_apply, ref_gate x3 1 s j _ rfl (by simp [ix2]), ref_dm]
  exact mul_comm _ _

theorem ref_dt2 (s : Fin 4096) (j : Fin 1024) : (val_main_v23 (F := Ideal) x3 x4 x8 (ix2 s j) : EReal) = dtBranch (T x3) (T x8) (T x4) 2 s j := by
  rw [val_main_v23_apply, val_main_v15_apply, ref_gate x3 2 s j _ rfl (by simp [ix2]), ref_dm]
  exact mul_comm _ _

theorem reference_dt0 : val_main_v44 (F := Ideal) x3 x4 x8 = dt 0 x3 x4 x8 := by
  funext y
  obtain ⟨s, j, rfl⟩ : ∃ (s : Fin 4096) (j : Fin 1024), y = ix2 s j := ⟨y 0, y 1, by funext a; fin_cases a <;> rfl⟩
  exact (val_main_v44_apply _ _ _ _).trans (ref_dt0 x3 x4 x8 s j)

theorem reference_dt1 : val_main_v45 (F := Ideal) x3 x4 x8 = dt 1 x3 x4 x8 := by
  funext y
  obtain ⟨s, j, rfl⟩ : ∃ (s : Fin 4096) (j : Fin 1024), y = ix2 s j := ⟨y 0, y 1, by funext a; fin_cases a <;> rfl⟩
  exact (val_main_v45_apply _ _ _ _).trans (ref_dt1 x3 x4 x8 s j)

theorem reference_dt2 : val_main_v46 (F := Ideal) x3 x4 x8 = dt 2 x3 x4 x8 := by
  funext y
  obtain ⟨s, j, rfl⟩ : ∃ (s : Fin 4096) (j : Fin 1024), y = ix2 s j := ⟨y 0, y 1, by funext a; fin_cases a <;> rfl⟩
  exact (val_main_v46_apply _ _ _ _).trans (ref_dt2 x3 x4 x8 s j)

theorem reference_dy0 : val_main_v34 (F := Ideal) x3 x4 x5 x8 = dyNarrow 0 x3 x4 x5 x8 := by
  funext y
  obtain ⟨s, j, rfl⟩ : ∃ (s : Fin 4096) (j : Fin 512), y = ix2 s j := ⟨y 0, y 1, by funext a; fin_cases a <;> rfl⟩
  rw [val_main_v34_apply]
  refine Finset.sum_congr rfl fun k _ => congrArg₂ (· * · : EReal → EReal → EReal) ?_ ?_
  · exact (congrArg (val_main_v27 (F := Ideal) x3 x4 x8) (funext fun a => by fin_cases a <;> rfl)).trans (ref_dt0 x3 x4 x8 s k)
  · exact congrArg x5 (funext fun a => by fin_cases a <;> rfl)

theorem reference_dy1 : val_main_v38 (F := Ideal) x3 x4 x6 x8 = dyWide x3 x4 x6 x8 := by
  funext y
  obtain ⟨s, j, rfl⟩ : ∃ (s : Fin 4096) (j : Fin 1024), y = ix2 s j := ⟨y 0, y 1, by funext a; fin_cases a <;> rfl⟩
  rw [val_main_v38_apply]
  refine Finset.sum_congr rfl fun k _ => congrArg₂ (· * · : EReal → EReal → EReal) ?_ ?_
  · exact (congrArg (val_main_v25 (F := Ideal) x3 x4 x8) (funext fun a => by fin_cases a <;> rfl)).trans (ref_dt1 x3 x4 x8 s k)
  · exact congrArg x6 (funext fun a => by fin_cases a <;> rfl)

theorem reference_dy2 : val_main_v42 (F := Ideal) x3 x4 x7 x8 = dyNarrow 2 x3 x4 x7 x8 := by
  funext y
  obtain ⟨s, j, rfl⟩ : ∃ (s : Fin 4096) (j : Fin 512), y = ix2 s j := ⟨y 0, y 1, by funext a; fin_cases a <;> rfl⟩
  rw [val_main_v42_apply]
  refine Finset.sum_congr rfl fun k _ => congrArg₂ (· * · : EReal → EReal → EReal) ?_ ?_
  · exact (congrArg (val_main_v23 (F := Ideal) x3 x4 x8) (funext fun a => by fin_cases a <;> rfl)).trans (ref_dt2 x3 x4 x8 s k)
  · exact congrArg x7 (funext fun a => by fin_cases a <;> rfl)

theorem ref_back0 (s : Fin 4096) (j : Fin 1024) : (val_main_v28 (F := Ideal) x0 x4 x5 x8 (ix2 s j) : EReal) = prodT (T x4 s) (T x8) j * prod (T x0 s) (T x5) j := by
  rw [val_main_v28_apply, ref_dm, val_main_v1_apply]
  refine congrArg (_ * · : EReal → EReal) (Finset.sum_congr rfl fun k _ => congrArg₂ (· * · : EReal → EReal → EReal) ?_ ?_)
  · exact congrArg x0 (funext fun a => by fin_cases a <;> rfl)
  · exact congrArg x5 (funext fun a => by fin_cases a <;> rfl)

theorem ref_back1 (s : Fin 4096) (j : Fin 1024) : (val_main_v26 (F := Ideal) x1 x4 x6 x8 (ix2 s j) : EReal) = prodT (T x4 s) (T x8) j * prod (T x1 s) (T x6) j := by
  rw [val_main_v26_apply, ref_dm, val_main_v2_apply]
  refine congrArg (_ * · : EReal → EReal) (Finset.sum_congr rfl fun k _ => congrArg₂ (· * · : EReal → EReal → EReal) ?_ ?_)
  · exact congrArg x1 (funext fun a => by fin_cases a <;> rfl)
  · exact congrArg x6 (funext fun a => by fin_cases a <;> rfl)

theorem ref_back2 (s : Fin 4096) (j : Fin 1024) : (val_main_v24 (F := Ideal) x2 x4 x7 x8 (ix2 s j) : EReal) = prodT (T x4 s) (T x8) j * prod (T x2 s) (T x7) j := by
  rw [val_main_v24_apply, ref_dm, val_main_v3_apply]
  refine congrArg (_ * · : EReal → EReal) (Finset.sum_congr rfl fun k _ => congrArg₂ (· * · : EReal → EReal → EReal) ?_ ?_)
  · exact congrArg x2 (funext fun a => by fin_cases a <;> rfl)
  · exact congrArg x7 (funext fun a => by fin_cases a <;> rfl)

/-- Three arrays side by side, read at an index. -/
theorem joined (u0 u1 u2 : Cert.Reference14Ideal.S4096x1024.Idx → EReal)
    (h : Shape.Concatenates [Cert.Reference14Ideal.S4096x1024, Cert.Reference14Ideal.S4096x1024, Cert.Reference14Ideal.S4096x1024] Cert.Reference14Ideal.S4096x3072 1)
    (s : Fin 4096) (q : Fin 3072) :
    concatenate Cert.Reference14Ideal.S4096x3072 1 [⟨Cert.Reference14Ideal.S4096x1024, u0⟩, ⟨Cert.Reference14Ideal.S4096x1024, u1⟩, ⟨Cert.Reference14Ideal.S4096x1024, u2⟩] h (ix2 s q) =
      if q.val < 1024 then u0 (ix2 s (⟨q.val % 1024, Nat.mod_lt _ (by decide)⟩ : Fin 1024))
      else if q.val < 2048 then u1 (ix2 s (⟨q.val % 1024, Nat.mod_lt _ (by decide)⟩ : Fin 1024))
      else u2 (ix2 s (⟨q.val % 1024, Nat.mod_lt _ (by decide)⟩ : Fin 1024)) := by
  have hq := q.isLt
  refine (concatenate_apply _ _ _ _ _).trans ((concatenateAt_cons _ _ _ _ _ _ _ _).trans ?_)
  by_cases c1 : q.val < 1024
  · rw [if_pos c1]
    refine (dif_pos c1).trans (congrArg u0 ?_)
    rw [Shape.Idx.norm_def]
    funext a
    fin_cases a
    · rfl
    · exact Fin.ext (by show q.val = q.val % 1024; omega)
  · rw [if_neg c1]
    refine (dif_neg c1).trans ((concatenateAt_cons _ _ _ _ _ _ _ _).trans ?_)
    by_cases c2 : q.val < 2048
    · rw [if_pos c2]
      refine (dif_pos (show q.val - 1024 < 1024 by omega)).trans (congrArg u1 ?_)
      rw [Shape.Idx.norm_def]
      funext a
      fin_cases a
      · rfl
      · exact Fin.ext (by show q.val - 1024 = q.val % 1024; omega)
    · rw [if_neg c2]
      refine (dif_neg (show ¬q.val - 1024 < 1024 by omega)).trans ((concatenateAt_singleton _ _ _ _ _ _).trans (congrArg u2 ?_))
      rw [Shape.Idx.norm_def]
      funext a
      fin_cases a
      · rfl
      · exact Fin.ext (by show q.val - 1024 - 1024 = q.val % 1024; omega)

theorem ref_parts (s : Fin 4096) (q : Fin 3072) : (val_main_v29 (F := Ideal) x0 x1 x2 x4 x5 x6 x7 x8 (ix2 s q) : EReal) =
    if q.val < 1024 then prodT (T x4 s) (T x8) (⟨q.val % 1024, Nat.mod_lt _ (by decide)⟩ : Fin 1024) * prod (T x0 s) (T x5) (⟨q.val % 1024, Nat.mod_lt _ (by decide)⟩ : Fin 1024)
    else if q.val < 2048 then prodT (T x4 s) (T x8) (⟨q.val % 1024, Nat.mod_lt _ (by decide)⟩ : Fin 1024) * prod (T x1 s) (T x6) (⟨q.val % 1024, Nat.mod_lt _ (by decide)⟩ : Fin 1024)
    else prodT (T x4 s) (T x8) (⟨q.val % 1024, Nat.mod_lt _ (by decide)⟩ : Fin 1024) * prod (T x2 s) (T x7) (⟨q.val % 1024, Nat.mod_lt _ (by decide)⟩ : Fin 1024) := by
  rw [← ref_back0, ← ref_back1, ← ref_back2]
  unfold val_main_v29
  exact joined _ _ _ _ s q

theorem reference_dg : val_main_v43 (F := Ideal) x0 x1 x2 x3 x4 x5 x6 x7 x8 = dg x0 x1 x2 x3 x4 x5 x6 x7 x8 := by
  funext y
  obtain ⟨s, j, rfl⟩ : ∃ (s : Fin 4096) (j : Fin 3072), y = ix2 s j := ⟨y 0, y 1, by funext a; fin_cases a <;> rfl⟩
  refine (val_main_v43_apply _ _ _ _ _ _ _ _ _ _).trans ?_
  show (val_main_v30 (F := Ideal) x0 x1 x2 x3 x4 x5 x6 x7 x8 (ix2 s j) : EReal) = _
  have hj := j.isLt
  rw [val_main_v30_apply, val_main_v12_apply, val_main_v11_apply, val_main_v10_apply, val_main_cst_1_apply]
  refine (congrArg (· * _ : EReal → EReal) (ref_parts x0 x1 x2 x4 x5 x6 x7 x8 s j)).trans ?_
  show _ = dgates _ _ _ _ _ _ _ _ _ s j
  unfold dgates dgBranch
  split_ifs with c1 c2
  · rw [ref_gate x3 0 s ⟨j.val % 1024, Nat.mod_lt _ (by decide)⟩ (ix2 s j) rfl (by show j.val = 1024 * 0 + j.val % 1024; omega)]
    refine congrArg₂ (· * · : EReal → EReal → EReal) rfl ?_
    pointwise
  · rw [ref_gate x3 1 s ⟨j.val % 1024, Nat.mod_lt _ (by decide)⟩ (ix2 s j) rfl (by show j.val = 1024 * 1 + j.val % 1024; omega)]
    refine congrArg₂ (· * · : EReal → EReal → EReal) rfl ?_
    pointwise
  · rw [ref_gate x3 2 s ⟨j.val % 1024, Nat.mod_lt _ (by decide)⟩ (ix2 s j) rfl (by show j.val = 1024 * 2 + j.val % 1024; omega)]
    refine congrArg₂ (· * · : EReal → EReal → EReal) rfl ?_
    pointwise

end reference

end Cert.Kernel14Ideal.MergeBwd

namespace Cert.Proof

theorem frame_reference14 : Cert.quiescent_Reference14Ideal := fun m ρ _ =>
  (θ_run Cert.Reference14Ideal.defs _ _).mono (fun r h => ⟨fun c => (h c).2.2.2.2.2.2.2, sem_eq_zero_of_no_sems (by decide) r.2⟩)
    (Cert.Reference14Ideal.Value.run (F := Ideal) m ρ)

open Cert.Kernel14Ideal.MergeBwd in
theorem algebraic_mergebwd : Cert.algebraic_Kernel14Ideal_Reference14Ideal := by
  intro m ρ m' ρ' _ hagree
  refine ⟨fun c => dyNarrow 0 (A3 m c) (A4 m c) (A5 m c) (A8 m c), fun c => dyWide (A3 m c) (A4 m c) (A6 m c) (A8 m c), fun c => dyNarrow 2 (A3 m c) (A4 m c) (A7 m c) (A8 m c), fun c => dg (A0 m c) (A1 m c) (A2 m c) (A3 m c) (A4 m c) (A5 m c) (A6 m c) (A7 m c) (A8 m c), fun c => dt 0 (A3 m c) (A4 m c) (A8 m c), fun c => dt 1 (A3 m c) (A4 m c) (A8 m c), fun c => dt 2 (A3 m c) (A4 m c) (A8 m c), ?_, ?_⟩
  · refine (θ_run Cert.Kernel14Ideal.defs _ _).mono (fun r h c => ?_) (Cert.Kernel14Ideal.Value.run_blocks (F := Ideal) m ρ)
    exact ⟨(h c).1.trans (dy0_eq m c), (h c).2.1.trans (dy1_eq m c), (h c).2.2.1.trans (dy2_eq m c), (h c).2.2.2.1.trans (dg_eq m c), (h c).2.2.2.2.1.trans (dt0_eq m c), (h c).2.2.2.2.2.1.trans (dt1_eq m c), (h c).2.2.2.2.2.2.1.trans (dt2_eq m c), (h c).2.2.2.2.2.2.2⟩
  · refine (θ_run Cert.Reference14Ideal.defs _ _).mono (fun r h c => ⟨?_, ?_, ?_, ?_, ?_, ?_, ?_, (h c).2.2.2.2.2.2.2⟩) (Cert.Reference14Ideal.Value.run (F := Ideal) m' ρ')
    · refine (h c).1.trans ((Cert.Reference14Ideal.Read.val_main_v34_eq _ _ _ _).trans ?_)
      obtain ⟨e0, e1, e2, e3, e4, e5, e6, e7, e8⟩ := hagree c
      rw [e3, e4, e5, e8]
      exact reference_dy0 _ _ _ _
    · refine (h c).2.1.trans ((Cert.Reference14Ideal.Read.val_main_v38_eq _ _ _ _).trans ?_)
      obtain ⟨e0, e1, e2, e3, e4, e5, e6, e7, e8⟩ := hagree c
      rw [e3, e4, e6, e8]
      exact reference_dy1 _ _ _ _
    · refine (h c).2.2.1.trans ((Cert.Reference14Ideal.Read.val_main_v42_eq _ _ _ _).trans ?_)
      obtain ⟨e0, e1, e2, e3, e4, e5, e6, e7, e8⟩ := hagree c
      rw [e3, e4, e7, e8]
      exact reference_dy2 _ _ _ _
    · refine (h c).2.2.2.1.trans ((Cert.Reference14Ideal.Read.val_main_v43_eq _ _ _ _ _ _ _ _ _).trans ?_)
      obtain ⟨e0, e1, e2, e3, e4, e5, e6, e7, e8⟩ := hagree c
      rw [e0, e1, e2, e3, e4, e5, e6, e7, e8]
      exact reference_dg _ _ _ _ _ _ _ _ _
    · refine (h c).2.2.2.2.1.trans ((Cert.Reference14Ideal.Read.val_main_v44_eq _ _ _).trans ?_)
      obtain ⟨e0, e1, e2, e3, e4, e5, e6, e7, e8⟩ := hagree c
      rw [e3, e4, e8]
      exact reference_dt0 _ _ _
    · refine (h c).2.2.2.2.2.1.trans ((Cert.Reference14Ideal.Read.val_main_v45_eq _ _ _).trans ?_)
      obtain ⟨e0, e1, e2, e3, e4, e5, e6, e7, e8⟩ := hagree c
      rw [e3, e4, e8]
      exact reference_dt1 _ _ _
    · refine (h c).2.2.2.2.2.2.1.trans ((Cert.Reference14Ideal.Read.val_main_v46_eq _ _ _).trans ?_)
      obtain ⟨e0, e1, e2, e3, e4, e5, e6, e7, e8⟩ := hagree c
      rw [e3, e4, e8]
      exact reference_dt2 _ _ _

end Cert.Proof
-- ==== Proof.lean ====
/-
  The whole claim: the frames of the calls and their references, that naming the mask constant preserves the attention kernels,
  and that each call gives its reference's arrays.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Dq
public import proofs.«01_k».proof.Proof.Dkv
public import proofs.«01_k».proof.Proof.Dwin
public import proofs.«01_k».proof.Proof.Dwout
public import proofs.«01_k».proof.Proof.ProjIn
public import proofs.«01_k».proof.Proof.ProjGrad
public import proofs.«01_k».proof.Proof.OutGrad
public import proofs.«01_k».proof.Proof.BranchGrad
public import proofs.«01_k».proof.Proof.FfnRef
public import proofs.«01_k».proof.Proof.FfnSecond
public import proofs.«01_k».proof.Proof.ProjFwd
public import proofs.«01_k».proof.Proof.BranchBGrad
public import proofs.«01_k».proof.Proof.MergeFwd
public import proofs.«01_k».proof.Proof.MergeBwd
public import Idealize.ShloMosaic.Adequacy
public import Idealize.ShloMosaic.Init

@[expose] public section

noncomputable section

namespace Cert.Proof

open Idealize.ShloMosaic Idealize.SL.Sem Cert.Kernel

theorem claim : Cert.Claim :=
    ⟨Cert.Kernel.Gen.facts, Cert.KernelIdeal.Gen.facts, Cert.ReferenceIdeal.Gen.facts,
      Cert.Kernel2.Gen.facts, Cert.Kernel2Ideal.Gen.facts, Cert.Reference2Ideal.Gen.facts,
      Cert.Kernel3.Gen.facts, Cert.Kernel3Ideal.Gen.facts, Cert.Reference3Ideal.Gen.facts,
      Cert.Kernel4.Gen.facts, Cert.Kernel4Ideal.Gen.facts, Cert.Reference4Ideal.Gen.facts,
      Cert.Kernel5.Gen.facts, Cert.Kernel5Ideal.Gen.facts, Cert.Reference5Ideal.Gen.facts,
      Cert.Kernel6.Gen.facts, Cert.Kernel6Ideal.Gen.facts, Cert.Reference6Ideal.Gen.facts,
      Cert.Kernel7.Gen.facts, Cert.Kernel7Ideal.Gen.facts, Cert.Reference7Ideal.Gen.facts,
      Cert.Kernel8.Gen.facts, Cert.Kernel8Ideal.Gen.facts, Cert.Reference8Ideal.Gen.facts,
      Cert.Kernel9.Gen.facts, Cert.Kernel9Ideal.Gen.facts, Cert.Reference9Ideal.Gen.facts,
      Cert.Kernel10.Gen.facts, Cert.Kernel10Ideal.Gen.facts, Cert.Reference10Ideal.Gen.facts,
      Cert.Kernel11.Gen.facts, Cert.Kernel11Ideal.Gen.facts, Cert.Reference11Ideal.Gen.facts,
      Cert.Kernel12.Gen.facts, Cert.Kernel12Ideal.Gen.facts, Cert.Reference12Ideal.Gen.facts,
      Cert.Kernel13.Gen.facts, Cert.Kernel13Ideal.Gen.facts, Cert.Reference13Ideal.Gen.facts,
      Cert.Kernel14.Gen.facts, Cert.Kernel14Ideal.Gen.facts, Cert.Reference14Ideal.Gen.facts,
      Cert.Pre_finite.facts,
      fun m ρ _ => Cert.Kernel.Gen.frame m ρ, fun m ρ _ => Cert.KernelIdeal.Gen.frame m ρ, fun m ρ _ => Cert.KernelIdeal.Gen.frame m ρ,
      frame_reference, fun m ρ _ => frame_reference m ρ trivial,
      fun m ρ _ => Cert.Kernel2.Gen.frame m ρ, fun m ρ _ => Cert.Kernel2Ideal.Gen.frame m ρ, fun m ρ _ => Cert.Kernel2Ideal.Gen.frame m ρ,
      frame_reference2, fun m ρ _ => frame_reference2 m ρ trivial,
      fun m ρ _ => Cert.Kernel3.Gen.frame m ρ, fun m ρ _ => Cert.Kernel3Ideal.Gen.frame m ρ, frame_reference3,
      fun m ρ _ => Cert.Kernel4.Gen.frame m ρ, fun m ρ _ => Cert.Kernel4Ideal.Gen.frame m ρ, frame_reference4,
      fun m ρ _ => Cert.Kernel5.Gen.frame m ρ, fun m ρ _ => Cert.Kernel5Ideal.Gen.frame m ρ, frame_reference5,
      fun m ρ _ => Cert.Kernel6.Gen.frame m ρ, fun m ρ _ => Cert.Kernel6Ideal.Gen.frame m ρ, frame_reference6,
      fun m ρ _ => Cert.Kernel7.Gen.frame m ρ, fun m ρ _ => Cert.Kernel7Ideal.Gen.frame m ρ, frame_reference7,
      fun m ρ _ => Cert.Kernel8.Gen.frame m ρ, fun m ρ _ => Cert.Kernel8Ideal.Gen.frame m ρ, frame_reference8,
      fun m ρ _ => Cert.Kernel9.Gen.frame m ρ, fun m ρ _ => Cert.Kernel9Ideal.Gen.frame m ρ, frame_reference9,
      fun m ρ _ => Cert.Kernel10.Gen.frame m ρ, fun m ρ _ => Cert.Kernel10Ideal.Gen.frame m ρ, frame_reference10,
      fun m ρ _ => Cert.Kernel11.Gen.frame m ρ, fun m ρ _ => Cert.Kernel11Ideal.Gen.frame m ρ, frame_reference11,
      fun m ρ _ => Cert.Kernel12.Gen.frame m ρ, fun m ρ _ => Cert.Kernel12Ideal.Gen.frame m ρ, frame_reference12,
      fun m ρ _ => Cert.Kernel13.Gen.frame m ρ, fun m ρ _ => Cert.Kernel13Ideal.Gen.frame m ρ, frame_reference13,
      fun m ρ _ => Cert.Kernel14.Gen.frame m ρ, fun m ρ _ => Cert.Kernel14Ideal.Gen.frame m ρ, frame_reference14,
      IdealRules.named_const.statement Cert.KernelIdeal.κ "mask" .f32 0xF149F2CA#32 ⊥ rfl, algebraic_dq,
      IdealRules.named_const.statement Cert.Kernel2Ideal.κ "mask" .f32 0xF149F2CA#32 ⊥ rfl, algebraic_dkv,
      trivial, algebraic_dwin,
      trivial, algebraic_dwout,
      trivial, algebraic_projin,
      trivial, algebraic_projgrad,
      trivial, algebraic_outgrad,
      trivial, algebraic_branchgrad,
      trivial, algebraic_ffnfwd,
      trivial, algebraic_ffnsecond,
      trivial, algebraic_projfwd,
      trivial, algebraic_branchbgrad,
      trivial, algebraic_mergefwd,
      trivial, algebraic_mergebwd⟩

end Cert.Proof

end
